-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_bounded [hPre_bounded : Cert.Pre_bounded.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_bounded.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_bounded [hPre_bounded : Cert.Pre_bounded.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_bounded.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite_parts [hPre_finite_parts : Cert.Pre_finite_parts.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite_parts.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite_parts [hPre_finite_parts : Cert.Pre_finite_parts.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite_parts.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1))) = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_bounded [hKernel4Ideal : Cert.Kernel4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_bounded m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_bounded [hReference4Ideal : Cert.Reference4Ideal.Facts] [hPre_bounded : Cert.Pre_bounded.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_bounded m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Kernel34Ideal_pre_finite_parts [hKernel34Ideal : Cert.Kernel34Ideal.Facts] [hPre_finite_parts : Cert.Pre_finite_parts.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite_parts m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Reference34Ideal_pre_finite_parts [hReference34Ideal : Cert.Reference34Ideal.Facts] [hPre_finite_parts : Cert.Pre_finite_parts.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite_parts m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_bounded [hKernel4Ideal : Cert.Kernel4Ideal.Facts] [hReference4Ideal : Cert.Reference4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_bounded m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v83_0)) (v1 : (c : Dev Cert.Kernel4Ideal.nD) → Buf (Elt Ideal) ((c.tc : Thread Cert.Kernel4Ideal.nD Cert.Kernel4Ideal.τ).loc Cert.Kernel4Ideal.main_v83_1)) (v2 : (c : Dev Cert.Kernel4Ideal.nD) → Buf (Elt Ideal) ((c.tc : Thread Cert.Kernel4Ideal.nD Cert.Kernel4Ideal.τ).loc Cert.Kernel4Ideal.main_v83_2)) (v3 : (c : Dev Cert.Kernel4Ideal.nD) → Buf (Elt Ideal) ((c.tc : Thread Cert.Kernel4Ideal.nD Cert.Kernel4Ideal.τ).loc Cert.Kernel4Ideal.main_v83_3)) (v4 : (c : Dev Cert.Kernel4Ideal.nD) → Buf (Elt Ideal) ((c.tc : Thread Cert.Kernel4Ideal.nD Cert.Kernel4Ideal.τ).loc Cert.Kernel4Ideal.main_v83_4)) (v5 : (c : Dev Cert.Kernel4Ideal.nD) → Buf (Elt Ideal) ((c.tc : Thread Cert.Kernel4Ideal.nD Cert.Kernel4Ideal.τ).loc Cert.Kernel4Ideal.main_v83_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v83_0) = v0 c
          ∧ r.2.mem ((c.tc : Thread Cert.Kernel4Ideal.nD Cert.Kernel4Ideal.τ).loc Cert.Kernel4Ideal.main_v83_1) = v1 c
          ∧ r.2.mem ((c.tc : Thread Cert.Kernel4Ideal.nD Cert.Kernel4Ideal.τ).loc Cert.Kernel4Ideal.main_v83_2) = v2 c
          ∧ r.2.mem ((c.tc : Thread Cert.Kernel4Ideal.nD Cert.Kernel4Ideal.τ).loc Cert.Kernel4Ideal.main_v83_3) = v3 c
          ∧ r.2.mem ((c.tc : Thread Cert.Kernel4Ideal.nD Cert.Kernel4Ideal.τ).loc Cert.Kernel4Ideal.main_v83_4) = v4 c
          ∧ r.2.mem ((c.tc : Thread Cert.Kernel4Ideal.nD Cert.Kernel4Ideal.τ).loc Cert.Kernel4Ideal.main_v83_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v77) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)) (v3 : (c : Dev Cert.Kernel19Ideal.nD) → Buf (Elt Ideal) ((c.tc : Thread Cert.Kernel19Ideal.nD Cert.Kernel19Ideal.τ).loc Cert.Kernel19Ideal.main_v4_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_v4_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_v27) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal_pre_finite_parts [hKernel34Ideal : Cert.Kernel34Ideal.Facts] [hReference34Ideal : Cert.Reference34Ideal.Facts] [hPre_finite_parts : Cert.Pre_finite_parts.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite_parts m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v0_0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v49) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v68) = v0 c
          ∧ r.2.mem ((c.tc : Thread Cert.Reference36Ideal.nD Cert.Reference36Ideal.τ).loc Cert.Reference36Ideal.main_v64) = v1 c
          ∧ r.2.mem ((c.tc : Thread Cert.Reference36Ideal.nD Cert.Reference36Ideal.τ).loc Cert.Reference36Ideal.main_v69) = v2 c
          ∧ r.2.mem ((c.tc : Thread Cert.Reference36Ideal.nD Cert.Reference36Ideal.τ).loc Cert.Reference36Ideal.main_v67) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts) (hPre_bounded : Cert.Pre_bounded.Facts) (hPre_finite_parts : Cert.Pre_finite_parts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_bounded (hKernel4Ideal := hKernel4Ideal) (hPre_bounded := hPre_bounded)
    ∧ quiescent_Reference4Ideal (hReference4Ideal := hReference4Ideal)
    ∧ quiescent_Reference4Ideal_pre_bounded (hReference4Ideal := hReference4Ideal) (hPre_bounded := hPre_bounded)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Kernel34Ideal_pre_finite_parts (hKernel34Ideal := hKernel34Ideal) (hPre_finite_parts := hPre_finite_parts)
    ∧ quiescent_Reference34Ideal (hReference34Ideal := hReference34Ideal)
    ∧ quiescent_Reference34Ideal_pre_finite_parts (hReference34Ideal := hReference34Ideal) (hPre_finite_parts := hPre_finite_parts)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_bounded (hKernel4Ideal := hKernel4Ideal) (hReference4Ideal := hReference4Ideal) (hPre_bounded := hPre_bounded)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal_pre_finite_parts (hKernel34Ideal := hKernel34Ideal) (hReference34Ideal := hReference34Ideal) (hPre_finite_parts := hPre_finite_parts)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_bounded.lean ====
abbrev S4352x512 : Shape := ⟨2, ![4352, 512]⟩
abbrev S2x4 : Shape := ⟨2, ![2, 4]⟩
abbrev S_ : Shape := ⟨0, ![]⟩

class Facts : Prop where
  bitsLt_bf16_f32 : FTy.bits .bf16 < FTy.bits .f32
  bcast_S_S4352x512 : S_.BroadcastsInDim S4352x512 (![] : Fin 0 → Fin S4352x512.rank)
  reducesTo_S4352x512_S_d0_1 : S4352x512.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_arg4 : FVec F S2x4 .f32) (main_v16 : IVec S_ 1) (main_v17 : FVec F S4352x512 .f32) : IVec S_ 1 :=
  let main_v18 : FVec F S4352x512 .f32 := Host.absf main_v17
  let main_cst_4 : FVec F S_ .f32 := constant S_ .f32 0x7F800000#32
  let main_v19 : FVec F S4352x512 .f32 := broadcastInDim S4352x512 ![] bcast_S_S4352x512 main_cst_4
  let main_v20 : IVec S4352x512 1 := cmpf .olt main_v18 main_v19
  let main_c_5 : IVec S_ 1 := constantI S_ 1 1#1
  let main_v21 : IVec S_ 1 := (fun x v => Host.reduce IntOp.andi x v reducesTo_S4352x512_S_d0_1 h_S_) main_v20 main_c_5
  let main_v22 : IVec S_ 1 := andi main_v16 main_v21
  let main_v23 : FVec F S2x4 .f32 := Host.absf main_arg4
  let main_v24 : FVec F S2x4 .f32 := Host.negf main_v23
  let main_v25 : FVec F S2x4 .f32 := Host.exp main_v24
  let main_cst_6 : FVec F S_ .f32 := constant S_ .f32 0x3C23D70A#32
  let main_v26 : FVec F S2x4 .f32 := broadcastInDim S2x4 ![] bcast_S_S2x4 main_cst_6
  let main_v27 : IVec S2x4 1 := cmpf .oge main_v25 main_v26
  let main_c_7 : IVec S_ 1 := constantI S_ 1 1#1
  let main_v28 : IVec S_ 1 := (fun x v => Host.reduce IntOp.andi x v reducesTo_S2x4_S_d0_1 h_S_) main_v27 main_c_7
  let main_v29 : IVec S_ 1 := andi main_v22 main_v28
  main_v29

def fn {F : FTy → Type} [FloatOps F] (main_arg0 : FVec F S4352x512 .bf16) (main_arg1 : FVec F S4352x512 .bf16) (main_arg2 : FVec F S4352x512 .bf16) (main_arg3 : FVec F S4352x512 .bf16) (main_arg4 : FVec F S2x4 .f32) : IVec S_ 1 :=
  let main_v0 : FVec F S4352x512 .f32 := (extf .f32 · bitsLt_bf16_f32) main_arg0
  let main_v1 : FVec F S4352x512 .f32 := Host.absf main_v0
  let main_cst : FVec F S_ .f32 := constant S_ .f32 0x7F800000#32
  let main_v2 : FVec F S4352x512 .f32 := broadcastInDim S4352x512 ![] bcast_S_S4352x512 main_cst
  let main_v3 : IVec S4352x512 1 := cmpf .olt main_v1 main_v2
  let main_c : IVec S_ 1 := constantI S_ 1 1#1
  let main_v4 : IVec S_ 1 := (fun x v => Host.reduce IntOp.andi x v reducesTo_S4352x512_S_d0_1 h_S_) main_v3 main_c
  let main_v5 : FVec F S4352x512 .f32 := (extf .f32 · bitsLt_bf16_f32) main_arg1
  let main_v6 : FVec F S4352x512 .f32 := Host.absf main_v5
  let main_cst_0 : FVec F S_ .f32 := constant S_ .f32 0x7F800000#32
  let main_v7 : FVec F S4352x512 .f32 := broadcastInDim S4352x512 ![] bcast_S_S4352x512 main_cst_0
  let main_v8 : IVec S4352x512 1 := cmpf .olt main_v6 main_v7
  let main_c_1 : IVec S_ 1 := constantI S_ 1 1#1
  let main_v9 : IVec S_ 1 := (fun x v => Host.reduce IntOp.andi x v reducesTo_S4352x512_S_d0_1 h_S_) main_v8 main_c_1
  let main_v10 : IVec S_ 1 := andi main_v4 main_v9
  let main_v11 : FVec F S4352x512 .f32 := (extf .f32 · bitsLt_bf16_f32) main_arg2
  let main_v12 : FVec F S4352x512 .f32 := Host.absf main_v11
  let main_cst_2 : FVec F S_ .f32 := constant S_ .f32 0x7F800000#32
  let main_v13 : FVec F S4352x512 .f32 := broadcastInDim S4352x512 ![] bcast_S_S4352x512 main_cst_2
  let main_v14 : IVec S4352x512 1 := cmpf .olt main_v12 main_v13
  let main_c_3 : IVec S_ 1 := constantI S_ 1 1#1
  let main_v15 : IVec S_ 1 := (fun x v => Host.reduce IntOp.andi x v reducesTo_S4352x512_S_d0_1 h_S_) main_v14 main_c_3
  let main_v16 : IVec S_ 1 := andi main_v10 main_v15
  let main_v17 : FVec F S4352x512 .f32 := (extf .f32 · bitsLt_bf16_f32) main_arg3
  fn_part1 (F := F) main_arg4 main_v16 main_v17
-- ==== Pre_finite.lean ====
abbrev S4352x1024 : Shape := ⟨2, ![4352, 1024]⟩
abbrev S2816x1024 : Shape := ⟨2, ![2816, 1024]⟩
abbrev S4352x2816 : Shape := ⟨2, ![4352, 2816]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4352x2816 : S_.BroadcastsInDim S4352x2816 (![] : Fin 0 → Fin S4352x2816.rank)
  reducesTo_S4352x2816_S_d0_1 : S4352x2816.ReducesTo [0, 1] S_

variable [Facts]

def fn_part1 {F : FTy → Type} [FloatOps F] (main_v16 : IVec S_ 1) (main_v17 : FVec F S4352x2816 .f32) : IVec S_ 1 :=
  let main_v18 : FVec F S4352x2816 .f32 := Host.absf main_v17
  let main_cst_4 : FVec F S_ .f32 := constant S_ .f32 0x7F800000#32
  let main_v19 : FVec F S4352x2816 .f32 := broadcastInDim S4352x2816 ![] bcast_S_S4352x2816 main_cst_4
  let main_v20 : IVec S4352x2816 1 := cmpf .olt main_v18 main_v19
  let main_c_5 : IVec S_ 1 := constantI S_ 1 1#1
  let main_v21 : IVec S_ 1 := (fun x v => Host.reduce IntOp.andi x v reducesTo_S4352x2816_S_d0_1 h_S_) main_v20 main_c_5
  let main_v22 : IVec S_ 1 := andi main_v16 main_v21
  main_v22

def fn {F : FTy → Type} [FloatOps F] (main_arg0 : FVec F S4352x1024 .bf16) (main_arg1 : FVec F S2816x1024 .bf16) (main_arg2 : FVec F S4352x2816 .bf16) (main_arg3 : FVec F S4352x2816 .bf16) : IVec S_ 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_c : IVec S_ 1 := constantI S_ 1 1#1
  let main_v4 : IVec S_ 1 := (fun x v => Host.reduce IntOp.andi x v reducesTo_S4352x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4352x2816 .f32 := (extf .f32 · bitsLt_bf16_f32) main_arg2
  let main_v12 : FVec F S4352x2816 .f32 := Host.absf main_v11
  let main_cst_2 : FVec F S_ .f32 := constant S_ .f32 0x7F800000#32
  let main_v13 : FVec F S4352x2816 .f32 := broadcastInDim S4352x2816 ![] bcast_S_S4352x2816 main_cst_2
  let main_v14 : IVec S4352x2816 1 := cmpf .olt main_v12 main_v13
  let main_c_3 : IVec S_ 1 := constantI S_ 1 1#1
  let main_v15 : IVec S_ 1 := (fun x v => Host.reduce IntOp.andi x v reducesTo_S4352x2816_S_d0_1 h_S_) main_v14 main_c_3
  let main_v16 : IVec S_ 1 := andi main_v10 main_v15
  let main_v17 : FVec F S4352x2816 .f32 := (extf .f32 · bitsLt_bf16_f32) main_arg3
  fn_part1 (F := F) main_v16 main_v17
-- ==== Pre_finite_parts.lean ====
abbrev S4x1024 : Shape := ⟨2, ![4, 1024]⟩
abbrev S1x1024 : Shape := ⟨2, ![1, 1024]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel

variable [Facts]

def fn {F : FTy → Type} [FloatOps F] (main_arg0 : FVec F S4x1024 .f32) (main_arg1 : FVec F S1x1024 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  main_v3
-- ==== Kernel.lean ====
abbrev S4352x1024 : Shape := ⟨2, ![4352, 1024]⟩
abbrev S2816x1024 : Shape := ⟨2, ![2816, 1024]⟩
abbrev S4352x2816 : Shape := ⟨2, ![4352, 2816]⟩
abbrev S272x1024 : Shape := ⟨2, ![272, 1024]⟩
abbrev S272x2816 : Shape := ⟨2, ![272, 2816]⟩

abbrev nBuf : Space → Nat
  | .hbm => 6
  | .vmem => 11
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S4352x2816, .bf16⟩
  | .hbm, ⟨3, _⟩ => ⟨S4352x2816, .bf16⟩
  | .hbm, ⟨4, _⟩ => ⟨S4352x2816, .bf16⟩
  | .hbm, ⟨5, _⟩ => ⟨S4352x2816, .bf16⟩
  | .local _ .vmem, ⟨0, _⟩ => ⟨S272x1024, .bf16⟩
  | .local _ .vmem, ⟨1, _⟩ => ⟨S272x1024, .bf16⟩
  | .local _ .vmem, ⟨2, _⟩ => ⟨S2816x1024, .bf16⟩
  | .local _ .vmem, ⟨3, _⟩ => ⟨S272x2816, .bf16⟩
  | .local _ .vmem, ⟨4, _⟩ => ⟨S272x2816, .bf16⟩
  | .local _ .vmem, ⟨5, _⟩ => ⟨S272x2816, .bf16⟩
  | .local _ .vmem, ⟨6, _⟩ => ⟨S272x2816, .bf16⟩
  | .local _ .vmem, ⟨7, _⟩ => ⟨S272x2816, .bf16⟩
  | .local _ .vmem, ⟨8, _⟩ => ⟨S272x2816, .bf16⟩
  | .local _ .vmem, ⟨9, _⟩ => ⟨S272x2816, .bf16⟩
  | .local _ .vmem, ⟨10, _⟩ => ⟨S272x2816, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S272x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S272x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S272x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S272x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4352x1024 : Shape := ⟨2, ![4352, 1024]⟩
abbrev S2816x1024 : Shape := ⟨2, ![2816, 1024]⟩
abbrev S4352x2816 : Shape := ⟨2, ![4352, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S4352x2816, .bf16⟩
  | .hbm, ⟨3, _⟩ => ⟨S4352x2816, .bf16⟩
  | .hbm, ⟨4, _⟩ => ⟨S4352x2816, .f32⟩
  | .hbm, ⟨5, _⟩ => ⟨S4352x2816, .f32⟩
  | .hbm, ⟨6, _⟩ => ⟨S2816x1024, .f32⟩
  | .hbm, ⟨7, _⟩ => ⟨S4352x2816, .f32⟩
  | .hbm, ⟨8, _⟩ => ⟨S4352x2816, .f32⟩
  | .hbm, ⟨9, _⟩ => ⟨S_, .f32⟩
  | .hbm, ⟨10, _⟩ => ⟨S4352x2816, .f32⟩
  | .hbm, ⟨11, _⟩ => ⟨S4352x2816, .f32⟩
  | .hbm, ⟨12, _⟩ => ⟨S_, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x1024, .f32⟩
  | .hbm, ⟨22, _⟩ => ⟨S4352x1024, .f32⟩
  | .hbm, ⟨23, _⟩ => ⟨S4352x2816, .f32⟩
  | .hbm, ⟨24, _⟩ => ⟨S4352x2816, .f32⟩
  | .hbm, ⟨25, _⟩ => ⟨S4352x2816, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x2816, .f32⟩
  | .hbm, ⟨30, _⟩ => ⟨S4352x2816, .bf16⟩
  | .hbm, ⟨31, _⟩ => ⟨S4352x2816, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel2.lean ====
abbrev S4352x2816 : Shape := ⟨2, ![4352, 2816]⟩
abbrev S2816x1024 : Shape := ⟨2, ![2816, 1024]⟩
abbrev S4352x1024 : Shape := ⟨2, ![4352, 1024]⟩
abbrev S544x2816 : Shape := ⟨2, ![544, 2816]⟩
abbrev S544x1024 : Shape := ⟨2, ![544, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4352x2816, .bf16⟩
  | .hbm, ⟨1, _⟩ => ⟨S4352x2816, .bf16⟩
  | .hbm, ⟨2, _⟩ => ⟨S2816x1024, .bf16⟩
  | .hbm, ⟨3, _⟩ => ⟨S2816x1024, .bf16⟩
  | .hbm, ⟨4, _⟩ => ⟨S4352x1024, .bf16⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x2816, .bf16⟩
  | .local _ .vmem, ⟨4, _⟩ => ⟨S544x2816, .bf16⟩
  | .local _ .vmem, ⟨5, _⟩ => ⟨S2816x1024, .bf16⟩
  | .local _ .vmem, ⟨6, _⟩ => ⟨S544x1024, .bf16⟩
  | .local _ .vmem, ⟨7, _⟩ => ⟨S544x1024, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference2Ideal.lean ====
abbrev S4352x2816 : Shape := ⟨2, ![4352, 2816]⟩
abbrev S2816x1024 : Shape := ⟨2, ![2816, 1024]⟩
abbrev S_ : Shape := ⟨0, ![]⟩
abbrev S4352x1024 : Shape := ⟨2, ![4352, 1024]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x2816, .bf16⟩
  | .hbm, ⟨2, _⟩ => ⟨S2816x1024, .bf16⟩
  | .hbm, ⟨3, _⟩ => ⟨S2816x1024, .bf16⟩
  | .hbm, ⟨4, _⟩ => ⟨S_, .bf16⟩
  | .hbm, ⟨5, _⟩ => ⟨S4352x1024, .bf16⟩
  | .hbm, ⟨6, _⟩ => ⟨S4352x1024, .f32⟩
  | .hbm, ⟨7, _⟩ => ⟨S2816x1024, .f32⟩
  | .hbm, ⟨8, _⟩ => ⟨S1024x2816, .f32⟩
  | .hbm, ⟨9, _⟩ => ⟨S4352x2816, .f32⟩
  | .hbm, ⟨10, _⟩ => ⟨S4352x1024, .f32⟩
  | .hbm, ⟨11, _⟩ => ⟨S2816x1024, .f32⟩
  | .hbm, ⟨12, _⟩ => ⟨S1024x2816, .f32⟩
  | .hbm, ⟨13, _⟩ => ⟨S4352x2816, .f32⟩
  | .hbm, ⟨14, _⟩ => ⟨S4352x2816, .f32⟩
  | .hbm, ⟨15, _⟩ => ⟨S4352x2816, .f32⟩
  | .hbm, ⟨16, _⟩ => ⟨S4352x1024, .f32⟩
  | .hbm, ⟨17, _⟩ => ⟨S4352x1024, .bf16⟩
  | .hbm, ⟨18, _⟩ => ⟨S4352x1024, .f32⟩
  | .hbm, ⟨19, _⟩ => ⟨S4352x1024, .bf16⟩
  | .hbm, ⟨20, _⟩ => ⟨S4352x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel3.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .f32⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .ne arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4352x512 : Shape := ⟨2, ![4352, 512]⟩
abbrev S2x4 : Shape := ⟨2, ![2, 4]⟩
abbrev S_ : Shape := ⟨0, ![]⟩
abbrev S34 : Shape := ⟨1, ![34]⟩
abbrev S34x1 : Shape := ⟨2, ![34, 1]⟩
abbrev S4352 : Shape := ⟨1, ![4352]⟩
abbrev S1x4352 : Shape := ⟨2, ![1, 4352]⟩
abbrev S34x4352 : Shape := ⟨2, ![34, 4352]⟩
abbrev S1x4 : Shape := ⟨2, ![1, 4]⟩
abbrev S4 : Shape := ⟨1, ![4]⟩
abbrev S4x1x1 : Shape := ⟨3, ![4, 1, 1]⟩
abbrev S1x34x4352 : Shape := ⟨3, ![1, 34, 4352]⟩
abbrev S4x34x4352 : Shape := ⟨3, ![4, 34, 4352]⟩
abbrev S4x34x4352x1 : Shape := ⟨4, ![4, 34, 4352, 1]⟩
abbrev S4352x4x128 : Shape := ⟨3, ![4352, 4, 128]⟩
abbrev S4x4352x128 : Shape := ⟨3, ![4, 4352, 128]⟩
abbrev S4x1x4352x128 : Shape := ⟨4, ![4, 1, 4352, 128]⟩
abbrev S4x34x4352x128 : Shape := ⟨4, ![4, 34, 4352, 128]⟩
abbrev S4x128x34x128 : Shape := ⟨4, ![4, 128, 34, 128]⟩
abbrev S34x4x128x128 : Shape := ⟨4, ![34, 4, 128, 128]⟩
abbrev S34x8x128x128 : Shape := ⟨4, ![34, 8, 128, 128]⟩
abbrev S8 : Shape := ⟨1, ![8]⟩
abbrev S8x1 : Shape := ⟨2, ![8, 1]⟩
abbrev S8x128 : Shape := ⟨2, ![8, 128]⟩
abbrev S256x512 : Shape := ⟨2, ![256, 512]⟩
abbrev S2x8x128x128 : Shape := ⟨4, ![2, 8, 128, 128]⟩
abbrev S8x128x128 : Shape := ⟨3, ![8, 128, 128]⟩
abbrev S128x128 : Shape := ⟨2, ![128, 128]⟩
abbrev S1x128 : Shape := ⟨2, ![1, 128]⟩
abbrev S1x128x128 : Shape := ⟨3, ![1, 128, 128]⟩
abbrev S1x1x128x128 : Shape := ⟨4, ![1, 1, 128, 128]⟩
abbrev S1 : Shape := ⟨1, ![1]⟩
abbrev S1x1x1 : Shape := ⟨3, ![1, 1, 1]⟩

abbrev nBuf : Space → Nat
  | .hbm => 134
  | .vmem => 37
  | .smem => 0
  | _ => 0

abbrev hbmTy0_0 (i : Nat) : BufTy := match i % 128 with
  | 0 => ⟨S4352x512, .bf16⟩
  | 1 => ⟨S4352x512, .bf16⟩
  | 2 => ⟨S4352x512, .bf16⟩
  | 3 => ⟨S4352x512, .bf16⟩
  | 4 => ⟨S2x4, .f32⟩
  | 5 => ⟨S2x4, .f32⟩
  | 6 => ⟨S_, .f32⟩
  | 7 => ⟨S2x4, .f32⟩
  | 8 => ⟨S2x4, .f32⟩
  | 9 => ⟨S2x4, .f32⟩
  | 10 => ⟨S2x4, .f32⟩
  | 11 => ⟨S2x4, .i1⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S34, .f32⟩
  | 22 => ⟨S_, .f32⟩
  | 23 => ⟨S34, .f32⟩
  | 24 => ⟨S34, .f32⟩
  | 25 => ⟨S34x1, .f32⟩
  | 26 => ⟨S_, .f32⟩
  | 27 => ⟨S34x1, .f32⟩
  | 28 => ⟨S34x1, .f32⟩
  | 29 => ⟨S4352, .f32⟩
  | 30 => ⟨S1x4352, .f32⟩
  | 31 => ⟨S34x4352, .f32⟩
  | 32 => ⟨S34x4352, .f32⟩
  | 33 => ⟨S34x4352, .f32⟩
  | 34 => ⟨S_, .f32⟩
  | 35 => ⟨S34x4352, .f32⟩
  | 36 => ⟨S34x4352, .i1⟩
  | 37 => ⟨S1x4, .f32⟩
  | 38 => ⟨S4, .f32⟩
  | 39 => ⟨S4x1x1, .f32⟩
  | 40 => ⟨S_, .f32⟩
  | 41 => ⟨S34x4352, .f32⟩
  | 42 => ⟨S34x4352, .i1⟩
  | 43 => ⟨S_, .f32⟩
  | 44 => ⟨S_, .f32⟩
  | 45 => ⟨S34x4352, .f32⟩
  | 46 => ⟨S34x4352, .f32⟩
  | 47 => ⟨S1x34x4352, .f32⟩
  | 48 => ⟨S4x34x4352, .f32⟩
  | 49 => ⟨S4x34x4352, .f32⟩
  | 50 => ⟨S4x34x4352, .f32⟩
  | 51 => ⟨S4x34x4352, .f32⟩
  | 52 => ⟨S_, .f32⟩
  | 53 => ⟨S_, .f32⟩
  | 54 => ⟨S4x34x4352, .i1⟩
  | 55 => ⟨S4x34x4352, .f32⟩
  | 56 => ⟨S4x34x4352, .f32⟩
  | 57 => ⟨S4x34x4352x1, .f32⟩
  | 58 => ⟨S4352x512, .f32⟩
  | 59 => ⟨S4352x4x128, .f32⟩
  | 60 => ⟨S4x4352x128, .f32⟩
  | 61 => ⟨S4x1x4352x128, .f32⟩
  | 62 => ⟨S4x34x4352x128, .f32⟩
  | 63 => ⟨S4x34x4352x128, .f32⟩
  | 64 => ⟨S4x34x4352x128, .f32⟩
  | 65 => ⟨S4352x512, .f32⟩
  | 66 => ⟨S4352x4x128, .f32⟩
  | 67 => ⟨S4x128x34x128, .f32⟩
  | 68 => ⟨S34x4x128x128, .f32⟩
  | 69 => ⟨S34x1, .f32⟩
  | 70 => ⟨S_, .f32⟩
  | 71 => ⟨S34x1, .f32⟩
  | 72 => ⟨S34x1, .f32⟩
  | 73 => ⟨S4352, .f32⟩
  | 74 => ⟨S_, .f32⟩
  | 75 => ⟨S4352, .f32⟩
  | 76 => ⟨S4352, .i1⟩
  | 77 => ⟨S_, .f32⟩
  | 78 => ⟨S4352, .f32⟩
  | 79 => ⟨S4352, .f32⟩
  | 80 => ⟨S_, .f32⟩
  | 81 => ⟨S4352, .f32⟩
  | 82 => ⟨S4352, .f32⟩
  | 83 => ⟨S4352, .f32⟩
  | 84 => ⟨S1x4352, .f32⟩
  | 85 => ⟨S34x4352, .f32⟩
  | 86 => ⟨S34x4352, .f32⟩
  | 87 => ⟨S34x4352, .f32⟩
  | 88 => ⟨S_, .f32⟩
  | 89 => ⟨S34x4352, .f32⟩
  | 90 => ⟨S34x4352, .i1⟩
  | 91 => ⟨S1x4, .f32⟩
  | 92 => ⟨S4, .f32⟩
  | 93 => ⟨S4x1x1, .f32⟩
  | 94 => ⟨S_, .f32⟩
  | 95 => ⟨S34x4352, .f32⟩
  | 96 => ⟨S34x4352, .i1⟩
  | 97 => ⟨S_, .f32⟩
  | 98 => ⟨S_, .f32⟩
  | 99 => ⟨S34x4352, .f32⟩
  | 100 => ⟨S34x4352, .f32⟩
  | 101 => ⟨S1x34x4352, .f32⟩
  | 102 => ⟨S4x34x4352, .f32⟩
  | 103 => ⟨S4x34x4352, .f32⟩
  | 104 => ⟨S4x34x4352, .f32⟩
  | 105 => ⟨S4x34x4352, .f32⟩
  | 106 => ⟨S_, .f32⟩
  | 107 => ⟨S_, .f32⟩
  | 108 => ⟨S4x34x4352, .i1⟩
  | 109 => ⟨S4x34x4352, .f32⟩
  | 110 => ⟨S4x34x4352, .f32⟩
  | 111 => ⟨S4x34x4352x1, .f32⟩
  | 112 => ⟨S4352x512, .f32⟩
  | 113 => ⟨S4352x4x128, .f32⟩
  | 114 => ⟨S4x4352x128, .f32⟩
  | 115 => ⟨S4x1x4352x128, .f32⟩
  | 116 => ⟨S4x34x4352x128, .f32⟩
  | 117 => ⟨S4x34x4352x128, .f32⟩
  | 118 => ⟨S4x34x4352x128, .f32⟩
  | 119 => ⟨S4352x512, .f32⟩
  | 120 => ⟨S4352x4x128, .f32⟩
  | 121 => ⟨S4x128x34x128, .f32⟩
  | 122 => ⟨S34x4x128x128, .f32⟩
  | 123 => ⟨S34x8x128x128, .f32⟩
  | 124 => ⟨S8, .f32⟩
  | 125 => ⟨S8x1, .f32⟩
  | 126 => ⟨S8x128, .f32⟩
  | 127 => ⟨S4352x512, .f32⟩
  | _ => ⟨S4352x512, .bf16⟩

abbrev hbmTy0_1 (i : Nat) : BufTy := match i % 128 with
  | 0 => ⟨S4352x512, .f32⟩
  | 1 => ⟨S4352x512, .f32⟩
  | 2 => ⟨S4352x512, .f32⟩
  | 3 => ⟨S4352x512, .f32⟩
  | 4 => ⟨S4352x512, .f32⟩
  | 5 => ⟨S8x128, .f32⟩
  | _ => ⟨S4352x512, .bf16⟩

abbrev hbmTy (i : Nat) : BufTy := match i / 128 with
  | 0 => hbmTy0_0 i
  | 1 => hbmTy0_1 i
  | _ => ⟨S4352x512, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S2x8x128x128, .f32⟩
  | .local _ .vmem, ⟨17, _⟩ => ⟨S2x8x128x128, .f32⟩
  | .local _ .vmem, ⟨18, _⟩ => ⟨S8x128, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S8x128, .f32⟩
  | .local _ .vmem, ⟨32, _⟩ => ⟨S8x128x128, .f32⟩
  | .local _ .vmem, ⟨33, _⟩ => ⟨S8x128x128, .f32⟩
  | .local _ .vmem, ⟨34, _⟩ => ⟨S8x128x128, .f32⟩
  | .local _ .vmem, ⟨35, _⟩ => ⟨S8x128x128, .f32⟩
  | .local _ .vmem, ⟨36, _⟩ => ⟨S8x128x128, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_call4_v0 : Ref sig .tc := ⟨.hbm, 98, rfl⟩
abbrev main_call4_v1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_12 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83_0 : Ref sig .tc := ⟨.hbm, 127, rfl⟩
abbrev main_v83_1 : Ref sig .tc := ⟨.hbm, 128, rfl⟩
abbrev main_v83_2 : Ref sig .tc := ⟨.hbm, 129, rfl⟩
abbrev main_v83_3 : Ref sig .tc := ⟨.hbm, 130, rfl⟩
abbrev main_v83_4 : Ref sig .tc := ⟨.hbm, 131, rfl⟩
abbrev main_v83_5 : Ref sig .tc := ⟨.hbm, 132, rfl⟩
abbrev main_v83_6 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v1611 : BitVec 1 := Scalar.cmpi .eq arg0 c16_i32
  let v1612 : BitVec 32 := Scalar.extui v1611
  let c0_i32_981 : BitVec 32 := 0#32
  let v1613 : BitVec 1 := Scalar.cmpi .ne v1612 c0_i32_981
  v1613

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_5 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_6 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_7 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_8 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_14 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_15 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c1_i32_0 : BitVec 32 := 1#32
  let v3 : BitVec 32 := Scalar.subi v0 c1_i32_0
  let c16_i32_1 : BitVec 32 := 16#32
  let v4 : BitVec 32 := Scalar.subi c16_i32_1 v3
  let v5 : BitVec 32 := Scalar.select v1 v2 v4
  let c0_i32_2 : BitVec 32 := 0#32
  let c0_i32_3 : BitVec 32 := 0#32
  ![v5.toNat, c0_i32_2.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S4352x512 : Shape := ⟨2, ![4352, 512]⟩
abbrev S2x4 : Shape := ⟨2, ![2, 4]⟩
abbrev S_ : Shape := ⟨0, ![]⟩
abbrev S4352x4x128 : Shape := ⟨3, ![4352, 4, 128]⟩
abbrev S1x4 : Shape := ⟨2, ![1, 4]⟩
abbrev S4 : Shape := ⟨1, ![4]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S4x1x1 : Shape := ⟨3, ![4, 1, 1]⟩
abbrev S1x4352x4352 : Shape := ⟨3, ![1, 4352, 4352]⟩
abbrev S4x4352x4352 : Shape := ⟨3, ![4, 4352, 4352]⟩
abbrev S4x128x4352 : Shape := ⟨3, ![4, 128, 4352]⟩
abbrev S4x4352x128 : Shape := ⟨3, ![4, 4352, 128]⟩

abbrev nBuf : Space → Nat
  | .hbm => 131
  | .vmem => 0
  | .smem => 0
  | _ => 0

abbrev hbmTy0_0 (i : Nat) : BufTy := match i % 128 with
  | 0 => ⟨S4352x512, .bf16⟩
  | 1 => ⟨S4352x512, .bf16⟩
  | 2 => ⟨S4352x512, .bf16⟩
  | 3 => ⟨S4352x512, .bf16⟩
  | 4 => ⟨S2x4, .f32⟩
  | 5 => ⟨S2x4, .f32⟩
  | 6 => ⟨S_, .f32⟩
  | 7 => ⟨S2x4, .f32⟩
  | 8 => ⟨S2x4, .f32⟩
  | 9 => ⟨S2x4, .f32⟩
  | 10 => ⟨S2x4, .f32⟩
  | 11 => ⟨S2x4, .i1⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S4352x512, .f32⟩
  | 22 => ⟨S4352x512, .f32⟩
  | 23 => ⟨S4352x512, .f32⟩
  | 24 => ⟨S4352x4x128, .f32⟩
  | 25 => ⟨S4352x4x128, .f32⟩
  | 26 => ⟨S4352x4x128, .f32⟩
  | 27 => ⟨S1x4, .f32⟩
  | 28 => ⟨S4, .f32⟩
  | 29 => ⟨S4352, .f32⟩
  | 30 => ⟨S4352x1, .f32⟩
  | 31 => ⟨S1x4352, .f32⟩
  | 32 => ⟨S4352x4352, .f32⟩
  | 33 => ⟨S4352x4352, .f32⟩
  | 34 => ⟨S4352x4352, .f32⟩
  | 35 => ⟨S_, .f32⟩
  | 36 => ⟨S4352x4352, .f32⟩
  | 37 => ⟨S4352x4352, .i1⟩
  | 38 => ⟨S4x1x1, .f32⟩
  | 39 => ⟨S_, .f32⟩
  | 40 => ⟨S_, .f32⟩
  | 41 => ⟨S4352x4352, .f32⟩
  | 42 => ⟨S4352x4352, .f32⟩
  | 43 => ⟨S1x4352x4352, .f32⟩
  | 44 => ⟨S4x4352x4352, .f32⟩
  | 45 => ⟨S4x4352x4352, .f32⟩
  | 46 => ⟨S4x4352x4352, .f32⟩
  | 47 => ⟨S4x4352x4352, .f32⟩
  | 48 => ⟨S_, .f32⟩
  | 49 => ⟨S_, .f32⟩
  | 50 => ⟨S4x4352x4352, .i1⟩
  | 51 => ⟨S4x4352x4352, .f32⟩
  | 52 => ⟨S4x4352x4352, .f32⟩
  | 53 => ⟨S4x4352x4352, .f32⟩
  | 54 => ⟨S4x4352x4352, .f32⟩
  | 55 => ⟨S4x128x4352, .f32⟩
  | 56 => ⟨S4352x4x128, .f32⟩
  | 57 => ⟨S4352x4x128, .f32⟩
  | 58 => ⟨S4352x4x128, .f32⟩
  | 59 => ⟨S4352x4x128, .f32⟩
  | 60 => ⟨S1x4, .f32⟩
  | 61 => ⟨S4, .f32⟩
  | 62 => ⟨S4352, .f32⟩
  | 63 => ⟨S_, .f32⟩
  | 64 => ⟨S4352, .f32⟩
  | 65 => ⟨S4352, .i1⟩
  | 66 => ⟨S_, .f32⟩
  | 67 => ⟨S4352, .f32⟩
  | 68 => ⟨S4352, .f32⟩
  | 69 => ⟨S_, .f32⟩
  | 70 => ⟨S4352, .f32⟩
  | 71 => ⟨S4352, .f32⟩
  | 72 => ⟨S4352, .f32⟩
  | 73 => ⟨S4352x1, .f32⟩
  | 74 => ⟨S1x4352, .f32⟩
  | 75 => ⟨S4352x4352, .f32⟩
  | 76 => ⟨S4352x4352, .f32⟩
  | 77 => ⟨S4352x4352, .f32⟩
  | 78 => ⟨S_, .f32⟩
  | 79 => ⟨S4352x4352, .f32⟩
  | 80 => ⟨S4352x4352, .i1⟩
  | 81 => ⟨S_, .f32⟩
  | 82 => ⟨S4352x4352, .f32⟩
  | 83 => ⟨S4352x4352, .f32⟩
  | 84 => ⟨S4x1x1, .f32⟩
  | 85 => ⟨S_, .f32⟩
  | 86 => ⟨S_, .f32⟩
  | 87 => ⟨S4352x4352, .f32⟩
  | 88 => ⟨S4352x4352, .f32⟩
  | 89 => ⟨S1x4352x4352, .f32⟩
  | 90 => ⟨S4x4352x4352, .f32⟩
  | 91 => ⟨S4x4352x4352, .f32⟩
  | 92 => ⟨S4x4352x4352, .f32⟩
  | 93 => ⟨S4x4352x4352, .f32⟩
  | 94 => ⟨S_, .f32⟩
  | 95 => ⟨S_, .f32⟩
  | 96 => ⟨S4x4352x4352, .i1⟩
  | 97 => ⟨S4x4352x4352, .f32⟩
  | 98 => ⟨S4x4352x4352, .f32⟩
  | 99 => ⟨S4x4352x4352, .f32⟩
  | 100 => ⟨S4x4352x4352, .f32⟩
  | 101 => ⟨S4x128x4352, .f32⟩
  | 102 => ⟨S4352x4x128, .f32⟩
  | 103 => ⟨S4352x4x128, .f32⟩
  | 104 => ⟨S4352x512, .f32⟩
  | 105 => ⟨S4352x512, .f32⟩
  | 106 => ⟨S4352x4x128, .f32⟩
  | 107 => ⟨S4x128x4352, .f32⟩
  | 108 => ⟨S4x4352x4352, .f32⟩
  | 109 => ⟨S4x128x4352, .f32⟩
  | 110 => ⟨S4352x4x128, .f32⟩
  | 111 => ⟨S4x4352x4352, .f32⟩
  | 112 => ⟨S4x4352x128, .f32⟩
  | 113 => ⟨S4352x4x128, .f32⟩
  | 114 => ⟨S4x4352x128, .f32⟩
  | 115 => ⟨S4352x4x128, .f32⟩
  | 116 => ⟨S4352x512, .f32⟩
  | 117 => ⟨S4352x512, .f32⟩
  | 118 => ⟨S4352x512, .f32⟩
  | 119 => ⟨S4x128x4352, .f32⟩
  | 120 => ⟨S4x4352x4352, .f32⟩
  | 121 => ⟨S4x128x4352, .f32⟩
  | 122 => ⟨S4352x4x128, .f32⟩
  | 123 => ⟨S4x4352x4352, .f32⟩
  | 124 => ⟨S4x4352x128, .f32⟩
  | 125 => ⟨S4352x4x128, .f32⟩
  | 126 => ⟨S4x4352x128, .f32⟩
  | 127 => ⟨S4352x4x128, .f32⟩
  | _ => ⟨S4352x512, .bf16⟩

abbrev hbmTy0_1 (i : Nat) : BufTy := match i % 128 with
  | 0 => ⟨S4352x512, .f32⟩
  | 1 => ⟨S4352x512, .f32⟩
  | 2 => ⟨S4352x512, .f32⟩
  | _ => ⟨S4352x512, .bf16⟩

abbrev hbmTy (i : Nat) : BufTy := match i / 128 with
  | 0 => hbmTy0_0 i
  | 1 => hbmTy0_1 i
  | _ => ⟨S4352x512, .bf16⟩

abbrev bufTy : (tb : Table) → Fin (tcTables nBuf tb) → BufTy
  | .hbm, ⟨i, _⟩ => hbmTy i
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_v48 : Ref sig .tc := ⟨.hbm, 80, rfl⟩
abbrev main_cst_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_call4_v0 : Ref sig .tc := ⟨.hbm, 86, rfl⟩
abbrev main_call4_v1 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_8 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩

abbrev nD : Nat := 1
abbrev τ : Topo := Topo.v7x

variable {F : FTy → Type} [FloatOps F]
-- ==== Kernel5.lean ====
abbrev S4352x1024 : Shape := ⟨2, ![4352, 1024]⟩
abbrev S2816x1024 : Shape := ⟨2, ![2816, 1024]⟩
abbrev S4352x2816 : Shape := ⟨2, ![4352, 2816]⟩
abbrev S272x1024 : Shape := ⟨2, ![272, 1024]⟩
abbrev S272x2816 : Shape := ⟨2, ![272, 2816]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S2816x1024, .bf16⟩
  | .hbm, ⟨3, _⟩ => ⟨S4352x2816, .bf16⟩
  | .hbm, ⟨4, _⟩ => ⟨S4352x2816, .bf16⟩
  | .hbm, ⟨5, _⟩ => ⟨S4352x2816, .bf16⟩
  | .local _ .vmem, ⟨0, _⟩ => ⟨S272x1024, .bf16⟩
  | .local _ .vmem, ⟨1, _⟩ => ⟨S272x1024, .bf16⟩
  | .local _ .vmem, ⟨2, _⟩ => ⟨S2816x1024, .bf16⟩
  | .local _ .vmem, ⟨3, _⟩ => ⟨S2816x1024, .bf16⟩
  | .local _ .vmem, ⟨4, _⟩ => ⟨S272x2816, .bf16⟩
  | .local _ .vmem, ⟨5, _⟩ => ⟨S272x2816, .bf16⟩
  | .local _ .vmem, ⟨6, _⟩ => ⟨S272x2816, .bf16⟩
  | .local _ .vmem, ⟨7, _⟩ => ⟨S272x2816, .bf16⟩
  | .local _ .vmem, ⟨8, _⟩ => ⟨S272x2816, .bf16⟩
  | .local _ .vmem, ⟨9, _⟩ => ⟨S272x2816, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S272x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S272x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S272x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4352x1024 : Shape := ⟨2, ![4352, 1024]⟩
abbrev S2816x1024 : Shape := ⟨2, ![2816, 1024]⟩
abbrev S1024x2816 : Shape := ⟨2, ![1024, 2816]⟩
abbrev S4352x2816 : Shape := ⟨2, ![4352, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S2816x1024, .bf16⟩
  | .hbm, ⟨3, _⟩ => ⟨S4352x1024, .f32⟩
  | .hbm, ⟨4, _⟩ => ⟨S2816x1024, .f32⟩
  | .hbm, ⟨5, _⟩ => ⟨S1024x2816, .f32⟩
  | .hbm, ⟨6, _⟩ => ⟨S4352x2816, .f32⟩
  | .hbm, ⟨7, _⟩ => ⟨S4352x1024, .f32⟩
  | .hbm, ⟨8, _⟩ => ⟨S2816x1024, .f32⟩
  | .hbm, ⟨9, _⟩ => ⟨S1024x2816, .f32⟩
  | .hbm, ⟨10, _⟩ => ⟨S4352x2816, .f32⟩
  | .hbm, ⟨11, _⟩ => ⟨S4352x2816, .f32⟩
  | .hbm, ⟨12, _⟩ => ⟨S4352x2816, .f32⟩
  | .hbm, ⟨13, _⟩ => ⟨S_, .f32⟩
  | .hbm, ⟨14, _⟩ => ⟨S4352x2816, .f32⟩
  | .hbm, ⟨15, _⟩ => ⟨S4352x2816, .f32⟩
  | .hbm, ⟨16, _⟩ => ⟨S_, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x2816, .bf16⟩
  | .hbm, ⟨22, _⟩ => ⟨S4352x2816, .bf16⟩
  | .hbm, ⟨23, _⟩ => ⟨S4352x2816, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel6.lean ====
abbrev S4352x2816 : Shape := ⟨2, ![4352, 2816]⟩
abbrev S2816x1024 : Shape := ⟨2, ![2816, 1024]⟩
abbrev S4352x1024 : Shape := ⟨2, ![4352, 1024]⟩
abbrev S1088x2816 : Shape := ⟨2, ![1088, 2816]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S1088x1024, .f32⟩
  | .local _ .vmem, ⟨4, _⟩ => ⟨S1088x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S4352x2816 : Shape := ⟨2, ![4352, 2816]⟩
abbrev S2816x1024 : Shape := ⟨2, ![2816, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x2816, .f32⟩
  | .hbm, ⟨3, _⟩ => ⟨S2816x1024, .f32⟩
  | .hbm, ⟨4, _⟩ => ⟨S4352x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4352x1024 : Shape := ⟨2, ![4352, 1024]⟩
abbrev S4x1024x768 : Shape := ⟨3, ![4, 1024, 768]⟩
abbrev S4352x3072 : Shape := ⟨2, ![4352, 3072]⟩
abbrev S1088x1024 : Shape := ⟨2, ![1088, 1024]⟩
abbrev S1x1024x768 : Shape := ⟨3, ![1, 1024, 768]⟩
abbrev S1088x768 : Shape := ⟨2, ![1088, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4x1024x768, .bf16⟩
  | .hbm, ⟨2, _⟩ => ⟨S4352x3072, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1088x768, .f32⟩
  | .local _ .vmem, ⟨5, _⟩ => ⟨S1088x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x1024 : Shape := ⟨2, ![4352, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S4352x3072 : Shape := ⟨2, ![4352, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4x1024x768, .bf16⟩
  | .hbm, ⟨2, _⟩ => ⟨S4352x1024, .f32⟩
  | .hbm, ⟨3, _⟩ => ⟨S4x1024x768, .f32⟩
  | .hbm, ⟨4, _⟩ => ⟨S1024x4x768, .f32⟩
  | .hbm, ⟨5, _⟩ => ⟨S1024x3072, .f32⟩
  | .hbm, ⟨6, _⟩ => ⟨S4352x3072, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4352x3072 : Shape := ⟨2, ![4352, 3072]⟩
abbrev S4x1024x768 : Shape := ⟨3, ![4, 1024, 768]⟩
abbrev S4352x1024 : Shape := ⟨2, ![4352, 1024]⟩
abbrev S1088x768 : Shape := ⟨2, ![1088, 768]⟩
abbrev S1x1024x768 : Shape := ⟨3, ![1, 1024, 768]⟩
abbrev S1088x1024 : Shape := ⟨2, ![1088, 1024]⟩
abbrev S1024x768 : Shape := ⟨2, ![1024, 768]⟩

abbrev nBuf : Space → Nat
  | .hbm => 3
  | .vmem => 14
  | .smem => 0
  | _ => 0

abbrev bufTy : (tb : Table) → Fin (tcTables nBuf tb) → BufTy
  | .hbm, ⟨0, _⟩ => ⟨S4352x3072, .bf16⟩
  | .hbm, ⟨1, _⟩ => ⟨S4x1024x768, .bf16⟩
  | .hbm, ⟨2, _⟩ => ⟨S4352x1024, .bf16⟩
  | .local _ .vmem, ⟨0, _⟩ => ⟨S1088x768, .bf16⟩
  | .local _ .vmem, ⟨1, _⟩ => ⟨S1088x768, .bf16⟩
  | .local _ .vmem, ⟨2, _⟩ => ⟨S1x1024x768, .bf16⟩
  | .local _ .vmem, ⟨3, _⟩ => ⟨S1088x768, .bf16⟩
  | .local _ .vmem, ⟨4, _⟩ => ⟨S1088x768, .bf16⟩
  | .local _ .vmem, ⟨5, _⟩ => ⟨S1x1024x768, .bf16⟩
  | .local _ .vmem, ⟨6, _⟩ => ⟨S1088x768, .bf16⟩
  | .local _ .vmem, ⟨7, _⟩ => ⟨S1088x768, .bf16⟩
  | .local _ .vmem, ⟨8, _⟩ => ⟨S1x1024x768, .bf16⟩
  | .local _ .vmem, ⟨9, _⟩ => ⟨S1088x768, .bf16⟩
  | .local _ .vmem, ⟨10, _⟩ => ⟨S1088x768, .bf16⟩
  | .local _ .vmem, ⟨11, _⟩ => ⟨S1x1024x768, .bf16⟩
  | .local _ .vmem, ⟨12, _⟩ => ⟨S1088x1024, .bf16⟩
  | .local _ .vmem, ⟨13, _⟩ => ⟨S1088x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1088x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1088x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1088x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1088x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference8Ideal.lean ====
abbrev S4352x3072 : Shape := ⟨2, ![4352, 3072]⟩
abbrev S4x1024x768 : Shape := ⟨3, ![4, 1024, 768]⟩
abbrev S_ : Shape := ⟨0, ![]⟩
abbrev S4352x1024 : Shape := ⟨2, ![4352, 1024]⟩
abbrev S1024x4x768 : Shape := ⟨3, ![1024, 4, 768]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4x1024x768, .bf16⟩
  | .hbm, ⟨2, _⟩ => ⟨S_, .bf16⟩
  | .hbm, ⟨3, _⟩ => ⟨S4352x1024, .bf16⟩
  | .hbm, ⟨4, _⟩ => ⟨S4352x1024, .f32⟩
  | .hbm, ⟨5, _⟩ => ⟨S4x1024x768, .f32⟩
  | .hbm, ⟨6, _⟩ => ⟨S1024x4x768, .f32⟩
  | .hbm, ⟨7, _⟩ => ⟨S1024x3072, .f32⟩
  | .hbm, ⟨8, _⟩ => ⟨S4352x3072, .f32⟩
  | .hbm, ⟨9, _⟩ => ⟨S4352x3072, .f32⟩
  | .hbm, ⟨10, _⟩ => ⟨S4352x1024, .f32⟩
  | .hbm, ⟨11, _⟩ => ⟨S4352x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4352x1024 : Shape := ⟨2, ![4352, 1024]⟩
abbrev S4352x3072 : Shape := ⟨2, ![4352, 3072]⟩
abbrev S4x1024x768 : Shape := ⟨3, ![4, 1024, 768]⟩
abbrev S4352x768 : Shape := ⟨2, ![4352, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x3072, .bf16⟩
  | .hbm, ⟨2, _⟩ => ⟨S4x1024x768, .f32⟩
  | .local _ .vmem, ⟨0, _⟩ => ⟨S4352x1024, .bf16⟩
  | .local _ .vmem, ⟨1, _⟩ => ⟨S4352x768, .bf16⟩
  | .local _ .vmem, ⟨2, _⟩ => ⟨S4352x768, .bf16⟩
  | .local _ .vmem, ⟨3, _⟩ => ⟨S1x1024x768, .f32⟩
  | .local _ .vmem, ⟨4, _⟩ => ⟨S1x1024x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4352x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S4352x1024 : Shape := ⟨2, ![4352, 1024]⟩
abbrev S4352x3072 : Shape := ⟨2, ![4352, 3072]⟩
abbrev S_ : Shape := ⟨0, ![]⟩
abbrev S4x1024x768 : Shape := ⟨3, ![4, 1024, 768]⟩
abbrev S1024x4x768 : Shape := ⟨3, ![1024, 4, 768]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x3072, .bf16⟩
  | .hbm, ⟨2, _⟩ => ⟨S_, .f32⟩
  | .hbm, ⟨3, _⟩ => ⟨S4x1024x768, .f32⟩
  | .hbm, ⟨4, _⟩ => ⟨S4352x1024, .f32⟩
  | .hbm, ⟨5, _⟩ => ⟨S1024x4x768, .f32⟩
  | .hbm, ⟨6, _⟩ => ⟨S1024x3072, .f32⟩
  | .hbm, ⟨7, _⟩ => ⟨S4352x3072, .f32⟩
  | .hbm, ⟨8, _⟩ => ⟨S4352x3072, .f32⟩
  | .hbm, ⟨9, _⟩ => ⟨S3072x1024, .f32⟩
  | .hbm, ⟨10, _⟩ => ⟨S1024x3072, .f32⟩
  | .hbm, ⟨11, _⟩ => ⟨S1024x4x768, .f32⟩
  | .hbm, ⟨12, _⟩ => ⟨S4x1024x768, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S4352x1024 : Shape := ⟨2, ![4352, 1024]⟩
abbrev S4x1024x384 : Shape := ⟨3, ![4, 1024, 384]⟩
abbrev S4352x1536 : Shape := ⟨2, ![4352, 1536]⟩
abbrev S1088x1024 : Shape := ⟨2, ![1088, 1024]⟩
abbrev S1x1024x384 : Shape := ⟨3, ![1, 1024, 384]⟩
abbrev S1088x384 : Shape := ⟨2, ![1088, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4x1024x384, .bf16⟩
  | .hbm, ⟨2, _⟩ => ⟨S4352x1536, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x384, .bf16⟩
  | .local _ .vmem, ⟨3, _⟩ => ⟨S1x1024x384, .bf16⟩
  | .local _ .vmem, ⟨4, _⟩ => ⟨S1088x384, .f32⟩
  | .local _ .vmem, ⟨5, _⟩ => ⟨S1088x384, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x1024 : Shape := ⟨2, ![4352, 1024]⟩
abbrev S4x1024x384 : Shape := ⟨3, ![4, 1024, 384]⟩
abbrev S1024x4x384 : Shape := ⟨3, ![1024, 4, 384]⟩
abbrev S1024x1536 : Shape := ⟨2, ![1024, 1536]⟩
abbrev S4352x1536 : Shape := ⟨2, ![4352, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4x1024x384, .bf16⟩
  | .hbm, ⟨2, _⟩ => ⟨S4352x1024, .f32⟩
  | .hbm, ⟨3, _⟩ => ⟨S4x1024x384, .f32⟩
  | .hbm, ⟨4, _⟩ => ⟨S1024x4x384, .f32⟩
  | .hbm, ⟨5, _⟩ => ⟨S1024x1536, .f32⟩
  | .hbm, ⟨6, _⟩ => ⟨S4352x1536, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4352x1536 : Shape := ⟨2, ![4352, 1536]⟩
abbrev S4x1024x384 : Shape := ⟨3, ![4, 1024, 384]⟩
abbrev S4352x1024 : Shape := ⟨2, ![4352, 1024]⟩
abbrev S1088x384 : Shape := ⟨2, ![1088, 384]⟩
abbrev S1x1024x384 : Shape := ⟨3, ![1, 1024, 384]⟩
abbrev S1088x1024 : Shape := ⟨2, ![1088, 1024]⟩
abbrev S1024x384 : Shape := ⟨2, ![1024, 384]⟩

abbrev nBuf : Space → Nat
  | .hbm => 3
  | .vmem => 14
  | .smem => 0
  | _ => 0

abbrev bufTy : (tb : Table) → Fin (tcTables nBuf tb) → BufTy
  | .hbm, ⟨0, _⟩ => ⟨S4352x1536, .bf16⟩
  | .hbm, ⟨1, _⟩ => ⟨S4x1024x384, .bf16⟩
  | .hbm, ⟨2, _⟩ => ⟨S4352x1024, .bf16⟩
  | .local _ .vmem, ⟨0, _⟩ => ⟨S1088x384, .bf16⟩
  | .local _ .vmem, ⟨1, _⟩ => ⟨S1088x384, .bf16⟩
  | .local _ .vmem, ⟨2, _⟩ => ⟨S1x1024x384, .bf16⟩
  | .local _ .vmem, ⟨3, _⟩ => ⟨S1088x384, .bf16⟩
  | .local _ .vmem, ⟨4, _⟩ => ⟨S1088x384, .bf16⟩
  | .local _ .vmem, ⟨5, _⟩ => ⟨S1x1024x384, .bf16⟩
  | .local _ .vmem, ⟨6, _⟩ => ⟨S1088x384, .bf16⟩
  | .local _ .vmem, ⟨7, _⟩ => ⟨S1088x384, .bf16⟩
  | .local _ .vmem, ⟨8, _⟩ => ⟨S1x1024x384, .bf16⟩
  | .local _ .vmem, ⟨9, _⟩ => ⟨S1088x384, .bf16⟩
  | .local _ .vmem, ⟨10, _⟩ => ⟨S1088x384, .bf16⟩
  | .local _ .vmem, ⟨11, _⟩ => ⟨S1x1024x384, .bf16⟩
  | .local _ .vmem, ⟨12, _⟩ => ⟨S1088x1024, .bf16⟩
  | .local _ .vmem, ⟨13, _⟩ => ⟨S1088x1024, .bf16⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1088x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1088x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1088x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1088x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1088x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference11Ideal.lean ====
abbrev S4352x1536 : Shape := ⟨2, ![4352, 1536]⟩
abbrev S4x1024x384 : Shape := ⟨3, ![4, 1024, 384]⟩
abbrev S_ : Shape := ⟨0, ![]⟩
abbrev S4352x1024 : Shape := ⟨2, ![4352, 1024]⟩
abbrev S1024x4x384 : Shape := ⟨3, ![1024, 4, 384]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S4x1024x384, .bf16⟩
  | .hbm, ⟨2, _⟩ => ⟨S_, .bf16⟩
  | .hbm, ⟨3, _⟩ => ⟨S4352x1024, .bf16⟩
  | .hbm, ⟨4, _⟩ => ⟨S4352x1024, .f32⟩
  | .hbm, ⟨5, _⟩ => ⟨S4x1024x384, .f32⟩
  | .hbm, ⟨6, _⟩ => ⟨S1024x4x384, .f32⟩
  | .hbm, ⟨7, _⟩ => ⟨S1024x1536, .f32⟩
  | .hbm, ⟨8, _⟩ => ⟨S4352x1536, .f32⟩
  | .hbm, ⟨9, _⟩ => ⟨S4352x1536, .f32⟩
  | .hbm, ⟨10, _⟩ => ⟨S4352x1024, .f32⟩
  | .hbm, ⟨11, _⟩ => ⟨S4352x1024, .bf16⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4352x1024 : Shape := ⟨2, ![4352, 1024]⟩
abbrev S4352x1536 : Shape := ⟨2, ![4352, 1536]⟩
abbrev S4x1024x384 : Shape := ⟨3, ![4, 1024, 384]⟩
abbrev S4352x384 : Shape := ⟨2, ![4352, 384]⟩
abbrev S1x1024x384 : Shape := ⟨3, ![1, 1024, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1536, .bf16⟩
  | .hbm, ⟨2, _⟩ => ⟨S4x1024x384, .f32⟩
  | .local _ .vmem, ⟨0, _⟩ => ⟨S4352x1024, .bf16⟩
  | .local _ .vmem, ⟨1, _⟩ => ⟨S4352x384, .bf16⟩
  | .local _ .vmem, ⟨2, _⟩ => ⟨S4352x384, .bf16⟩
  | .local _ .vmem, ⟨3, _⟩ => ⟨S1x1024x384, .f32⟩
  | .local _ .vmem, ⟨4, _⟩ => ⟨S1x1024x384, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4352x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference12Ideal.lean ====
abbrev S4352x1024 : Shape := ⟨2, ![4352, 1024]⟩
abbrev S4352x1536 : Shape := ⟨2, ![4352, 1536]⟩
abbrev S_ : Shape := ⟨0, ![]⟩
abbrev S4x1024x384 : Shape := ⟨3, ![4, 1024, 384]⟩
abbrev S1024x4x384 : Shape := ⟨3, ![1024, 4, 384]⟩
abbrev S1024x1536 : Shape := ⟨2, ![1024, 1536]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1536, .bf16⟩
  | .hbm, ⟨2, _⟩ => ⟨S_, .f32⟩
  | .hbm, ⟨3, _⟩ => ⟨S4x1024x384, .f32⟩
  | .hbm, ⟨4, _⟩ => ⟨S4352x1024, .f32⟩
  | .hbm, ⟨5, _⟩ => ⟨S1024x4x384, .f32⟩
  | .hbm, ⟨6, _⟩ => ⟨S1024x1536, .f32⟩
  | .hbm, ⟨7, _⟩ => ⟨S4352x1536, .f32⟩
  | .hbm, ⟨8, _⟩ => ⟨S4352x1536, .f32⟩
  | .hbm, ⟨9, _⟩ => ⟨S1536x1024, .f32⟩
  | .hbm, ⟨10, _⟩ => ⟨S1024x1536, .f32⟩
  | .hbm, ⟨11, _⟩ => ⟨S1024x4x384, .f32⟩
  | .hbm, ⟨12, _⟩ => ⟨S4x1024x384, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference13Ideal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference14Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4352x1024 : Shape := ⟨2, ![4352, 1024]⟩
abbrev S1024x1024 : Shape := ⟨2, ![1024, 1024]⟩
abbrev S2176x512 : Shape := ⟨2, ![2176, 512]⟩
abbrev S2176x1024 : Shape := ⟨2, ![2176, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .f32⟩
  | .local _ .vmem, ⟨5, _⟩ => ⟨S512x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .ne arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference15Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | .hbm, ⟨40, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel17.lean ====
abbrev S2x31x128 : Shape := ⟨3, ![2, 31, 128]⟩
abbrev S62x128 : Shape := ⟨2, ![62, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S62x128, .f32⟩
  | .hbm, ⟨5, _⟩ => ⟨S62x128, .f32⟩
  | .hbm, ⟨6, _⟩ => ⟨S62x128, .f32⟩
  | .hbm, ⟨7, _⟩ => ⟨S62x128, .f32⟩
  | .hbm, ⟨8, _⟩ => ⟨S62x128, .f32⟩
  | .hbm, ⟨9, _⟩ => ⟨S62x128, .f32⟩
  | .hbm, ⟨10, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S2x31x128 : Shape := ⟨3, ![2, 31, 128]⟩
abbrev S62x128 : Shape := ⟨2, ![62, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S62x128, .f32⟩
  | .hbm, ⟨5, _⟩ => ⟨S62x128, .f32⟩
  | .hbm, ⟨6, _⟩ => ⟨S62x128, .f32⟩
  | .hbm, ⟨7, _⟩ => ⟨S62x128, .f32⟩
  | .hbm, ⟨8, _⟩ => ⟨S62x128, .f32⟩
  | .hbm, ⟨9, _⟩ => ⟨S62x128, .f32⟩
  | .hbm, ⟨10, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S2x31x128 : Shape := ⟨3, ![2, 31, 128]⟩
abbrev S_ : Shape := ⟨0, ![]⟩
abbrev S62x128 : Shape := ⟨2, ![62, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S_, .f32⟩
  | .hbm, ⟨5, _⟩ => ⟨S2x31x128, .f32⟩
  | .hbm, ⟨6, _⟩ => ⟨S2x31x128, .f32⟩
  | .hbm, ⟨7, _⟩ => ⟨S_, .f32⟩
  | .hbm, ⟨8, _⟩ => ⟨S2x31x128, .f32⟩
  | .hbm, ⟨9, _⟩ => ⟨S2x31x128, .f32⟩
  | .hbm, ⟨10, _⟩ => ⟨S2x31x128, .f32⟩
  | .hbm, ⟨11, _⟩ => ⟨S_, .f32⟩
  | .hbm, ⟨12, _⟩ => ⟨S2x31x128, .f32⟩
  | .hbm, ⟨13, _⟩ => ⟨S2x31x128, .f32⟩
  | .hbm, ⟨14, _⟩ => ⟨S2x31x128, .f32⟩
  | .hbm, ⟨15, _⟩ => ⟨S_, .f32⟩
  | .hbm, ⟨16, _⟩ => ⟨S2x31x128, .f32⟩
  | .hbm, ⟨17, _⟩ => ⟨S2x31x128, .f32⟩
  | .hbm, ⟨18, _⟩ => ⟨S2x31x128, .f32⟩
  | .hbm, ⟨19, _⟩ => ⟨S_, .f32⟩
  | .hbm, ⟨20, _⟩ => ⟨S2x31x128, .f32⟩
  | .hbm, ⟨21, _⟩ => ⟨S2x31x128, .f32⟩
  | .hbm, ⟨22, _⟩ => ⟨S_, .f32⟩
  | .hbm, ⟨23, _⟩ => ⟨S2x31x128, .f32⟩
  | .hbm, ⟨24, _⟩ => ⟨S2x31x128, .f32⟩
  | .hbm, ⟨25, _⟩ => ⟨S2x31x128, .f32⟩
  | .hbm, ⟨26, _⟩ => ⟨S_, .f32⟩
  | .hbm, ⟨27, _⟩ => ⟨S2x31x128, .f32⟩
  | .hbm, ⟨28, _⟩ => ⟨S2x31x128, .f32⟩
  | .hbm, ⟨29, _⟩ => ⟨S2x31x128, .f32⟩
  | .hbm, ⟨30, _⟩ => ⟨S_, .f32⟩
  | .hbm, ⟨31, _⟩ => ⟨S2x31x128, .f32⟩
  | .hbm, ⟨32, _⟩ => ⟨S2x31x128, .f32⟩
  | .hbm, ⟨33, _⟩ => ⟨S2x31x128, .f32⟩
  | .hbm, ⟨34, _⟩ => ⟨S_, .f32⟩
  | .hbm, ⟨35, _⟩ => ⟨S2x31x128, .f32⟩
  | .hbm, ⟨36, _⟩ => ⟨S2x31x128, .f32⟩
  | .hbm, ⟨37, _⟩ => ⟨S62x128, .f32⟩
  | .hbm, ⟨38, _⟩ => ⟨S62x128, .f32⟩
  | .hbm, ⟨39, _⟩ => ⟨S62x128, .f32⟩
  | _, _ => ⟨S2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S2x256x1024 : Shape := ⟨3, ![2, 256, 1024]⟩
abbrev S512x1024 : Shape := ⟨2, ![512, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S2x256x1024 : Shape := ⟨3, ![2, 256, 1024]⟩
abbrev S512x1024 : Shape := ⟨2, ![512, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S2x1024x384 : Shape := ⟨3, ![2, 1024, 384]⟩
abbrev S2048x384 : Shape := ⟨2, ![2048, 384]⟩
abbrev S1024x384 : Shape := ⟨2, ![1024, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S4x1024x1536 : Shape := ⟨3, ![4, 1024, 1536]⟩
abbrev S4096x1536 : Shape := ⟨2, ![4096, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
abbrev S4x1024x1536 : Shape := ⟨3, ![4, 1024, 1536]⟩
abbrev S4096x1536 : Shape := ⟨2, ![4096, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S2x4x128x128 : Shape := ⟨4, ![2, 4, 128, 128]⟩
abbrev S1024x128 : Shape := ⟨2, ![1024, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S2x4x128x128 : Shape := ⟨4, ![2, 4, 128, 128]⟩
abbrev S1024x128 : Shape := ⟨2, ![1024, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S2x4x128x128 : Shape := ⟨4, ![2, 4, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S_, .f32⟩
  | .hbm, ⟨5, _⟩ => ⟨S2x4x128x128, .f32⟩
  | .hbm, ⟨6, _⟩ => ⟨S2x4x128x128, .f32⟩
  | .hbm, ⟨7, _⟩ => ⟨S_, .f32⟩
  | .hbm, ⟨8, _⟩ => ⟨S2x4x128x128, .f32⟩
  | .hbm, ⟨9, _⟩ => ⟨S2x4x128x128, .f32⟩
  | .hbm, ⟨10, _⟩ => ⟨S2x4x128x128, .f32⟩
  | .hbm, ⟨11, _⟩ => ⟨S_, .f32⟩
  | .hbm, ⟨12, _⟩ => ⟨S2x4x128x128, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S_, .f32⟩
  | .hbm, ⟨23, _⟩ => ⟨S2x4x128x128, .f32⟩
  | .hbm, ⟨24, _⟩ => ⟨S2x4x128x128, .f32⟩
  | .hbm, ⟨25, _⟩ => ⟨S2x4x128x128, .f32⟩
  | .hbm, ⟨26, _⟩ => ⟨S_, .f32⟩
  | .hbm, ⟨27, _⟩ => ⟨S2x4x128x128, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x2x256 : Shape := ⟨3, ![4, 2, 256]⟩
abbrev S8x256 : Shape := ⟨2, ![8, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x2x256, .f32⟩
  | .hbm, ⟨1, _⟩ => ⟨S4x2x256, .f32⟩
  | .hbm, ⟨2, _⟩ => ⟨S4x2x256, .f32⟩
  | .hbm, ⟨3, _⟩ => ⟨S4x2x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S4x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S4x2x256 : Shape := ⟨3, ![4, 2, 256]⟩
abbrev S8x256 : Shape := ⟨2, ![8, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x2x256, .f32⟩
  | .hbm, ⟨1, _⟩ => ⟨S4x2x256, .f32⟩
  | .hbm, ⟨2, _⟩ => ⟨S4x2x256, .f32⟩
  | .hbm, ⟨3, _⟩ => ⟨S4x2x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S4x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x2x256 : Shape := ⟨3, ![4, 2, 256]⟩
abbrev S_ : Shape := ⟨0, ![]⟩
abbrev S8x256 : Shape := ⟨2, ![8, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x2x256, .f32⟩
  | .hbm, ⟨1, _⟩ => ⟨S4x2x256, .f32⟩
  | .hbm, ⟨2, _⟩ => ⟨S4x2x256, .f32⟩
  | .hbm, ⟨3, _⟩ => ⟨S4x2x256, .f32⟩
  | .hbm, ⟨4, _⟩ => ⟨S_, .f32⟩
  | .hbm, ⟨5, _⟩ => ⟨S4x2x256, .f32⟩
  | .hbm, ⟨6, _⟩ => ⟨S4x2x256, .f32⟩
  | .hbm, ⟨7, _⟩ => ⟨S_, .f32⟩
  | .hbm, ⟨8, _⟩ => ⟨S4x2x256, .f32⟩
  | .hbm, ⟨9, _⟩ => ⟨S4x2x256, .f32⟩
  | .hbm, ⟨10, _⟩ => ⟨S4x2x256, .f32⟩
  | .hbm, ⟨11, _⟩ => ⟨S_, .f32⟩
  | .hbm, ⟨12, _⟩ => ⟨S4x2x256, .f32⟩
  | .hbm, ⟨13, _⟩ => ⟨S4x2x256, .f32⟩
  | .hbm, ⟨14, _⟩ => ⟨S4x2x256, .f32⟩
  | .hbm, ⟨15, _⟩ => ⟨S_, .f32⟩
  | .hbm, ⟨16, _⟩ => ⟨S4x2x256, .f32⟩
  | .hbm, ⟨17, _⟩ => ⟨S4x2x256, .f32⟩
  | .hbm, ⟨18, _⟩ => ⟨S4x2x256, .f32⟩
  | .hbm, ⟨19, _⟩ => ⟨S_, .f32⟩
  | .hbm, ⟨20, _⟩ => ⟨S4x2x256, .f32⟩
  | .hbm, ⟨21, _⟩ => ⟨S4x2x256, .f32⟩
  | .hbm, ⟨22, _⟩ => ⟨S_, .f32⟩
  | .hbm, ⟨23, _⟩ => ⟨S4x2x256, .f32⟩
  | .hbm, ⟨24, _⟩ => ⟨S4x2x256, .f32⟩
  | .hbm, ⟨25, _⟩ => ⟨S4x2x256, .f32⟩
  | .hbm, ⟨26, _⟩ => ⟨S_, .f32⟩
  | .hbm, ⟨27, _⟩ => ⟨S4x2x256, .f32⟩
  | .hbm, ⟨28, _⟩ => ⟨S4x2x256, .f32⟩
  | .hbm, ⟨29, _⟩ => ⟨S4x2x256, .f32⟩
  | .hbm, ⟨30, _⟩ => ⟨S_, .f32⟩
  | .hbm, ⟨31, _⟩ => ⟨S4x2x256, .f32⟩
  | .hbm, ⟨32, _⟩ => ⟨S4x2x256, .f32⟩
  | .hbm, ⟨33, _⟩ => ⟨S4x2x256, .f32⟩
  | .hbm, ⟨34, _⟩ => ⟨S_, .f32⟩
  | .hbm, ⟨35, _⟩ => ⟨S4x2x256, .f32⟩
  | .hbm, ⟨36, _⟩ => ⟨S4x2x256, .f32⟩
  | .hbm, ⟨37, _⟩ => ⟨S8x256, .f32⟩
  | .hbm, ⟨38, _⟩ => ⟨S8x256, .f32⟩
  | .hbm, ⟨39, _⟩ => ⟨S8x256, .f32⟩
  | _, _ => ⟨S4x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S2x2x4 : Shape := ⟨3, ![2, 2, 4]⟩
abbrev S4x4 : Shape := ⟨2, ![4, 4]⟩

abbrev nBuf : Space → Nat
  | .hbm => 11
  | .vmem => 7
  | .smem => 0
  | _ => 0

abbrev bufTy : (tb : Table) → Fin (tcTables nBuf tb) → BufTy
  | .hbm, ⟨0, _⟩ => ⟨S2x2x4, .f32⟩
  | .hbm, ⟨1, _⟩ => ⟨S2x2x4, .f32⟩
  | .hbm, ⟨2, _⟩ => ⟨S2x2x4, .f32⟩
  | .hbm, ⟨3, _⟩ => ⟨S2x2x4, .f32⟩
  | .hbm, ⟨4, _⟩ => ⟨S4x4, .f32⟩
  | .hbm, ⟨5, _⟩ => ⟨S4x4, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S2x2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S2x2x4 : Shape := ⟨3, ![2, 2, 4]⟩
abbrev S4x4 : Shape := ⟨2, ![4, 4]⟩

abbrev nBuf : Space → Nat
  | .hbm => 11
  | .vmem => 7
  | .smem => 0
  | _ => 0

abbrev bufTy : (tb : Table) → Fin (tcTables nBuf tb) → BufTy
  | .hbm, ⟨0, _⟩ => ⟨S2x2x4, .f32⟩
  | .hbm, ⟨1, _⟩ => ⟨S2x2x4, .f32⟩
  | .hbm, ⟨2, _⟩ => ⟨S2x2x4, .f32⟩
  | .hbm, ⟨3, _⟩ => ⟨S2x2x4, .f32⟩
  | .hbm, ⟨4, _⟩ => ⟨S4x4, .f32⟩
  | .hbm, ⟨5, _⟩ => ⟨S4x4, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S2x2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x2x4 : Shape := ⟨3, ![2, 2, 4]⟩
abbrev S_ : Shape := ⟨0, ![]⟩
abbrev S4x4 : Shape := ⟨2, ![4, 4]⟩

abbrev nBuf : Space → Nat
  | .hbm => 40
  | .vmem => 0
  | .smem => 0
  | _ => 0

abbrev bufTy : (tb : Table) → Fin (tcTables nBuf tb) → BufTy
  | .hbm, ⟨0, _⟩ => ⟨S2x2x4, .f32⟩
  | .hbm, ⟨1, _⟩ => ⟨S2x2x4, .f32⟩
  | .hbm, ⟨2, _⟩ => ⟨S2x2x4, .f32⟩
  | .hbm, ⟨3, _⟩ => ⟨S2x2x4, .f32⟩
  | .hbm, ⟨4, _⟩ => ⟨S_, .f32⟩
  | .hbm, ⟨5, _⟩ => ⟨S2x2x4, .f32⟩
  | .hbm, ⟨6, _⟩ => ⟨S2x2x4, .f32⟩
  | .hbm, ⟨7, _⟩ => ⟨S_, .f32⟩
  | .hbm, ⟨8, _⟩ => ⟨S2x2x4, .f32⟩
  | .hbm, ⟨9, _⟩ => ⟨S2x2x4, .f32⟩
  | .hbm, ⟨10, _⟩ => ⟨S2x2x4, .f32⟩
  | .hbm, ⟨11, _⟩ => ⟨S_, .f32⟩
  | .hbm, ⟨12, _⟩ => ⟨S2x2x4, .f32⟩
  | .hbm, ⟨13, _⟩ => ⟨S2x2x4, .f32⟩
  | .hbm, ⟨14, _⟩ => ⟨S2x2x4, .f32⟩
  | .hbm, ⟨15, _⟩ => ⟨S_, .f32⟩
  | .hbm, ⟨16, _⟩ => ⟨S2x2x4, .f32⟩
  | .hbm, ⟨17, _⟩ => ⟨S2x2x4, .f32⟩
  | .hbm, ⟨18, _⟩ => ⟨S2x2x4, .f32⟩
  | .hbm, ⟨19, _⟩ => ⟨S_, .f32⟩
  | .hbm, ⟨20, _⟩ => ⟨S2x2x4, .f32⟩
  | .hbm, ⟨21, _⟩ => ⟨S2x2x4, .f32⟩
  | .hbm, ⟨22, _⟩ => ⟨S_, .f32⟩
  | .hbm, ⟨23, _⟩ => ⟨S2x2x4, .f32⟩
  | .hbm, ⟨24, _⟩ => ⟨S2x2x4, .f32⟩
  | .hbm, ⟨25, _⟩ => ⟨S2x2x4, .f32⟩
  | .hbm, ⟨26, _⟩ => ⟨S_, .f32⟩
  | .hbm, ⟨27, _⟩ => ⟨S2x2x4, .f32⟩
  | .hbm, ⟨28, _⟩ => ⟨S2x2x4, .f32⟩
  | .hbm, ⟨29, _⟩ => ⟨S2x2x4, .f32⟩
  | .hbm, ⟨30, _⟩ => ⟨S_, .f32⟩
  | .hbm, ⟨31, _⟩ => ⟨S2x2x4, .f32⟩
  | .hbm, ⟨32, _⟩ => ⟨S2x2x4, .f32⟩
  | .hbm, ⟨33, _⟩ => ⟨S2x2x4, .f32⟩
  | .hbm, ⟨34, _⟩ => ⟨S_, .f32⟩
  | .hbm, ⟨35, _⟩ => ⟨S2x2x4, .f32⟩
  | .hbm, ⟨36, _⟩ => ⟨S2x2x4, .f32⟩
  | .hbm, ⟨37, _⟩ => ⟨S4x4, .f32⟩
  | .hbm, ⟨38, _⟩ => ⟨S4x4, .f32⟩
  | .hbm, ⟨39, _⟩ => ⟨S4x4, .f32⟩
  | _, _ => ⟨S2x2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x4x128 : Shape := ⟨3, ![2, 4, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S2x4x128 : Shape := ⟨3, ![2, 4, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S_, .f32⟩
  | .hbm, ⟨5, _⟩ => ⟨S2x4x128, .f32⟩
  | .hbm, ⟨6, _⟩ => ⟨S2x4x128, .f32⟩
  | .hbm, ⟨7, _⟩ => ⟨S_, .f32⟩
  | .hbm, ⟨8, _⟩ => ⟨S2x4x128, .f32⟩
  | .hbm, ⟨9, _⟩ => ⟨S2x4x128, .f32⟩
  | .hbm, ⟨10, _⟩ => ⟨S2x4x128, .f32⟩
  | .hbm, ⟨11, _⟩ => ⟨S_, .f32⟩
  | .hbm, ⟨12, _⟩ => ⟨S2x4x128, .f32⟩
  | .hbm, ⟨13, _⟩ => ⟨S2x4x128, .f32⟩
  | .hbm, ⟨14, _⟩ => ⟨S2x4x128, .f32⟩
  | .hbm, ⟨15, _⟩ => ⟨S_, .f32⟩
  | .hbm, ⟨16, _⟩ => ⟨S2x4x128, .f32⟩
  | .hbm, ⟨17, _⟩ => ⟨S2x4x128, .f32⟩
  | .hbm, ⟨18, _⟩ => ⟨S2x4x128, .f32⟩
  | .hbm, ⟨19, _⟩ => ⟨S_, .f32⟩
  | .hbm, ⟨20, _⟩ => ⟨S2x4x128, .f32⟩
  | .hbm, ⟨21, _⟩ => ⟨S2x4x128, .f32⟩
  | .hbm, ⟨22, _⟩ => ⟨S_, .f32⟩
  | .hbm, ⟨23, _⟩ => ⟨S2x4x128, .f32⟩
  | .hbm, ⟨24, _⟩ => ⟨S2x4x128, .f32⟩
  | .hbm, ⟨25, _⟩ => ⟨S2x4x128, .f32⟩
  | .hbm, ⟨26, _⟩ => ⟨S_, .f32⟩
  | .hbm, ⟨27, _⟩ => ⟨S2x4x128, .f32⟩
  | .hbm, ⟨28, _⟩ => ⟨S2x4x128, .f32⟩
  | .hbm, ⟨29, _⟩ => ⟨S2x4x128, .f32⟩
  | .hbm, ⟨30, _⟩ => ⟨S_, .f32⟩
  | .hbm, ⟨31, _⟩ => ⟨S2x4x128, .f32⟩
  | .hbm, ⟨32, _⟩ => ⟨S2x4x128, .f32⟩
  | .hbm, ⟨33, _⟩ => ⟨S2x4x128, .f32⟩
  | .hbm, ⟨34, _⟩ => ⟨S_, .f32⟩
  | .hbm, ⟨35, _⟩ => ⟨S2x4x128, .f32⟩
  | .hbm, ⟨36, _⟩ => ⟨S2x4x128, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S8x376x1024 : Shape := ⟨3, ![8, 376, 1024]⟩
abbrev S376x1024 : Shape := ⟨2, ![376, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x376x1024, .f32⟩
  | .hbm, ⟨1, _⟩ => ⟨S376x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![47], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S8x376x1024 : Shape := ⟨3, ![8, 376, 1024]⟩
abbrev S_ : Shape := ⟨0, ![]⟩
abbrev S376x1024 : Shape := ⟨2, ![376, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x376x1024, .f32⟩
  | .hbm, ⟨1, _⟩ => ⟨S_, .f32⟩
  | .hbm, ⟨2, _⟩ => ⟨S376x1024, .f32⟩
  | _, _ => ⟨S8x376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S4x16x6144 : Shape := ⟨3, ![4, 16, 6144]⟩
abbrev S4x1x6144 : Shape := ⟨3, ![4, 1, 6144]⟩
abbrev S1x16x6144 : Shape := ⟨3, ![1, 16, 6144]⟩
abbrev S1x1x6144 : Shape := ⟨3, ![1, 1, 6144]⟩
abbrev S16x6144 : Shape := ⟨2, ![16, 6144]⟩
abbrev S6144 : Shape := ⟨1, ![6144]⟩
abbrev S1x6144 : Shape := ⟨2, ![1, 6144]⟩

abbrev nBuf : Space → Nat
  | .hbm => 2
  | .vmem => 4
  | .smem => 0
  | _ => 0

abbrev bufTy : (tb : Table) → Fin (tcTables nBuf tb) → BufTy
  | .hbm, ⟨0, _⟩ => ⟨S4x16x6144, .f32⟩
  | .hbm, ⟨1, _⟩ => ⟨S4x1x6144, .f32⟩
  | .local _ .vmem, ⟨0, _⟩ => ⟨S1x16x6144, .f32⟩
  | .local _ .vmem, ⟨1, _⟩ => ⟨S1x16x6144, .f32⟩
  | .local _ .vmem, ⟨2, _⟩ => ⟨S1x1x6144, .f32⟩
  | .local _ .vmem, ⟨3, _⟩ => ⟨S1x1x6144, .f32⟩
  | _, _ => ⟨S4x16x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S4x16x6144 : Shape := ⟨3, ![4, 16, 6144]⟩
abbrev S_ : Shape := ⟨0, ![]⟩
abbrev S4x6144 : Shape := ⟨2, ![4, 6144]⟩
abbrev S4x1x6144 : Shape := ⟨3, ![4, 1, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4x16x6144, .f32⟩
  | .hbm, ⟨1, _⟩ => ⟨S_, .f32⟩
  | .hbm, ⟨2, _⟩ => ⟨S4x6144, .f32⟩
  | .hbm, ⟨3, _⟩ => ⟨S4x1x6144, .f32⟩
  | _, _ => ⟨S4x16x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel32.lean ====
abbrev S16x1024 : Shape := ⟨2, ![16, 1024]⟩
abbrev S4x1024x1536 : Shape := ⟨3, ![4, 1024, 1536]⟩
abbrev S4x1x1536 : Shape := ⟨3, ![4, 1, 1536]⟩
abbrev S4x16x1536 : Shape := ⟨3, ![4, 16, 1536]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1x1536, .f32⟩
  | .hbm, ⟨3, _⟩ => ⟨S4x16x1536, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S16x1024 : Shape := ⟨2, ![16, 1024]⟩
abbrev S4x1024x1536 : Shape := ⟨3, ![4, 1024, 1536]⟩
abbrev S4x1x1536 : Shape := ⟨3, ![4, 1, 1536]⟩
abbrev S_ : Shape := ⟨0, ![]⟩
abbrev S4x1536x16 : Shape := ⟨3, ![4, 1536, 16]⟩
abbrev S4x16x1536 : Shape := ⟨3, ![4, 16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x1536x16, .f32⟩
  | .hbm, ⟨13, _⟩ => ⟨S4x16x1536, .f32⟩
  | .hbm, ⟨14, _⟩ => ⟨S4x16x1536, .f32⟩
  | .hbm, ⟨15, _⟩ => ⟨S4x16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel33.lean ====
abbrev S16x1024 : Shape := ⟨2, ![16, 1024]⟩
abbrev S4x16x1536 : Shape := ⟨3, ![4, 16, 1536]⟩
abbrev S4x1024x1536 : Shape := ⟨3, ![4, 1024, 1536]⟩
abbrev S1x16x1536 : Shape := ⟨3, ![1, 16, 1536]⟩
abbrev S1x1024x1536 : Shape := ⟨3, ![1, 1024, 1536]⟩
abbrev S16x1536 : Shape := ⟨2, ![16, 1536]⟩
abbrev S1024x1536 : Shape := ⟨2, ![1024, 1536]⟩

abbrev nBuf : Space → Nat
  | .hbm => 5
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S4x16x1536, .f32⟩
  | .hbm, ⟨2, _⟩ => ⟨S4x1024x1536, .f32⟩
  | .hbm, ⟨3, _⟩ => ⟨S4x1024x1536, .f32⟩
  | .hbm, ⟨4, _⟩ => ⟨S16x1024, .f32⟩
  | .local _ .vmem, ⟨0, _⟩ => ⟨S16x1024, .f32⟩
  | .local _ .vmem, ⟨1, _⟩ => ⟨S1x16x1536, .f32⟩
  | .local _ .vmem, ⟨2, _⟩ => ⟨S1x16x1536, .f32⟩
  | .local _ .vmem, ⟨3, _⟩ => ⟨S1x1024x1536, .f32⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference33Ideal.lean ====
abbrev S16x1024 : Shape := ⟨2, ![16, 1024]⟩
abbrev S4x16x1536 : Shape := ⟨3, ![4, 16, 1536]⟩
abbrev S4x1024x1536 : Shape := ⟨3, ![4, 1024, 1536]⟩
abbrev S_ : Shape := ⟨0, ![]⟩
abbrev S4x1536x16 : Shape := ⟨3, ![4, 1536, 16]⟩
abbrev S4x1536x1024 : Shape := ⟨3, ![4, 1536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x1536, .f32⟩
  | .hbm, ⟨2, _⟩ => ⟨S4x1024x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x1536x16, .f32⟩
  | .hbm, ⟨13, _⟩ => ⟨S4x16x1536, .f32⟩
  | .hbm, ⟨14, _⟩ => ⟨S4x1536x16, .f32⟩
  | .hbm, ⟨15, _⟩ => ⟨S16x1024, .f32⟩
  | .hbm, ⟨16, _⟩ => ⟨S4x1536x1024, .f32⟩
  | .hbm, ⟨17, _⟩ => ⟨S4x1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel34.lean ====
abbrev S4x1024 : Shape := ⟨2, ![4, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1024, .f32⟩
  | .hbm, ⟨1, _⟩ => ⟨S1x1024, .f32⟩
  | .hbm, ⟨2, _⟩ => ⟨S1x1024, .f32⟩
  | .local _ .vmem, ⟨0, _⟩ => ⟨S4x1024, .f32⟩
  | .local _ .vmem, ⟨1, _⟩ => ⟨S1x1024, .f32⟩
  | .local _ .vmem, ⟨2, _⟩ => ⟨S1x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference34Ideal.lean ====
abbrev S4x1024 : Shape := ⟨2, ![4, 1024]⟩
abbrev S1x1024 : Shape := ⟨2, ![1, 1024]⟩
abbrev S_ : Shape := ⟨0, ![]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Kernel35.lean ====
abbrev S4352x1024 : Shape := ⟨2, ![4352, 1024]⟩
abbrev S2x8x1024 : Shape := ⟨3, ![2, 8, 1024]⟩
abbrev S1x1024 : Shape := ⟨2, ![1, 1024]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024 : Shape := ⟨1, ![1024]⟩
abbrev S5x1024 : Shape := ⟨2, ![5, 1024]⟩
abbrev S8x1024 : Shape := ⟨2, ![8, 1024]⟩
abbrev S3x1024 : Shape := ⟨2, ![3, 1024]⟩
abbrev S4x1024 : Shape := ⟨2, ![4, 1024]⟩
abbrev S1x8x1024 : Shape := ⟨3, ![1, 8, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4352x1024, .f32⟩
  | .hbm, ⟨1, _⟩ => ⟨S4352x1024, .bf16⟩
  | .hbm, ⟨2, _⟩ => ⟨S4352x1024, .f32⟩
  | .hbm, ⟨3, _⟩ => ⟨S2x8x1024, .f32⟩
  | .hbm, ⟨4, _⟩ => ⟨S1x1024, .f32⟩
  | .hbm, ⟨5, _⟩ => ⟨S4096x1024, .f32⟩
  | .hbm, ⟨6, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S2x8x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S2x8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v0 : BitVec 1 := Scalar.cmpi .slt arg0 c1_i32
  let v60 : BitVec 32 := Scalar.extui v0
  let c0_i32_27 : BitVec 32 := 0#32
  let v61 : BitVec 1 := Scalar.cmpi .ne v60 c0_i32_27
  v61

def k0_cond3 (i : grid0.Coords) : BitVec 1 :=
  let arg0 : BitVec 32 := BitVec.ofNat 32 (i 0).val
  let c1_i32 : BitVec 32 := 1#32
  let v0 : BitVec 1 := Scalar.cmpi .slt arg0 c1_i32
  let v_true : BitVec 1 := 1#1
  let v62 : BitVec 1 := Scalar.xori v0 v_true
  let v63 : BitVec 32 := Scalar.extui v62
  let c0_i32_28 : BitVec 32 := 0#32
  let v64 : BitVec 1 := Scalar.cmpi .ne v63 c0_i32_28
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference35Ideal.lean ====
abbrev S4352x1024 : Shape := ⟨2, ![4352, 1024]⟩
abbrev S2x8x1024 : Shape := ⟨3, ![2, 8, 1024]⟩
abbrev S1x1024 : Shape := ⟨2, ![1, 1024]⟩
abbrev S4096x1024 : Shape := ⟨2, ![4096, 1024]⟩
abbrev S1x1x1024 : Shape := ⟨3, ![1, 1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .bf16⟩
  | .hbm, ⟨2, _⟩ => ⟨S4352x1024, .f32⟩
  | .hbm, ⟨3, _⟩ => ⟨S2x8x1024, .f32⟩
  | .hbm, ⟨4, _⟩ => ⟨S1x1024, .f32⟩
  | .hbm, ⟨5, _⟩ => ⟨S4096x1024, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel36.lean ====
abbrev S4352x1024 : Shape := ⟨2, ![4352, 1024]⟩
abbrev S2x8x1024 : Shape := ⟨3, ![2, 8, 1024]⟩
abbrev S1x1024 : Shape := ⟨2, ![1, 1024]⟩
abbrev S4096x1024 : Shape := ⟨2, ![4096, 1024]⟩
abbrev S8x128 : Shape := ⟨2, ![8, 128]⟩
abbrev S8x1024 : Shape := ⟨2, ![8, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S6x1024 : Shape := ⟨2, ![6, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x8x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4352x1024, .f32⟩
  | .hbm, ⟨7, _⟩ => ⟨S4352x1024, .bf16⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2x8x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference36Ideal.lean ====
abbrev S4352x1024 : Shape := ⟨2, ![4352, 1024]⟩
abbrev S2x8x1024 : Shape := ⟨3, ![2, 8, 1024]⟩
abbrev S1x1024 : Shape := ⟨2, ![1, 1024]⟩
abbrev S4096x1024 : Shape := ⟨2, ![4096, 1024]⟩
abbrev S1x1x1024 : Shape := ⟨3, ![1, 1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 96
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x8x1024, .f32⟩
  | .hbm, ⟨3, _⟩ => ⟨S1x1024, .f32⟩
  | .hbm, ⟨4, _⟩ => ⟨S4096x1024, .f32⟩
  | .hbm, ⟨5, _⟩ => ⟨S1x1x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S_, .f32⟩
  | .hbm, ⟨87, _⟩ => ⟨S4352x1024, .f32⟩
  | .hbm, ⟨88, _⟩ => ⟨S_, .f32⟩
  | .hbm, ⟨89, _⟩ => ⟨S4352x1024, .f32⟩
  | .hbm, ⟨90, _⟩ => ⟨S1x1024, .f32⟩
  | .hbm, ⟨91, _⟩ => ⟨S_, .f32⟩
  | .hbm, ⟨92, _⟩ => ⟨S6x1024, .f32⟩
  | .hbm, ⟨93, _⟩ => ⟨S8x1024, .f32⟩
  | .hbm, ⟨94, _⟩ => ⟨S8x128, .f32⟩
  | .hbm, ⟨95, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Proof.Finite.lean ====
/-
  Finite arrays: what a precondition "every element is below infinity in size" says of the elements, and that a sum of
  products of finite elements is the sum over the reals.
-/
module

public import Idealize.ShloMosaic.Lib.Pointwise
public import Idealize.ShloMosaic.Lib.ReduceAll

@[expose] public section

noncomputable section

open Idealize.ShloMosaic

namespace Cert.Finite

/-- Every element of the array is a real number. -/
def All {s : Shape} {φ : FTy} (x : FVec Ideal s φ) : Prop := ∀ i, (x i : EReal) = ((x i : EReal).toReal : EReal)

/-- The float word of positive infinity denotes the top element. -/
theorem word_top : Ideal.ofBits .f32 0x7F800000#32 = (⊤ : EReal) := by
  simp only [Ideal.ofBits, Ideal.ieee]
  have h1 : (BitVec.extractLsb' 23 8 (0x7F800000#32)).toNat = 2 ^ 8 - 1 := by decide
  have h2 : (BitVec.extractLsb' 0 23 (0x7F800000#32)).toNat = 0 := by decide
  have h3 : (BitVec.extractLsb' (8 + 23) 1 (0x7F800000#32) == 1#1) = false := by decide
  rw [if_pos h1, if_pos h2, h3]
  rfl

/-- An element whose absolute value is below the top is a real number. -/
theorem real_of_cmp (x : EReal) (h : Ideal.cmp .olt (max x (-x)) ⊤ = 1#1) : x = (x.toReal : EReal) := by
  have h' : max x (-x) < ⊤ := by
    by_contra hc
    unfold Ideal.cmp at h
    simp only [decide_eq_false hc] at h
    exact absurd h (by decide)
  refine (EReal.coe_toReal ?_ ?_).symm
  · rintro rfl; simp at h'
  · rintro rfl; simp at h'

/-- The reals' sum, in the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

end Cert.Finite

end
-- ==== Proof.Gate.lean ====
/-
  The gradients of the gated unit's two branches: with `da = df · wdᵀ` and `s` the logistic of `g`, the gradient of the
  gate is `da u (s (1 + g (1 - s)))` and that of the other branch `da (g s)`, one block of 272 rows for each grid point.
-/
module

public import proofs.«01_k».proof.Defs
public import proofs.«01_k».proof.Proof.Gen.KernelIdeal.Value
public import proofs.«01_k».proof.Proof.Gen.ReferenceIdeal.Run
public import proofs.«01_k».proof.Proof.Gen.Pre_finite
public import proofs.«01_k».proof.Proof.Finite
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Gate

open Cert.KernelIdeal Cert.KernelIdeal.Gen

/-- The gradient that reaches the product of the branches. -/
def dact {n : Nat} (df : Vec Ideal ⟨2, ![n, 1024]⟩ .bf16) (wd : Vec Ideal S2816x1024 .bf16) (r : Fin n) (l : Fin 2816) : EReal :=
  ∑ k : Fin 1024, df (ix2 r k) * wd (ix2 l k)

/-- The gate's gradient. -/
def dgate (da g u : EReal) : EReal := da * u * (Ideal.logistic g * (1 + g * (1 - Ideal.logistic g)))

/-- The other branch's gradient. -/
def dup (da g : EReal) : EReal := da * (g * Ideal.logistic g)

theorem hz : (![0, 0] : Fin 2 → Nat) = fun _ => 0 := funext fun a => by fin_cases a <;> rfl

theorem gate_apply (x0 : Vec Ideal S272x1024 .bf16) (x1 : Vec Ideal S2816x1024 .bf16) (x2 x3 : Vec Ideal S272x2816 .bf16)
    (r : Fin 272) (l : Fin 2816) :
    out0_4 x0 x1 x2 x3 (ix2 r l) = dgate (dact x0 x1 r l) (x2 (ix2 r l)) (x3 (ix2 r l)) := by
  unfold out0_4
  rw [View.canon_unit_zero hz]
  simp only [View.ld_unit_zero (S := S272x1024) hz, View.ld_unit_zero (S := S2816x1024) hz, View.ld_unit_zero (S := S272x2816) hz]
  unfold k0_pay4 k0_pay3 k0_pay2 k0_pay1 dgate dact
  pointwise

theorem up_apply (x0 : Vec Ideal S272x1024 .bf16) (x1 : Vec Ideal S2816x1024 .bf16) (x2 x3 : Vec Ideal S272x2816 .bf16)
    (r : Fin 272) (l : Fin 2816) :
    out0_5 x0 x1 x2 x3 (ix2 r l) = dup (dact x0 x1 r l) (x2 (ix2 r l)) := by
  unfold out0_5
  rw [View.canon_unit_zero hz]
  simp only [View.ld_unit_zero (S := S272x1024) hz, View.ld_unit_zero (S := S2816x1024) hz, View.ld_unit_zero (S := S272x2816) hz]
  unfold k0_pay5 k0_pay3 k0_pay2 k0_pay1 dup dact
  pointwise

variable (m : (ℓ : Loc nD τ sig) → Buf (Elt Ideal) ℓ) (c : Dev nD)

theorem index_row : ∀ t : Fin cfg0.N, win0_0.index t 0 = t.val ∧ win0_0.index t 1 = 0 ∧ win0_2.index t 0 = t.val
    ∧ win0_2.index t 1 = 0 ∧ win0_3.index t 0 = t.val ∧ win0_3.index t 1 = 0 := by
  decide +kernel

theorem index_gate : ∀ t : Fin cfg0.N, win0_4.index t 0 = t.val ∧ win0_4.index t 1 = 0 := by decide +kernel

theorem index_up : ∀ t : Fin cfg0.N, win0_5.index t 0 = t.val ∧ win0_5.index t 1 = 0 := by decide +kernel

theorem index_weight : ∀ t : Fin cfg0.N, win0_1.index t 0 = 0 ∧ win0_1.index t 1 = 0 := by decide +kernel

/-- The row of the whole array that row `r` of point `t`'s block is. -/
def row (t : Fin cfg0.N) (r : Fin 272) : Fin 4352 := ⟨272 * t.val + r.val, by have h : cfg0.N = 16 := N_0; omega⟩

/-- Point `t`'s block of the cotangent holds its rows. -/
theorem rows0 (t : Fin cfg0.N) (r : Fin 272) (k : Fin 1024) : (iblk m c 0 t : Vec Ideal S272x1024 .bf16) (ix2 r k)
    = (m ((c : Thread nD τ).loc main_arg0) : Vec Ideal S4352x1024 .bf16) (ix2 (row t r) k) := by
  have h0 := (index_row t).1
  have h1 := (index_row t).2.1
  unfold iblk
  rw [View.read_apply]
  show V m c main_arg0 _ = m (c.tc.loc main_arg0) _
  unfold V
  congr 1
  funext a
  apply Fin.ext
  match a with
  | ⟨0, _⟩ => show win0_0.index t 0 * 272 + 1 * r.val = 272 * t.val + r.val; rw [h0]; omega
  | ⟨1, _⟩ => show win0_0.index t 1 * 1024 + 1 * k.val = k.val; rw [h1]; omega

/-- And its block of the gate. -/
theorem rows2 (t : Fin cfg0.N) (r : Fin 272) (k : Fin 2816) : (iblk m c 2 t : Vec Ideal S272x2816 .bf16) (ix2 r k)
    = (m ((c : Thread nD τ).loc main_arg2) : Vec Ideal S4352x2816 .bf16) (ix2 (row t r) k) := by
  have h0 := (index_row t).2.2.1
  have h1 := (index_row t).2.2.2.1
  unfold iblk
  rw [View.read_apply]
  show V m c main_arg2 _ = m (c.tc.loc main_arg2) _
  unfold V
  congr 1
  funext a
  apply Fin.ext
  match a with
  | ⟨0, _⟩ => show win0_2.index t 0 * 272 + 1 * r.val = 272 * t.val + r.val; rw [h0]; omega
  | ⟨1, _⟩ => show win0_2.index t 1 * 2816 + 1 * k.val = k.val; rw [h1]; omega

/-- And its block of the other branch. -/
theorem rows3 (t : Fin cfg0.N) (r : Fin 272) (k : Fin 2816) : (iblk m c 3 t : Vec Ideal S272x2816 .bf16) (ix2 r k)
    = (m ((c : Thread nD τ).loc main_arg3) : Vec Ideal S4352x2816 .bf16) (ix2 (row t r) k) := by
  have h0 := (index_row t).2.2.2.2.1
  have h1 := (index_row t).2.2.2.2.2
  unfold iblk
  rw [View.read_apply]
  show V m c main_arg3 _ = m (c.tc.loc main_arg3) _
  unfold V
  congr 1
  funext a
  apply Fin.ext
  match a with
  | ⟨0, _⟩ => show win0_3.index t 0 * 272 + 1 * r.val = 272 * t.val + r.val; rw [h0]; omega
  | ⟨1, _⟩ => show win0_3.index t 1 * 2816 + 1 * k.val = k.val; rw [h1]; omega

/-- The weight is one block, the whole of it at every point. -/
theorem weight (t : Fin cfg0.N) : (iblk m c 1 t : Vec Ideal S2816x1024 .bf16) = m ((c : Thread nD τ).loc main_arg1) := by
  obtain ⟨h0, h1⟩ := index_weight t
  funext j
  unfold iblk
  rw [View.read_apply]
  show V m c main_arg1 _ = m (c.tc.loc main_arg1) _
  unfold V
  congr 1
  funext a
  apply Fin.ext
  match a with
  | ⟨0, _⟩ => show win0_1.index t 0 * 2816 + 1 * (j 0).val = (j 0).val; rw [h0]; omega
  | ⟨1, _⟩ => show win0_1.index t 1 * 1024 + 1 * (j 1).val = (j 1).val; rw [h1]; omega

/-- The gate's gradient, the whole array. -/
def gates (df : Vec Ideal S4352x1024 .bf16) (wd : Vec Ideal S2816x1024 .bf16) (gt up : Vec Ideal S4352x2816 .bf16) : Vec Ideal S4352x2816 .bf16 :=
  fun j => dgate (dact df wd (j 0) (j 1)) (gt (ix2 (j 0) (j 1))) (up (ix2 (j 0) (j 1)))

/-- The other branch's gradient, the whole array. -/
def ups (df : Vec Ideal S4352x1024 .bf16) (wd : Vec Ideal S2816x1024 .bf16) (gt : Vec Ideal S4352x2816 .bf16) :
    Vec Ideal S4352x2816 .bf16 :=
  fun j => dup (dact df wd (j 0) (j 1)) (gt (ix2 (j 0) (j 1)))

abbrev result_gate : Buf (Elt Ideal) ((c : Thread nD τ).loc main_v0_0) :=
  gates (m ((c : Thread nD τ).loc main_arg0)) (m ((c : Thread nD τ).loc main_arg1)) (m ((c : Thread nD τ).loc main_arg2))
    (m ((c : Thread nD τ).loc main_arg3))

abbrev result_up : Buf (Elt Ideal) ((c : Thread nD τ).loc main_v0_1) :=
  ups (m ((c : Thread nD τ).loc main_arg0)) (m ((c : Thread nD τ).loc main_arg1)) (m ((c : Thread nD τ).loc main_arg2))

/-- What point `t` writes back of this result is its block of it. -/
theorem flushed_gate (t : Fin cfg0.N) (_ : (cfg0.win 4).flush t = true) :
    (dats m 0 c).flushed 4 t = ((cfg0.win 4).blk t).view.read (Elt Ideal) (result_gate m c) := by
  obtain ⟨h0, h1⟩ := index_gate t
  rw [Value.flushed4]
  funext j
  rw [View.read_apply]
  show out0_4 (iblk m c 0 t) (iblk m c 1 t) (iblk m c 2 t) (iblk m c 3 t) j = _
  obtain ⟨r, l, rfl⟩ : ∃ (r : Fin 272) (l : Fin 2816), j = ix2 r l := ⟨j 0, j 1, eq_ix2 j⟩
  have e : ((cfg0.win 4).blk t).view.emb (ix2 r l) = (ix2 (row t r) l : S4352x2816.Idx) := by
    funext a
    apply Fin.ext
    match a with
    | ⟨0, _⟩ => show win0_4.index t 0 * 272 + 1 * r.val = 272 * t.val + r.val; rw [h0]; omega
    | ⟨1, _⟩ => show win0_4.index t 1 * 2816 + 1 * l.val = l.val; rw [h1]; omega
  rw [e, gate_apply, weight]
  simp only [rows2, rows3]
  unfold dact
  simp only [rows0]
  rfl

theorem flushes_gate : ∀ t : Fin cfg0.N, (cfg0.win 4).flush t = true := by decide +kernel

/-- The blocks of the sixteen points are the whole result. -/
theorem final_gate : (dats m 0 c).arrAt 4 cfg0.N = result_gate m c :=
  (dats m 0 c).arrAt_eq_of_cover 4 (result_gate m c) (flushed_gate m c) fun i => by
    have hi0 : (i 0 : Nat) < 4352 := (i 0).isLt
    have hi1 : (i 1 : Nat) < 2816 := (i 1).isLt
    have hN : cfg0.N = 16 := N_0
    obtain ⟨t, ht⟩ : ∃ t : Fin cfg0.N, t.val = (i 0).val / 272 := ⟨⟨(i 0).val / 272, by omega⟩, rfl⟩
    obtain ⟨h0, h1⟩ := index_gate t
    refine ⟨t, flushes_gate t, ?_⟩
    show i ∈ ((View.whole main_v0_0).slice (win0_4.rect t)).set
    rw [View.set_slice_whole, Rect.mem_set_unit]
    intro a
    match a with
    | ⟨0, _⟩ => show win0_4.index t 0 * 272 ≤ (i 0 : Nat) ∧ (i 0 : Nat) < win0_4.index t 0 * 272 + 272; rw [h0]; omega
    | ⟨1, _⟩ => show win0_4.index t 1 * 2816 ≤ (i 1 : Nat) ∧ (i 1 : Nat) < win0_4.index t 1 * 2816 + 2816; rw [h1]; omega

/-- What point `t` writes back of this result is its block of it. -/
theorem flushed_up (t : Fin cfg0.N) (_ : (cfg0.win 5).flush t = true) :
    (dats m 0 c).flushed 5 t = ((cfg0.win 5).blk t).view.read (Elt Ideal) (result_up m c) := by
  obtain ⟨h0, h1⟩ := index_up t
  rw [Value.flushed5]
  funext j
  rw [View.read_apply]
  show out0_5 (iblk m c 0 t) (iblk m c 1 t) (iblk m c 2 t) (iblk m c 3 t) j = _
  obtain ⟨r, l, rfl⟩ : ∃ (r : Fin 272) (l : Fin 2816), j = ix2 r l := ⟨j 0, j 1, eq_ix2 j⟩
  have e : ((cfg0.win 5).blk t).view.emb (ix2 r l) = (ix2 (row t r) l : S4352x2816.Idx) := by
    funext a
    apply Fin.ext
    match a with
    | ⟨0, _⟩ => show win0_5.index t 0 * 272 + 1 * r.val = 272 * t.val + r.val; rw [h0]; omega
    | ⟨1, _⟩ => show win0_5.index t 1 * 2816 + 1 * l.val = l.val; rw [h1]; omega
  rw [e, up_apply, weight]
  simp only [rows2]
  unfold dact
  simp only [rows0]
  rfl

theorem flushes_up : ∀ t : Fin cfg0.N, (cfg0.win 5).flush t = true := by decide +kernel

/-- The blocks of the sixteen points are the whole result. -/
theorem final_up : (dats m 0 c).arrAt 5 cfg0.N = result_up m c :=
  (dats m 0 c).arrAt_eq_of_cover 5 (result_up m c) (flushed_up m c) fun i => by
    have hi0 : (i 0 : Nat) < 4352 := (i 0).isLt
    have hi1 : (i 1 : Nat) < 2816 := (i 1).isLt
    have hN : cfg0.N = 16 := N_0
    obtain ⟨t, ht⟩ : ∃ t : Fin cfg0.N, t.val = (i 0).val / 272 := ⟨⟨(i 0).val / 272, by omega⟩, rfl⟩
    obtain ⟨h0, h1⟩ := index_up t
    refine ⟨t, flushes_up t, ?_⟩
    show i ∈ ((View.whole main_v0_1).slice (win0_5.rect t)).set
    rw [View.set_slice_whole, Rect.mem_set_unit]
    intro a
    match a with
    | ⟨0, _⟩ => show win0_5.index t 0 * 272 ≤ (i 0 : Nat) ∧ (i 0 : Nat) < win0_5.index t 0 * 272 + 272; rw [h0]; omega
    | ⟨1, _⟩ => show win0_5.index t 1 * 2816 ≤ (i 1 : Nat) ∧ (i 1 : Nat) < win0_5.index t 1 * 2816 + 2816; rw [h1]; omega

end Cert.Gate

namespace Cert.Gate

open Cert.ReferenceIdeal Cert.ReferenceIdeal.Facts₀ Cert.ReferenceIdeal.Facts

/-- Over the reals the derivative of `g · logistic g` is the same in both arrangements. -/
theorem dgate_eq (da g u : ℝ) :
    (da : EReal) * u * Ideal.logistic g + g * ((da : EReal) * u) * (Ideal.logistic g * (1 - Ideal.logistic g)) = dgate da g u := by
  unfold dgate
  rw [Ideal.logistic_coe]
  norm_cast
  ring

/-- A product of finite arrays is finite. -/
theorem dact_real {df : FVec Ideal S4352x1024 .bf16} {wd : FVec Ideal S2816x1024 .bf16} (h0 : Cert.Finite.All df)
    (h1 : Cert.Finite.All wd) (r : Fin 4352) (l : Fin 2816) : ∃ x : ℝ, dact df wd r l = x := by
  refine ⟨∑ k : Fin 1024, (df (ix2 r k) : EReal).toReal * (wd (ix2 l k) : EReal).toReal, ?_⟩
  unfold dact
  rw [← Cert.Finite.sum_coe]
  refine Finset.sum_congr rfl fun k _ => ?_
  rw [EReal.coe_mul, ← h0, ← h1]

theorem reference_gate (df : FVec Ideal S4352x1024 .bf16) (wd : FVec Ideal S2816x1024 .bf16) (gt up : FVec Ideal S4352x2816 .bf16) (h0 : Cert.Finite.All df)
    (h1 : Cert.Finite.All wd) (h2 : Cert.Finite.All gt) (h3 : Cert.Finite.All up) :
    truncf .bf16 (addf (mulf (mulf (Host.dotGeneral dot_S4352x1024_S2816x1024_S4352x2816_1_1_0_0_n_n none (extf .f32 df bitsLt_bf16_f32) (extf .f32 wd bitsLt_bf16_f32)) (extf .f32 up bitsLt_bf16_f32)) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (extf .f32 gt bitsLt_bf16_f32)))))) (mulf (mulf (extf .f32 gt bitsLt_bf16_f32) (mulf (Host.dotGeneral dot_S4352x1024_S2816x1024_S4352x2816_1_1_0_0_n_n none (extf .f32 df bitsLt_bf16_f32) (extf .f32 wd bitsLt_bf16_f32)) (extf .f32 up bitsLt_bf16_f32))) (mulf (Host.divf (broadcastInDim S4352x2816 ![] bcast_S_S4352x2816 (constant S_ .f32 0x3F800000#32)) (addf (broadcastInDim S4352x2816 ![] bcast_S_S4352x2816 (constant S_ .f32 0x3F800000#32)) (Host.exp (Host.negf (extf .f32 gt bitsLt_bf16_f32))))) (subf (broadcastInDim S4352x2816 ![] bcast_S_S4352x2816 (constant S_ .f32 0x3F800000#32)) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (extf .f32 gt bitsLt_bf16_f32))))))))) bitsLt_bf16_f32
      = gates df wd gt up := by
  funext j
  obtain ⟨r, l, rfl⟩ : ∃ (r : Fin 4352) (l : Fin 2816), j = ix2 r l := ⟨j 0, j 1, eq_ix2 j⟩
  obtain ⟨x, hx⟩ := dact_real h0 h1 r l
  show _ = dgate (dact df wd r l) (gt (ix2 r l)) (up (ix2 r l))
  rw [hx, h2, h3, ← dgate_eq, ← h2, ← h3, ← hx]
  pointwise [dact]
  rfl

theorem reference_up (df : FVec Ideal S4352x1024 .bf16) (wd : FVec Ideal S2816x1024 .bf16) (gt : FVec Ideal S4352x2816 .bf16) :
    truncf .bf16 (mulf (mulf (extf .f32 gt bitsLt_bf16_f32) (Host.divf (broadcastInDim S4352x2816 ![] bcast_S_S4352x2816 (constant S_ .f32 0x3F800000#32)) (addf (broadcastInDim S4352x2816 ![] bcast_S_S4352x2816 (constant S_ .f32 0x3F800000#32)) (Host.exp (Host.negf (extf .f32 gt bitsLt_bf16_f32)))))) (Host.dotGeneral dot_S4352x1024_S2816x1024_S4352x2816_1_1_0_0_n_n none (extf .f32 df bitsLt_bf16_f32) (extf .f32 wd bitsLt_bf16_f32))) bitsLt_bf16_f32
      = ups df wd gt := by
  funext j
  obtain ⟨r, l, rfl⟩ : ∃ (r : Fin 4352) (l : Fin 2816), j = ix2 r l := ⟨j 0, j 1, eq_ix2 j⟩
  pointwise [ups, dup, dact]
  exact mul_comm _ _

end Cert.Gate

namespace Cert.Gate

open Cert.Pre_finite

instance : Subsingleton S_.Idx := ⟨fun a b => funext fun i => i.elim0⟩

/-- The precondition says that every array is finite. -/
theorem finite_of_pre (df : FVec Ideal S4352x1024 .bf16) (wd : FVec Ideal S2816x1024 .bf16) (gt up : FVec Ideal S4352x2816 .bf16)
    (h : Cert.Pre_finite.fn (F := Ideal) df wd gt up = fun _ => 1#1) :
    Cert.Finite.All df ∧ Cert.Finite.All wd ∧ Cert.Finite.All gt ∧ Cert.Finite.All up := by
  have e := congrFun h (fun i => i.elim0)
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_⟩
  · have := Host.reduce_andi_all _ _ _ _ _ e0 i
    exact Cert.Finite.real_of_cmp _ (by rw [← Cert.Finite.word_top]; exact this)
  · have := Host.reduce_andi_all _ _ _ _ _ e1 i
    exact Cert.Finite.real_of_cmp _ (by rw [← Cert.Finite.word_top]; exact this)
  · have := Host.reduce_andi_all _ _ _ _ _ e2 i
    exact Cert.Finite.real_of_cmp _ (by rw [← Cert.Finite.word_top]; exact this)
  · have := Host.reduce_andi_all _ _ _ _ _ e3 i
    exact Cert.Finite.real_of_cmp _ (by rw [← Cert.Finite.word_top]; exact this)

end Cert.Gate

namespace Cert.Proof

/-- The value claim of the gated unit's inner gradient. -/
theorem algebraic_gate : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  refine ⟨fun c => Cert.Gate.result_gate m c, fun c => Cert.Gate.result_up m c, ?_, ?_⟩
  · refine (θ_run Cert.KernelIdeal.defs _ _).mono (fun r h c => ?_) (Cert.KernelIdeal.Value.run_blocks m g)
    exact ⟨(h c).1.trans (Cert.Gate.final_gate m c), (h c).2.1.trans (Cert.Gate.final_up m c), (h c).2.2⟩
  · refine (θ_run Cert.ReferenceIdeal.defs _ _).mono (fun r h c => ?_) (Cert.ReferenceIdeal.Value.run m' g')
    obtain ⟨f0, f1, f2, f3⟩ := Cert.Gate.finite_of_pre _ _ _ _ (hp c)
    obtain ⟨e0, e1, e2, e3⟩ := hm c
    refine ⟨(h c).1.trans ?_, (h c).2.1.trans ?_, (h c).2.2⟩
    · rw [e0, e1, e2, e3]
      exact Cert.Gate.reference_gate _ _ _ _ f0 f1 f2 f3
    · rw [e0, e1, e2]
      exact Cert.Gate.reference_up _ _ _

end Cert.Proof

end
-- ==== Proof.InBwd.lean ====
/-
  The gradient of the gated unit's input: `dgt · wgt + dup · wut`, one block of 544 rows for each grid point.
-/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.InBwd

open Cert.Kernel2Ideal Cert.Kernel2Ideal.Gen

/-- What both programs compute at row `r` and column `l`. -/
def spec (d u : Vec Ideal S4352x2816 .bf16) (wg wu : Vec Ideal S2816x1024 .bf16) : Vec Ideal S4352x1024 .bf16 :=
  fun j => (∑ k : Fin 2816, d (ix2 (j 0) k) * wg (ix2 k (j 1))) + ∑ k : Fin 2816, u (ix2 (j 0) k) * wu (ix2 k (j 1))

/-- One block's product of its rows. -/
theorem block_apply (x0 : Vec Ideal S544x2816 .bf16) (x1 : Vec Ideal S2816x1024 .bf16) (x2 : Vec Ideal S544x2816 .bf16)
    (x3 : Vec Ideal S2816x1024 .bf16) (r : Fin 544) (l : Fin 1024) :
    out0_4 x0 x1 x2 x3 (ix2 r l)
      = (∑ k : Fin 2816, x0 (ix2 r k) * x1 (ix2 k l)) + ∑ k : Fin 2816, x2 (ix2 r k) * x3 (ix2 k l) := by
  have hz : (![0, 0] : Fin 2 → Nat) = fun _ => 0 := funext fun a => by fin_cases a <;> rfl
  unfold out0_4
  rw [View.canon_unit_zero hz]
  unfold k0_pay1
  simp only [View.ld_unit_zero (S := S544x2816) hz, View.ld_unit_zero (S := S2816x1024) hz]
  pointwise

variable (m : (ℓ : Loc nD τ sig) → Buf (Elt Ideal) ℓ) (c : Dev nD)

theorem index_row : ∀ t : Fin cfg0.N, win0_0.index t 0 = t.val ∧ win0_0.index t 1 = 0 ∧ win0_2.index t 0 = t.val
    ∧ win0_2.index t 1 = 0 ∧ win0_4.index t 0 = t.val ∧ win0_4.index t 1 = 0 ∧ win0_1.index t 0 = 0
    ∧ win0_1.index t 1 = 0 ∧ win0_3.index t 0 = 0 ∧ win0_3.index t 1 = 0 := by
  decide +kernel

/-- The row of the whole array that row `r` of point `t`'s block is. -/
def row (t : Fin cfg0.N) (r : Fin 544) : Fin 4352 := ⟨544 * t.val + r.val, by have h : cfg0.N = 8 := N_0; omega⟩

/-- Point `t`'s block of the first cotangent holds its rows. -/
theorem rows0 (t : Fin cfg0.N) (r : Fin 544) (k : Fin 2816) : (iblk m c 0 t : Vec Ideal S544x2816 .bf16) (ix2 r k)
    = (m ((c : Thread nD τ).loc main_arg0) : Vec Ideal S4352x2816 .bf16) (ix2 (row t r) k) := by
  obtain ⟨h0, h1, -⟩ := index_row t
  unfold iblk
  rw [View.read_apply]
  show V m c main_arg0 _ = m (c.tc.loc main_arg0) _
  unfold V
  congr 1
  funext a
  apply Fin.ext
  match a with
  | ⟨0, _⟩ => show win0_0.index t 0 * 544 + 1 * r.val = 544 * t.val + r.val; rw [h0]; omega
  | ⟨1, _⟩ => show win0_0.index t 1 * 2816 + 1 * k.val = k.val; rw [h1]; omega

/-- And its block of the second cotangent. -/
theorem rows2 (t : Fin cfg0.N) (r : Fin 544) (k : Fin 2816) : (iblk m c 2 t : Vec Ideal S544x2816 .bf16) (ix2 r k)
    = (m ((c : Thread nD τ).loc main_arg1) : Vec Ideal S4352x2816 .bf16) (ix2 (row t r) k) := by
  obtain ⟨-, -, h0, h1, -⟩ := index_row t
  unfold iblk
  rw [View.read_apply]
  show V m c main_arg1 _ = m (c.tc.loc main_arg1) _
  unfold V
  congr 1
  funext a
  apply Fin.ext
  match a with
  | ⟨0, _⟩ => show win0_2.index t 0 * 544 + 1 * r.val = 544 * t.val + r.val; rw [h0]; omega
  | ⟨1, _⟩ => show win0_2.index t 1 * 2816 + 1 * k.val = k.val; rw [h1]; omega

/-- A weight is one block, the whole of it at every point. -/
theorem weight1 (t : Fin cfg0.N) : (iblk m c 1 t : Vec Ideal S2816x1024 .bf16) = m ((c : Thread nD τ).loc main_arg2) := by
  obtain ⟨-, -, -, -, -, -, h0, h1, -⟩ := index_row t
  funext j
  unfold iblk
  rw [View.read_apply]
  show V m c main_arg2 _ = m (c.tc.loc main_arg2) _
  unfold V
  congr 1
  funext a
  apply Fin.ext
  match a with
  | ⟨0, _⟩ => show win0_1.index t 0 * 2816 + 1 * (j 0).val = (j 0).val; rw [h0]; omega
  | ⟨1, _⟩ => show win0_1.index t 1 * 1024 + 1 * (j 1).val = (j 1).val; rw [h1]; omega

theorem weight3 (t : Fin cfg0.N) : (iblk m c 3 t : Vec Ideal S2816x1024 .bf16) = m ((c : Thread nD τ).loc main_arg3) := by
  obtain ⟨-, -, -, -, -, -, -, -, h0, h1⟩ := index_row t
  funext j
  unfold iblk
  rw [View.read_apply]
  show V m c main_arg3 _ = m (c.tc.loc main_arg3) _
  unfold V
  congr 1
  funext a
  apply Fin.ext
  match a with
  | ⟨0, _⟩ => show win0_3.index t 0 * 2816 + 1 * (j 0).val = (j 0).val; rw [h0]; omega
  | ⟨1, _⟩ => show win0_3.index t 1 * 1024 + 1 * (j 1).val = (j 1).val; rw [h1]; omega

/-- The result array. -/
abbrev result : Buf (Elt Ideal) ((c : Thread nD τ).loc main_v0) :=
  spec (m ((c : Thread nD τ).loc main_arg0)) (m ((c : Thread nD τ).loc main_arg1)) (m ((c : Thread nD τ).loc main_arg2))
    (m ((c : Thread nD τ).loc main_arg3))

/-- What point `t` writes back is its block of the result. -/
theorem flushed_eq (t : Fin cfg0.N) (_ : (cfg0.win 4).flush t = true) :
    (dats m 0 c).flushed 4 t = ((cfg0.win 4).blk t).view.read (Elt Ideal) (result m c) := by
  obtain ⟨-, -, -, -, h0, h1, -⟩ := index_row t
  rw [Value.flushed4]
  funext j
  rw [View.read_apply]
  show out0_4 (iblk m c 0 t) (iblk m c 1 t) (iblk m c 2 t) (iblk m c 3 t) j = _
  obtain ⟨r, l, rfl⟩ : ∃ (r : Fin 544) (l : Fin 1024), j = ix2 r l := ⟨j 0, j 1, eq_ix2 j⟩
  have e : ((cfg0.win 4).blk t).view.emb (ix2 r l) = (ix2 (row t r) l : S4352x1024.Idx) := by
    funext a
    apply Fin.ext
    match a with
    | ⟨0, _⟩ => show win0_4.index t 0 * 544 + 1 * r.val = 544 * t.val + r.val; rw [h0]; omega
    | ⟨1, _⟩ => show win0_4.index t 1 * 1024 + 1 * l.val = l.val; rw [h1]; omega
  rw [e, block_apply, weight1, weight3]
  simp only [rows0, rows2]
  rfl

theorem flushes : ∀ t : Fin cfg0.N, (cfg0.win 4).flush t = true := by decide +kernel

/-- The blocks of the eight points are the whole result. -/
theorem final : (dats m 0 c).arrAt 4 cfg0.N = result m c :=
  (dats m 0 c).arrAt_eq_of_cover 4 (result m c) (flushed_eq m c) fun i => by
    have hi0 : (i 0 : Nat) < 4352 := (i 0).isLt
    have hi1 : (i 1 : Nat) < 1024 := (i 1).isLt
    have hN : cfg0.N = 8 := N_0
    obtain ⟨t, ht⟩ : ∃ t : Fin cfg0.N, t.val = (i 0).val / 544 := ⟨⟨(i 0).val / 544, by omega⟩, rfl⟩
    obtain ⟨-, -, -, -, h0, h1, -⟩ := index_row t
    refine ⟨t, flushes t, ?_⟩
    show i ∈ ((View.whole main_v0).slice (win0_4.rect t)).set
    rw [View.set_slice_whole, Rect.mem_set_unit]
    intro a
    match a with
    | ⟨0, _⟩ => show win0_4.index t 0 * 544 ≤ (i 0 : Nat) ∧ (i 0 : Nat) < win0_4.index t 0 * 544 + 544; rw [h0]; omega
    | ⟨1, _⟩ => show win0_4.index t 1 * 1024 ≤ (i 1 : Nat) ∧ (i 1 : Nat) < win0_4.index t 1 * 1024 + 1024; rw [h1]; omega

end Cert.InBwd

namespace Cert.InBwd

open Cert.Reference2Ideal Cert.Reference2Ideal.Facts₀ Cert.Reference2Ideal.Facts

/-- The reference's gradient is the same sum. -/
theorem reference_eq (d u : FVec Ideal S4352x2816 .bf16) (wg wu : FVec Ideal S2816x1024 .bf16) :
    addf (truncf .bf16 (Host.dotGeneral dot_S4352x2816_S1024x2816_S4352x1024_1_1_0_0_n_n none (extf .f32 u bitsLt_bf16_f32)
        (transpose S1024x2816 [1, 0] (extf .f32 wu bitsLt_bf16_f32) transposes_S2816x1024_S1024x2816_1_0)) bitsLt_bf16_f32)
      (truncf .bf16 (Host.dotGeneral dot_S4352x2816_S1024x2816_S4352x1024_1_1_0_0_n_n none (extf .f32 d bitsLt_bf16_f32)
        (transpose S1024x2816 [1, 0] (extf .f32 wg bitsLt_bf16_f32) transposes_S2816x1024_S1024x2816_1_0)) bitsLt_bf16_f32)
      = spec d u wg wu := by
  funext j
  obtain ⟨r, l, rfl⟩ : ∃ (r : Fin 4352) (l : Fin 1024), j = ix2 r l := ⟨j 0, j 1, eq_ix2 j⟩
  pointwise [spec]
  exact add_comm _ _

end Cert.InBwd

namespace Cert.Proof

/-- The value claim of the input gradient. -/
theorem algebraic_in : Cert.algebraic_Kernel2Ideal_Reference2Ideal (hKernel2Ideal := Cert.Kernel2Ideal.Gen.facts)
    (hReference2Ideal := Cert.Reference2Ideal.Gen.facts) := by
  intro m g m' g' _ hm
  refine ⟨fun c => Cert.InBwd.result m c, ?_, ?_⟩
  · refine (θ_run Cert.Kernel2Ideal.defs _ _).mono (fun r h c => ?_) (Cert.Kernel2Ideal.Value.run_blocks m g)
    exact ⟨(h c).1.trans (Cert.InBwd.final m c), (h c).2⟩
  · refine (θ_run Cert.Reference2Ideal.defs _ _).mono (fun r h c => ?_) (Cert.Reference2Ideal.Value.run m' g')
    refine ⟨(h c).1.trans ?_, (h c).2⟩
    obtain ⟨e0, e1, e2, e3⟩ := hm c
    rw [e0, e1, e2, e3]
    exact Cert.InBwd.reference_eq _ _ _ _

end Cert.Proof

end
-- ==== Proof.Wgrad.lean ====
/-
  The gradient of a weight: `aᵀ · b`, a sum over all the rows, which the kernel takes in two halves of 2176 rows, adding
  the second half's product to the first's in the block of 1408 rows that the result's window holds.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Wgrad

open Cert.Kernel3Ideal Cert.Kernel3Ideal.Gen

/-- What both programs compute. -/
def spec (a : Vec Ideal S4352x2816 .bf16) (b : Vec Ideal S4352x1024 .bf16) : Vec Ideal S2816x1024 .f32 :=
  fun j => ∑ k : Fin 4352, a (ix2 k (j 0)) * b (ix2 k (j 1))

theorem hz : (![0, 0] : Fin 2 → Nat) = fun _ => 0 := funext fun a => by fin_cases a <;> rfl

/-- One half's product. -/
def half (x : Vec Ideal S2176x1408 .bf16) (y : Vec Ideal S2176x1024 .bf16) : FVec Ideal S1408x1024 .f32 :=
  fun j => ∑ k : Fin 2176, x (ix2 k (j 0)) * y (ix2 k (j 1))

theorem pay1_eq (x : Vec Ideal S2176x1408 .bf16) (y : Vec Ideal S2176x1024 .bf16) : k0_pay1 x y = half x y := by
  funext j
  obtain ⟨r, l, rfl⟩ : ∃ (r : Fin 1408) (l : Fin 1024), j = ix2 r l := ⟨j 0, j 1, eq_ix2 j⟩
  unfold k0_pay1 half
  pointwise

/-- The first half is stored. -/
theorem out_A (c : Dev nD) (i : grid0.Coords) (a1 : Memref sig .tc .vmem S2176x1408 .bf16) (h1 : a1.IsWhole)
    (a2 : Memref sig .tc .vmem S2176x1024 .bf16) (h2 : a2.IsWhole) (a3 : Memref sig .tc .vmem S1408x1024 .f32) (h3 : a3.IsWhole)
    (hc : cond0_0 i) (hc' : ¬cond0_1 i) (x : Vec Ideal S2176x1408 .bf16) (y : Vec Ideal S2176x1024 .bf16) :
    out0_A_2 c i a1 h1 a2 h2 a3 h3 hc hc' x y = half x y := by
  unfold out0_A_2
  rw [View.read_writes_eq_canon _ _ _ (cover0_A_2 c i a1 h1 a2 h2 a3 h3 hc hc' x y)]
  unfold kernelRun0_A
  dsimp only
  rw [View.canon_unit_zero hz, pay1_eq]
  simp only [View.readAt_eq_ld, h1.read_unread, h2.read_unread, View.ld_unit_zero (S := S2176x1408) hz,
    View.ld_unit_zero (S := S2176x1024) hz]

/-- The second half is added. -/
theorem out_B (c : Dev nD) (i : grid0.Coords) (a1 : Memref sig .tc .vmem S2176x1408 .bf16) (h1 : a1.IsWhole)
    (a2 : Memref sig .tc .vmem S2176x1024 .bf16) (h2 : a2.IsWhole) (a3 : Memref sig .tc .vmem S1408x1024 .f32) (h3 : a3.IsWhole)
    (hc : ¬cond0_0 i) (hc' : cond0_1 i) (x : Vec Ideal S2176x1408 .bf16) (y : Vec Ideal S2176x1024 .bf16)
    (o : FVec Ideal S1408x1024 .f32) :
    out0_B_2 c i a1 h1 a2 h2 a3 h3 hc hc' x y o = (addf o (half x y) : FVec Ideal S1408x1024 .f32) := by
  unfold out0_B_2
  rw [View.read_writes_eq_canon _ _ _ (cover0_B_2 c i a1 h1 a2 h2 a3 h3 hc hc' x y o)]
  unfold kernelRun0_B
  dsimp only
  rw [View.canon_unit_zero hz]
  unfold k0_pay2
  rw [pay1_eq]
  simp only [View.readAt_eq_ld, h1.read_unread, h2.read_unread, h3.read_unread, View.ld_unit_zero (S := S2176x1408) hz,
    View.ld_unit_zero (S := S2176x1024) hz, View.ld_unit_zero (S := S1408x1024) hz, shapeCast_self]

variable (m : (ℓ : Loc nD τ sig) → Buf (Elt Ideal) ℓ) (c : Dev nD)

theorem index0 : ∀ t : Fin cfg0.N, win0_0.index t 0 = t.val % 2 ∧ win0_0.index t 1 = t.val / 2 := by decide +kernel

theorem index1 : ∀ t : Fin cfg0.N, win0_1.index t 0 = t.val % 2 ∧ win0_1.index t 1 = 0 := by decide +kernel

theorem index2 : ∀ t : Fin cfg0.N, win0_2.index t 0 = t.val / 2 ∧ win0_2.index t 1 = 0 := by decide +kernel

theorem flush_odd : ∀ t : Fin cfg0.N, (cfg0.win 2).flush t = true ↔ t.val % 2 = 1 := by decide +kernel

/-- The row of the whole operands that row `p` of point `t`'s blocks is. -/
def row (t : Fin cfg0.N) (p : Fin 2176) : Fin 4352 := ⟨2176 * (t.val % 2) + p.val, by omega⟩

/-- The row of the result that row `q` of point `t`'s block is. -/
def col (t : Fin cfg0.N) (q : Fin 1408) : Fin 2816 := ⟨1408 * (t.val / 2) + q.val, by have h : cfg0.N = 4 := N_0; omega⟩

/-- Point `t`'s block of the left operand. -/
theorem left (t : Fin cfg0.N) (p : Fin 2176) (q : Fin 1408) : (iblk m c 0 t : Vec Ideal S2176x1408 .bf16) (ix2 p q)
    = (m ((c : Thread nD τ).loc main_arg0) : Vec Ideal S4352x2816 .bf16) (ix2 (row t p) (col t q)) := by
  obtain ⟨h0, h1⟩ := index0 t
  unfold iblk
  rw [View.read_apply]
  show V m c main_arg0 _ = m (c.tc.loc main_arg0) _
  unfold V
  congr 1
  funext a
  apply Fin.ext
  match a with
  | ⟨0, _⟩ => show win0_0.index t 0 * 2176 + 1 * p.val = 2176 * (t.val % 2) + p.val; rw [h0]; omega
  | ⟨1, _⟩ => show win0_0.index t 1 * 1408 + 1 * q.val = _; rw [h1]; show t.val / 2 * 1408 + 1 * q.val = 1408 * (t.val / 2) + q.val; omega

/-- Point `t`'s block of the right operand. -/
theorem right (t : Fin cfg0.N) (p : Fin 2176) (q : Fin 1024) : (iblk m c 1 t : Vec Ideal S2176x1024 .bf16) (ix2 p q)
    = (m ((c : Thread nD τ).loc main_arg1) : Vec Ideal S4352x1024 .bf16) (ix2 (row t p) q) := by
  obtain ⟨h0, h1⟩ := index1 t
  unfold iblk
  rw [View.read_apply]
  show V m c main_arg1 _ = m (c.tc.loc main_arg1) _
  unfold V
  congr 1
  funext a
  apply Fin.ext
  match a with
  | ⟨0, _⟩ => show win0_1.index t 0 * 2176 + 1 * p.val = 2176 * (t.val % 2) + p.val; rw [h0]; omega
  | ⟨1, _⟩ => show win0_1.index t 1 * 1024 + 1 * q.val = q.val; rw [h1]; omega

/-- A sum over all the rows is the sum over the two halves. -/
theorem sum_halves (f : Fin 4352 → EReal) (t t' : Fin cfg0.N) (ht : t.val % 2 = 1) (ht' : t'.val % 2 = 0) :
    (∑ p : Fin 2176, f (row t' p)) + ∑ p : Fin 2176, f (row t p) = ∑ k : Fin 4352, f k := by
  rw [show (∑ k : Fin 4352, f k) = ∑ k : Fin (2176 + 2176), f k from rfl, Fin.sum_univ_add]
  congr 1 <;> refine Finset.sum_congr rfl fun p _ => congrArg f (Fin.ext ?_)
  · show 2176 * (t'.val % 2) + p.val = p.val; omega
  · show 2176 * (t.val % 2) + p.val = 2176 + p.val; omega

/-- The result array. -/
abbrev result : Buf (Elt Ideal) ((c : Thread nD τ).loc main_v0) :=
  spec (m ((c : Thread nD τ).loc main_arg0)) (m ((c : Thread nD τ).loc main_arg1))

/-- What an odd point writes back is its block of the result. -/
theorem flushed_eq (t : Fin cfg0.N) (hf : (cfg0.win 2).flush t = true) :
    (dats m 0 c).flushed 2 t = ((cfg0.win 2).blk t).view.read (Elt Ideal) (result m c) := by
  have ht : t.val % 2 = 1 := (flush_odd t).1 hf
  obtain ⟨h0, h1⟩ := index2 t
  obtain ⟨t', ht'⟩ : ∃ t' : Fin cfg0.N, t'.val = t.val - 1 := ⟨⟨t.val - 1, by omega⟩, rfl⟩
  rw [Value.flushed2_B m c t (by omega) ht, out_B]
  have e' : outsAt0 m c (t.val - 1) (Nat.lt_of_le_of_lt (Nat.sub_le _ _) t.isLt) = half (iblk m c 0 t') (iblk m c 1 t') := by
    have := outsAt0_A m c t' (by omega) (by omega)
    rw [out_A] at this
    rw [← this]
    congr 1
    omega
  rw [e']
  funext j
  rw [View.read_apply]
  show addf (half (iblk m c 0 t') (iblk m c 1 t')) (half (iblk m c 0 t) (iblk m c 1 t)) j = _
  obtain ⟨r, l, rfl⟩ : ∃ (r : Fin 1408) (l : Fin 1024), j = ix2 r l := ⟨j 0, j 1, eq_ix2 j⟩
  have e : ((cfg0.win 2).blk t).view.emb (ix2 r l) = (ix2 (col t r) l : S2816x1024.Idx) := by
    funext a
    apply Fin.ext
    match a with
    | ⟨0, _⟩ => show win0_2.index t 0 * 1408 + 1 * r.val = 1408 * (t.val / 2) + r.val; rw [h0]; omega
    | ⟨1, _⟩ => show win0_2.index t 1 * 1024 + 1 * l.val = l.val; rw [h1]; omega
  rw [e]
  refine Eq.trans ?_ (show spec (m ((c : Thread nD τ).loc main_arg0)) (m ((c : Thread nD τ).loc main_arg1)) (ix2 (col t r) l) = _ from rfl)
  show (half (iblk m c 0 t') (iblk m c 1 t') (ix2 r l) : EReal) + half (iblk m c 0 t) (iblk m c 1 t) (ix2 r l) = spec _ _ _
  unfold spec
  rw [← sum_halves _ t t' ht (by omega)]
  have ec : col t' r = col t r := Fin.ext (by show 1408 * (t'.val / 2) + r.val = 1408 * (t.val / 2) + r.val; omega)
  congr 1 <;> refine Finset.sum_congr rfl fun p _ => ?_
  · exact congrArg₂ (fun u v : EReal => u * v) ((left m c t' p r).trans (by rw [ec]; rfl)) (right m c t' p l)
  · exact congrArg₂ (fun u v : EReal => u * v) (left m c t p r) (right m c t p l)

/-- The two blocks are the whole result. -/
theorem final : (dats m 0 c).arrAt 2 cfg0.N = result m c :=
  (dats m 0 c).arrAt_eq_of_cover 2 (result m c) (flushed_eq m c) fun i => by
    have hi0 : (i 0 : Nat) < 2816 := (i 0).isLt
    have hi1 : (i 1 : Nat) < 1024 := (i 1).isLt
    have hN : cfg0.N = 4 := N_0
    obtain ⟨t, ht⟩ : ∃ t : Fin cfg0.N, t.val = 2 * ((i 0).val / 1408) + 1 := ⟨⟨2 * ((i 0).val / 1408) + 1, by omega⟩, rfl⟩
    obtain ⟨h0, h1⟩ := index2 t
    refine ⟨t, (flush_odd t).2 (by omega), ?_⟩
    show i ∈ ((View.whole main_v0).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + 1408; rw [h0]; omega
    | ⟨1, _⟩ => show win0_2.index t 1 * 1024 ≤ (i 1 : Nat) ∧ (i 1 : Nat) < win0_2.index t 1 * 1024 + 1024; rw [h1]; omega

end Cert.Wgrad

namespace Cert.Wgrad

open Cert.Reference3Ideal Cert.Reference3Ideal.Facts₀ Cert.Reference3Ideal.Facts

/-- The reference's gradient is the same sum. -/
theorem reference_eq (a : FVec Ideal S4352x2816 .bf16) (b : FVec Ideal S4352x1024 .bf16) :
    transpose S2816x1024 [1, 0] (Host.dotGeneral dot_S4352x1024_S4352x2816_S1024x2816_0_0_1_1_n_n none
      (extf .f32 b bitsLt_bf16_f32) (extf .f32 a bitsLt_bf16_f32)) transposes_S1024x2816_S2816x1024_1_0 = spec a b := by
  funext j
  obtain ⟨r, l, rfl⟩ : ∃ (r : Fin 2816) (l : Fin 1024), j = ix2 r l := ⟨j 0, j 1, eq_ix2 j⟩
  pointwise [spec]
  exact Finset.sum_congr rfl fun k _ => mul_comm _ _

end Cert.Wgrad

namespace Cert.Proof

/-- The value claim of the weights' gradients. -/
theorem algebraic_wgrad : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Wgrad.result m c, ?_, ?_⟩
  · refine (θ_run Cert.Kernel3Ideal.defs _ _).mono (fun r h c => ?_) (Cert.Kernel3Ideal.Value.run_blocks m g)
    exact ⟨(h c).1.trans (Cert.Wgrad.final m c), (h c).2⟩
  · refine (θ_run Cert.Reference3Ideal.defs _ _).mono (fun r h c => ?_) (Cert.Reference3Ideal.Value.run m' g')
    refine ⟨(h c).1.trans ?_, (h c).2⟩
    obtain ⟨e0, e1⟩ := hm c
    rw [e0, e1]
    exact Cert.Wgrad.reference_eq _ _

end Cert.Proof

end
-- ==== Proof.Up.lean ====
/-
  The gated unit's inner activations: `g = h · wgᵀ`, `u = h · wuᵀ` and `g (logistic g) u`, one block of 272 rows for each
  grid point.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Up

open Cert.Kernel5Ideal Cert.Kernel5Ideal.Gen

/-- One branch before its activation, at row `r` and column `l`. -/
def branch {n : Nat} (h : Vec Ideal ⟨2, ![n, 1024]⟩ .bf16) (w : Vec Ideal S2816x1024 .bf16) (r : Fin n) (l : Fin 2816) : EReal :=
  ∑ k : Fin 1024, h (ix2 r k) * w (ix2 l k)

/-- The gate's activation times the other branch. -/
def act (g u : EReal) : EReal := g * Ideal.logistic g * u

theorem hz : (![0, 0] : Fin 2 → Nat) = fun _ => 0 := funext fun a => by fin_cases a <;> rfl

variable (x0 : Vec Ideal S272x1024 .bf16) (x1 x2 : Vec Ideal S2816x1024 .bf16)

theorem act_apply (r : Fin 272) (l : Fin 2816) : out0_3 x0 x1 x2 (ix2 r l) = act (branch x0 x1 r l) (branch x0 x2 r l) := by
  unfold out0_3
  rw [View.canon_unit_zero hz]
  simp only [View.ld_unit_zero (S := S272x1024) hz, View.ld_unit_zero (S := S2816x1024) hz]
  unfold k0_pay3 k0_pay2 k0_pay1 act branch
  pointwise

theorem gate_apply (r : Fin 272) (l : Fin 2816) : out0_4 x0 x1 x2 (ix2 r l) = branch x0 x1 r l := by
  unfold out0_4
  rw [View.canon_unit_zero hz]
  simp only [View.ld_unit_zero (S := S272x1024) hz, View.ld_unit_zero (S := S2816x1024) hz]
  unfold k0_pay4 k0_pay1 branch
  pointwise

theorem other_apply (r : Fin 272) (l : Fin 2816) : out0_5 x0 x1 x2 (ix2 r l) = branch x0 x2 r l := by
  unfold out0_5
  rw [View.canon_unit_zero hz]
  simp only [View.ld_unit_zero (S := S272x1024) hz, View.ld_unit_zero (S := S2816x1024) hz]
  unfold k0_pay5 k0_pay2 branch
  pointwise

variable (m : (ℓ : Loc nD τ sig) → Buf (Elt Ideal) ℓ) (c : Dev nD)

/-- The input and the three results move down the rows with the grid point. -/
theorem index_row : ∀ t : Fin cfg0.N, (win0_0.index t 0 = t.val ∧ win0_0.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) := by
  decide +kernel

theorem index_weight : ∀ t : Fin cfg0.N, (win0_1.index t 0 = 0 ∧ win0_1.index t 1 = 0)
    ∧ (win0_2.index t 0 = 0 ∧ win0_2.index t 1 = 0) := by
  decide +kernel

theorem flushes : ∀ t : Fin cfg0.N, (cfg0.win 3).flush t = true ∧ (cfg0.win 4).flush t = true ∧ (cfg0.win 5).flush t = true := by
  decide +kernel

/-- The row of the whole array that row `r` of point `t`'s block is. -/
def row (t : Fin cfg0.N) (r : Fin 272) : Fin 4352 := ⟨272 * t.val + r.val, by have h : cfg0.N = 16 := N_0; omega⟩

/-- Point `t`'s block of the input holds its rows. -/
theorem rows (t : Fin cfg0.N) (r : Fin 272) (k : Fin 1024) : (iblk m c 0 t : Vec Ideal S272x1024 .bf16) (ix2 r k)
    = (m ((c : Thread nD τ).loc main_arg0) : Vec Ideal S4352x1024 .bf16) (ix2 (row t r) k) := by
  obtain ⟨h0, h1⟩ := (index_row t).1
  unfold iblk
  rw [View.read_apply]
  show V m c main_arg0 _ = m (c.tc.loc main_arg0) _
  unfold V
  congr 1
  funext a
  apply Fin.ext
  match a with
  | ⟨0, _⟩ => show win0_0.index t 0 * 272 + 1 * r.val = 272 * t.val + r.val; rw [h0]; omega
  | ⟨1, _⟩ => show win0_0.index t 1 * 1024 + 1 * k.val = k.val; rw [h1]; omega

/-- A weight is one block, the whole of it at every point. -/
theorem weight1 (t : Fin cfg0.N) : (iblk m c 1 t : Vec Ideal S2816x1024 .bf16) = m ((c : Thread nD τ).loc main_arg1) := by
  obtain ⟨h0, h1⟩ := (index_weight t).1
  funext j
  unfold iblk
  rw [View.read_apply]
  show V m c main_arg1 _ = m (c.tc.loc main_arg1) _
  unfold V
  congr 1
  funext a
  apply Fin.ext
  match a with
  | ⟨0, _⟩ => show win0_1.index t 0 * 2816 + 1 * (j 0).val = (j 0).val; rw [h0]; omega
  | ⟨1, _⟩ => show win0_1.index t 1 * 1024 + 1 * (j 1).val = (j 1).val; rw [h1]; omega

theorem weight2 (t : Fin cfg0.N) : (iblk m c 2 t : Vec Ideal S2816x1024 .bf16) = m ((c : Thread nD τ).loc main_arg2) := by
  obtain ⟨h0, h1⟩ := (index_weight t).2
  funext j
  unfold iblk
  rw [View.read_apply]
  show V m c main_arg2 _ = m (c.tc.loc main_arg2) _
  unfold V
  congr 1
  funext a
  apply Fin.ext
  match a with
  | ⟨0, _⟩ => show win0_2.index t 0 * 2816 + 1 * (j 0).val = (j 0).val; rw [h0]; omega
  | ⟨1, _⟩ => show win0_2.index t 1 * 1024 + 1 * (j 1).val = (j 1).val; rw [h1]; omega

/-- A branch's rows from a point's blocks are rows of the whole branch. -/
theorem branch_rows (t : Fin cfg0.N) (r : Fin 272) (l : Fin 2816) (w : Vec Ideal S2816x1024 .bf16) :
    branch (iblk m c 0 t : Vec Ideal S272x1024 .bf16) w r l
      = branch (m ((c : Thread nD τ).loc main_arg0) : Vec Ideal S4352x1024 .bf16) w (row t r) l := by
  unfold branch
  simp only [rows]

/-- The first result, the whole array. -/
def acts (h : Vec Ideal S4352x1024 .bf16) (wg wu : Vec Ideal S2816x1024 .bf16) : Vec Ideal S4352x2816 .bf16 :=
  fun j => act (branch h wg (j 0) (j 1)) (branch h wu (j 0) (j 1))

/-- The second and third. -/
def branches (h : Vec Ideal S4352x1024 .bf16) (w : Vec Ideal S2816x1024 .bf16) : Vec Ideal S4352x2816 .bf16 :=
  fun j => branch h w (j 0) (j 1)

abbrev result_act : Buf (Elt Ideal) ((c : Thread nD τ).loc main_v0_0) :=
  acts (m ((c : Thread nD τ).loc main_arg0)) (m ((c : Thread nD τ).loc main_arg1)) (m ((c : Thread nD τ).loc main_arg2))

abbrev result_gate : Buf (Elt Ideal) ((c : Thread nD τ).loc main_v0_1) :=
  branches (m ((c : Thread nD τ).loc main_arg0)) (m ((c : Thread nD τ).loc main_arg1))

abbrev result_other : Buf (Elt Ideal) ((c : Thread nD τ).loc main_v0_2) :=
  branches (m ((c : Thread nD τ).loc main_arg0)) (m ((c : Thread nD τ).loc main_arg2))

/-- Index `(r, l)` of a block that starts at row `272 t` is index `(272 t + r, l)` of the array. -/
theorem place (t : Fin cfg0.N) (r : Fin 272) (l : Fin 2816) (e : S4352x2816.Idx) (i0 i1 : Nat) (h0 : i0 = t.val) (h1 : i1 = 0)
    (e0 : (e 0).val = i0 * 272 + 1 * r.val) (e1 : (e 1).val = i1 * 2816 + 1 * l.val) : e = ix2 (row t r) l := by
  subst h0 h1
  funext a
  apply Fin.ext
  match a with
  | ⟨0, _⟩ => exact e0.trans (show t.val * 272 + 1 * r.val = 272 * t.val + r.val by omega)
  | ⟨1, _⟩ => exact e1.trans (show 0 * 2816 + 1 * l.val = l.val by omega)

/-- What point `t` writes back of each result is its block of it. -/
theorem flushed_act (t : Fin cfg0.N) (_ : (cfg0.win 3).flush t = true) :
    (dats m 0 c).flushed 3 t = ((cfg0.win 3).blk t).view.read (Elt Ideal) (result_act m c) := by
  obtain ⟨h0, h1⟩ := (index_row t).2.1
  rw [Value.flushed3]
  funext j
  rw [View.read_apply]
  show out0_3 (iblk m c 0 t) (iblk m c 1 t) (iblk m c 2 t) j = _
  obtain ⟨r, l, rfl⟩ : ∃ (r : Fin 272) (l : Fin 2816), j = ix2 r l := ⟨j 0, j 1, eq_ix2 j⟩
  rw [place t r l (((cfg0.win 3).blk t).view.emb (ix2 r l)) _ _ h0 h1 rfl rfl, act_apply, weight1, weight2, branch_rows, branch_rows]
  rfl

theorem flushed_gate (t : Fin cfg0.N) (_ : (cfg0.win 4).flush t = true) :
    (dats m 0 c).flushed 4 t = ((cfg0.win 4).blk t).view.read (Elt Ideal) (result_gate m c) := by
  obtain ⟨h0, h1⟩ := (index_row t).2.2.1
  rw [Value.flushed4]
  funext j
  rw [View.read_apply]
  show out0_4 (iblk m c 0 t) (iblk m c 1 t) (iblk m c 2 t) j = _
  obtain ⟨r, l, rfl⟩ : ∃ (r : Fin 272) (l : Fin 2816), j = ix2 r l := ⟨j 0, j 1, eq_ix2 j⟩
  rw [place t r l (((cfg0.win 4).blk t).view.emb (ix2 r l)) _ _ h0 h1 rfl rfl, gate_apply, weight1, branch_rows]
  rfl

theorem flushed_other (t : Fin cfg0.N) (_ : (cfg0.win 5).flush t = true) :
    (dats m 0 c).flushed 5 t = ((cfg0.win 5).blk t).view.read (Elt Ideal) (result_other m c) := by
  obtain ⟨h0, h1⟩ := (index_row t).2.2.2
  rw [Value.flushed5]
  funext j
  rw [View.read_apply]
  show out0_5 (iblk m c 0 t) (iblk m c 1 t) (iblk m c 2 t) j = _
  obtain ⟨r, l, rfl⟩ : ∃ (r : Fin 272) (l : Fin 2816), j = ix2 r l := ⟨j 0, j 1, eq_ix2 j⟩
  rw [place t r l (((cfg0.win 5).blk t).view.emb (ix2 r l)) _ _ h0 h1 rfl rfl, other_apply, weight2, branch_rows]
  rfl

/-- The point whose block holds a row. -/
theorem point (i : S4352x2816.Idx) : ∃ t : Fin cfg0.N, 272 * t.val ≤ (i 0).val ∧ (i 0).val < 272 * t.val + 272 := by
  have hi0 : (i 0 : Nat) < 4352 := (i 0).isLt
  have hN : cfg0.N = 16 := N_0
  exact ⟨⟨(i 0).val / 272, by omega⟩, by show 272 * ((i 0).val / 272) ≤ _; omega, by show _ < 272 * ((i 0).val / 272) + 272; omega⟩

/-- The blocks of the sixteen points are the whole of each result. -/
theorem final_act : (dats m 0 c).arrAt 3 cfg0.N = result_act m c :=
  (dats m 0 c).arrAt_eq_of_cover 3 (result_act m c) (flushed_act m c) fun i => by
    have hi1 : (i 1 : Nat) < 2816 := (i 1).isLt
    obtain ⟨t, ht⟩ := point i
    have hl : 272 * t.val ≤ (i 0 : Nat) := ht.1
    have hu : (i 0 : Nat) < 272 * t.val + 272 := ht.2
    clear ht
    obtain ⟨h0, h1⟩ := (index_row t).2.1
    refine ⟨t, (flushes t).1, ?_⟩
    show i ∈ ((View.whole main_v0_0).slice (win0_3.rect t)).set
    rw [View.set_slice_whole, Rect.mem_set_unit]
    intro a
    match a with
    | ⟨0, _⟩ => show win0_3.index t 0 * 272 ≤ (i 0 : Nat) ∧ (i 0 : Nat) < win0_3.index t 0 * 272 + 272; rw [h0]; omega
    | ⟨1, _⟩ => show win0_3.index t 1 * 2816 ≤ (i 1 : Nat) ∧ (i 1 : Nat) < win0_3.index t 1 * 2816 + 2816; rw [h1]; omega

theorem final_gate : (dats m 0 c).arrAt 4 cfg0.N = result_gate m c :=
  (dats m 0 c).arrAt_eq_of_cover 4 (result_gate m c) (flushed_gate m c) fun i => by
    have hi1 : (i 1 : Nat) < 2816 := (i 1).isLt
    obtain ⟨t, ht⟩ := point i
    have hl : 272 * t.val ≤ (i 0 : Nat) := ht.1
    have hu : (i 0 : Nat) < 272 * t.val + 272 := ht.2
    clear ht
    obtain ⟨h0, h1⟩ := (index_row t).2.2.1
    refine ⟨t, (flushes t).2.1, ?_⟩
    show i ∈ ((View.whole main_v0_1).slice (win0_4.rect t)).set
    rw [View.set_slice_whole, Rect.mem_set_unit]
    intro a
    match a with
    | ⟨0, _⟩ => show win0_4.index t 0 * 272 ≤ (i 0 : Nat) ∧ (i 0 : Nat) < win0_4.index t 0 * 272 + 272; rw [h0]; omega
    | ⟨1, _⟩ => show win0_4.index t 1 * 2816 ≤ (i 1 : Nat) ∧ (i 1 : Nat) < win0_4.index t 1 * 2816 + 2816; rw [h1]; omega

theorem final_other : (dats m 0 c).arrAt 5 cfg0.N = result_other m c :=
  (dats m 0 c).arrAt_eq_of_cover 5 (result_other m c) (flushed_other m c) fun i => by
    have hi1 : (i 1 : Nat) < 2816 := (i 1).isLt
    obtain ⟨t, ht⟩ := point i
    have hl : 272 * t.val ≤ (i 0 : Nat) := ht.1
    have hu : (i 0 : Nat) < 272 * t.val + 272 := ht.2
    clear ht
    obtain ⟨h0, h1⟩ := (index_row t).2.2.2
    refine ⟨t, (flushes t).2.2, ?_⟩
    show i ∈ ((View.whole main_v0_2).slice (win0_5.rect t)).set
    rw [View.set_slice_whole, Rect.mem_set_unit]
    intro a
    match a with
    | ⟨0, _⟩ => show win0_5.index t 0 * 272 ≤ (i 0 : Nat) ∧ (i 0 : Nat) < win0_5.index t 0 * 272 + 272; rw [h0]; omega
    | ⟨1, _⟩ => show win0_5.index t 1 * 2816 ≤ (i 1 : Nat) ∧ (i 1 : Nat) < win0_5.index t 1 * 2816 + 2816; rw [h1]; omega

end Cert.Up

namespace Cert.Up

open Cert.Reference5Ideal Cert.Reference5Ideal.Facts₀ Cert.Reference5Ideal.Facts

/-- The reference's product with a transposed weight is the branch. -/
theorem reference_branch (h : FVec Ideal S4352x1024 .bf16) (w : FVec Ideal S2816x1024 .bf16) (r : Fin 4352) (l : Fin 2816) :
    Host.dotGeneral dot_S4352x1024_S1024x2816_S4352x2816_1_0_0_1_n_n none (extf .f32 h bitsLt_bf16_f32)
      (transpose S1024x2816 [1, 0] (extf .f32 w bitsLt_bf16_f32) transposes_S2816x1024_S1024x2816_1_0) (ix2 r l)
      = branch h w r l := by
  pointwise [branch]

theorem reference_branches (h : FVec Ideal S4352x1024 .bf16) (w : FVec Ideal S2816x1024 .bf16) :
    truncf .bf16 (Host.dotGeneral dot_S4352x1024_S1024x2816_S4352x2816_1_0_0_1_n_n none (extf .f32 h bitsLt_bf16_f32)
      (transpose S1024x2816 [1, 0] (extf .f32 w bitsLt_bf16_f32) transposes_S2816x1024_S1024x2816_1_0)) bitsLt_bf16_f32
      = branches h w := by
  funext j
  obtain ⟨r, l, rfl⟩ : ∃ (r : Fin 4352) (l : Fin 2816), j = ix2 r l := ⟨j 0, j 1, eq_ix2 j⟩
  exact reference_branch h w r l

/-- The activation, of any two branches `g` and `u`. -/
theorem reference_acts (g u : FVec Ideal S4352x2816 .f32) (h : FVec Ideal S4352x1024 .bf16) (wg wu : FVec Ideal S2816x1024 .bf16)
    (hg : ∀ r l, g (ix2 r l) = branch h wg r l) (hu : ∀ r l, u (ix2 r l) = branch h wu r l) :
    truncf .bf16 (mulf (mulf g (Host.divf (broadcastInDim S4352x2816 ![] bcast_S_S4352x2816 (constant S_ .f32 0x3F800000#32))
      (addf (broadcastInDim S4352x2816 ![] bcast_S_S4352x2816 (constant S_ .f32 0x3F800000#32)) (Host.exp (Host.negf g))))) u)
      bitsLt_bf16_f32 = acts h wg wu := by
  funext j
  obtain ⟨r, l, rfl⟩ : ∃ (r : Fin 4352) (l : Fin 2816), j = ix2 r l := ⟨j 0, j 1, eq_ix2 j⟩
  pointwise [acts, act]
  rw [hg, hu]
  rfl

end Cert.Up

namespace Cert.Proof

/-- The value claim of the gated unit's inner activations. -/
theorem algebraic_up : Cert.algebraic_Kernel5Ideal_Reference5Ideal (hKernel5Ideal := Cert.Kernel5Ideal.Gen.facts)
    (hReference5Ideal := Cert.Reference5Ideal.Gen.facts) := by
  intro m g m' g' _ hm
  refine ⟨fun c => Cert.Up.result_act m c, fun c => Cert.Up.result_gate m c, fun c => Cert.Up.result_other m c, ?_, ?_⟩
  · refine (θ_run Cert.Kernel5Ideal.defs _ _).mono (fun r h c => ?_) (Cert.Kernel5Ideal.Value.run_blocks m g)
    exact ⟨(h c).1.trans (Cert.Up.final_act m c), (h c).2.1.trans (Cert.Up.final_gate m c),
      (h c).2.2.1.trans (Cert.Up.final_other m c), (h c).2.2.2⟩
  · refine (θ_run Cert.Reference5Ideal.defs _ _).mono (fun r h c => ?_) (Cert.Reference5Ideal.Value.run m' g')
    obtain ⟨e0, e1, e2⟩ := hm c
    refine ⟨(h c).1.trans ?_, (h c).2.1.trans ?_, (h c).2.2.1.trans ?_, (h c).2.2.2⟩
    · rw [e0, e1, e2]
      exact Cert.Up.reference_acts _ _ _ _ _ (Cert.Up.reference_branch _ _) (Cert.Up.reference_branch _ _)
    · rw [e0, e1]
      exact Cert.Up.reference_branches _ _
    · rw [e0, e2]
      exact Cert.Up.reference_branches _ _

end Cert.Proof

end
-- ==== Proof.Down.lean ====
/-
  The gated unit's last product, `a · w`, in blocks of 1088 rows.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Down

open Cert.Kernel6Ideal Cert.Kernel6Ideal.Gen

/-- What both programs compute. -/
def spec (a : Vec Ideal S4352x2816 .bf16) (w : Vec Ideal S2816x1024 .bf16) : Vec Ideal S4352x1024 .f32 :=
  fun j => ∑ k : Fin 2816, a (ix2 (j 0) k) * w (ix2 k (j 1))

theorem hz : (![0, 0] : Fin 2 → Nat) = fun _ => 0 := funext fun a => by fin_cases a <;> rfl

/-- What the body leaves of its two blocks. -/
theorem out_apply (x : Vec Ideal S1088x2816 .bf16) (y : Vec Ideal S2816x1024 .bf16) (r : Fin 1088) (l : Fin 1024) :
    out0_2 x y (ix2 r l) = ∑ k : Fin 2816, (x (ix2 r k) : EReal) * y (ix2 k l) := by
  unfold out0_2
  rw [View.canon_unit_zero hz]
  simp only [View.ld_unit_zero (S := S1088x2816) hz, View.ld_unit_zero (S := S2816x1024) hz]
  unfold k0_pay1
  pointwise

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (cfg0.win 2).flush t = true := by decide +kernel

/-- The row of the whole array that row `r` of point `t`'s block is. -/
def row (t : Fin cfg0.N) (r : Fin 1088) : Fin 4352 := ⟨1088 * t.val + r.val, by have h : cfg0.N = 4 := N_0; omega⟩

theorem left (t : Fin cfg0.N) (r : Fin 1088) (k : Fin 2816) : (iblk m c 0 t : Vec Ideal S1088x2816 .bf16) (ix2 r k)
    = (m ((c : Thread nD τ).loc main_arg0) : Vec Ideal S4352x2816 .bf16) (ix2 (row t r) k) := by
  obtain ⟨h0, h1⟩ := (index t).1
  unfold iblk
  rw [View.read_apply]
  show V m c main_arg0 _ = m (c.tc.loc main_arg0) _
  unfold V
  congr 1
  funext a
  apply Fin.ext
  match a with
  | ⟨0, _⟩ => show win0_0.index t 0 * 1088 + 1 * r.val = 1088 * t.val + r.val; rw [h0]; omega
  | ⟨1, _⟩ => show win0_0.index t 1 * 2816 + 1 * k.val = k.val; rw [h1]; omega

theorem right (t : Fin cfg0.N) (k : Fin 2816) (l : Fin 1024) : (iblk m c 1 t : Vec Ideal S2816x1024 .bf16) (ix2 k l)
    = (m ((c : Thread nD τ).loc main_arg1) : Vec Ideal S2816x1024 .bf16) (ix2 k l) := by
  obtain ⟨h0, h1⟩ := (index t).2.1
  unfold iblk
  rw [View.read_apply]
  show V m c main_arg1 _ = m (c.tc.loc main_arg1) _
  unfold V
  congr 1
  funext a
  apply Fin.ext
  match a with
  | ⟨0, _⟩ => show win0_1.index t 0 * 2816 + 1 * k.val = k.val; rw [h0]; omega
  | ⟨1, _⟩ => show win0_1.index t 1 * 1024 + 1 * l.val = l.val; rw [h1]; omega

/-- The result array. -/
abbrev result : Buf (Elt Ideal) ((c : Thread nD τ).loc main_v0) :=
  spec (m ((c : Thread nD τ).loc main_arg0)) (m ((c : Thread nD τ).loc main_arg1))

/-- What point `t` writes back is its block of the result. -/
theorem flushed_eq (t : Fin cfg0.N) (_ : (cfg0.win 2).flush t = true) :
    (dats m 0 c).flushed 2 t = ((cfg0.win 2).blk t).view.read (Elt Ideal) (result m c) := by
  obtain ⟨h0, h1⟩ := (index t).2.2.1
  rw [Value.flushed2]
  funext j
  rw [View.read_apply]
  show out0_2 (iblk m c 0 t) (iblk m c 1 t) j = _
  obtain ⟨r, l, rfl⟩ : ∃ (r : Fin 1088) (l : Fin 1024), j = ix2 r l := ⟨j 0, j 1, eq_ix2 j⟩
  have e : ((cfg0.win 2).blk t).view.emb (ix2 r l) = (ix2 (row t r) l : S4352x1024.Idx) := by
    funext a
    apply Fin.ext
    match a with
    | ⟨0, _⟩ => show win0_2.index t 0 * 1088 + 1 * r.val = 1088 * t.val + r.val; rw [h0]; omega
    | ⟨1, _⟩ => show win0_2.index t 1 * 1024 + 1 * l.val = l.val; rw [h1]; omega
  rw [e, out_apply]
  refine Eq.trans ?_ (show spec (m ((c : Thread nD τ).loc main_arg0)) (m ((c : Thread nD τ).loc main_arg1)) (ix2 (row t r) l) = _ from rfl)
  exact Finset.sum_congr rfl fun k _ => congrArg₂ (fun u v : EReal => u * v) (left m c t r k) (right m c t k l)

/-- The four blocks are the whole result. -/
theorem final : (dats m 0 c).arrAt 2 cfg0.N = result m c :=
  (dats m 0 c).arrAt_eq_of_cover 2 (result m c) (flushed_eq m c) fun i => by
    have hi0 : (i 0 : Nat) < 4352 := (i 0).isLt
    have hi1 : (i 1 : Nat) < 1024 := (i 1).isLt
    have hN : cfg0.N = 4 := N_0
    obtain ⟨t, ht⟩ : ∃ t : Fin cfg0.N, t.val = (i 0).val / 1088 := ⟨⟨(i 0).val / 1088, by omega⟩, rfl⟩
    obtain ⟨h0, h1⟩ := (index t).2.2.1
    refine ⟨t, (index t).2.2.2, ?_⟩
    show i ∈ ((View.whole main_v0).slice (win0_2.rect t)).set
    rw [View.set_slice_whole, Rect.mem_set_unit]
    intro a
    match a with
    | ⟨0, _⟩ => show win0_2.index t 0 * 1088 ≤ (i 0 : Nat) ∧ (i 0 : Nat) < win0_2.index t 0 * 1088 + 1088; rw [h0]; omega
    | ⟨1, _⟩ => show win0_2.index t 1 * 1024 ≤ (i 1 : Nat) ∧ (i 1 : Nat) < win0_2.index t 1 * 1024 + 1024; rw [h1]; omega

end Cert.Down

namespace Cert.Down

open Cert.Reference6Ideal Cert.Reference6Ideal.Facts₀ Cert.Reference6Ideal.Facts

/-- The reference's product is the same sum. -/
theorem reference_eq (a : FVec Ideal S4352x2816 .bf16) (w : FVec Ideal S2816x1024 .bf16) :
    Host.dotGeneral dot_S4352x2816_S2816x1024_S4352x1024_1_0_0_1_n_n none (extf .f32 a bitsLt_bf16_f32)
      (extf .f32 w bitsLt_bf16_f32) = spec a w := by
  funext j
  obtain ⟨r, l, rfl⟩ : ∃ (r : Fin 4352) (l : Fin 1024), j = ix2 r l := ⟨j 0, j 1, eq_ix2 j⟩
  pointwise [spec]

end Cert.Down

namespace Cert.Proof

/-- The value claim of the gated unit's last product. -/
theorem algebraic_down : Cert.algebraic_Kernel6Ideal_Reference6Ideal (hKernel6Ideal := Cert.Kernel6Ideal.Gen.facts)
    (hReference6Ideal := Cert.Reference6Ideal.Gen.facts) := by
  intro m g m' g' _ hm
  refine ⟨fun c => Cert.Down.result m c, ?_, ?_⟩
  · refine (θ_run Cert.Kernel6Ideal.defs _ _).mono (fun r h c => ?_) (Cert.Kernel6Ideal.Value.run_blocks m g)
    exact ⟨(h c).1.trans (Cert.Down.final m c), (h c).2⟩
  · refine (θ_run Cert.Reference6Ideal.defs _ _).mono (fun r h c => ?_) (Cert.Reference6Ideal.Value.run m' g')
    refine ⟨(h c).1.trans ?_, (h c).2⟩
    obtain ⟨e0, e1⟩ := hm c
    rw [e0, e1]
    exact Cert.Down.reference_eq _ _

end Cert.Proof

end
-- ==== Proof.ProjFwd.lean ====
/-
  The projection into the layer, `h · w`, in blocks of 1088 rows and 768 columns; the weight is held as four arrays of 768
  columns, one for each block of columns.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.ProjFwd

open Cert.Kernel7Ideal Cert.Kernel7Ideal.Gen

/-- Column `l` of the joined weight is column `l % 768` of part `l / 768`. -/
def spec (h : Vec Ideal S4352x1024 .bf16) (w : Vec Ideal S4x1024x768 .bf16) : Vec Ideal S4352x3072 .f32 :=
  fun j => ∑ k : Fin 1024, h (ix2 (j 0) k)
    * w (ix3 (⟨(j 1).val / 768, by have h : (j 1 : Nat) < 3072 := (j 1).isLt; omega⟩ : Fin 4) k (⟨(j 1).val % 768, by omega⟩ : Fin 768))

theorem hz : (![0, 0] : Fin 2 → Nat) = fun _ => 0 := funext fun a => by fin_cases a <;> rfl
theorem hz3 : (![0, 0, 0] : Fin 3 → Nat) = fun _ => 0 := funext fun a => by fin_cases a <;> rfl

/-- One part of the weight, its leading axis of one dropped. -/
theorem part_apply (y : Vec Ideal S1x1024x768 .bf16) (k : Fin 1024) (l : Fin 768) :
    shapeCast S1024x768 y shapeCasts_S1x1024x768_S1024x768 (ix2 k l) = y (ix3 (0 : Fin 1) k l) :=
  (shapeCast_dropUnit_apply ![1024, 768] y _ (ix2 k l)).trans (congrArg y (funext fun a => by fin_cases a <;> rfl))

/-- What the body leaves of its two blocks. -/
theorem out_apply (x : Vec Ideal S1088x1024 .bf16) (y : Vec Ideal S1x1024x768 .bf16) (r : Fin 1088) (l : Fin 768) :
    out0_2 x y (ix2 r l) = ∑ k : Fin 1024, (x (ix2 r k) : EReal) * y (ix3 (0 : Fin 1) k l) := by
  unfold out0_2
  rw [View.canon_unit_zero hz]
  simp only [View.ld_unit_zero (S := S1088x1024) hz, View.ld_unit_zero (S := S1x1024x768) hz3]
  have e : k0_pay1 x y (ix2 r l) = ∑ k : Fin 1024, (x (ix2 r k) : EReal)
      * shapeCast S1024x768 y shapeCasts_S1x1024x768_S1024x768 (ix2 k l) := by
    unfold k0_pay1
    generalize shapeCast S1024x768 y shapeCasts_S1x1024x768_S1024x768 = z
    pointwise
  rw [e]
  exact Finset.sum_congr rfl fun k _ => congrArg (fun v : EReal => (x (ix2 r k) : EReal) * v) (part_apply y k l)

variable (m : (ℓ : Loc nD τ sig) → Buf (Elt Ideal) ℓ) (c : Dev nD)

theorem index : ∀ t : Fin cfg0.N, (win0_0.index t 0 = t.val / 4 ∧ win0_0.index t 1 = 0)
    ∧ (win0_1.index t 0 = t.val % 4 ∧ win0_1.index t 1 = 0 ∧ win0_1.index t 2 = 0)
    ∧ (win0_2.index t 0 = t.val / 4 ∧ win0_2.index t 1 = t.val % 4) ∧ (cfg0.win 2).flush t = true := by decide +kernel

/-- The row of the whole array that row `r` of point `t`'s block is. -/
def row (t : Fin cfg0.N) (r : Fin 1088) : Fin 4352 := ⟨1088 * (t.val / 4) + r.val, by have h : cfg0.N = 16 := N_0; omega⟩

/-- The part of the weight point `t` takes. -/
def part (t : Fin cfg0.N) : Fin 4 := ⟨t.val % 4, by omega⟩

/-- The column of the whole array that column `l` of point `t`'s block is. -/
def col (t : Fin cfg0.N) (l : Fin 768) : Fin 3072 := ⟨768 * (t.val % 4) + l.val, by omega⟩

theorem left (t : Fin cfg0.N) (r : Fin 1088) (k : Fin 1024) : (iblk m c 0 t : Vec Ideal S1088x1024 .bf16) (ix2 r k)
    = (m ((c : Thread nD τ).loc main_arg0) : Vec Ideal S4352x1024 .bf16) (ix2 (row t r) k) := by
  obtain ⟨h0, h1⟩ := (index t).1
  unfold iblk
  rw [View.read_apply]
  show V m c main_arg0 _ = m (c.tc.loc main_arg0) _
  unfold V
  congr 1
  funext a
  apply Fin.ext
  match a with
  | ⟨0, _⟩ => show win0_0.index t 0 * 1088 + 1 * r.val = 1088 * (t.val / 4) + r.val; rw [h0]; omega
  | ⟨1, _⟩ => show win0_0.index t 1 * 1024 + 1 * k.val = k.val; rw [h1]; omega

theorem right (t : Fin cfg0.N) (k : Fin 1024) (l : Fin 768) : (iblk m c 1 t : Vec Ideal S1x1024x768 .bf16) (ix3 (0 : Fin 1) k l)
    = (m ((c : Thread nD τ).loc main_arg1) : Vec Ideal S4x1024x768 .bf16) (ix3 (part t) k l) := by
  obtain ⟨h0, h1, h2⟩ := (index t).2.1
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val % 4; rw [h0]; omega
  | ⟨1, _⟩ => show win0_1.index t 1 * 1024 + 1 * k.val = k.val; rw [h1]; omega
  | ⟨2, _⟩ => show win0_1.index t 2 * 768 + 1 * l.val = l.val; rw [h2]; omega

/-- The result array. -/
abbrev result : Buf (Elt Ideal) ((c : Thread nD τ).loc main_v0) :=
  spec (m ((c : Thread nD τ).loc main_arg0)) (m ((c : Thread nD τ).loc main_arg1))

/-- What point `t` writes back is its block of the result. -/
theorem flushed_eq (t : Fin cfg0.N) (_ : (cfg0.win 2).flush t = true) :
    (dats m 0 c).flushed 2 t = ((cfg0.win 2).blk t).view.read (Elt Ideal) (result m c) := by
  obtain ⟨h0, h1⟩ := (index t).2.2.1
  rw [Value.flushed2]
  funext j
  rw [View.read_apply]
  show out0_2 (iblk m c 0 t) (iblk m c 1 t) j = _
  obtain ⟨r, l, rfl⟩ : ∃ (r : Fin 1088) (l : Fin 768), j = ix2 r l := ⟨j 0, j 1, eq_ix2 j⟩
  have e : ((cfg0.win 2).blk t).view.emb (ix2 r l) = (ix2 (row t r) (col t l) : S4352x3072.Idx) := by
    funext a
    apply Fin.ext
    match a with
    | ⟨0, _⟩ => show win0_2.index t 0 * 1088 + 1 * r.val = 1088 * (t.val / 4) + r.val; rw [h0]; omega
    | ⟨1, _⟩ => show win0_2.index t 1 * 768 + 1 * l.val = 768 * (t.val % 4) + l.val; rw [h1]; omega
  rw [e, out_apply]
  refine Eq.trans ?_ (show spec (m ((c : Thread nD τ).loc main_arg0)) (m ((c : Thread nD τ).loc main_arg1)) (ix2 (row t r) (col t l)) = _ from rfl)
  refine Finset.sum_congr rfl fun k _ => congrArg₂ (fun u v : EReal => u * v) (left m c t r k) ((right m c t k l).trans ?_)
  have hl : l.val < 768 := l.isLt
  congr 2
  · exact Fin.ext (show t.val % 4 = (768 * (t.val % 4) + l.val) / 768 by omega)
  · exact Fin.ext (show l.val = (768 * (t.val % 4) + l.val) % 768 by omega)

/-- The sixteen blocks are the whole result. -/
theorem final : (dats m 0 c).arrAt 2 cfg0.N = result m c :=
  (dats m 0 c).arrAt_eq_of_cover 2 (result m c) (flushed_eq m c) fun i => by
    have hi0 : (i 0 : Nat) < 4352 := (i 0).isLt
    have hi1 : (i 1 : Nat) < 3072 := (i 1).isLt
    have hN : cfg0.N = 16 := N_0
    obtain ⟨t, ht⟩ : ∃ t : Fin cfg0.N, t.val = 4 * ((i 0).val / 1088) + (i 1).val / 768 :=
      ⟨⟨4 * ((i 0).val / 1088) + (i 1).val / 768, by omega⟩, rfl⟩
    obtain ⟨h0, h1⟩ := (index t).2.2.1
    refine ⟨t, (index t).2.2.2, ?_⟩
    show i ∈ ((View.whole main_v0).slice (win0_2.rect t)).set
    rw [View.set_slice_whole, Rect.mem_set_unit]
    intro a
    match a with
    | ⟨0, _⟩ => show win0_2.index t 0 * 1088 ≤ (i 0 : Nat) ∧ (i 0 : Nat) < win0_2.index t 0 * 1088 + 1088; rw [h0]; omega
    | ⟨1, _⟩ => show win0_2.index t 1 * 768 ≤ (i 1 : Nat) ∧ (i 1 : Nat) < win0_2.index t 1 * 768 + 768; rw [h1]; omega

end Cert.ProjFwd

namespace Cert.ProjFwd

open Cert.Reference7Ideal Cert.Reference7Ideal.Facts₀ Cert.Reference7Ideal.Facts

/-- The joined weight at a column. -/
theorem joined_apply (w : FVec Ideal S4x1024x768 .f32) (k : Fin 1024) (l : Fin 3072) :
    shapeCast S1024x3072 (transpose S1024x4x768 [1, 0, 2] w transposes_S4x1024x768_S1024x4x768_1_0_2)
      shapeCasts_S1024x4x768_S1024x3072 (ix2 k l)
      = w (ix3 (⟨l.val / 768, by omega⟩ : Fin 4) k (⟨l.val % 768, by omega⟩ : Fin 768)) := by
  rw [shapeCast_apply _ _ (ix2 k l) (ix3 k (⟨l.val / 768, by omega⟩ : Fin 4) (⟨l.val % 768, by omega⟩ : Fin 768))]
  · exact transpose_apply _ w _ _ _ fun b => by fin_cases b <;> rfl
  · rw [Shape.rowMajor_val_three, Shape.rowMajor_val_two]
    show (k.val * 4 + l.val / 768) * 768 + l.val % 768 = k.val * 3072 + l.val
    omega

/-- The reference's product is the same sum. -/
theorem reference_eq (h : FVec Ideal S4352x1024 .bf16) (w : FVec Ideal S4x1024x768 .bf16) :
    Host.dotGeneral dot_S4352x1024_S1024x3072_S4352x3072_1_0_0_1_n_n none (extf .f32 h bitsLt_bf16_f32)
      (shapeCast _ (transpose S1024x4x768 [1, 0, 2] (extf .f32 w bitsLt_bf16_f32) transposes_S4x1024x768_S1024x4x768_1_0_2)
        shapeCasts_S1024x4x768_S1024x3072) = spec h w := by
  funext j
  obtain ⟨r, l, rfl⟩ : ∃ (r : Fin 4352) (l : Fin 3072), j = ix2 r l := ⟨j 0, j 1, eq_ix2 j⟩
  have e : ∀ k : Fin 1024, _ = _ := fun k => joined_apply (extf .f32 w bitsLt_bf16_f32) k l
  revert e
  generalize shapeCast _ (transpose S1024x4x768 [1, 0, 2] (extf .f32 w bitsLt_bf16_f32) transposes_S4x1024x768_S1024x4x768_1_0_2)
    shapeCasts_S1024x4x768_S1024x3072 = z
  intro e
  have e' : Host.dotGeneral dot_S4352x1024_S1024x3072_S4352x3072_1_0_0_1_n_n none (extf .f32 h bitsLt_bf16_f32) z (ix2 r l)
      = ∑ k : Fin 1024, (h (ix2 r k) : EReal) * z (ix2 k l) := by pointwise
  rw [e']
  exact Finset.sum_congr rfl fun k _ => congrArg (fun v : EReal => (h (ix2 r k) : EReal) * v) (e k)

end Cert.ProjFwd

namespace Cert.Proof

/-- The value claim of the projection. -/
theorem algebraic_proj : Cert.algebraic_Kernel7Ideal_Reference7Ideal (hKernel7Ideal := Cert.Kernel7Ideal.Gen.facts)
    (hReference7Ideal := Cert.Reference7Ideal.Gen.facts) := by
  intro m g m' g' _ hm
  refine ⟨fun c => Cert.ProjFwd.result m c, ?_, ?_⟩
  · refine (θ_run Cert.Kernel7Ideal.defs _ _).mono (fun r h c => ?_) (Cert.Kernel7Ideal.Value.run_blocks m g)
    exact ⟨(h c).1.trans (Cert.ProjFwd.final m c), (h c).2⟩
  · refine (θ_run Cert.Reference7Ideal.defs _ _).mono (fun r h c => ?_) (Cert.Reference7Ideal.Value.run m' g')
    refine ⟨(h c).1.trans ?_, (h c).2⟩
    obtain ⟨e0, e1⟩ := hm c
    rw [e0, e1]
    exact Cert.ProjFwd.reference_eq _ _

end Cert.Proof

end
-- ==== Proof.ProjBwd.lean ====
/-
  The gradient the projection hands back, `d · wᵀ`, in blocks of 1088 rows: a sum of four products, one for each block of 768
  columns with its part of the weight.
-/
module

public import proofs.«01_k».proof.Defs
public import proofs.«01_k».proof.Proof.Gen.Kernel8Ideal.Value
public import proofs.«01_k».proof.Proof.Gen.Reference8Ideal.Run
public import proofs.«01_k».proof.Proof.ProjFwd

@[expose] public section

noncomputable section

open Idealize.ShloMosaic Idealize.ShloMosaic.TcCoe Idealize.SL.Sem
open Idealize.ShloMosaic.Pipeline (Dat)

namespace Cert.ProjBwd

open Cert.Kernel8Ideal Cert.Kernel8Ideal.Gen

/-- Column `768 p + l` of the joined weight is column `l` of part `p`. -/
def spec (d : Vec Ideal S4352x3072 .bf16) (w : Vec Ideal S4x1024x768 .bf16) : Vec Ideal S4352x1024 .bf16 :=
  fun j => ∑ p : Fin 4, ∑ l : Fin 768, d (ix2 (j 0) (⟨768 * p.val + l.val, by omega⟩ : Fin 3072)) * w (ix3 p (j 1) l)

theorem hz : (![0, 0] : Fin 2 → Nat) = fun _ => 0 := funext fun a => by fin_cases a <;> rfl
theorem hz3 : (![0, 0, 0] : Fin 3 → Nat) = fun _ => 0 := funext fun a => by fin_cases a <;> rfl

/-- The product of one block of columns with the part of the weight that it met. -/
def term (x : Vec Ideal S1088x768 .bf16) (y : Vec Ideal S1x1024x768 .bf16) (r : Fin 1088) (k : Fin 1024) : EReal :=
  ∑ l : Fin 768, x (ix2 r l) * y (ix3 (0 : Fin 1) k l)

theorem term_apply (x : Vec Ideal S1088x768 .bf16) (y : Vec Ideal S1x1024x768 .bf16) (r : Fin 1088) (k : Fin 1024) :
    matmul (F := Ideal) (φ₁ := .bf16) (φ₂ := .bf16) dot_S1088x768_S1024x768_S1088x1024_1_1_0_0_n_n none (x : FVec Ideal S1088x768 .bf16)
      (shapeCast S1024x768 y shapeCasts_S1x1024x768_S1024x768 : FVec Ideal S1024x768 .bf16)
      (constant S1088x1024 .f32 0x00000000#32) (ix2 r k) = term x y r k := by
  have e := fun l : Fin 768 => Cert.ProjFwd.part_apply y k l
  revert e
  generalize (shapeCast S1024x768 y shapeCasts_S1x1024x768_S1024x768 : FVec Ideal S1024x768 .bf16) = z
  intro e
  have e' : matmul (F := Ideal) (φ₁ := .bf16) (φ₂ := .bf16) dot_S1088x768_S1024x768_S1088x1024_1_1_0_0_n_n none (x : FVec Ideal S1088x768 .bf16) z (constant S1088x1024 .f32 0x00000000#32) (ix2 r k)
      = ∑ l : Fin 768, (x (ix2 r l) : EReal) * z (ix2 k l) := by pointwise
  rw [e']
  exact Finset.sum_congr rfl fun l _ => congrArg (fun v : EReal => (x (ix2 r l) : EReal) * v) (e l)

/-- What the body leaves of its eight blocks. -/
theorem out_apply (x0 : Vec Ideal S1088x768 .bf16) (y0 : Vec Ideal S1x1024x768 .bf16) (x1 : Vec Ideal S1088x768 .bf16)
    (y1 : Vec Ideal S1x1024x768 .bf16) (x2 : Vec Ideal S1088x768 .bf16) (y2 : Vec Ideal S1x1024x768 .bf16)
    (x3 : Vec Ideal S1088x768 .bf16) (y3 : Vec Ideal S1x1024x768 .bf16) (r : Fin 1088) (k : Fin 1024) :
    out0_8 x0 y0 x1 y1 x2 y2 x3 y3 (ix2 r k) = term x0 y0 r k + term x1 y1 r k + term x2 y2 r k + term x3 y3 r k := by
  unfold out0_8
  rw [View.canon_unit_zero hz]
  simp only [View.ld_unit_zero (S := S1088x768) hz, View.ld_unit_zero (S := S1x1024x768) hz3]
  rw [← term_apply x0 y0, ← term_apply x1 y1, ← term_apply x2 y2, ← term_apply x3 y3]
  rfl

variable (m : (ℓ : Loc nD τ sig) → Buf (Elt Ideal) ℓ) (c : Dev nD)

/-- Each of the four block columns of the incoming gradient has a window. -/
theorem index_left : ∀ t : Fin cfg0.N, (win0_0.index t 0 = t.val ∧ win0_0.index t 1 = 0) ∧ (win0_2.index t 0 = t.val ∧ win0_2.index t 1 = 1)
    ∧ (win0_4.index t 0 = t.val ∧ win0_4.index t 1 = 2) ∧ (win0_6.index t 0 = t.val ∧ win0_6.index t 1 = 3) := by decide +kernel

/-- And each part of the weight. -/
theorem index_right : ∀ t : Fin cfg0.N, (win0_1.index t 0 = 0 ∧ win0_1.index t 1 = 0 ∧ win0_1.index t 2 = 0)
    ∧ (win0_3.index t 0 = 1 ∧ win0_3.index t 1 = 0 ∧ win0_3.index t 2 = 0)
    ∧ (win0_5.index t 0 = 2 ∧ win0_5.index t 1 = 0 ∧ win0_5.index t 2 = 0)
    ∧ (win0_7.index t 0 = 3 ∧ win0_7.index t 1 = 0 ∧ win0_7.index t 2 = 0) := by decide +kernel

theorem index_out : ∀ t : Fin cfg0.N, (win0_8.index t 0 = t.val ∧ win0_8.index t 1 = 0) ∧ (cfg0.win 8).flush t = true := by decide +kernel

/-- The row of the whole array that row `r` of point `t`'s block is. -/
def row (t : Fin cfg0.N) (r : Fin 1088) : Fin 4352 := ⟨1088 * t.val + r.val, by have h : cfg0.N = 4 := N_0; omega⟩

/-- The column of the whole array that column `l` of block column `p` is. -/
def col (p : Fin 4) (l : Fin 768) : Fin 3072 := ⟨768 * p.val + l.val, by omega⟩

/-- Where an element of a block of the gradient lies in the array, from its two coordinates. -/
theorem place (t : Fin cfg0.N) (p : Fin 4) (r : Fin 1088) (l : Fin 768) (e : S4352x3072.Idx) (i0 i1 : Nat) (h0 : i0 = t.val)
    (h1 : i1 = p.val) (e0 : (e 0).val = i0 * 1088 + 1 * r.val) (e1 : (e 1).val = i1 * 768 + 1 * l.val) : e = ix2 (row t r) (col p l) := by
  subst h0 h1
  funext a
  apply Fin.ext
  match a with
  | ⟨0, _⟩ => exact e0.trans (show t.val * 1088 + 1 * r.val = 1088 * t.val + r.val by omega)
  | ⟨1, _⟩ => exact e1.trans (show p.val * 768 + 1 * l.val = 768 * p.val + l.val by omega)

/-- The same for a part of the weight. -/
theorem place_weight (p : Fin 4) (k : Fin 1024) (l : Fin 768) (e : S4x1024x768.Idx) (i0 i1 i2 : Nat) (h : i0 = p.val ∧ i1 = 0 ∧ i2 = 0)
    (e0 : (e 0).val = i0 * 1 + 1 * 0) (e1 : (e 1).val = i1 * 1024 + 1 * k.val) (e2 : (e 2).val = i2 * 768 + 1 * l.val) :
    e = ix3 p k l := by
  obtain ⟨h0, h1, h2⟩ := h
  subst h0 h1 h2
  funext a
  apply Fin.ext
  match a with
  | ⟨0, _⟩ => exact e0.trans (show p.val * 1 + 1 * 0 = p.val by omega)
  | ⟨1, _⟩ => exact e1.trans (show 0 * 1024 + 1 * k.val = k.val by omega)
  | ⟨2, _⟩ => exact e2.trans (show 0 * 768 + 1 * l.val = l.val by omega)

/-- The gradient's and the weight's arrays. -/
abbrev dArr : Vec Ideal S4352x3072 .bf16 := m ((c : Thread nD τ).loc main_arg0)
abbrev wArr : Vec Ideal S4x1024x768 .bf16 := m ((c : Thread nD τ).loc main_arg1)

theorem left0 (t : Fin cfg0.N) (r : Fin 1088) (l : Fin 768) :
    (iblk m c 0 t : Vec Ideal S1088x768 .bf16) (ix2 r l) = dArr m c (ix2 (row t r) (col 0 l)) :=
  congrArg (dArr m c) (place t 0 r l _ _ _ (index_left t).1.1 (index_left t).1.2 rfl rfl)

theorem left1 (t : Fin cfg0.N) (r : Fin 1088) (l : Fin 768) :
    (iblk m c 2 t : Vec Ideal S1088x768 .bf16) (ix2 r l) = dArr m c (ix2 (row t r) (col 1 l)) :=
  congrArg (dArr m c) (place t 1 r l _ _ _ (index_left t).2.1.1 (index_left t).2.1.2 rfl rfl)

theorem left2 (t : Fin cfg0.N) (r : Fin 1088) (l : Fin 768) :
    (iblk m c 4 t : Vec Ideal S1088x768 .bf16) (ix2 r l) = dArr m c (ix2 (row t r) (col 2 l)) :=
  congrArg (dArr m c) (place t 2 r l _ _ _ (index_left t).2.2.1.1 (index_left t).2.2.1.2 rfl rfl)

theorem left3 (t : Fin cfg0.N) (r : Fin 1088) (l : Fin 768) :
    (iblk m c 6 t : Vec Ideal S1088x768 .bf16) (ix2 r l) = dArr m c (ix2 (row t r) (col 3 l)) :=
  congrArg (dArr m c) (place t 3 r l _ _ _ (index_left t).2.2.2.1 (index_left t).2.2.2.2 rfl rfl)

theorem right0 (t : Fin cfg0.N) (k : Fin 1024) (l : Fin 768) :
    (iblk m c 1 t : Vec Ideal S1x1024x768 .bf16) (ix3 (0 : Fin 1) k l) = wArr m c (ix3 (0 : Fin 4) k l) :=
  congrArg (wArr m c) (place_weight 0 k l _ _ _ _ (index_right t).1 rfl rfl rfl)

theorem right1 (t : Fin cfg0.N) (k : Fin 1024) (l : Fin 768) :
    (iblk m c 3 t : Vec Ideal S1x1024x768 .bf16) (ix3 (0 : Fin 1) k l) = wArr m c (ix3 (1 : Fin 4) k l) :=
  congrArg (wArr m c) (place_weight 1 k l _ _ _ _ (index_right t).2.1 rfl rfl rfl)

theorem right2 (t : Fin cfg0.N) (k : Fin 1024) (l : Fin 768) :
    (iblk m c 5 t : Vec Ideal S1x1024x768 .bf16) (ix3 (0 : Fin 1) k l) = wArr m c (ix3 (2 : Fin 4) k l) :=
  congrArg (wArr m c) (place_weight 2 k l _ _ _ _ (index_right t).2.2.1 rfl rfl rfl)

theorem right3 (t : Fin cfg0.N) (k : Fin 1024) (l : Fin 768) :
    (iblk m c 7 t : Vec Ideal S1x1024x768 .bf16) (ix3 (0 : Fin 1) k l) = wArr m c (ix3 (3 : Fin 4) k l) :=
  congrArg (wArr m c) (place_weight 3 k l _ _ _ _ (index_right t).2.2.2 rfl rfl rfl)

/-- The term of part `p` from blocks that hold the arrays' elements. -/
theorem term_eq (t : Fin cfg0.N) (p : Fin 4) (x : Vec Ideal S1088x768 .bf16) (y : Vec Ideal S1x1024x768 .bf16)
    (hx : ∀ r l, x (ix2 r l) = dArr m c (ix2 (row t r) (col p l))) (hy : ∀ k l, y (ix3 (0 : Fin 1) k l) = wArr m c (ix3 p k l))
    (r : Fin 1088) (k : Fin 1024) :
    term x y r k = ∑ l : Fin 768, (dArr m c (ix2 (row t r) (col p l)) : EReal) * wArr m c (ix3 p k l) :=
  Finset.sum_congr rfl fun l _ => congrArg₂ (fun u v : EReal => u * v) (hx r l) (hy k l)

/-- The result array. -/
abbrev result : Buf (Elt Ideal) ((c : Thread nD τ).loc main_v0) := spec (dArr m c) (wArr m c)

/-- What point `t` writes back is its block of the result. -/
theorem flushed_eq (t : Fin cfg0.N) (_ : (cfg0.win 8).flush t = true) :
    (dats m 0 c).flushed 8 t = ((cfg0.win 8).blk t).view.read (Elt Ideal) (result m c) := by
  obtain ⟨h0, h1⟩ := (index_out t).1
  rw [Value.flushed8]
  funext j
  rw [View.read_apply]
  show out0_8 (iblk m c 0 t) (iblk m c 1 t) (iblk m c 2 t) (iblk m c 3 t) (iblk m c 4 t) (iblk m c 5 t) (iblk m c 6 t) (iblk m c 7 t) j = _
  obtain ⟨r, l, rfl⟩ : ∃ (r : Fin 1088) (l : Fin 1024), j = ix2 r l := ⟨j 0, j 1, eq_ix2 j⟩
  have e : ((cfg0.win 8).blk t).view.emb (ix2 r l) = (ix2 (row t r) l : S4352x1024.Idx) := by
    funext a
    apply Fin.ext
    match a with
    | ⟨0, _⟩ => show win0_8.index t 0 * 1088 + 1 * r.val = 1088 * t.val + r.val; rw [h0]; omega
    | ⟨1, _⟩ => show win0_8.index t 1 * 1024 + 1 * l.val = l.val; rw [h1]; omega
  rw [e, out_apply, term_eq m c t 0 _ _ (left0 m c t) (right0 m c t), term_eq m c t 1 _ _ (left1 m c t) (right1 m c t),
    term_eq m c t 2 _ _ (left2 m c t) (right2 m c t), term_eq m c t 3 _ _ (left3 m c t) (right3 m c t)]
  refine Eq.trans ?_ (show spec (dArr m c) (wArr m c) (ix2 (row t r) l) = _ from rfl)
  unfold spec
  rw [Fin.sum_univ_four]
  rfl

/-- The four blocks are the whole result. -/
theorem final : (dats m 0 c).arrAt 8 cfg0.N = result m c :=
  (dats m 0 c).arrAt_eq_of_cover 8 (result m c) (flushed_eq m c) fun i => by
    have hi0 : (i 0 : Nat) < 4352 := (i 0).isLt
    have hi1 : (i 1 : Nat) < 1024 := (i 1).isLt
    have hN : cfg0.N = 4 := N_0
    obtain ⟨t, ht⟩ : ∃ t : Fin cfg0.N, t.val = (i 0).val / 1088 := ⟨⟨(i 0).val / 1088, by omega⟩, rfl⟩
    obtain ⟨h0, h1⟩ := (index_out t).1
    refine ⟨t, (index_out t).2, ?_⟩
    show i ∈ ((View.whole main_v0).slice (win0_8.rect t)).set
    rw [View.set_slice_whole, Rect.mem_set_unit]
    intro a
    match a with
    | ⟨0, _⟩ => show win0_8.index t 0 * 1088 ≤ (i 0 : Nat) ∧ (i 0 : Nat) < win0_8.index t 0 * 1088 + 1088; rw [h0]; omega
    | ⟨1, _⟩ => show win0_8.index t 1 * 1024 ≤ (i 1 : Nat) ∧ (i 1 : Nat) < win0_8.index t 1 * 1024 + 1024; rw [h1]; omega

end Cert.ProjBwd

namespace Cert.ProjBwd

open Cert.Reference8Ideal Cert.Reference8Ideal.Facts₀ Cert.Reference8Ideal.Facts

/-- A sum over the 3072 joined columns, part by part. -/
theorem sum_parts (f : Fin 3072 → EReal) :
    ∑ k : Fin 3072, f k = ∑ p : Fin 4, ∑ l : Fin 768, f (⟨768 * p.val + l.val, by omega⟩ : Fin 3072) := by
  rw [← Finset.sum_product', Finset.univ_product_univ]
  refine (Fintype.sum_equiv (finProdFinEquiv (m := 4) (n := 768)) _ _ fun x => congrArg f (Fin.ext ?_)).symm
  show 768 * x.1.val + x.2.val = x.2.val + 768 * x.1.val
  omega

/-- The reference's gradient is the same sum. -/
theorem reference_eq (d : FVec Ideal S4352x3072 .bf16) (w : FVec Ideal S4x1024x768 .bf16) :
    truncf .bf16 (Host.dotGeneral dot_S4352x3072_S1024x3072_S4352x1024_1_1_0_0_n_n none (extf .f32 d bitsLt_bf16_f32)
      (shapeCast _ (transpose S1024x4x768 [1, 0, 2] (extf .f32 w bitsLt_bf16_f32) transposes_S4x1024x768_S1024x4x768_1_0_2)
        shapeCasts_S1024x4x768_S1024x3072)) bitsLt_bf16_f32 = spec d w := by
  funext j
  obtain ⟨r, q, rfl⟩ : ∃ (r : Fin 4352) (q : Fin 1024), j = ix2 r q := ⟨j 0, j 1, eq_ix2 j⟩
  have e : ∀ k : Fin 3072, _ = _ := fun k => Cert.ProjFwd.joined_apply (extf .f32 w bitsLt_bf16_f32) q k
  revert e
  generalize shapeCast _ (transpose S1024x4x768 [1, 0, 2] (extf .f32 w bitsLt_bf16_f32) transposes_S4x1024x768_S1024x4x768_1_0_2)
    shapeCasts_S1024x4x768_S1024x3072 = z
  intro e
  have e' : Host.dotGeneral dot_S4352x3072_S1024x3072_S4352x1024_1_1_0_0_n_n none (extf .f32 d bitsLt_bf16_f32) z (ix2 r q)
      = ∑ k : Fin 3072, (d (ix2 r k) : EReal) * z (ix2 q k) := by pointwise
  show Host.dotGeneral dot_S4352x3072_S1024x3072_S4352x1024_1_1_0_0_n_n none (extf .f32 d bitsLt_bf16_f32) z (ix2 r q) = _
  rw [e', sum_parts]
  refine Finset.sum_congr rfl fun p _ => Finset.sum_congr rfl fun l _ => ?_
  refine congrArg (fun v : EReal => (d (ix2 r (⟨768 * p.val + l.val, by omega⟩ : Fin 3072)) : EReal) * v) ((e _).trans ?_)
  have hl : l.val < 768 := l.isLt
  show w _ = w _
  congr 2
  · exact Fin.ext (show (768 * p.val + l.val) / 768 = p.val by omega)
  · exact Fin.ext (show (768 * p.val + l.val) % 768 = l.val by omega)

end Cert.ProjBwd

namespace Cert.Proof

/-- The value claim of the gradient the projection hands back. -/
theorem algebraic_projBwd : Cert.algebraic_Kernel8Ideal_Reference8Ideal (hKernel8Ideal := Cert.Kernel8Ideal.Gen.facts)
    (hReference8Ideal := Cert.Reference8Ideal.Gen.facts) := by
  intro m g m' g' _ hm
  refine ⟨fun c => Cert.ProjBwd.result m c, ?_, ?_⟩
  · refine (θ_run Cert.Kernel8Ideal.defs _ _).mono (fun r h c => ?_) (Cert.Kernel8Ideal.Value.run_blocks m g)
    exact ⟨(h c).1.trans (Cert.ProjBwd.final m c), (h c).2⟩
  · refine (θ_run Cert.Reference8Ideal.defs _ _).mono (fun r h c => ?_) (Cert.Reference8Ideal.Value.run m' g')
    refine ⟨(h c).1.trans ?_, (h c).2⟩
    obtain ⟨e0, e1⟩ := hm c
    rw [e0, e1]
    exact Cert.ProjBwd.reference_eq _ _

end Cert.Proof

end
-- ==== Proof.ProjWgrad.lean ====
/-
  The gradient of the projection's weight, `hᵀ · d`, one part of 768 columns for each grid point.
-/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.ProjWgrad

open Cert.Kernel9Ideal Cert.Kernel9Ideal.Gen

/-- What both programs compute: part `p` of the gradient is from columns `768 p …` of the incoming gradient. -/
def spec (h : Vec Ideal S4352x1024 .bf16) (d : Vec Ideal S4352x3072 .bf16) : Vec Ideal S4x1024x768 .f32 :=
  fun j => ∑ k : Fin 4352, h (ix2 k (j 1)) * d (ix2 k (⟨768 * (j 0).val + (j 2).val, by
    have h0 : (j 0 : Nat) < 4 := (j 0).isLt
    have h2 : (j 2 : Nat) < 768 := (j 2).isLt
    omega⟩ : Fin 3072))

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves of its two blocks. -/
theorem out_apply (x : Vec Ideal S4352x1024 .bf16) (y : Vec Ideal S4352x768 .bf16) (q : Fin 1024) (l : Fin 768) :
    out0_2 x y (ix3 (0 : Fin 1) q l) = ∑ k : Fin 4352, (x (ix2 k q) : EReal) * y (ix2 k l) := by
  unfold out0_2
  rw [View.canon_unit_zero hz3]
  simp only [View.ld_unit_zero (S := S4352x1024) hz, View.ld_unit_zero (S := S4352x768) hz]
  unfold k0_pay1
  refine (shapeCast_addUnit_apply ![1024, 768] _ _ (ix3 (0 : Fin 1) q l)).trans ?_
  rw [show (fun a : Fin 2 => (ix3 (0 : Fin 1) q l : S1x1024x768.Idx) a.succ) = (ix2 q l : S1024x768.Idx) from
    funext fun a => by fin_cases a <;> rfl]
  pointwise

variable (m : (ℓ : Loc nD τ sig) → Buf (Elt Ideal) ℓ) (c : Dev nD)

theorem index : ∀ t : Fin cfg0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) ∧ (cfg0.win 2).flush t = true := by decide +kernel

/-- The part of the result point `t` makes. -/
def part (t : Fin cfg0.N) : Fin 4 := ⟨t.val, by have h : cfg0.N = 4 := N_0; omega⟩

/-- The column of the whole array that column `l` of point `t`'s block is. -/
def col (t : Fin cfg0.N) (l : Fin 768) : Fin 3072 := ⟨768 * t.val + l.val, by have h : cfg0.N = 4 := N_0; omega⟩

theorem left (t : Fin cfg0.N) (k : Fin 4352) (q : Fin 1024) : (iblk m c 0 t : Vec Ideal S4352x1024 .bf16) (ix2 k q)
    = (m ((c : Thread nD τ).loc main_arg0) : Vec Ideal S4352x1024 .bf16) (ix2 k q) := by
  obtain ⟨h0, h1⟩ := (index t).1
  unfold iblk
  rw [View.read_apply]
  show V m c main_arg0 _ = m (c.tc.loc main_arg0) _
  unfold V
  congr 1
  funext a
  apply Fin.ext
  match a with
  | ⟨0, _⟩ => show win0_0.index t 0 * 4352 + 1 * k.val = k.val; rw [h0]; omega
  | ⟨1, _⟩ => show win0_0.index t 1 * 1024 + 1 * q.val = q.val; rw [h1]; omega

theorem right (t : Fin cfg0.N) (k : Fin 4352) (l : Fin 768) : (iblk m c 1 t : Vec Ideal S4352x768 .bf16) (ix2 k l)
    = (m ((c : Thread nD τ).loc main_arg1) : Vec Ideal S4352x3072 .bf16) (ix2 k (col t l)) := by
  obtain ⟨h0, h1⟩ := (index t).2.1
  unfold iblk
  rw [View.read_apply]
  show V m c main_arg1 _ = m (c.tc.loc main_arg1) _
  unfold V
  congr 1
  funext a
  apply Fin.ext
  match a with
  | ⟨0, _⟩ => show win0_1.index t 0 * 4352 + 1 * k.val = k.val; rw [h0]; omega
  | ⟨1, _⟩ => show win0_1.index t 1 * 768 + 1 * l.val = 768 * t.val + l.val; rw [h1]; omega

/-- The result array. -/
abbrev result : Buf (Elt Ideal) ((c : Thread nD τ).loc main_v0) :=
  spec (m ((c : Thread nD τ).loc main_arg0)) (m ((c : Thread nD τ).loc main_arg1))

/-- What point `t` writes back is its block of the result. -/
theorem flushed_eq (t : Fin cfg0.N) (_ : (cfg0.win 2).flush t = true) :
    (dats m 0 c).flushed 2 t = ((cfg0.win 2).blk t).view.read (Elt Ideal) (result m c) := by
  obtain ⟨h0, h1, h2⟩ := (index t).2.2.1
  rw [Value.flushed2]
  funext j
  rw [View.read_apply]
  show out0_2 (iblk m c 0 t) (iblk m c 1 t) j = _
  obtain ⟨q, l, rfl⟩ : ∃ (q : Fin 1024) (l : Fin 768), j = ix3 (0 : Fin 1) q l := ⟨j 1, j 2, funext fun a => by
    match a with
    | ⟨0, _⟩ => exact Fin.ext (by have h : (j 0 : Nat) < 1 := (j 0).isLt; show (j 0 : Nat) = 0; omega)
    | ⟨1, _⟩ => rfl
    | ⟨2, _⟩ => rfl⟩
  have e : ((cfg0.win 2).blk t).view.emb (ix3 (0 : Fin 1) q l) = (ix3 (part t) q l : S4x1024x768.Idx) := by
    funext a
    apply Fin.ext
    match a with
    | ⟨0, _⟩ => show win0_2.index t 0 * 1 + 1 * 0 = t.val; rw [h0]; omega
    | ⟨1, _⟩ => show win0_2.index t 1 * 1024 + 1 * q.val = q.val; rw [h1]; omega
    | ⟨2, _⟩ => show win0_2.index t 2 * 768 + 1 * l.val = l.val; rw [h2]; omega
  rw [e, out_apply]
  refine Eq.trans ?_ (show spec (m ((c : Thread nD τ).loc main_arg0)) (m ((c : Thread nD τ).loc main_arg1)) (ix3 (part t) q l) = _ from rfl)
  exact Finset.sum_congr rfl fun k _ => congrArg₂ (fun u v : EReal => u * v) (left m c t k q) (right m c t k l)

/-- The four blocks are the whole result. -/
theorem final : (dats m 0 c).arrAt 2 cfg0.N = result m c :=
  (dats m 0 c).arrAt_eq_of_cover 2 (result m c) (flushed_eq m c) fun i => by
    have hi0 : (i 0 : Nat) < 4 := (i 0).isLt
    have hi1 : (i 1 : Nat) < 1024 := (i 1).isLt
    have hi2 : (i 2 : Nat) < 768 := (i 2).isLt
    have hN : cfg0.N = 4 := N_0
    obtain ⟨t, ht⟩ : ∃ t : Fin cfg0.N, t.val = (i 0).val := ⟨⟨(i 0).val, by omega⟩, rfl⟩
    obtain ⟨h0, h1, h2⟩ := (index t).2.2.1
    refine ⟨t, (index t).2.2.2, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [h0]; omega
    | ⟨1, _⟩ => show win0_2.index t 1 * 1024 ≤ (i 1 : Nat) ∧ (i 1 : Nat) < win0_2.index t 1 * 1024 + 1024; rw [h1]; omega
    | ⟨2, _⟩ => show win0_2.index t 2 * 768 ≤ (i 2 : Nat) ∧ (i 2 : Nat) < win0_2.index t 2 * 768 + 768; rw [h2]; omega

end Cert.ProjWgrad

namespace Cert.ProjWgrad

open Cert.Reference9Ideal Cert.Reference9Ideal.Facts₀ Cert.Reference9Ideal.Facts

/-- The reference's gradient is the same sum. -/
theorem reference_eq (h : FVec Ideal S4352x1024 .bf16) (d : FVec Ideal S4352x3072 .bf16) :
    transpose S4x1024x768 [1, 0, 2] (shapeCast S1024x4x768 (transpose S1024x3072 [1, 0]
      (Host.dotGeneral dot_S4352x3072_S4352x1024_S3072x1024_0_0_1_1_n_n none (extf .f32 d bitsLt_bf16_f32)
        (extf .f32 h bitsLt_bf16_f32)) transposes_S3072x1024_S1024x3072_1_0) shapeCasts_S1024x3072_S1024x4x768)
      transposes_S1024x4x768_S4x1024x768_1_0_2 = spec h d := by
  funext j
  obtain ⟨p, q, l, rfl⟩ : ∃ (p : Fin 4) (q : Fin 1024) (l : Fin 768), j = ix3 p q l := ⟨j 0, j 1, j 2, eq_ix3 j⟩
  have hl : l.val < 768 := l.isLt
  rw [transpose_apply _ _ _ (ix3 p q l) (ix3 q p l) (fun b => by fin_cases b <;> rfl),
    shapeCast_apply _ _ (ix3 q p l) (ix2 q (⟨768 * p.val + l.val, by omega⟩ : Fin 3072)) (by
      rw [Shape.rowMajor_val_three, Shape.rowMajor_val_two]
      show q.val * 3072 + (768 * p.val + l.val) = (q.val * 4 + p.val) * 768 + l.val
      omega),
    transpose_apply _ _ _ (ix2 q (⟨768 * p.val + l.val, by omega⟩ : Fin 3072)) (ix2 (⟨768 * p.val + l.val, by omega⟩ : Fin 3072) q)
      (fun b => by fin_cases b <;> rfl)]
  have e : ∀ s : Fin 3072, Host.dotGeneral dot_S4352x3072_S4352x1024_S3072x1024_0_0_1_1_n_n none (extf .f32 d bitsLt_bf16_f32)
      (extf .f32 h bitsLt_bf16_f32) (ix2 s q) = ∑ k : Fin 4352, (d (ix2 k s) : EReal) * h (ix2 k q) := by
    intro s
    pointwise
  rw [e]
  exact Finset.sum_congr rfl fun k _ => mul_comm _ _

end Cert.ProjWgrad

namespace Cert.Proof

/-- The value claim of the projection's weight gradient. -/
theorem algebraic_projWgrad : Cert.algebraic_Kernel9Ideal_Reference9Ideal (hKernel9Ideal := Cert.Kernel9Ideal.Gen.facts)
    (hReference9Ideal := Cert.Reference9Ideal.Gen.facts) := by
  intro m g m' g' _ hm
  refine ⟨fun c => Cert.ProjWgrad.result m c, ?_, ?_⟩
  · refine (θ_run Cert.Kernel9Ideal.defs _ _).mono (fun r h c => ?_) (Cert.Kernel9Ideal.Value.run_blocks m g)
    exact ⟨(h c).1.trans (Cert.ProjWgrad.final m c), (h c).2⟩
  · refine (θ_run Cert.Reference9Ideal.defs _ _).mono (fun r h c => ?_) (Cert.Reference9Ideal.Value.run m' g')
    refine ⟨(h c).1.trans ?_, (h c).2⟩
    obtain ⟨e0, e1⟩ := hm c
    rw [e0, e1]
    exact Cert.ProjWgrad.reference_eq _ _

end Cert.Proof

end
-- ==== Proof.Products.lean ====
/-
  What the remaining products of the step share, whatever their sizes: where an element of a block lies in its array, which
  indices a block holds, and the weight that is kept in four blocks of columns.
-/
module

public import Idealize.ShloMosaic.Lib.Pointwise
public import Idealize.ShloMosaic.Lib.Pipeline.Value
public import Idealize.ShloMosaic.Lib.Tactic

@[expose] public section

noncomputable section

open Idealize.ShloMosaic

namespace Cert.Prod

theorem hz : (![0, 0] : Fin 2 → Nat) = fun _ => 0 := funext fun a => by fin_cases a <;> rfl
theorem hz3 : (![0, 0, 0] : Fin 3 → Nat) = fun _ => 0 := funext fun a => by fin_cases a <;> rfl

/-- Element `(p, q)` of the block `(x, y)`, the blocks of `A × B` elements. -/
theorem place {M N : ℕ} (A B x y p q : ℕ) (r : Fin M) (l : Fin N) (hr : x * A + p = r.val) (hl : y * B + q = l.val)
    (e : (⟨2, ![M, N]⟩ : Shape).Idx) {i0 i1 : ℕ} (h : i0 = x ∧ i1 = y) (e0 : (e 0).val = i0 * A + 1 * p)
    (e1 : (e 1).val = i1 * B + 1 * q) : e = ix2 r l := by
  obtain ⟨rfl, rfl⟩ := h
  funext a
  apply Fin.ext
  match a with
  | ⟨0, _⟩ => exact e0.trans (show i0 * A + 1 * p = r.val by omega)
  | ⟨1, _⟩ => exact e1.trans (show i1 * B + 1 * q = l.val by omega)

/-- Element `(k, l)` of part `x` of an array of four parts. -/
theorem place_part {K L : ℕ} (x : ℕ) (p : Fin 4) (k : Fin K) (l : Fin L) (hp : x = p.val) (e : (⟨3, ![4, K, L]⟩ : Shape).Idx)
    {i0 i1 i2 : ℕ} (h : i0 = x ∧ i1 = 0 ∧ i2 = 0) (e0 : (e 0).val = i0 * 1 + 1 * 0) (e1 : (e 1).val = i1 * K + 1 * k.val)
    (e2 : (e 2).val = i2 * L + 1 * l.val) : e = ix3 p k l := by
  obtain ⟨rfl, rfl, rfl⟩ := h
  funext a
  apply Fin.ext
  match a with
  | ⟨0, _⟩ => exact e0.trans (show i0 * 1 + 1 * 0 = p.val by omega)
  | ⟨1, _⟩ => exact e1.trans (show 0 * K + 1 * k.val = k.val by omega)
  | ⟨2, _⟩ => exact e2.trans (show 0 * L + 1 * l.val = l.val by omega)

/-- An index lies in the block that its quotients by the block's sizes name. -/
theorem inside (A B x y : ℕ) (hA : 0 < A) (hB : 0 < B) (u v : ℕ) {i0 i1 : ℕ} (h : i0 = x ∧ i1 = y) (hx : x = u / A) (hy : y = v / B) :
    (i0 * A ≤ u ∧ u < i0 * A + A) ∧ (i1 * B ≤ v ∧ v < i1 * B + B) := by
  obtain ⟨rfl, rfl⟩ := h
  subst hx hy
  exact ⟨⟨Nat.div_mul_le_self u A, Nat.lt_div_mul_add hA⟩, ⟨Nat.div_mul_le_self v B, Nat.lt_div_mul_add hB⟩⟩

/-- One part of a weight, its leading axis of one dropped. -/
theorem part_apply {K L : ℕ} (y : Vec Ideal ⟨3, ![1, K, L]⟩ .bf16) (h : (⟨3, ![1, K, L]⟩ : Shape).ShapeCasts ⟨2, ![K, L]⟩)
    (k : Fin K) (l : Fin L) : shapeCast ⟨2, ![K, L]⟩ y h (ix2 k l) = y (ix3 (0 : Fin 1) k l) :=
  (shapeCast_dropUnit_apply ![K, L] y h (ix2 k l)).trans (congrArg y (funext fun a => by fin_cases a <;> rfl))

/-- The joined weight at column `L p + l`. -/
theorem joined_apply {K L N : ℕ} (hN : N = 4 * L) (w : FVec Ideal ⟨3, ![4, K, L]⟩ .f32)
    (ht : (⟨3, ![4, K, L]⟩ : Shape).Transposes [1, 0, 2] ⟨3, ![K, 4, L]⟩)
    (hs : (⟨3, ![K, 4, L]⟩ : Shape).ShapeCasts ⟨2, ![K, N]⟩) (k : Fin K) (p : Fin 4) (l : Fin L) (n : Fin N)
    (hn : n.val = L * p.val + l.val) :
    shapeCast ⟨2, ![K, N]⟩ (transpose ⟨3, ![K, 4, L]⟩ [1, 0, 2] w ht) hs (ix2 k n) = w (ix3 p k l) := by
  rw [shapeCast_apply _ hs (ix2 k n) (ix3 k p l)]
  · exact transpose_apply _ w _ _ _ fun b => by fin_cases b <;> rfl
  · rw [Shape.rowMajor_val_three, Shape.rowMajor_val_two]
    show (k.val * 4 + p.val) * L + l.val = k.val * N + n.val
    rw [hn, hN]
    ring

/-- A sum over the joined columns, part by part. -/
theorem sum_parts {L N : ℕ} (hN : N = 4 * L) (f : Fin N → EReal) :
    ∑ n : Fin N, f n = ∑ p : Fin 4, ∑ l : Fin L, f ⟨L * p.val + l.val, by have hp := p.isLt; have hl := l.isLt; subst hN; nlinarith⟩ := by
  subst hN
  rw [← Finset.sum_product', Finset.univ_product_univ]
  refine (Fintype.sum_equiv (finProdFinEquiv (m := 4) (n := L)) _ _ fun x => congrArg f (Fin.ext ?_)).symm
  show L * x.1.val + x.2.val = x.2.val + L * x.1.val
  omega

/-- Equal factors, equal sums. -/
theorem sum_mul_congr {K : ℕ} {f f' g g' : Fin K → EReal} (hf : ∀ k, f k = f' k) (hg : ∀ k, g k = g' k) :
    ∑ k, f k * g k = ∑ k, f' k * g' k :=
  Finset.sum_congr rfl fun k _ => congrArg₂ (fun u v : EReal => u * v) (hf k) (hg k)

end Cert.Prod

end
-- ==== Proof.OddFwd.lean ====
/-
  The odd layers' projection, `h · w`, in blocks of 1088 rows and 384 columns, the weight kept as four blocks of columns.
-/
module

public import proofs.«01_k».proof.Defs
public import proofs.«01_k».proof.Proof.Gen.Kernel10Ideal.Value
public import proofs.«01_k».proof.Proof.Gen.Reference10Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.OddFwd

open Cert.Kernel10Ideal Cert.Kernel10Ideal.Gen

/-- The part of the weight that holds a column of the joined weight, and the column there. -/
def part (n : Fin 1536) : Fin 4 := ⟨n.val / 384, by omega⟩
def rest (n : Fin 1536) : Fin 384 := ⟨n.val % 384, by omega⟩

def spec (h : Vec Ideal S4352x1024 .bf16) (w : Vec Ideal S4x1024x384 .bf16) : Vec Ideal S4352x1536 .f32 :=
  fun j => ∑ k : Fin 1024, h (ix2 (j 0) k) * w (ix3 (part (j 1)) k (rest (j 1)))

/-- What the body leaves of its two blocks. -/
theorem out_apply (x : Vec Ideal S1088x1024 .bf16) (y : Vec Ideal S1x1024x384 .bf16) (r : Fin 1088) (l : Fin 384) :
    out0_2 x y (ix2 r l) = ∑ k : Fin 1024, (x (ix2 r k) : EReal) * y (ix3 (0 : Fin 1) k l) := by
  unfold out0_2
  rw [View.canon_unit_zero hz]
  simp only [View.ld_unit_zero (S := S1088x1024) hz, View.ld_unit_zero (S := S1x1024x384) hz3]
  refine Eq.trans ?_ (sum_mul_congr (fun _ => rfl) fun k => part_apply y shapeCasts_S1x1024x384_S1024x384 k l)
  unfold k0_pay1
  generalize shapeCast S1024x384 y shapeCasts_S1x1024x384_S1024x384 = z
  pointwise

variable (m : (ℓ : Loc nD τ sig) → Buf (Elt Ideal) ℓ) (c : Dev nD)

theorem index : ∀ t : Fin cfg0.N, (win0_0.index t 0 = t.val / 4 ∧ win0_0.index t 1 = 0)
    ∧ (win0_1.index t 0 = t.val % 4 ∧ win0_1.index t 1 = 0 ∧ win0_1.index t 2 = 0)
    ∧ (win0_2.index t 0 = t.val / 4 ∧ win0_2.index t 1 = t.val % 4) ∧ (cfg0.win 2).flush t = true := by decide +kernel

/-- Where row `r` and column `l` of point `t`'s block are in the whole result. -/
def row (t : Fin cfg0.N) (r : Fin 1088) : Fin 4352 := ⟨t.val / 4 * 1088 + r.val, by have h : cfg0.N = 16 := N_0; omega⟩
def col (t : Fin cfg0.N) (l : Fin 384) : Fin 1536 := ⟨t.val % 4 * 384 + l.val, by omega⟩

abbrev hArr : Vec Ideal S4352x1024 .bf16 := m ((c : Thread nD τ).loc main_arg0)
abbrev wArr : Vec Ideal S4x1024x384 .bf16 := m ((c : Thread nD τ).loc main_arg1)

theorem left (t : Fin cfg0.N) (r : Fin 1088) (k : Fin 1024) :
    (iblk m c 0 t : Vec Ideal S1088x1024 .bf16) (ix2 r k) = hArr m c (ix2 (row t r) k) :=
  congrArg (hArr m c) (place 1088 1024 _ _ r.val k.val (row t r) k rfl (by omega) _ (index t).1 rfl rfl)

theorem right (t : Fin cfg0.N) (k : Fin 1024) (l : Fin 384) :
    (iblk m c 1 t : Vec Ideal S1x1024x384 .bf16) (ix3 (0 : Fin 1) k l) = wArr m c (ix3 (part (col t l)) k (rest (col t l))) := by
  have e : rest (col t l) = l := Fin.ext (by show (t.val % 4 * 384 + l.val) % 384 = l.val; omega)
  rw [e]
  exact congrArg (wArr m c) (place_part _ (part (col t l)) k l (by show t.val % 4 = (t.val % 4 * 384 + l.val) / 384; omega) _
    (index t).2.1 rfl rfl rfl)

abbrev result : Buf (Elt Ideal) ((c : Thread nD τ).loc main_v0) := spec (hArr m c) (wArr m c)

/-- What point `t` writes back is its block of the result. -/
theorem flushed_eq (t : Fin cfg0.N) (_ : (cfg0.win 2).flush t = true) :
    (dats m 0 c).flushed 2 t = ((cfg0.win 2).blk t).view.read (Elt Ideal) (result m c) := by
  rw [Value.flushed2]
  funext j
  rw [View.read_apply]
  show out0_2 (iblk m c 0 t) (iblk m c 1 t) j = _
  obtain ⟨r, l, rfl⟩ : ∃ (r : Fin 1088) (l : Fin 384), j = ix2 r l := ⟨j 0, j 1, eq_ix2 j⟩
  have e : ((cfg0.win 2).blk t).view.emb (ix2 r l) = (ix2 (row t r) (col t l) : S4352x1536.Idx) :=
    place 1088 384 _ _ r.val l.val _ _ rfl rfl _ (index t).2.2.1 rfl rfl
  rw [e, out_apply]
  exact sum_mul_congr (fun k => left m c t r k) fun k => right m c t k l

/-- The sixteen blocks are the whole result. -/
theorem final : (dats m 0 c).arrAt 2 cfg0.N = result m c :=
  (dats m 0 c).arrAt_eq_of_cover 2 (result m c) (flushed_eq m c) fun i => by
    have hi0 : (i 0 : Nat) < 4352 := (i 0).isLt
    have hi1 : (i 1 : Nat) < 1536 := (i 1).isLt
    have hN : cfg0.N = 16 := N_0
    obtain ⟨t, ht⟩ : ∃ t : Fin cfg0.N, t.val = 4 * ((i 0).val / 1088) + (i 1).val / 384 :=
      ⟨⟨4 * ((i 0).val / 1088) + (i 1).val / 384, by omega⟩, rfl⟩
    refine ⟨t, (index t).2.2.2, ?_⟩
    show i ∈ ((View.whole main_v0).slice (win0_2.rect t)).set
    rw [View.set_slice_whole, Rect.mem_set_unit]
    have e := inside 1088 384 _ _ (by decide) (by decide) (i 0).val (i 1).val (index t).2.2.1 (by omega) (by omega)
    intro a
    match a with
    | ⟨0, _⟩ => exact e.1
    | ⟨1, _⟩ => exact e.2

end Cert.OddFwd

namespace Cert.OddFwd

open Cert.Reference10Ideal Cert.Reference10Ideal.Facts₀ Cert.Reference10Ideal.Facts

/-- The reference's product is the same sum. -/
theorem reference_eq (h : FVec Ideal S4352x1024 .bf16) (w : FVec Ideal S4x1024x384 .bf16) :
    Host.dotGeneral dot_S4352x1024_S1024x1536_S4352x1536_1_0_0_1_n_n none (extf .f32 h bitsLt_bf16_f32)
      (shapeCast _ (transpose S1024x4x384 [1, 0, 2] (extf .f32 w bitsLt_bf16_f32) transposes_S4x1024x384_S1024x4x384_1_0_2)
        shapeCasts_S1024x4x384_S1024x1536) = spec h w := by
  funext j
  obtain ⟨r, n, rfl⟩ : ∃ (r : Fin 4352) (n : Fin 1536), j = ix2 r n := ⟨j 0, j 1, eq_ix2 j⟩
  refine Eq.trans ?_ (sum_mul_congr (fun _ => rfl) fun k : Fin 1024 => joined_apply (L := 384) rfl (extf .f32 w bitsLt_bf16_f32)
    transposes_S4x1024x384_S1024x4x384_1_0_2 shapeCasts_S1024x4x384_S1024x1536 k (part n) (rest n) n
    (Nat.div_add_mod n.val 384).symm)
  generalize shapeCast S1024x1536 (transpose S1024x4x384 [1, 0, 2] (extf .f32 w bitsLt_bf16_f32) transposes_S4x1024x384_S1024x4x384_1_0_2)
    shapeCasts_S1024x4x384_S1024x1536 = z
  pointwise

end Cert.OddFwd

namespace Cert.Proof

/-- The value claim of the odd layers' projection. -/
theorem algebraic_oddFwd : Cert.algebraic_Kernel10Ideal_Reference10Ideal (hKernel10Ideal := Cert.Kernel10Ideal.Gen.facts)
    (hReference10Ideal := Cert.Reference10Ideal.Gen.facts) := by
  intro m g m' g' _ hm
  refine ⟨fun c => Cert.OddFwd.result m c, ?_, ?_⟩
  · refine (θ_run Cert.Kernel10Ideal.defs _ _).mono (fun r h c => ?_) (Cert.Kernel10Ideal.Value.run_blocks m g)
    exact ⟨(h c).1.trans (Cert.OddFwd.final m c), (h c).2⟩
  · refine (θ_run Cert.Reference10Ideal.defs _ _).mono (fun r h c => ?_) (Cert.Reference10Ideal.Value.run m' g')
    refine ⟨(h c).1.trans ?_, (h c).2⟩
    obtain ⟨e0, e1⟩ := hm c
    rw [e0, e1]
    exact Cert.OddFwd.reference_eq _ _

end Cert.Proof

end
-- ==== Proof.OddBwd.lean ====
/-
  The gradient the odd layers' projection hands back, `d · wᵀ`, in blocks of 1088 rows: a sum of four products, one for each
  block of 384 columns with its part of the weight.
-/
module

public import proofs.«01_k».proof.Defs
public import proofs.«01_k».proof.Proof.Gen.Kernel11Ideal.Value
public import proofs.«01_k».proof.Proof.Gen.Reference11Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.OddBwd

open Cert.Kernel11Ideal Cert.Kernel11Ideal.Gen

/-- The column of the whole array that column `l` of block column `p` is. -/
def col (p : Fin 4) (l : Fin 384) : Fin 1536 := ⟨384 * p.val + l.val, by omega⟩

def spec (d : Vec Ideal S4352x1536 .bf16) (w : Vec Ideal S4x1024x384 .bf16) : Vec Ideal S4352x1024 .bf16 :=
  fun j => ∑ p : Fin 4, ∑ l : Fin 384, d (ix2 (j 0) (col p l)) * w (ix3 p (j 1) l)

/-- The product of one block of columns with the part of the weight that it met. -/
def term (x : Vec Ideal S1088x384 .bf16) (y : Vec Ideal S1x1024x384 .bf16) (r : Fin 1088) (k : Fin 1024) : EReal :=
  ∑ l : Fin 384, x (ix2 r l) * y (ix3 (0 : Fin 1) k l)

theorem term_apply (x : Vec Ideal S1088x384 .bf16) (y : Vec Ideal S1x1024x384 .bf16) (r : Fin 1088) (k : Fin 1024) :
    matmul (F := Ideal) (φ₁ := .bf16) (φ₂ := .bf16) dot_S1088x384_S1024x384_S1088x1024_1_1_0_0_n_n none (x : FVec Ideal S1088x384 .bf16)
      (shapeCast S1024x384 y shapeCasts_S1x1024x384_S1024x384 : FVec Ideal S1024x384 .bf16)
      (constant S1088x1024 .f32 0x00000000#32) (ix2 r k) = term x y r k := by
  refine Eq.trans ?_ (sum_mul_congr (fun _ => rfl) fun l => part_apply y shapeCasts_S1x1024x384_S1024x384 k l)
  generalize (shapeCast S1024x384 y shapeCasts_S1x1024x384_S1024x384 : FVec Ideal S1024x384 .bf16) = z
  pointwise

/-- What the body leaves of its eight blocks. -/
theorem out_apply (x0 : Vec Ideal S1088x384 .bf16) (y0 : Vec Ideal S1x1024x384 .bf16) (x1 : Vec Ideal S1088x384 .bf16)
    (y1 : Vec Ideal S1x1024x384 .bf16) (x2 : Vec Ideal S1088x384 .bf16) (y2 : Vec Ideal S1x1024x384 .bf16)
    (x3 : Vec Ideal S1088x384 .bf16) (y3 : Vec Ideal S1x1024x384 .bf16) (r : Fin 1088) (k : Fin 1024) :
    out0_8 x0 y0 x1 y1 x2 y2 x3 y3 (ix2 r k) = term x0 y0 r k + term x1 y1 r k + term x2 y2 r k + term x3 y3 r k := by
  unfold out0_8
  rw [View.canon_unit_zero hz]
  simp only [View.ld_unit_zero (S := S1088x384) hz, View.ld_unit_zero (S := S1x1024x384) hz3]
  rw [← term_apply x0 y0, ← term_apply x1 y1, ← term_apply x2 y2, ← term_apply x3 y3]
  rfl

variable (m : (ℓ : Loc nD τ sig) → Buf (Elt Ideal) ℓ) (c : Dev nD)

/-- Block column `p` of the incoming gradient is window `2 p`, part `p` of the weight is window `2 p + 1`. -/
theorem index : ∀ t : Fin cfg0.N,
    (win0_0.index t 0 = t.val ∧ win0_0.index t 1 = 0) ∧ (win0_1.index t 0 = 0 ∧ win0_1.index t 1 = 0 ∧ win0_1.index t 2 = 0)
    ∧ (win0_2.index t 0 = t.val ∧ win0_2.index t 1 = 1) ∧ (win0_3.index t 0 = 1 ∧ win0_3.index t 1 = 0 ∧ win0_3.index t 2 = 0)
    ∧ (win0_4.index t 0 = t.val ∧ win0_4.index t 1 = 2) ∧ (win0_5.index t 0 = 2 ∧ win0_5.index t 1 = 0 ∧ win0_5.index t 2 = 0)
    ∧ (win0_6.index t 0 = t.val ∧ win0_6.index t 1 = 3) ∧ (win0_7.index t 0 = 3 ∧ win0_7.index t 1 = 0 ∧ win0_7.index t 2 = 0)
    ∧ (win0_8.index t 0 = t.val ∧ win0_8.index t 1 = 0) ∧ (cfg0.win 8).flush t = true := by decide +kernel

/-- The row of the whole array that row `r` of point `t`'s block is. -/
def row (t : Fin cfg0.N) (r : Fin 1088) : Fin 4352 := ⟨t.val * 1088 + r.val, by have h : cfg0.N = 4 := N_0; omega⟩

abbrev dArr : Vec Ideal S4352x1536 .bf16 := m ((c : Thread nD τ).loc main_arg0)
abbrev wArr : Vec Ideal S4x1024x384 .bf16 := m ((c : Thread nD τ).loc main_arg1)

/-- A block that lies at block column `p` of the gradient. -/
theorem left (t : Fin cfg0.N) (p : Fin 4) (r : Fin 1088) (l : Fin 384) (e : S4352x1536.Idx) {i0 i1 : ℕ} (h : i0 = t.val ∧ i1 = p.val)
    (e0 : (e 0).val = i0 * 1088 + 1 * r.val) (e1 : (e 1).val = i1 * 384 + 1 * l.val) : dArr m c e = dArr m c (ix2 (row t r) (col p l)) :=
  congrArg (dArr m c) (place 1088 384 _ _ r.val l.val _ _ rfl (by show p.val * 384 + l.val = 384 * p.val + l.val; omega) e h e0 e1)

/-- Part `p` of a row of the result. -/
def piece (t : Fin cfg0.N) (p : Fin 4) (r : Fin 1088) (k : Fin 1024) : EReal :=
  ∑ l : Fin 384, dArr m c (ix2 (row t r) (col p l)) * wArr m c (ix3 p k l)

/-- The four terms of a point. -/
theorem term_eq (t : Fin cfg0.N) (p : Fin 4) (x : Vec Ideal S1088x384 .bf16) (y : Vec Ideal S1x1024x384 .bf16) (r : Fin 1088) (k : Fin 1024)
    (hx : ∀ l, x (ix2 r l) = dArr m c (ix2 (row t r) (col p l))) (hy : ∀ l, y (ix3 (0 : Fin 1) k l) = wArr m c (ix3 p k l)) :
    term x y r k = piece m c t p r k :=
  sum_mul_congr hx hy

theorem term0 (t : Fin cfg0.N) (r : Fin 1088) (k : Fin 1024) : term (iblk m c 0 t) (iblk m c 1 t) r k = piece m c t 0 r k :=
  term_eq m c t 0 _ _ r k (fun l => left m c t 0 r l _ (index t).1 rfl rfl)
    fun l => congrArg (wArr m c) (place_part 0 0 k l rfl _ (index t).2.1 rfl rfl rfl)
theorem term1 (t : Fin cfg0.N) (r : Fin 1088) (k : Fin 1024) : term (iblk m c 2 t) (iblk m c 3 t) r k = piece m c t 1 r k :=
  term_eq m c t 1 _ _ r k (fun l => left m c t 1 r l _ (index t).2.2.1 rfl rfl)
    fun l => congrArg (wArr m c) (place_part 1 1 k l rfl _ (index t).2.2.2.1 rfl rfl rfl)
theorem term2 (t : Fin cfg0.N) (r : Fin 1088) (k : Fin 1024) : term (iblk m c 4 t) (iblk m c 5 t) r k = piece m c t 2 r k :=
  term_eq m c t 2 _ _ r k (fun l => left m c t 2 r l _ (index t).2.2.2.2.1 rfl rfl)
    fun l => congrArg (wArr m c) (place_part 2 2 k l rfl _ (index t).2.2.2.2.2.1 rfl rfl rfl)
theorem term3 (t : Fin cfg0.N) (r : Fin 1088) (k : Fin 1024) : term (iblk m c 6 t) (iblk m c 7 t) r k = piece m c t 3 r k :=
  term_eq m c t 3 _ _ r k (fun l => left m c t 3 r l _ (index t).2.2.2.2.2.2.1 rfl rfl)
    fun l => congrArg (wArr m c) (place_part 3 3 k l rfl _ (index t).2.2.2.2.2.2.2.1 rfl rfl rfl)

theorem index_out (t : Fin cfg0.N) : (win0_8.index t 0 = t.val ∧ win0_8.index t 1 = 0) ∧ (cfg0.win 8).flush t = true :=
  (index t).2.2.2.2.2.2.2.2

abbrev result : Buf (Elt Ideal) ((c : Thread nD τ).loc main_v0) := spec (dArr m c) (wArr m c)

/-- What point `t` writes back is its block of the result. -/
theorem flushed_eq (t : Fin cfg0.N) (_ : (cfg0.win 8).flush t = true) :
    (dats m 0 c).flushed 8 t = ((cfg0.win 8).blk t).view.read (Elt Ideal) (result m c) := by
  rw [Value.flushed8]
  funext j
  rw [View.read_apply]
  show out0_8 (iblk m c 0 t) (iblk m c 1 t) (iblk m c 2 t) (iblk m c 3 t) (iblk m c 4 t) (iblk m c 5 t) (iblk m c 6 t) (iblk m c 7 t) j = _
  obtain ⟨r, k, rfl⟩ : ∃ (r : Fin 1088) (k : Fin 1024), j = ix2 r k := ⟨j 0, j 1, eq_ix2 j⟩
  have e : ((cfg0.win 8).blk t).view.emb (ix2 r k) = (ix2 (row t r) k : S4352x1024.Idx) :=
    place 1088 1024 _ _ r.val k.val _ _ rfl (by omega) _ (index_out t).1 rfl rfl
  rw [e, out_apply, term0, term1, term2, term3]
  refine Eq.trans ?_ (show spec (dArr m c) (wArr m c) (ix2 (row t r) k) = _ from rfl)
  unfold spec
  rw [Fin.sum_univ_four]
  rfl

/-- The four blocks are the whole result. -/
theorem final : (dats m 0 c).arrAt 8 cfg0.N = result m c :=
  (dats m 0 c).arrAt_eq_of_cover 8 (result m c) (flushed_eq m c) fun i => by
    have hi0 : (i 0 : Nat) < 4352 := (i 0).isLt
    have hi1 : (i 1 : Nat) < 1024 := (i 1).isLt
    have hN : cfg0.N = 4 := N_0
    obtain ⟨t, ht⟩ : ∃ t : Fin cfg0.N, t.val = (i 0).val / 1088 := ⟨⟨(i 0).val / 1088, by omega⟩, rfl⟩
    refine ⟨t, (index_out t).2, ?_⟩
    show i ∈ ((View.whole main_v0).slice (win0_8.rect t)).set
    rw [View.set_slice_whole, Rect.mem_set_unit]
    have e := inside 1088 1024 _ _ (by decide) (by decide) (i 0).val (i 1).val (index_out t).1 ht (by omega)
    intro a
    match a with
    | ⟨0, _⟩ => exact e.1
    | ⟨1, _⟩ => exact e.2

end Cert.OddBwd

namespace Cert.OddBwd

open Cert.Reference11Ideal Cert.Reference11Ideal.Facts₀ Cert.Reference11Ideal.Facts

/-- The reference's gradient is the same sum. -/
theorem reference_eq (d : FVec Ideal S4352x1536 .bf16) (w : FVec Ideal S4x1024x384 .bf16) :
    truncf .bf16 (Host.dotGeneral dot_S4352x1536_S1024x1536_S4352x1024_1_1_0_0_n_n none (extf .f32 d bitsLt_bf16_f32)
      (shapeCast _ (transpose S1024x4x384 [1, 0, 2] (extf .f32 w bitsLt_bf16_f32) transposes_S4x1024x384_S1024x4x384_1_0_2)
        shapeCasts_S1024x4x384_S1024x1536)) bitsLt_bf16_f32 = spec d w := by
  funext j
  obtain ⟨r, q, rfl⟩ : ∃ (r : Fin 4352) (q : Fin 1024), j = ix2 r q := ⟨j 0, j 1, eq_ix2 j⟩
  have e := fun (p : Fin 4) (l : Fin 384) => joined_apply (L := 384) rfl (extf .f32 w bitsLt_bf16_f32)
    transposes_S4x1024x384_S1024x4x384_1_0_2 shapeCasts_S1024x4x384_S1024x1536 q p l (col p l) rfl
  refine Eq.trans ?_ (Finset.sum_congr rfl fun p _ => sum_mul_congr (fun l => rfl) fun l => e p l)
  generalize shapeCast S1024x1536 (transpose S1024x4x384 [1, 0, 2] (extf .f32 w bitsLt_bf16_f32) transposes_S4x1024x384_S1024x4x384_1_0_2)
    shapeCasts_S1024x4x384_S1024x1536 = z
  refine Eq.trans ?_ (sum_parts (L := 384) rfl fun n : Fin 1536 => (d (ix2 r n) : EReal) * z (ix2 q n))
  show Host.dotGeneral dot_S4352x1536_S1024x1536_S4352x1024_1_1_0_0_n_n none (extf .f32 d bitsLt_bf16_f32) z (ix2 r q) = _
  pointwise

end Cert.OddBwd

namespace Cert.Proof

/-- The value claim of the gradient the odd layers' projection hands back. -/
theorem algebraic_oddBwd : Cert.algebraic_Kernel11Ideal_Reference11Ideal (hKernel11Ideal := Cert.Kernel11Ideal.Gen.facts)
    (hReference11Ideal := Cert.Reference11Ideal.Gen.facts) := by
  intro m g m' g' _ hm
  refine ⟨fun c => Cert.OddBwd.result m c, ?_, ?_⟩
  · refine (θ_run Cert.Kernel11Ideal.defs _ _).mono (fun r h c => ?_) (Cert.Kernel11Ideal.Value.run_blocks m g)
    exact ⟨(h c).1.trans (Cert.OddBwd.final m c), (h c).2⟩
  · refine (θ_run Cert.Reference11Ideal.defs _ _).mono (fun r h c => ?_) (Cert.Reference11Ideal.Value.run m' g')
    refine ⟨(h c).1.trans ?_, (h c).2⟩
    obtain ⟨e0, e1⟩ := hm c
    rw [e0, e1]
    exact Cert.OddBwd.reference_eq _ _

end Cert.Proof

end
-- ==== Proof.OddWgrad.lean ====
/-
  The gradient of the odd layers' projection's weight, `hᵀ · d`, one part of 384 columns for each grid point.
-/
module

public import proofs.«01_k».proof.Defs
public import proofs.«01_k».proof.Proof.Gen.Kernel12Ideal.Value
public import proofs.«01_k».proof.Proof.Gen.Reference12Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.OddWgrad

open Cert.Kernel12Ideal Cert.Kernel12Ideal.Gen

/-- The column of the joined weight that column `l` of part `p` is. -/
def col (p : Fin 4) (l : Fin 384) : Fin 1536 := ⟨p.val * 384 + l.val, by omega⟩

def spec (h : Vec Ideal S4352x1024 .bf16) (d : Vec Ideal S4352x1536 .bf16) : Vec Ideal S4x1024x384 .f32 :=
  fun j => ∑ k : Fin 4352, h (ix2 k (j 1)) * d (ix2 k (col (j 0) (j 2)))

/-- What the body leaves of its two blocks. -/
theorem out_apply (x : Vec Ideal S4352x1024 .bf16) (y : Vec Ideal S4352x384 .bf16) (q : Fin 1024) (l : Fin 384) :
    out0_2 x y (ix3 (0 : Fin 1) q l) = ∑ k : Fin 4352, (x (ix2 k q) : EReal) * y (ix2 k l) := by
  unfold out0_2
  rw [View.canon_unit_zero hz3]
  simp only [View.ld_unit_zero (S := S4352x1024) hz, View.ld_unit_zero (S := S4352x384) hz]
  unfold k0_pay1
  refine (shapeCast_addUnit_apply ![1024, 384] _ _ (ix3 (0 : Fin 1) q l)).trans ?_
  rw [show (fun a : Fin 2 => (ix3 (0 : Fin 1) q l : S1x1024x384.Idx) a.succ) = (ix2 q l : S1024x384.Idx) from
    funext fun a => by fin_cases a <;> rfl]
  pointwise

variable (m : (ℓ : Loc nD τ sig) → Buf (Elt Ideal) ℓ) (c : Dev nD)

theorem index : ∀ t : Fin cfg0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) ∧ (cfg0.win 2).flush t = true := by decide +kernel

/-- The part of the result point `t` makes. -/
def part (t : Fin cfg0.N) : Fin 4 := ⟨t.val, by have h : cfg0.N = 4 := N_0; omega⟩

abbrev hArr : Vec Ideal S4352x1024 .bf16 := m ((c : Thread nD τ).loc main_arg0)
abbrev dArr : Vec Ideal S4352x1536 .bf16 := m ((c : Thread nD τ).loc main_arg1)

theorem left (t : Fin cfg0.N) (k : Fin 4352) (q : Fin 1024) :
    (iblk m c 0 t : Vec Ideal S4352x1024 .bf16) (ix2 k q) = hArr m c (ix2 k q) :=
  congrArg (hArr m c) (place 4352 1024 _ _ k.val q.val k q (by omega) (by omega) _ (index t).1 rfl rfl)

theorem right (t : Fin cfg0.N) (k : Fin 4352) (l : Fin 384) :
    (iblk m c 1 t : Vec Ideal S4352x384 .bf16) (ix2 k l) = dArr m c (ix2 k (col (part t) l)) :=
  congrArg (dArr m c) (place 4352 384 _ _ k.val l.val k (col (part t) l) (by omega) rfl _ (index t).2.1 rfl rfl)

abbrev result : Buf (Elt Ideal) ((c : Thread nD τ).loc main_v0) := spec (hArr m c) (dArr m c)

/-- What point `t` writes back is its block of the result. -/
theorem flushed_eq (t : Fin cfg0.N) (_ : (cfg0.win 2).flush t = true) :
    (dats m 0 c).flushed 2 t = ((cfg0.win 2).blk t).view.read (Elt Ideal) (result m c) := by
  rw [Value.flushed2]
  funext j
  rw [View.read_apply]
  show out0_2 (iblk m c 0 t) (iblk m c 1 t) j = _
  obtain ⟨z, q, l, rfl⟩ : ∃ (z : Fin 1) (q : Fin 1024) (l : Fin 384), j = ix3 z q l := ⟨j 0, j 1, j 2, eq_ix3 j⟩
  obtain rfl : z = 0 := Subsingleton.elim _ _
  have e : ((cfg0.win 2).blk t).view.emb (ix3 (0 : Fin 1) q l) = (ix3 (part t) q l : S4x1024x384.Idx) :=
    place_part _ (part t) q l rfl _ (index t).2.2.1 rfl rfl rfl
  rw [e, out_apply]
  exact sum_mul_congr (fun k => left m c t k q) fun k => right m c t k l

/-- The four blocks are the whole result. -/
theorem final : (dats m 0 c).arrAt 2 cfg0.N = result m c :=
  (dats m 0 c).arrAt_eq_of_cover 2 (result m c) (flushed_eq m c) fun i => by
    have hi0 : (i 0 : Nat) < 4 := (i 0).isLt
    have hi1 : (i 1 : Nat) < 1024 := (i 1).isLt
    have hi2 : (i 2 : Nat) < 384 := (i 2).isLt
    have hN : cfg0.N = 4 := N_0
    obtain ⟨t, ht⟩ : ∃ t : Fin cfg0.N, t.val = (i 0).val := ⟨⟨(i 0).val, by omega⟩, rfl⟩
    obtain ⟨h0, h1, h2⟩ := (index t).2.2.1
    refine ⟨t, (index t).2.2.2, ?_⟩
    show i ∈ ((View.whole main_v0).slice (win0_2.rect t)).set
    rw [View.set_slice_whole, Rect.mem_set_unit]
    have e := inside 1024 384 0 0 (by decide) (by decide) (i 1).val (i 2).val ⟨h1, h2⟩ (by omega) (by omega)
    intro a
    match a with
    | ⟨0, _⟩ => show win0_2.index t 0 * 1 ≤ (i 0 : Nat) ∧ (i 0 : Nat) < win0_2.index t 0 * 1 + 1; omega
    | ⟨1, _⟩ => exact e.1
    | ⟨2, _⟩ => exact e.2

end Cert.OddWgrad

namespace Cert.OddWgrad

open Cert.Reference12Ideal Cert.Reference12Ideal.Facts₀ Cert.Reference12Ideal.Facts

/-- The reference's gradient is the same sum. -/
theorem reference_eq (h : FVec Ideal S4352x1024 .bf16) (d : FVec Ideal S4352x1536 .bf16) :
    transpose S4x1024x384 [1, 0, 2] (shapeCast S1024x4x384 (transpose S1024x1536 [1, 0]
      (Host.dotGeneral dot_S4352x1536_S4352x1024_S1536x1024_0_0_1_1_n_n none (extf .f32 d bitsLt_bf16_f32)
        (extf .f32 h bitsLt_bf16_f32)) transposes_S1536x1024_S1024x1536_1_0) shapeCasts_S1024x1536_S1024x4x384)
      transposes_S1024x4x384_S4x1024x384_1_0_2 = spec h d := by
  funext j
  obtain ⟨p, q, l, rfl⟩ : ∃ (p : Fin 4) (q : Fin 1024) (l : Fin 384), j = ix3 p q l := ⟨j 0, j 1, j 2, eq_ix3 j⟩
  rw [transpose_apply _ _ _ (ix3 p q l) (ix3 q p l) (fun b => by fin_cases b <;> rfl),
    shapeCast_apply _ _ (ix3 q p l) (ix2 q (col p l)) (by
      rw [Shape.rowMajor_val_three, Shape.rowMajor_val_two]
      show q.val * 1536 + (p.val * 384 + l.val) = (q.val * 4 + p.val) * 384 + l.val
      omega),
    transpose_apply _ _ _ (ix2 q (col p l)) (ix2 (col p l) q) (fun b => by fin_cases b <;> rfl)]
  refine Eq.trans ?_ (Finset.sum_congr rfl fun k _ => mul_comm (d (ix2 k (col p l)) : EReal) (h (ix2 k q)))
  pointwise

end Cert.OddWgrad

namespace Cert.Proof

/-- The value claim of the odd layers' projection's weight gradient. -/
theorem algebraic_oddWgrad : Cert.algebraic_Kernel12Ideal_Reference12Ideal (hKernel12Ideal := Cert.Kernel12Ideal.Gen.facts)
    (hReference12Ideal := Cert.Reference12Ideal.Gen.facts) := by
  intro m g m' g' _ hm
  refine ⟨fun c => Cert.OddWgrad.result m c, ?_, ?_⟩
  · refine (θ_run Cert.Kernel12Ideal.defs _ _).mono (fun r h c => ?_) (Cert.Kernel12Ideal.Value.run_blocks m g)
    exact ⟨(h c).1.trans (Cert.OddWgrad.final m c), (h c).2⟩
  · refine (θ_run Cert.Reference12Ideal.defs _ _).mono (fun r h c => ?_) (Cert.Reference12Ideal.Value.run m' g')
    refine ⟨(h c).1.trans ?_, (h c).2⟩
    obtain ⟨e0, e1⟩ := hm c
    rw [e0, e1]
    exact Cert.OddWgrad.reference_eq _ _

end Cert.Proof

end
-- ==== Proof.MixOut.lean ====
/-
  The product after a mixer, `mix · w` with a square weight, in blocks of 1088 rows.
-/
module

public import proofs.«01_k».proof.Defs
public import proofs.«01_k».proof.Proof.Gen.Kernel13Ideal.Value
public import proofs.«01_k».proof.Proof.Gen.Reference13Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.MixOut

open Cert.Kernel13Ideal Cert.Kernel13Ideal.Gen

def spec (a : Vec Ideal S4352x1024 .bf16) (w : Vec Ideal S1024x1024 .bf16) : Vec Ideal S4352x1024 .f32 :=
  fun j => ∑ k : Fin 1024, a (ix2 (j 0) k) * w (ix2 k (j 1))

/-- What the body leaves of its two blocks. -/
theorem out_apply (x : Vec Ideal S1088x1024 .bf16) (y : Vec Ideal S1024x1024 .bf16) (r : Fin 1088) (l : Fin 1024) :
    out0_2 x y (ix2 r l) = ∑ k : Fin 1024, (x (ix2 r k) : EReal) * y (ix2 k l) := by
  unfold out0_2
  rw [View.canon_unit_zero hz]
  simp only [View.ld_unit_zero (S := S1088x1024) hz, View.ld_unit_zero (S := S1024x1024) hz]
  unfold k0_pay1
  pointwise

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (cfg0.win 2).flush t = true := by decide +kernel

/-- The row of the whole array that row `r` of point `t`'s block is. -/
def row (t : Fin cfg0.N) (r : Fin 1088) : Fin 4352 := ⟨t.val * 1088 + r.val, by have h : cfg0.N = 4 := N_0; omega⟩

abbrev aArr : Vec Ideal S4352x1024 .bf16 := m ((c : Thread nD τ).loc main_arg0)
abbrev wArr : Vec Ideal S1024x1024 .bf16 := m ((c : Thread nD τ).loc main_arg1)

theorem left (t : Fin cfg0.N) (r : Fin 1088) (k : Fin 1024) :
    (iblk m c 0 t : Vec Ideal S1088x1024 .bf16) (ix2 r k) = aArr m c (ix2 (row t r) k) :=
  congrArg (aArr m c) (place 1088 1024 _ _ r.val k.val (row t r) k rfl (by omega) _ (index t).1 rfl rfl)

theorem right (t : Fin cfg0.N) (k l : Fin 1024) : (iblk m c 1 t : Vec Ideal S1024x1024 .bf16) (ix2 k l) = wArr m c (ix2 k l) :=
  congrArg (wArr m c) (place 1024 1024 _ _ k.val l.val k l (by omega) (by omega) _ (index t).2.1 rfl rfl)

abbrev result : Buf (Elt Ideal) ((c : Thread nD τ).loc main_v0) := spec (aArr m c) (wArr m c)

/-- What point `t` writes back is its block of the result. -/
theorem flushed_eq (t : Fin cfg0.N) (_ : (cfg0.win 2).flush t = true) :
    (dats m 0 c).flushed 2 t = ((cfg0.win 2).blk t).view.read (Elt Ideal) (result m c) := by
  rw [Value.flushed2]
  funext j
  rw [View.read_apply]
  show out0_2 (iblk m c 0 t) (iblk m c 1 t) j = _
  obtain ⟨r, l, rfl⟩ : ∃ (r : Fin 1088) (l : Fin 1024), j = ix2 r l := ⟨j 0, j 1, eq_ix2 j⟩
  have e : ((cfg0.win 2).blk t).view.emb (ix2 r l) = (ix2 (row t r) l : S4352x1024.Idx) :=
    place 1088 1024 _ _ r.val l.val _ _ rfl (by omega) _ (index t).2.2.1 rfl rfl
  rw [e, out_apply]
  exact sum_mul_congr (fun k => left m c t r k) fun k => right m c t k l

/-- The four blocks are the whole result. -/
theorem final : (dats m 0 c).arrAt 2 cfg0.N = result m c :=
  (dats m 0 c).arrAt_eq_of_cover 2 (result m c) (flushed_eq m c) fun i => by
    have hi0 : (i 0 : Nat) < 4352 := (i 0).isLt
    have hi1 : (i 1 : Nat) < 1024 := (i 1).isLt
    have hN : cfg0.N = 4 := N_0
    obtain ⟨t, ht⟩ : ∃ t : Fin cfg0.N, t.val = (i 0).val / 1088 := ⟨⟨(i 0).val / 1088, by omega⟩, rfl⟩
    refine ⟨t, (index t).2.2.2, ?_⟩
    show i ∈ ((View.whole main_v0).slice (win0_2.rect t)).set
    rw [View.set_slice_whole, Rect.mem_set_unit]
    have e := inside 1088 1024 _ _ (by decide) (by decide) (i 0).val (i 1).val (index t).2.2.1 ht (by omega)
    intro a
    match a with
    | ⟨0, _⟩ => exact e.1
    | ⟨1, _⟩ => exact e.2

end Cert.MixOut

namespace Cert.MixOut

open Cert.Reference13Ideal Cert.Reference13Ideal.Facts₀ Cert.Reference13Ideal.Facts

/-- The reference's product is the same sum. -/
theorem reference_eq (a : FVec Ideal S4352x1024 .bf16) (w : FVec Ideal S1024x1024 .bf16) :
    Host.dotGeneral dot_S4352x1024_S1024x1024_S4352x1024_1_0_0_1_n_n none (extf .f32 a bitsLt_bf16_f32)
      (extf .f32 w bitsLt_bf16_f32) = spec a w := by
  funext j
  obtain ⟨r, l, rfl⟩ : ∃ (r : Fin 4352) (l : Fin 1024), j = ix2 r l := ⟨j 0, j 1, eq_ix2 j⟩
  pointwise [spec]

end Cert.MixOut

namespace Cert.Proof

/-- The value claim of the product after a mixer. -/
theorem algebraic_mixOut : Cert.algebraic_Kernel13Ideal_Reference13Ideal (hKernel13Ideal := Cert.Kernel13Ideal.Gen.facts)
    (hReference13Ideal := Cert.Reference13Ideal.Gen.facts) := by
  intro m g m' g' _ hm
  refine ⟨fun c => Cert.MixOut.result m c, ?_, ?_⟩
  · refine (θ_run Cert.Kernel13Ideal.defs _ _).mono (fun r h c => ?_) (Cert.Kernel13Ideal.Value.run_blocks m g)
    exact ⟨(h c).1.trans (Cert.MixOut.final m c), (h c).2⟩
  · refine (θ_run Cert.Reference13Ideal.defs _ _).mono (fun r h c => ?_) (Cert.Reference13Ideal.Value.run m' g')
    refine ⟨(h c).1.trans ?_, (h c).2⟩
    obtain ⟨e0, e1⟩ := hm c
    rw [e0, e1]
    exact Cert.MixOut.reference_eq _ _

end Cert.Proof

end
-- ==== Proof.MixOutBwd.lean ====
/-
  The gradient the product after a mixer hands back, `dy · wᵀ`, in blocks of 1088 rows.
-/
module

public import proofs.«01_k».proof.Defs
public import proofs.«01_k».proof.Proof.Gen.Kernel14Ideal.Value
public import proofs.«01_k».proof.Proof.Gen.Reference14Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.MixOutBwd

open Cert.Kernel14Ideal Cert.Kernel14Ideal.Gen

def spec (d : Vec Ideal S4352x1024 .bf16) (w : Vec Ideal S1024x1024 .bf16) : Vec Ideal S4352x1024 .f32 :=
  fun j => ∑ k : Fin 1024, d (ix2 (j 0) k) * w (ix2 (j 1) k)

/-- What the body leaves of its two blocks: both are read along their second axis. -/
theorem out_apply (x : Vec Ideal S1088x1024 .bf16) (y : Vec Ideal S1024x1024 .bf16) (r : Fin 1088) (l : Fin 1024) :
    out0_2 x y (ix2 r l) = ∑ k : Fin 1024, (x (ix2 r k) : EReal) * y (ix2 l k) := by
  unfold out0_2
  rw [View.canon_unit_zero hz]
  simp only [View.ld_unit_zero (S := S1088x1024) hz, View.ld_unit_zero (S := S1024x1024) hz]
  unfold k0_pay1
  pointwise

variable (m : (ℓ : Loc nD τ sig) → Buf (Elt Ideal) ℓ) (c : Dev nD)

theorem index : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (cfg0.win 2).flush t = true := by decide +kernel

/-- The row of the whole array that row `r` of point `t`'s block is. -/
def row (t : Fin cfg0.N) (r : Fin 1088) : Fin 4352 := ⟨t.val * 1088 + r.val, by have h : cfg0.N = 4 := N_0; omega⟩

abbrev dArr : Vec Ideal S4352x1024 .bf16 := m ((c : Thread nD τ).loc main_arg0)
abbrev wArr : Vec Ideal S1024x1024 .bf16 := m ((c : Thread nD τ).loc main_arg1)

theorem left (t : Fin cfg0.N) (r : Fin 1088) (k : Fin 1024) :
    (iblk m c 0 t : Vec Ideal S1088x1024 .bf16) (ix2 r k) = dArr m c (ix2 (row t r) k) :=
  congrArg (dArr m c) (place 1088 1024 _ _ r.val k.val (row t r) k rfl (by omega) _ (index t).1 rfl rfl)

theorem right (t : Fin cfg0.N) (l k : Fin 1024) : (iblk m c 1 t : Vec Ideal S1024x1024 .bf16) (ix2 l k) = wArr m c (ix2 l k) :=
  congrArg (wArr m c) (place 1024 1024 _ _ l.val k.val l k (by omega) (by omega) _ (index t).2.1 rfl rfl)

abbrev result : Buf (Elt Ideal) ((c : Thread nD τ).loc main_v0) := spec (dArr m c) (wArr m c)

/-- What point `t` writes back is its block of the result. -/
theorem flushed_eq (t : Fin cfg0.N) (_ : (cfg0.win 2).flush t = true) :
    (dats m 0 c).flushed 2 t = ((cfg0.win 2).blk t).view.read (Elt Ideal) (result m c) := by
  rw [Value.flushed2]
  funext j
  rw [View.read_apply]
  show out0_2 (iblk m c 0 t) (iblk m c 1 t) j = _
  obtain ⟨r, l, rfl⟩ : ∃ (r : Fin 1088) (l : Fin 1024), j = ix2 r l := ⟨j 0, j 1, eq_ix2 j⟩
  have e : ((cfg0.win 2).blk t).view.emb (ix2 r l) = (ix2 (row t r) l : S4352x1024.Idx) :=
    place 1088 1024 _ _ r.val l.val _ _ rfl (by omega) _ (index t).2.2.1 rfl rfl
  rw [e, out_apply]
  exact sum_mul_congr (fun k => left m c t r k) fun k => right m c t l k

/-- The four blocks are the whole result. -/
theorem final : (dats m 0 c).arrAt 2 cfg0.N = result m c :=
  (dats m 0 c).arrAt_eq_of_cover 2 (result m c) (flushed_eq m c) fun i => by
    have hi0 : (i 0 : Nat) < 4352 := (i 0).isLt
    have hi1 : (i 1 : Nat) < 1024 := (i 1).isLt
    have hN : cfg0.N = 4 := N_0
    obtain ⟨t, ht⟩ : ∃ t : Fin cfg0.N, t.val = (i 0).val / 1088 := ⟨⟨(i 0).val / 1088, by omega⟩, rfl⟩
    refine ⟨t, (index t).2.2.2, ?_⟩
    show i ∈ ((View.whole main_v0).slice (win0_2.rect t)).set
    rw [View.set_slice_whole, Rect.mem_set_unit]
    have e := inside 1088 1024 _ _ (by decide) (by decide) (i 0).val (i 1).val (index t).2.2.1 ht (by omega)
    intro a
    match a with
    | ⟨0, _⟩ => exact e.1
    | ⟨1, _⟩ => exact e.2

end Cert.MixOutBwd

namespace Cert.MixOutBwd

open Cert.Reference14Ideal Cert.Reference14Ideal.Facts₀ Cert.Reference14Ideal.Facts

/-- The reference's gradient is the same sum. -/
theorem reference_eq (d : FVec Ideal S4352x1024 .bf16) (w : FVec Ideal S1024x1024 .bf16) :
    Host.dotGeneral dot_S4352x1024_S1024x1024_S4352x1024_1_1_0_0_n_n none (extf .f32 d bitsLt_bf16_f32)
      (extf .f32 w bitsLt_bf16_f32) = spec d w := by
  funext j
  obtain ⟨r, l, rfl⟩ : ∃ (r : Fin 4352) (l : Fin 1024), j = ix2 r l := ⟨j 0, j 1, eq_ix2 j⟩
  pointwise [spec]

end Cert.MixOutBwd

namespace Cert.Proof

/-- The value claim of the gradient the product after a mixer hands back. -/
theorem algebraic_mixOutBwd : Cert.algebraic_Kernel14Ideal_Reference14Ideal (hKernel14Ideal := Cert.Kernel14Ideal.Gen.facts)
    (hReference14Ideal := Cert.Reference14Ideal.Gen.facts) := by
  intro m g m' g' _ hm
  refine ⟨fun c => Cert.MixOutBwd.result m c, ?_, ?_⟩
  · refine (θ_run Cert.Kernel14Ideal.defs _ _).mono (fun r h c => ?_) (Cert.Kernel14Ideal.Value.run_blocks m g)
    exact ⟨(h c).1.trans (Cert.MixOutBwd.final m c), (h c).2⟩
  · refine (θ_run Cert.Reference14Ideal.defs _ _).mono (fun r h c => ?_) (Cert.Reference14Ideal.Value.run m' g')
    refine ⟨(h c).1.trans ?_, (h c).2⟩
    obtain ⟨e0, e1⟩ := hm c
    rw [e0, e1]
    exact Cert.MixOutBwd.reference_eq _ _

end Cert.Proof

end
-- ==== Proof.MixOutWgrad.lean ====
/-
  The gradient of the square weight after a mixer, `mixᵀ · dy`: a sum over all the rows in two halves of 2176 rows, the second
  half's product added to the first's in the block of 512 rows that the result's window holds.
-/
module

public import proofs.«01_k».proof.Defs
public import proofs.«01_k».proof.Proof.Gen.Kernel15Ideal.Value
public import proofs.«01_k».proof.Proof.Gen.Reference15Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.MixOutWgrad

open Cert.Kernel15Ideal Cert.Kernel15Ideal.Gen

def spec (a b : Vec Ideal S4352x1024 .bf16) : Vec Ideal S1024x1024 .f32 :=
  fun j => ∑ k : Fin 4352, a (ix2 k (j 0)) * b (ix2 k (j 1))

/-- One half's product. -/
def half (x : Vec Ideal S2176x512 .bf16) (y : Vec Ideal S2176x1024 .bf16) : FVec Ideal S512x1024 .f32 :=
  fun j => ∑ k : Fin 2176, x (ix2 k (j 0)) * y (ix2 k (j 1))

theorem pay1_eq (x : Vec Ideal S2176x512 .bf16) (y : Vec Ideal S2176x1024 .bf16) : k0_pay1 x y = half x y := by
  funext j
  obtain ⟨r, l, rfl⟩ : ∃ (r : Fin 512) (l : Fin 1024), j = ix2 r l := ⟨j 0, j 1, eq_ix2 j⟩
  unfold k0_pay1 half
  pointwise

/-- The first half is stored. -/
theorem out_A (c : Dev nD) (i : grid0.Coords) (a1 : Memref sig .tc .vmem S2176x512 .bf16) (h1 : a1.IsWhole)
    (a2 : Memref sig .tc .vmem S2176x1024 .bf16) (h2 : a2.IsWhole) (a3 : Memref sig .tc .vmem S512x1024 .f32) (h3 : a3.IsWhole)
    (hc : cond0_0 i) (hc' : ¬cond0_1 i) (x : Vec Ideal S2176x512 .bf16) (y : Vec Ideal S2176x1024 .bf16) :
    out0_A_2 c i a1 h1 a2 h2 a3 h3 hc hc' x y = half x y := by
  unfold out0_A_2
  rw [View.read_writes_eq_canon _ _ _ (cover0_A_2 c i a1 h1 a2 h2 a3 h3 hc hc' x y)]
  unfold kernelRun0_A
  dsimp only
  rw [View.canon_unit_zero hz, pay1_eq]
  simp only [View.readAt_eq_ld, h1.read_unread, h2.read_unread, View.ld_unit_zero (S := S2176x512) hz,
    View.ld_unit_zero (S := S2176x1024) hz]

/-- The second half is added. -/
theorem out_B (c : Dev nD) (i : grid0.Coords) (a1 : Memref sig .tc .vmem S2176x512 .bf16) (h1 : a1.IsWhole)
    (a2 : Memref sig .tc .vmem S2176x1024 .bf16) (h2 : a2.IsWhole) (a3 : Memref sig .tc .vmem S512x1024 .f32) (h3 : a3.IsWhole)
    (hc : ¬cond0_0 i) (hc' : cond0_1 i) (x : Vec Ideal S2176x512 .bf16) (y : Vec Ideal S2176x1024 .bf16)
    (o : FVec Ideal S512x1024 .f32) :
    out0_B_2 c i a1 h1 a2 h2 a3 h3 hc hc' x y o = (addf o (half x y) : FVec Ideal S512x1024 .f32) := by
  unfold out0_B_2
  rw [View.read_writes_eq_canon _ _ _ (cover0_B_2 c i a1 h1 a2 h2 a3 h3 hc hc' x y o)]
  unfold kernelRun0_B
  dsimp only
  rw [View.canon_unit_zero hz]
  unfold k0_pay2
  rw [pay1_eq]
  simp only [View.readAt_eq_ld, h1.read_unread, h2.read_unread, h3.read_unread, View.ld_unit_zero (S := S2176x512) hz,
    View.ld_unit_zero (S := S2176x1024) hz, View.ld_unit_zero (S := S512x1024) hz, shapeCast_self]

variable (m : (ℓ : Loc nD τ sig) → Buf (Elt Ideal) ℓ) (c : Dev nD)

theorem index : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0)
    ∧ ((cfg0.win 2).flush t = true ↔ t.val % 2 = 1) := by decide +kernel

/-- The row of the operands that row `p` of a point's blocks is, and the row of the result that row `q` of its block is. -/
def row (t : Fin cfg0.N) (p : Fin 2176) : Fin 4352 := ⟨t.val % 2 * 2176 + p.val, by omega⟩
def col (t : Fin cfg0.N) (q : Fin 512) : Fin 1024 := ⟨t.val / 2 * 512 + q.val, by have h : cfg0.N = 4 := N_0; omega⟩

abbrev aArr : Vec Ideal S4352x1024 .bf16 := m ((c : Thread nD τ).loc main_arg0)
abbrev bArr : Vec Ideal S4352x1024 .bf16 := m ((c : Thread nD τ).loc main_arg1)

/-- A point's half of an element of the result. -/
theorem half_eq (t : Fin cfg0.N) (q : Fin 512) (l : Fin 1024) :
    (half (iblk m c 0 t) (iblk m c 1 t) (ix2 q l) : EReal)
      = ∑ p : Fin 2176, (aArr m c (ix2 (row t p) (col t q)) : EReal) * bArr m c (ix2 (row t p) l) :=
  sum_mul_congr
    (fun p => congrArg (aArr m c) (place 2176 512 _ _ p.val q.val (row t p) (col t q) rfl rfl _ (index t).1 rfl rfl))
    fun p => congrArg (bArr m c) (place 2176 1024 _ _ p.val l.val (row t p) l rfl (by omega) _ (index t).2.1 rfl rfl)

/-- The halves of an even and an odd point are the sum over all the rows. -/
theorem sum_halves (f : Fin 4352 → EReal) (t t' : Fin cfg0.N) (ht : t.val % 2 = 1) (ht' : t'.val % 2 = 0) :
    (∑ p : Fin 2176, f (row t' p)) + ∑ p : Fin 2176, f (row t p) = ∑ k : Fin 4352, f k := by
  rw [show (∑ k : Fin 4352, f k) = ∑ k : Fin (2176 + 2176), f k from rfl, Fin.sum_univ_add]
  congr 1 <;> refine Finset.sum_congr rfl fun p _ => congrArg f (Fin.ext ?_)
  · show t'.val % 2 * 2176 + p.val = p.val; omega
  · show t.val % 2 * 2176 + p.val = 2176 + p.val; omega

abbrev result : Buf (Elt Ideal) ((c : Thread nD τ).loc main_v0) := spec (aArr m c) (bArr m c)

/-- What an odd point writes back is its block of the result. -/
theorem flushed_eq (t : Fin cfg0.N) (hf : (cfg0.win 2).flush t = true) :
    (dats m 0 c).flushed 2 t = ((cfg0.win 2).blk t).view.read (Elt Ideal) (result m c) := by
  have ht : t.val % 2 = 1 := (index t).2.2.2.1 hf
  obtain ⟨t', ht'⟩ : ∃ t' : Fin cfg0.N, t'.val = t.val - 1 := ⟨⟨t.val - 1, by omega⟩, rfl⟩
  rw [Value.flushed2_B m c t (by omega) ht, out_B]
  have e' : outsAt0 m c (t.val - 1) (Nat.lt_of_le_of_lt (Nat.sub_le _ _) t.isLt) = half (iblk m c 0 t') (iblk m c 1 t') := by
    have := outsAt0_A m c t' (by omega) (by omega)
    rw [out_A] at this
    rw [← this]
    congr 1
    omega
  rw [e']
  funext j
  rw [View.read_apply]
  show addf (half (iblk m c 0 t') (iblk m c 1 t')) (half (iblk m c 0 t) (iblk m c 1 t)) j = _
  obtain ⟨q, l, rfl⟩ : ∃ (q : Fin 512) (l : Fin 1024), j = ix2 q l := ⟨j 0, j 1, eq_ix2 j⟩
  have e : ((cfg0.win 2).blk t).view.emb (ix2 q l) = (ix2 (col t q) l : S1024x1024.Idx) :=
    place 512 1024 _ _ q.val l.val _ _ rfl (by omega) _ (index t).2.2.1 rfl rfl
  rw [e]
  have ec : col t' q = col t q := Fin.ext (by show t'.val / 2 * 512 + q.val = t.val / 2 * 512 + q.val; omega)
  refine Eq.trans (congrArg₂ (fun u v : EReal => u + v) (half_eq m c t' q l) (half_eq m c t q l)) ?_
  rw [ec]
  exact sum_halves (fun k => (aArr m c (ix2 k (col t q)) : EReal) * bArr m c (ix2 k l)) t t' ht (by omega)

/-- The two blocks are the whole result. -/
theorem final : (dats m 0 c).arrAt 2 cfg0.N = result m c :=
  (dats m 0 c).arrAt_eq_of_cover 2 (result m c) (flushed_eq m c) fun i => by
    have hi0 : (i 0 : Nat) < 1024 := (i 0).isLt
    have hi1 : (i 1 : Nat) < 1024 := (i 1).isLt
    have hN : cfg0.N = 4 := N_0
    obtain ⟨t, ht⟩ : ∃ t : Fin cfg0.N, t.val = 2 * ((i 0).val / 512) + 1 := ⟨⟨2 * ((i 0).val / 512) + 1, by omega⟩, rfl⟩
    refine ⟨t, (index t).2.2.2.2 (by omega), ?_⟩
    show i ∈ ((View.whole main_v0).slice (win0_2.rect t)).set
    rw [View.set_slice_whole, Rect.mem_set_unit]
    have e := inside 512 1024 _ _ (by decide) (by decide) (i 0).val (i 1).val (index t).2.2.1 (by omega) (by omega)
    intro a
    match a with
    | ⟨0, _⟩ => exact e.1
    | ⟨1, _⟩ => exact e.2

end Cert.MixOutWgrad

namespace Cert.MixOutWgrad

open Cert.Reference15Ideal Cert.Reference15Ideal.Facts₀ Cert.Reference15Ideal.Facts

/-- The reference's gradient is the same sum. -/
theorem reference_eq (a b : FVec Ideal S4352x1024 .bf16) :
    transpose S1024x1024 [1, 0] (Host.dotGeneral dot_S4352x1024_S4352x1024_S1024x1024_0_0_1_1_n_n none
      (extf .f32 b bitsLt_bf16_f32) (extf .f32 a bitsLt_bf16_f32)) transposes_S1024x1024_S1024x1024_1_0 = spec a b := by
  funext j
  obtain ⟨r, l, rfl⟩ : ∃ (r l : Fin 1024), j = ix2 r l := ⟨j 0, j 1, eq_ix2 j⟩
  pointwise [spec]
  exact Finset.sum_congr rfl fun k _ => mul_comm _ _

end Cert.MixOutWgrad

namespace Cert.Proof

/-- The value claim of the gradient of the weight after a mixer. -/
theorem algebraic_mixOutWgrad : Cert.algebraic_Kernel15Ideal_Reference15Ideal (hKernel15Ideal := Cert.Kernel15Ideal.Gen.facts)
    (hReference15Ideal := Cert.Reference15Ideal.Gen.facts) := by
  intro m g m' g' _ hm
  refine ⟨fun c => Cert.MixOutWgrad.result m c, ?_, ?_⟩
  · refine (θ_run Cert.Kernel15Ideal.defs _ _).mono (fun r h c => ?_) (Cert.Kernel15Ideal.Value.run_blocks m g)
    exact ⟨(h c).1.trans (Cert.MixOutWgrad.final m c), (h c).2⟩
  · refine (θ_run Cert.Reference15Ideal.defs _ _).mono (fun r h c => ?_) (Cert.Reference15Ideal.Value.run m' g')
    refine ⟨(h c).1.trans ?_, (h c).2⟩
    obtain ⟨e0, e1⟩ := hm c
    rw [e0, e1]
    exact Cert.MixOutWgrad.reference_eq _ _

end Cert.Proof

end
-- ==== Proof.Adam.Step.lean ====
/-
  The optimiser's step on one number, and the blocks of whole rows in which a launch takes an array through it.
-/
module

public import proofs.«01_k».proof.Proof.Products

@[expose] public section

noncomputable section

open Idealize.ShloMosaic
open Cert.Prod

namespace Cert.Adam

abbrev R := Ideal .f32
abbrev bits (b : BitVec 32) : R := Scalar.ofBits .f32 b

/-- The first moment after the step. -/
def first (g m : R) : R := bits 0x3F666666#32 * m + bits 0x3DCCCCCD#32 * g

/-- The second moment after the step. -/
def second (g v : R) : R := bits 0x3F7FBE77#32 * v + bits 0x3A83126F#32 * (g * g)

/-- What the step adds to the weight. -/
def delta (w g m v : R) : R :=
  bits 0xBA83126F#32 * (Ideal.div (Ideal.div (first g m) (bits 0x3F26BD02#32))
    (Ideal.sqrt (Ideal.div (second g v) (bits 0x3C231ACC#32)) + bits 0x322BCC77#32) + bits 0x3C23D70A#32 * w)

/-- A function of four numbers, place by place. -/
def each {s : Shape} (f : R → R → R → R → R) (w g m v : Vec Ideal s .f32) : Vec Ideal s .f32 := fun i => f (w i) (g i) (m i) (v i)

/-- The block of rows that holds an index. -/
theorem block_of {M C N n : ℕ} (A : ℕ) (hN : N = n) (hM : n * A = M) (hA : 0 < A) (hC : 0 < C) (i : (⟨2, ![M, C]⟩ : Shape).Idx)
    {x y : Fin N → ℕ} (h : ∀ t, x t = t.val ∧ y t = 0) :
    ∃ t : Fin N, (x t * A ≤ (i 0).val ∧ (i 0).val < x t * A + A) ∧ (y t * C ≤ (i 1).val ∧ (i 1).val < y t * C + C) := by
  subst hN hM
  have h0 : (i 0).val < N * A := (i 0).isLt
  have h1 : (i 1).val < C := (i 1).isLt
  refine ⟨⟨(i 0).val / A, Nat.div_lt_of_lt_mul (Nat.mul_comm N A ▸ h0)⟩, ?_⟩
  exact inside A C _ _ hA hC (i 0).val (i 1).val (h ⟨(i 0).val / A, Nat.div_lt_of_lt_mul (Nat.mul_comm N A ▸ h0)⟩) rfl
    (Nat.div_eq_of_lt h1).symm

end Cert.Adam

end
-- ==== Proof.Adam.Large.lean ====
/-
  The optimiser's step on the weights whose gradient the step hands on as a fourth result: the feed-forward's, the projections', and the
  mixers' way out, in blocks of whole rows.
-/
module

public import proofs.«01_k».proof.Defs
public import proofs.«01_k».proof.Proof.Gen.Kernel16Ideal.Value
public import proofs.«01_k».proof.Proof.Gen.Reference16Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Adam.Step

@[expose] public section

noncomputable section

open Idealize.ShloMosaic Idealize.ShloMosaic.TcCoe Idealize.SL.Sem
open Idealize.ShloMosaic.Pipeline (Dat)
open Cert.Prod

namespace Cert.AdamFfn

open Cert.Kernel16Ideal Cert.Kernel16Ideal.Gen Cert.Adam

variable (m : (ℓ : Loc nD τ sig) → Buf (Elt Ideal) ℓ) (c : Dev nD)

/-- The feed-forward weights: a function of the four numbers at a place. -/
def rows (f : R → R → R → R → R) : Vec Ideal S2816x1024 .f32 := shapeCast _ (each f (m ((c : Thread nD τ).loc main_arg0)) (m ((c : Thread nD τ).loc main_arg1))
  (m ((c : Thread nD τ).loc main_arg2)) (m ((c : Thread nD τ).loc main_arg3))) shapeCasts_S4x704x1024_S2816x1024

theorem index : ∀ t : Fin cfg0.N, (win0_4.index t 0 = t.val ∧ win0_4.index t 1 = 0)
    ∧ (cfg0.win 4).flush t = true ∧ (cfg0.win 5).flush t = true ∧ (cfg0.win 6).flush t = true ∧ (cfg0.win 7).flush t = true := by decide +kernel

theorem cover (i : S2816x1024.Idx) : ∃ t : Fin cfg0.N, i ∈ (win0_4.rect t).set :=
  (block_of 352 N_0 rfl (by decide) (by decide) i fun t => (index t).1).imp fun _ h => Rect.mem_set_unit.2 (Fin.forall_fin_two.2 h)

theorem whole (x : Vec Ideal S352x1024 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v)
    ∧ (dats m 0 c).arrAt 7 cfg0.N = rows m c (fun _ g _ _ => g) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2.1, (View.set_slice_whole main_v4_2 (win0_6.rect t)).symm ▸ h⟩,
    (dats m 0 c).arrAt_eq_of_cover 7 _ (fun t _ => ?_) fun i => (cover i).imp fun t h =>
      ⟨(index t).2.2.2.2, (View.set_slice_whole main_v4_3 (win0_7.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl
  · rw [Value.flushed7, out0_7, View.canon_unit_zero hz]
    simp only [whole, k0_pay1, shapeCast_self]
    rfl

end Cert.AdamFfn

open Cert.Adam in
theorem Cert.Proof.algebraic_adamFfn : Cert.algebraic_Kernel16Ideal_Reference16Ideal
    (hKernel16Ideal := Cert.Kernel16Ideal.Gen.facts) (hReference16Ideal := Cert.Reference16Ideal.Gen.facts) := by
  intro m g m' g' _ hm
  refine ⟨fun c => Cert.AdamFfn.rows m c delta,
    fun c => Cert.AdamFfn.rows m c fun _ g m _ => first g m,
    fun c => Cert.AdamFfn.rows m c fun _ g _ v => second g v,
    fun c => Cert.AdamFfn.rows m c fun _ g _ _ => g, ?_, ?_⟩
  · refine (θ_run Cert.Kernel16Ideal.defs _ _).mono (fun r h c => ?_) (Cert.Kernel16Ideal.Value.run_blocks m g)
    obtain ⟨h4, h5, h6, h7, h⟩ := h c
    obtain ⟨f4, f5, f6, f7⟩ := Cert.AdamFfn.final m c
    exact ⟨h4.trans f4, h5.trans f5, h6.trans f6, h7.trans f7, h⟩
  · refine (θ_run Cert.Reference16Ideal.defs _ _).mono (fun r h c => ?_) (Cert.Reference16Ideal.Value.run m' g')
    obtain ⟨h4, h5, h6, h7, h⟩ := h c
    obtain ⟨e0, e1, e2, e3⟩ := hm c
    simp only [e0, e1, e2, e3] at h4 h5 h6 h7
    exact ⟨h4, h5, h6, h7, h⟩

namespace Cert.AdamEvenIn

open Cert.Kernel18Ideal Cert.Kernel18Ideal.Gen Cert.Adam

variable (m : (ℓ : Loc nD τ sig) → Buf (Elt Ideal) ℓ) (c : Dev nD)

/-- The even layers' projection: a function of the four numbers at a place. -/
def rows (f : R → R → R → R → R) : Vec Ideal S2048x768 .f32 := shapeCast _ (each f (m ((c : Thread nD τ).loc main_arg0)) (m ((c : Thread nD τ).loc main_arg1))
  (m ((c : Thread nD τ).loc main_arg2)) (m ((c : Thread nD τ).loc main_arg3))) shapeCasts_S2x1024x768_S2048x768

theorem index : ∀ t : Fin cfg0.N, (win0_4.index t 0 = t.val ∧ win0_4.index t 1 = 0)
    ∧ (cfg0.win 4).flush t = true ∧ (cfg0.win 5).flush t = true ∧ (cfg0.win 6).flush t = true ∧ (cfg0.win 7).flush t = true := by decide +kernel

theorem cover (i : S2048x768.Idx) : ∃ t : Fin cfg0.N, i ∈ (win0_4.rect t).set :=
  (block_of 512 N_0 rfl (by decide) (by decide) i fun t => (index t).1).imp fun _ h => Rect.mem_set_unit.2 (Fin.forall_fin_two.2 h)

theorem whole (x : Vec Ideal S512x768 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v)
    ∧ (dats m 0 c).arrAt 7 cfg0.N = rows m c (fun _ g _ _ => g) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2.1, (View.set_slice_whole main_v4_2 (win0_6.rect t)).symm ▸ h⟩,
    (dats m 0 c).arrAt_eq_of_cover 7 _ (fun t _ => ?_) fun i => (cover i).imp fun t h =>
      ⟨(index t).2.2.2.2, (View.set_slice_whole main_v4_3 (win0_7.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl
  · rw [Value.flushed7, out0_7, View.canon_unit_zero hz]
    simp only [whole, k0_pay1, shapeCast_self]
    rfl

end Cert.AdamEvenIn

open Cert.Adam in
theorem Cert.Proof.algebraic_adamEvenIn : Cert.algebraic_Kernel18Ideal_Reference18Ideal
    (hKernel18Ideal := Cert.Kernel18Ideal.Gen.facts) (hReference18Ideal := Cert.Reference18Ideal.Gen.facts) := by
  intro m g m' g' _ hm
  refine ⟨fun c => Cert.AdamEvenIn.rows m c delta,
    fun c => Cert.AdamEvenIn.rows m c fun _ g m _ => first g m,
    fun c => Cert.AdamEvenIn.rows m c fun _ g _ v => second g v,
    fun c => Cert.AdamEvenIn.rows m c fun _ g _ _ => g, ?_, ?_⟩
  · refine (θ_run Cert.Kernel18Ideal.defs _ _).mono (fun r h c => ?_) (Cert.Kernel18Ideal.Value.run_blocks m g)
    obtain ⟨h4, h5, h6, h7, h⟩ := h c
    obtain ⟨f4, f5, f6, f7⟩ := Cert.AdamEvenIn.final m c
    exact ⟨h4.trans f4, h5.trans f5, h6.trans f6, h7.trans f7, h⟩
  · refine (θ_run Cert.Reference18Ideal.defs _ _).mono (fun r h c => ?_) (Cert.Reference18Ideal.Value.run m' g')
    obtain ⟨h4, h5, h6, h7, h⟩ := h c
    obtain ⟨e0, e1, e2, e3⟩ := hm c
    simp only [e0, e1, e2, e3] at h4 h5 h6 h7
    exact ⟨h4, h5, h6, h7, h⟩

namespace Cert.AdamOut

open Cert.Kernel19Ideal Cert.Kernel19Ideal.Gen Cert.Adam

variable (m : (ℓ : Loc nD τ sig) → Buf (Elt Ideal) ℓ) (c : Dev nD)

/-- The mixers' way out: a function of the four numbers at a place. -/
def rows (f : R → R → R → R → R) : Vec Ideal S512x1024 .f32 := shapeCast _ (each f (m ((c : Thread nD τ).loc main_arg0)) (m ((c : Thread nD τ).loc main_arg1))
  (m ((c : Thread nD τ).loc main_arg2)) (m ((c : Thread nD τ).loc main_arg3))) shapeCasts_S2x256x1024_S512x1024

theorem index : ∀ t : Fin cfg0.N, (win0_4.index t 0 = t.val ∧ win0_4.index t 1 = 0)
    ∧ (cfg0.win 4).flush t = true ∧ (cfg0.win 5).flush t = true ∧ (cfg0.win 6).flush t = true ∧ (cfg0.win 7).flush t = true := by decide +kernel

theorem cover (i : S512x1024.Idx) : ∃ t : Fin cfg0.N, i ∈ (win0_4.rect t).set :=
  (block_of 512 N_0 rfl (by decide) (by decide) i fun t => (index t).1).imp fun _ h => Rect.mem_set_unit.2 (Fin.forall_fin_two.2 h)

theorem whole (x : Vec Ideal S512x1024 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v)
    ∧ (dats m 0 c).arrAt 7 cfg0.N = rows m c (fun _ g _ _ => g) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2.1, (View.set_slice_whole main_v4_2 (win0_6.rect t)).symm ▸ h⟩,
    (dats m 0 c).arrAt_eq_of_cover 7 _ (fun t _ => ?_) fun i => (cover i).imp fun t h =>
      ⟨(index t).2.2.2.2, (View.set_slice_whole main_v4_3 (win0_7.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl
  · rw [Value.flushed7, out0_7, View.canon_unit_zero hz]
    simp only [whole, k0_pay1, shapeCast_self]
    rfl

end Cert.AdamOut

open Cert.Adam in
theorem Cert.Proof.algebraic_adamOut : Cert.algebraic_Kernel19Ideal_Reference19Ideal
    (hKernel19Ideal := Cert.Kernel19Ideal.Gen.facts) (hReference19Ideal := Cert.Reference19Ideal.Gen.facts) := by
  intro m g m' g' _ hm
  refine ⟨fun c => Cert.AdamOut.rows m c delta,
    fun c => Cert.AdamOut.rows m c fun _ g m _ => first g m,
    fun c => Cert.AdamOut.rows m c fun _ g _ v => second g v,
    fun c => Cert.AdamOut.rows m c fun _ g _ _ => g, ?_, ?_⟩
  · refine (θ_run Cert.Kernel19Ideal.defs _ _).mono (fun r h c => ?_) (Cert.Kernel19Ideal.Value.run_blocks m g)
    obtain ⟨h4, h5, h6, h7, h⟩ := h c
    obtain ⟨f4, f5, f6, f7⟩ := Cert.AdamOut.final m c
    exact ⟨h4.trans f4, h5.trans f5, h6.trans f6, h7.trans f7, h⟩
  · refine (θ_run Cert.Reference19Ideal.defs _ _).mono (fun r h c => ?_) (Cert.Reference19Ideal.Value.run m' g')
    obtain ⟨h4, h5, h6, h7, h⟩ := h c
    obtain ⟨e0, e1, e2, e3⟩ := hm c
    simp only [e0, e1, e2, e3] at h4 h5 h6 h7
    exact ⟨h4, h5, h6, h7, h⟩

namespace Cert.AdamOddIn

open Cert.Kernel20Ideal Cert.Kernel20Ideal.Gen Cert.Adam

variable (m : (ℓ : Loc nD τ sig) → Buf (Elt Ideal) ℓ) (c : Dev nD)

/-- The odd layers' projection: a function of the four numbers at a place. -/
def rows (f : R → R → R → R → R) : Vec Ideal S2048x384 .f32 := shapeCast _ (each f (m ((c : Thread nD τ).loc main_arg0)) (m ((c : Thread nD τ).loc main_arg1))
  (m ((c : Thread nD τ).loc main_arg2)) (m ((c : Thread nD τ).loc main_arg3))) shapeCasts_S2x1024x384_S2048x384

theorem index : ∀ t : Fin cfg0.N, (win0_4.index t 0 = t.val ∧ win0_4.index t 1 = 0)
    ∧ (cfg0.win 4).flush t = true ∧ (cfg0.win 5).flush t = true ∧ (cfg0.win 6).flush t = true ∧ (cfg0.win 7).flush t = true := by decide +kernel

theorem cover (i : S2048x384.Idx) : ∃ t : Fin cfg0.N, i ∈ (win0_4.rect t).set :=
  (block_of 1024 N_0 rfl (by decide) (by decide) i fun t => (index t).1).imp fun _ h => Rect.mem_set_unit.2 (Fin.forall_fin_two.2 h)

theorem whole (x : Vec Ideal S1024x384 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v)
    ∧ (dats m 0 c).arrAt 7 cfg0.N = rows m c (fun _ g _ _ => g) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2.1, (View.set_slice_whole main_v4_2 (win0_6.rect t)).symm ▸ h⟩,
    (dats m 0 c).arrAt_eq_of_cover 7 _ (fun t _ => ?_) fun i => (cover i).imp fun t h =>
      ⟨(index t).2.2.2.2, (View.set_slice_whole main_v4_3 (win0_7.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl
  · rw [Value.flushed7, out0_7, View.canon_unit_zero hz]
    simp only [whole, k0_pay1, shapeCast_self]
    rfl

end Cert.AdamOddIn

open Cert.Adam in
theorem Cert.Proof.algebraic_adamOddIn : Cert.algebraic_Kernel20Ideal_Reference20Ideal
    (hKernel20Ideal := Cert.Kernel20Ideal.Gen.facts) (hReference20Ideal := Cert.Reference20Ideal.Gen.facts) := by
  intro m g m' g' _ hm
  refine ⟨fun c => Cert.AdamOddIn.rows m c delta,
    fun c => Cert.AdamOddIn.rows m c fun _ g m _ => first g m,
    fun c => Cert.AdamOddIn.rows m c fun _ g _ v => second g v,
    fun c => Cert.AdamOddIn.rows m c fun _ g _ _ => g, ?_, ?_⟩
  · refine (θ_run Cert.Kernel20Ideal.defs _ _).mono (fun r h c => ?_) (Cert.Kernel20Ideal.Value.run_blocks m g)
    obtain ⟨h4, h5, h6, h7, h⟩ := h c
    obtain ⟨f4, f5, f6, f7⟩ := Cert.AdamOddIn.final m c
    exact ⟨h4.trans f4, h5.trans f5, h6.trans f6, h7.trans f7, h⟩
  · refine (θ_run Cert.Reference20Ideal.defs _ _).mono (fun r h c => ?_) (Cert.Reference20Ideal.Value.run m' g')
    obtain ⟨h4, h5, h6, h7, h⟩ := h c
    obtain ⟨e0, e1, e2, e3⟩ := hm c
    simp only [e0, e1, e2, e3] at h4 h5 h6 h7
    exact ⟨h4, h5, h6, h7, h⟩

end
-- ==== Proof.Adam.Stacks.lean ====
/-
  The optimiser's step on the weights of three and four axes whose gradient is a result already.
-/
module

public import proofs.«01_k».proof.Defs
public import proofs.«01_k».proof.Proof.Gen.Kernel17Ideal.Value
public import proofs.«01_k».proof.Proof.Gen.Reference17Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel29Ideal.Value
public import proofs.«01_k».proof.Proof.Gen.Reference29Ideal.Run
public import proofs.«01_k».proof.Proof.Adam.Step

@[expose] public section

noncomputable section

open Idealize.ShloMosaic Idealize.ShloMosaic.TcCoe Idealize.SL.Sem
open Idealize.ShloMosaic.Pipeline (Dat)
open Cert.Prod

namespace Cert.AdamTaps

open Cert.Kernel17Ideal Cert.Kernel17Ideal.Gen Cert.Adam

variable (m : (ℓ : Loc nD τ sig) → Buf (Elt Ideal) ℓ) (c : Dev nD)

/-- The convolution's taps: a function of the four numbers at a place. -/
def rows (f : R → R → R → R → R) : Vec Ideal S62x128 .f32 := shapeCast _ (each f (m ((c : Thread nD τ).loc main_arg0)) (m ((c : Thread nD τ).loc main_arg1))
  (m ((c : Thread nD τ).loc main_arg2)) (m ((c : Thread nD τ).loc main_arg3))) shapeCasts_S2x31x128_S62x128

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S62x128.Idx) : ∃ t : Fin cfg0.N, i ∈ (win0_4.rect t).set :=
  (block_of 62 N_0 rfl (by decide) (by decide) i fun t => (index t).1).imp fun _ h => Rect.mem_set_unit.2 (Fin.forall_fin_two.2 h)

theorem whole (x : Vec Ideal S62x128 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamTaps

open Cert.Adam in
theorem Cert.Proof.algebraic_adamTaps : Cert.algebraic_Kernel17Ideal_Reference17Ideal
    (hKernel17Ideal := Cert.Kernel17Ideal.Gen.facts) (hReference17Ideal := Cert.Reference17Ideal.Gen.facts) := by
  intro m g m' g' _ hm
  refine ⟨fun c => Cert.AdamTaps.rows m c delta,
    fun c => Cert.AdamTaps.rows m c fun _ g m _ => first g m,
    fun c => Cert.AdamTaps.rows m c fun _ g _ v => second g v, ?_, ?_⟩
  · refine (θ_run Cert.Kernel17Ideal.defs _ _).mono (fun r h c => ?_) (Cert.Kernel17Ideal.Value.run_blocks m g)
    obtain ⟨h4, h5, h6, h⟩ := h c
    obtain ⟨f4, f5, f6⟩ := Cert.AdamTaps.final m c
    exact ⟨h4.trans f4, h5.trans f5, h6.trans f6, h⟩
  · refine (θ_run Cert.Reference17Ideal.defs _ _).mono (fun r h c => ?_) (Cert.Reference17Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamMod

open Cert.Kernel21Ideal Cert.Kernel21Ideal.Gen Cert.Adam

variable (m : (ℓ : Loc nD τ sig) → Buf (Elt Ideal) ℓ) (c : Dev nD)

/-- The modulation's weight: a function of the four numbers at a place. -/
def rows (f : R → R → R → R → R) : Vec Ideal S4096x1536 .f32 := shapeCast _ (each f (m ((c : Thread nD τ).loc main_arg0)) (m ((c : Thread nD τ).loc main_arg1))
  (m ((c : Thread nD τ).loc main_arg2)) (m ((c : Thread nD τ).loc main_arg3))) shapeCasts_S4x1024x1536_S4096x1536

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S4096x1536.Idx) : ∃ t : Fin cfg0.N, i ∈ (win0_4.rect t).set :=
  (block_of 256 N_0 rfl (by decide) (by decide) i fun t => (index t).1).imp fun _ h => Rect.mem_set_unit.2 (Fin.forall_fin_two.2 h)

theorem whole (x : Vec Ideal S256x1536 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamMod

open Cert.Adam in
theorem Cert.Proof.algebraic_adamMod : Cert.algebraic_Kernel21Ideal_Reference21Ideal
    (hKernel21Ideal := Cert.Kernel21Ideal.Gen.facts) (hReference21Ideal := Cert.Reference21Ideal.Gen.facts) := by
  intro m g m' g' _ hm
  refine ⟨fun c => Cert.AdamMod.rows m c delta,
    fun c => Cert.AdamMod.rows m c fun _ g m _ => first g m,
    fun c => Cert.AdamMod.rows m c fun _ g _ v => second g v, ?_, ?_⟩
  · refine (θ_run Cert.Kernel21Ideal.defs _ _).mono (fun r h c => ?_) (Cert.Kernel21Ideal.Value.run_blocks m g)
    obtain ⟨h4, h5, h6, h⟩ := h c
    obtain ⟨f4, f5, f6⟩ := Cert.AdamMod.final m c
    exact ⟨h4.trans f4, h5.trans f5, h6.trans f6, h⟩
  · refine (θ_run Cert.Reference21Ideal.defs _ _).mono (fun r h c => ?_) (Cert.Reference21Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamMix

open Cert.Kernel22Ideal Cert.Kernel22Ideal.Gen Cert.Adam

variable (m : (ℓ : Loc nD τ sig) → Buf (Elt Ideal) ℓ) (c : Dev nD)

/-- The pools' and the spatial gates' weights: a function of the four numbers at a place. -/
def rows (f : R → R → R → R → R) : Vec Ideal S1024x128 .f32 := shapeCast _ (each f (m ((c : Thread nD τ).loc main_arg0)) (m ((c : Thread nD τ).loc main_arg1))
  (m ((c : Thread nD τ).loc main_arg2)) (m ((c : Thread nD τ).loc main_arg3))) shapeCasts_S2x4x128x128_S1024x128

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S1024x128.Idx) : ∃ t : Fin cfg0.N, i ∈ (win0_4.rect t).set :=
  (block_of 1024 N_0 rfl (by decide) (by decide) i fun t => (index t).1).imp fun _ h => Rect.mem_set_unit.2 (Fin.forall_fin_two.2 h)

theorem whole (x : Vec Ideal S1024x128 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamMix

open Cert.Adam in
theorem Cert.Proof.algebraic_adamMix : Cert.algebraic_Kernel22Ideal_Reference22Ideal
    (hKernel22Ideal := Cert.Kernel22Ideal.Gen.facts) (hReference22Ideal := Cert.Reference22Ideal.Gen.facts) := by
  intro m g m' g' _ hm
  refine ⟨fun c => Cert.AdamMix.rows m c delta,
    fun c => Cert.AdamMix.rows m c fun _ g m _ => first g m,
    fun c => Cert.AdamMix.rows m c fun _ g _ v => second g v, ?_, ?_⟩
  · refine (θ_run Cert.Kernel22Ideal.defs _ _).mono (fun r h c => ?_) (Cert.Kernel22Ideal.Value.run_blocks m g)
    obtain ⟨h4, h5, h6, h⟩ := h c
    obtain ⟨f4, f5, f6⟩ := Cert.AdamMix.final m c
    exact ⟨h4.trans f4, h5.trans f5, h6.trans f6, h⟩
  · refine (θ_run Cert.Reference22Ideal.defs _ _).mono (fun r h c => ?_) (Cert.Reference22Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamNorm

open Cert.Kernel25Ideal Cert.Kernel25Ideal.Gen Cert.Adam

variable (m : (ℓ : Loc nD τ sig) → Buf (Elt Ideal) ℓ) (c : Dev nD)

/-- The norms' weights: a function of the four numbers at a place. -/
def rows (f : R → R → R → R → R) : Vec Ideal S8x256 .f32 := shapeCast _ (each f (m ((c : Thread nD τ).loc main_arg0)) (m ((c : Thread nD τ).loc main_arg1))
  (m ((c : Thread nD τ).loc main_arg2)) (m ((c : Thread nD τ).loc main_arg3))) shapeCasts_S4x2x256_S8x256

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S8x256.Idx) : ∃ t : Fin cfg0.N, i ∈ (win0_4.rect t).set :=
  (block_of 8 N_0 rfl (by decide) (by decide) i fun t => (index t).1).imp fun _ h => Rect.mem_set_unit.2 (Fin.forall_fin_two.2 h)

theorem whole (x : Vec Ideal S8x256 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamNorm

open Cert.Adam in
theorem Cert.Proof.algebraic_adamNorm : Cert.algebraic_Kernel25Ideal_Reference25Ideal
    (hKernel25Ideal := Cert.Kernel25Ideal.Gen.facts) (hReference25Ideal := Cert.Reference25Ideal.Gen.facts) := by
  intro m g m' g' _ hm
  refine ⟨fun c => Cert.AdamNorm.rows m c delta,
    fun c => Cert.AdamNorm.rows m c fun _ g m _ => first g m,
    fun c => Cert.AdamNorm.rows m c fun _ g _ v => second g v, ?_, ?_⟩
  · refine (θ_run Cert.Kernel25Ideal.defs _ _).mono (fun r h c => ?_) (Cert.Kernel25Ideal.Value.run_blocks m g)
    obtain ⟨h4, h5, h6, h⟩ := h c
    obtain ⟨f4, f5, f6⟩ := Cert.AdamNorm.final m c
    exact ⟨h4.trans f4, h5.trans f5, h6.trans f6, h⟩
  · refine (θ_run Cert.Reference25Ideal.defs _ _).mono (fun r h c => ?_) (Cert.Reference25Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamDecay

open Cert.Kernel26Ideal Cert.Kernel26Ideal.Gen Cert.Adam

variable (m : (ℓ : Loc nD τ sig) → Buf (Elt Ideal) ℓ) (c : Dev nD)

/-- The decays: a function of the four numbers at a place. -/
def rows (f : R → R → R → R → R) : Vec Ideal S4x4 .f32 := shapeCast _ (each f (m ((c : Thread nD τ).loc main_arg0)) (m ((c : Thread nD τ).loc main_arg1))
  (m ((c : Thread nD τ).loc main_arg2)) (m ((c : Thread nD τ).loc main_arg3))) shapeCasts_S2x2x4_S4x4

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S4x4.Idx) : ∃ t : Fin cfg0.N, i ∈ (win0_4.rect t).set :=
  (block_of 4 N_0 rfl (by decide) (by decide) i fun t => (index t).1).imp fun _ h => Rect.mem_set_unit.2 (Fin.forall_fin_two.2 h)

theorem whole (x : Vec Ideal S4x4 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamDecay

open Cert.Adam in
theorem Cert.Proof.algebraic_adamDecay : Cert.algebraic_Kernel26Ideal_Reference26Ideal
    (hKernel26Ideal := Cert.Kernel26Ideal.Gen.facts) (hReference26Ideal := Cert.Reference26Ideal.Gen.facts) := by
  intro m g m' g' _ hm
  refine ⟨fun c => Cert.AdamDecay.rows m c delta,
    fun c => Cert.AdamDecay.rows m c fun _ g m _ => first g m,
    fun c => Cert.AdamDecay.rows m c fun _ g _ v => second g v, ?_, ?_⟩
  · refine (θ_run Cert.Kernel26Ideal.defs _ _).mono (fun r h c => ?_) (Cert.Kernel26Ideal.Value.run_blocks m g)
    obtain ⟨h4, h5, h6, h⟩ := h c
    obtain ⟨f4, f5, f6⟩ := Cert.AdamDecay.final m c
    exact ⟨h4.trans f4, h5.trans f5, h6.trans f6, h⟩
  · refine (θ_run Cert.Reference26Ideal.defs _ _).mono (fun r h c => ?_) (Cert.Reference26Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamGate

open Cert.Kernel29Ideal Cert.Kernel29Ideal.Gen Cert.Adam

variable (m : (ℓ : Loc nD τ sig) → Buf (Elt Ideal) ℓ) (c : Dev nD)

/-- The spatial gates' offset: a function of the four numbers at a place. -/
def rows (f : R → R → R → R → R) : Vec Ideal S8x128 .f32 := shapeCast _ (each f (m ((c : Thread nD τ).loc main_arg0)) (m ((c : Thread nD τ).loc main_arg1))
  (m ((c : Thread nD τ).loc main_arg2)) (m ((c : Thread nD τ).loc main_arg3))) shapeCasts_S2x4x128_S8x128

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S8x128.Idx) : ∃ t : Fin cfg0.N, i ∈ (win0_4.rect t).set :=
  (block_of 8 N_0 rfl (by decide) (by decide) i fun t => (index t).1).imp fun _ h => Rect.mem_set_unit.2 (Fin.forall_fin_two.2 h)

theorem whole (x : Vec Ideal S8x128 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamGate

open Cert.Adam in
theorem Cert.Proof.algebraic_adamGate : Cert.algebraic_Kernel29Ideal_Reference29Ideal
    (hKernel29Ideal := Cert.Kernel29Ideal.Gen.facts) (hReference29Ideal := Cert.Reference29Ideal.Gen.facts) := by
  intro m g m' g' _ hm
  refine ⟨fun c => Cert.AdamGate.rows m c delta,
    fun c => Cert.AdamGate.rows m c fun _ g m _ => first g m,
    fun c => Cert.AdamGate.rows m c fun _ g _ v => second g v, ?_, ?_⟩
  · refine (θ_run Cert.Kernel29Ideal.defs _ _).mono (fun r h c => ?_) (Cert.Kernel29Ideal.Value.run_blocks m g)
    obtain ⟨h4, h5, h6, h⟩ := h c
    obtain ⟨f4, f5, f6⟩ := Cert.AdamGate.final m c
    exact ⟨h4.trans f4, h5.trans f5, h6.trans f6, h⟩
  · refine (θ_run Cert.Reference29Ideal.defs _ _).mono (fun r h c => ?_) (Cert.Reference29Ideal.Value.run m' g')
    obtain ⟨h4, h5, h6, h⟩ := h c
    obtain ⟨e0, e1, e2, e3⟩ := hm c
    simp only [e0, e1, e2, e3] at h4 h5 h6
    exact ⟨h4, h5, h6, h⟩

end
-- ==== Proof.Adam.Vectors.lean ====
/-
  The optimiser's step on the vectors, one or one for each layer.
-/
module

public import proofs.«01_k».proof.Defs
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Adam.Step

@[expose] public section

noncomputable section

open Idealize.ShloMosaic Idealize.ShloMosaic.TcCoe Idealize.SL.Sem
open Idealize.ShloMosaic.Pipeline (Dat)
open Cert.Prod

namespace Cert.AdamVec

open Cert.Kernel23Ideal Cert.Kernel23Ideal.Gen Cert.Adam

variable (m : (ℓ : Loc nD τ sig) → Buf (Elt Ideal) ℓ) (c : Dev nD)

/-- The context's vector and the last norm's weight: a function of the four numbers at a place. -/
def rows (f : R → R → R → R → R) : Vec Ideal S1x1024 .f32 := shapeCast _ (each f (m ((c : Thread nD τ).loc main_arg0)) (m ((c : Thread nD τ).loc main_arg1))
  (m ((c : Thread nD τ).loc main_arg2)) (m ((c : Thread nD τ).loc main_arg3))) shapeCasts_S1024_S1x1024

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S1x1024.Idx) : ∃ t : Fin cfg0.N, i ∈ (win0_4.rect t).set :=
  (block_of 1 N_0 rfl (by decide) (by decide) i fun t => (index t).1).imp fun _ h => Rect.mem_set_unit.2 (Fin.forall_fin_two.2 h)

theorem whole (x : Vec Ideal S1x1024 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v4_0 (win0_4.rect t)).symm ▸ h⟩,
    (dats m 0 c).arrAt_eq_of_cover 5 _ (fun t _ => ?_) fun i => (cover i).imp fun t h =>
      ⟨(index t).2.2.1, (View.set_slice_whole main_v4_1 (win0_5.rect t)).symm ▸ h⟩,
    (dats m 0 c).arrAt_eq_of_cover 6 _ (fun t _ => ?_) fun i => (cover i).imp fun t h =>
      ⟨(index t).2.2.2, (View.set_slice_whole main_v4_2 (win0_6.rect t)).symm ▸ h⟩⟩
  · rw [Value.flushed4, out0_4, View.canon_unit_zero hz]
    simp only [whole, k0_pay4, k0_pay3, k0_pay2, k0_pay1, shapeCast_self]
    rfl
  · rw [Value.flushed5, out0_5, View.canon_unit_zero hz]
    simp only [whole, k0_pay2, k0_pay1, shapeCast_self]
    rfl
  · rw [Value.flushed6, out0_6, View.canon_unit_zero hz]
    simp only [whole, k0_pay3, k0_pay1, shapeCast_self]
    rfl

end Cert.AdamVec

open Cert.Adam in
theorem Cert.Proof.algebraic_adamVec : Cert.algebraic_Kernel23Ideal_Reference23Ideal
    (hKernel23Ideal := Cert.Kernel23Ideal.Gen.facts) (hReference23Ideal := Cert.Reference23Ideal.Gen.facts) := by
  intro m g m' g' _ hm
  refine ⟨fun c => Cert.AdamVec.rows m c delta,
    fun c => Cert.AdamVec.rows m c fun _ g m _ => first g m,
    fun c => Cert.AdamVec.rows m c fun _ g _ v => second g v, ?_, ?_⟩
  · refine (θ_run Cert.Kernel23Ideal.defs _ _).mono (fun r h c => ?_) (Cert.Kernel23Ideal.Value.run_blocks m g)
    obtain ⟨h4, h5, h6, h⟩ := h c
    obtain ⟨f4, f5, f6⟩ := Cert.AdamVec.final m c
    exact ⟨h4.trans f4, h5.trans f5, h6.trans f6, h⟩
  · refine (θ_run Cert.Reference23Ideal.defs _ _).mono (fun r h c => ?_) (Cert.Reference23Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamShift

open Cert.Kernel24Ideal Cert.Kernel24Ideal.Gen Cert.Adam

variable (m : (ℓ : Loc nD τ sig) → Buf (Elt Ideal) ℓ) (c : Dev nD)

/-- The modulation's offset: a function of the four numbers at a place. -/
def rows (f : R → R → R → R → R) : Vec Ideal S4x6144 .f32 := each f (m ((c : Thread nD τ).loc main_arg0)) (m ((c : Thread nD τ).loc main_arg1))
  (m ((c : Thread nD τ).loc main_arg2)) (m ((c : Thread nD τ).loc main_arg3))

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S4x6144.Idx) : ∃ t : Fin cfg0.N, i ∈ (win0_4.rect t).set :=
  (block_of 4 N_0 rfl (by decide) (by decide) i fun t => (index t).1).imp fun _ h => Rect.mem_set_unit.2 (Fin.forall_fin_two.2 h)

theorem whole (x : Vec Ideal S4x6144 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v0_0 (win0_4.rect t)).symm ▸ h⟩,
    (dats m 0 c).arrAt_eq_of_cover 5 _ (fun t _ => ?_) fun i => (cover i).imp fun t h =>
      ⟨(index t).2.2.1, (View.set_slice_whole main_v0_1 (win0_5.rect t)).symm ▸ h⟩,
    (dats m 0 c).arrAt_eq_of_cover 6 _ (fun t _ => ?_) fun i => (cover i).imp fun t h =>
      ⟨(index t).2.2.2, (View.set_slice_whole main_v0_2 (win0_6.rect t)).symm ▸ h⟩⟩
  · rw [Value.flushed4, out0_4, View.canon_unit_zero hz]
    simp only [whole, k0_pay3, k0_pay2, k0_pay1, shapeCast_self]
    rfl
  · rw [Value.flushed5, out0_5, View.canon_unit_zero hz]
    simp only [whole, k0_pay1, shapeCast_self]
    rfl
  · rw [Value.flushed6, out0_6, View.canon_unit_zero hz]
    simp only [whole, k0_pay2, shapeCast_self]
    rfl

end Cert.AdamShift

open Cert.Adam in
theorem Cert.Proof.algebraic_adamShift : Cert.algebraic_Kernel24Ideal_Reference24Ideal
    (hKernel24Ideal := Cert.Kernel24Ideal.Gen.facts) (hReference24Ideal := Cert.Reference24Ideal.Gen.facts) := by
  intro m g m' g' _ hm
  refine ⟨fun c => Cert.AdamShift.rows m c delta,
    fun c => Cert.AdamShift.rows m c fun _ g m _ => first g m,
    fun c => Cert.AdamShift.rows m c fun _ g _ v => second g v, ?_, ?_⟩
  · refine (θ_run Cert.Kernel24Ideal.defs _ _).mono (fun r h c => ?_) (Cert.Kernel24Ideal.Value.run_blocks m g)
    obtain ⟨h4, h5, h6, h⟩ := h c
    obtain ⟨f4, f5, f6⟩ := Cert.AdamShift.final m c
    exact ⟨h4.trans f4, h5.trans f5, h6.trans f6, h⟩
  · refine (θ_run Cert.Reference24Ideal.defs _ _).mono (fun r h c => ?_) (Cert.Reference24Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamConv

open Cert.Kernel27Ideal Cert.Kernel27Ideal.Gen Cert.Adam

variable (m : (ℓ : Loc nD τ sig) → Buf (Elt Ideal) ℓ) (c : Dev nD)

/-- The convolution's norm: a function of the four numbers at a place. -/
def rows (f : R → R → R → R → R) : Vec Ideal S2x512 .f32 := each f (m ((c : Thread nD τ).loc main_arg0)) (m ((c : Thread nD τ).loc main_arg1))
  (m ((c : Thread nD τ).loc main_arg2)) (m ((c : Thread nD τ).loc main_arg3))

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S2x512.Idx) : ∃ t : Fin cfg0.N, i ∈ (win0_4.rect t).set :=
  (block_of 2 N_0 rfl (by decide) (by decide) i fun t => (index t).1).imp fun _ h => Rect.mem_set_unit.2 (Fin.forall_fin_two.2 h)

theorem whole (x : Vec Ideal S2x512 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v0_0 (win0_4.rect t)).symm ▸ h⟩,
    (dats m 0 c).arrAt_eq_of_cover 5 _ (fun t _ => ?_) fun i => (cover i).imp fun t h =>
      ⟨(index t).2.2.1, (View.set_slice_whole main_v0_1 (win0_5.rect t)).symm ▸ h⟩,
    (dats m 0 c).arrAt_eq_of_cover 6 _ (fun t _ => ?_) fun i => (cover i).imp fun t h =>
      ⟨(index t).2.2.2, (View.set_slice_whole main_v0_2 (win0_6.rect t)).symm ▸ h⟩⟩
  · rw [Value.flushed4, out0_4, View.canon_unit_zero hz]
    simp only [whole, k0_pay3, k0_pay2, k0_pay1, shapeCast_self]
    rfl
  · rw [Value.flushed5, out0_5, View.canon_unit_zero hz]
    simp only [whole, k0_pay1, shapeCast_self]
    rfl
  · rw [Value.flushed6, out0_6, View.canon_unit_zero hz]
    simp only [whole, k0_pay2, shapeCast_self]
    rfl

end Cert.AdamConv

open Cert.Adam in
theorem Cert.Proof.algebraic_adamConv : Cert.algebraic_Kernel27Ideal_Reference27Ideal
    (hKernel27Ideal := Cert.Kernel27Ideal.Gen.facts) (hReference27Ideal := Cert.Reference27Ideal.Gen.facts) := by
  intro m g m' g' _ hm
  refine ⟨fun c => Cert.AdamConv.rows m c delta,
    fun c => Cert.AdamConv.rows m c fun _ g m _ => first g m,
    fun c => Cert.AdamConv.rows m c fun _ g _ v => second g v, ?_, ?_⟩
  · refine (θ_run Cert.Kernel27Ideal.defs _ _).mono (fun r h c => ?_) (Cert.Kernel27Ideal.Value.run_blocks m g)
    obtain ⟨h4, h5, h6, h⟩ := h c
    obtain ⟨f4, f5, f6⟩ := Cert.AdamConv.final m c
    exact ⟨h4.trans f4, h5.trans f5, h6.trans f6, h⟩
  · refine (θ_run Cert.Reference27Ideal.defs _ _).mono (fun r h c => ?_) (Cert.Reference27Ideal.Value.run m' g')
    obtain ⟨h4, h5, h6, h⟩ := h c
    obtain ⟨e0, e1, e2, e3⟩ := hm c
    simp only [e0, e1, e2, e3] at h4 h5 h6
    exact ⟨h4, h5, h6, h⟩

namespace Cert.AdamScale

open Cert.Kernel28Ideal Cert.Kernel28Ideal.Gen Cert.Adam

variable (m : (ℓ : Loc nD τ sig) → Buf (Elt Ideal) ℓ) (c : Dev nD)

/-- The pools' scale and the spatial gates' norm: a function of the four numbers at a place. -/
def rows (f : R → R → R → R → R) : Vec Ideal S2x128 .f32 := each f (m ((c : Thread nD τ).loc main_arg0)) (m ((c : Thread nD τ).loc main_arg1))
  (m ((c : Thread nD τ).loc main_arg2)) (m ((c : Thread nD τ).loc main_arg3))

theorem index : ∀ t : Fin cfg0.N, (win0_4.index t 0 = t.val ∧ win0_4.index t 1 = 0)
    ∧ (cfg0.win 4).flush t = true ∧ (cfg0.win 5).flush t = true ∧ (cfg0.win 6).flush t = true := by decide +kernel

theorem cover (i : S2x128.Idx) : ∃ t : Fin cfg0.N, i ∈ (win0_4.rect t).set :=
  (block_of 2 N_0 rfl (by decide) (by decide) i fun t => (index t).1).imp fun _ h => Rect.mem_set_unit.2 (Fin.forall_fin_two.2 h)

theorem whole (x : Vec Ideal S2x128 .f32) : View.ld x r0_0 = x := View.ld_unit_zero hz _ x

theorem final : (dats m 0 c).arrAt 4 cfg0.N = rows m c delta
    ∧ (dats m 0 c).arrAt 5 cfg0.N = rows m c (fun _ g m _ => first g m)
    ∧ (dats m 0 c).arrAt 6 cfg0.N = rows m c (fun _ g _ v => second g v) := by
  refine ⟨(dats m 0 c).arrAt_eq_of_cover 4 _ (fun t _ => ?_) fun i => (cover i).imp fun t h =>
      ⟨(index t).2.1, (View.set_slice_whole main_v0_0 (win0_4.rect t)).symm ▸ h⟩,
    (dats m 0 c).arrAt_eq_of_cover 5 _ (fun t _ => ?_) fun i => (cover i).imp fun t h =>
      ⟨(index t).2.2.1, (View.set_slice_whole main_v0_1 (win0_5.rect t)).symm ▸ h⟩,
    (dats m 0 c).arrAt_eq_of_cover 6 _ (fun t _ => ?_) fun i => (cover i).imp fun t h =>
      ⟨(index t).2.2.2, (View.set_slice_whole main_v0_2 (win0_6.rect t)).symm ▸ h⟩⟩
  · rw [Value.flushed4, out0_4, View.canon_unit_zero hz]
    simp only [whole, k0_pay3, k0_pay2, k0_pay1, shapeCast_self]
    rfl
  · rw [Value.flushed5, out0_5, View.canon_unit_zero hz]
    simp only [whole, k0_pay1, shapeCast_self]
    rfl
  · rw [Value.flushed6, out0_6, View.canon_unit_zero hz]
    simp only [whole, k0_pay2, shapeCast_self]
    rfl

end Cert.AdamScale

open Cert.Adam in
theorem Cert.Proof.algebraic_adamScale : Cert.algebraic_Kernel28Ideal_Reference28Ideal
    (hKernel28Ideal := Cert.Kernel28Ideal.Gen.facts) (hReference28Ideal := Cert.Reference28Ideal.Gen.facts) := by
  intro m g m' g' _ hm
  refine ⟨fun c => Cert.AdamScale.rows m c delta,
    fun c => Cert.AdamScale.rows m c fun _ g m _ => first g m,
    fun c => Cert.AdamScale.rows m c fun _ g _ v => second g v, ?_, ?_⟩
  · refine (θ_run Cert.Kernel28Ideal.defs _ _).mono (fun r h c => ?_) (Cert.Kernel28Ideal.Value.run_blocks m g)
    obtain ⟨h4, h5, h6, h⟩ := h c
    obtain ⟨f4, f5, f6⟩ := Cert.AdamScale.final m c
    exact ⟨h4.trans f4, h5.trans f5, h6.trans f6, h⟩
  · refine (θ_run Cert.Reference28Ideal.defs _ _).mono (fun r h c => ?_) (Cert.Reference28Ideal.Value.run m' g')
    obtain ⟨h4, h5, h6, h⟩ := h c
    obtain ⟨e0, e1, e2, e3⟩ := hm c
    simp only [e0, e1, e2, e3] at h4 h5 h6
    exact ⟨h4, h5, h6, h⟩

end
-- ==== Proof.Totals.Devices.lean ====
/-
  The sum of eight devices' gradients, in blocks of eight rows.
-/
module

public import proofs.«01_k».proof.Defs
public import proofs.«01_k».proof.Proof.Gen.Kernel30Ideal.Value
public import proofs.«01_k».proof.Proof.Gen.Reference30Ideal.Run
public import proofs.«01_k».proof.Proof.Adam.Step

@[expose] public section

noncomputable section

open Idealize.ShloMosaic Idealize.ShloMosaic.TcCoe Idealize.SL.Sem
open Idealize.ShloMosaic.Pipeline (Dat)
open Cert.Prod

namespace Cert.Devices

open Cert.Kernel30Ideal Cert.Kernel30Ideal.Gen

def spec (g : Vec Ideal S8x376x1024 .f32) : Vec Ideal S376x1024 .f32 := fun j => ∑ d : Fin 8, g (ix3 d (j 0) (j 1))

/-- One device's rows of a block. -/
theorem device_apply (x : Vec Ideal S8x8x1024 .f32) (d : Fin 8) (h : S1x8x1024.ShapeCasts S8x1024)
    (inb : ∀ a, (![d.val, 0, 0] : Fin 3 → ℕ) a + S1x8x1024.size a ≤ S8x8x1024.size a) (r : Fin 8) (l : Fin 1024) :
    shapeCast S8x1024 (View.ld x (Rect.unit (s := S8x8x1024) ![d.val, 0, 0] S1x8x1024.size inb)) h (ix2 r l) = x (ix3 d r l) := by
  refine (shapeCast_dropUnit_apply ![8, 1024] _ h (ix2 r l)).trans (congrArg x ?_)
  funext a
  apply Fin.ext
  match a with
  | ⟨0, _⟩ => rfl
  | ⟨1, _⟩ => exact (Nat.zero_add _).trans (Nat.one_mul _)
  | ⟨2, _⟩ => exact (Nat.zero_add _).trans (Nat.one_mul _)

/-- The eight terms added in pairs. -/
theorem add_assoc8 (a b c d e f g h : EReal) :
    a + b + (c + d) + (e + f + (g + h)) = a + (b + (c + (d + (e + (f + (g + h)))))) := by
  simp only [add_assoc]

/-- What the body leaves of its block. -/
theorem out_apply (x : Vec Ideal S8x8x1024 .f32) (r : Fin 8) (l : Fin 1024) :
    out0_1 x (ix2 r l) = ∑ d : Fin 8, (x (ix3 d r l) : EReal) := by
  unfold out0_1
  rw [View.canon_unit_zero hz]
  refine Eq.trans ?_ (Finset.sum_congr rfl fun d _ => device_apply x d shapeCasts_S1x8x1024_S8x1024 (fun a => by
    have := d.isLt
    match a with
    | ⟨0, _⟩ => show d.val + 1 ≤ 8; omega
    | ⟨1, _⟩ => show 0 + 8 ≤ 8; omega
    | ⟨2, _⟩ => show 0 + 1024 ≤ 1024; omega) r l)
  rw [Fin.sum_univ_eight]
  simp only [add_assoc]
  unfold k0_pay1
  simp only [addf_apply]
  exact add_assoc8 _ _ _ _ _ _ _ _

variable (m : (ℓ : Loc nD τ sig) → Buf (Elt Ideal) ℓ) (c : Dev nD)

theorem index : ∀ t : Fin cfg0.N, (win0_0.index t 0 = 0 ∧ win0_0.index t 1 = t.val ∧ win0_0.index t 2 = 0)
    ∧ (win0_1.index t 0 = t.val ∧ win0_1.index t 1 = 0) ∧ (cfg0.win 1).flush t = true := by decide +kernel

/-- Row `r` of block `t`. -/
def row (t : Fin cfg0.N) (r : Fin 8) : Fin 376 := ⟨t.val * 8 + r.val, by have h : cfg0.N = 47 := N_0; have := t.isLt; omega⟩

abbrev gArr : Vec Ideal S8x376x1024 .f32 := m ((c : Thread nD τ).loc main_arg0)

theorem read (t : Fin cfg0.N) (d : Fin 8) (r : Fin 8) (l : Fin 1024) :
    (iblk m c 0 t : Vec Ideal S8x8x1024 .f32) (ix3 d r l) = gArr m c (ix3 d (row t r) l) := by
  obtain ⟨h0, h1, h2⟩ := (index t).1
  refine congrArg (gArr m c) (funext fun a => Fin.ext ?_)
  match a with
  | ⟨0, _⟩ => show win0_0.index t 0 * 8 + 1 * d.val = d.val; omega
  | ⟨1, _⟩ => show win0_0.index t 1 * 8 + 1 * r.val = t.val * 8 + r.val; omega
  | ⟨2, _⟩ => show win0_0.index t 2 * 1024 + 1 * l.val = l.val; omega

abbrev result : Buf (Elt Ideal) ((c : Thread nD τ).loc main_v0) := spec (gArr m c)

/-- The blocks are the whole sum. -/
theorem final : (dats m 0 c).arrAt 1 cfg0.N = result m c :=
  (dats m 0 c).arrAt_eq_of_cover 1 (result m c) (fun t _ => by
    rw [Value.flushed1]
    funext j
    rw [View.read_apply]
    show out0_1 (iblk m c 0 t) j = _
    obtain ⟨r, l, rfl⟩ : ∃ (r : Fin 8) (l : Fin 1024), j = ix2 r l := ⟨j 0, j 1, eq_ix2 j⟩
    have e : ((cfg0.win 1).blk t).view.emb (ix2 r l) = (ix2 (row t r) l : S376x1024.Idx) :=
      place 8 1024 t.val 0 r.val l.val (row t r) l rfl (by omega) _ (index t).2.1 rfl rfl
    rw [e, out_apply]
    exact Finset.sum_congr (M := EReal) rfl fun d _ => read m c t d r l) fun i =>
  (Cert.Adam.block_of 8 N_0 rfl (by decide) (by decide) i fun t => (index t).2.1).imp fun t h =>
    ⟨(index t).2.2, (View.set_slice_whole main_v0 (win0_1.rect t)).symm ▸ Rect.mem_set_unit.2 (Fin.forall_fin_two.2 h)⟩

end Cert.Devices

namespace Cert.Devices

open Cert.Reference30Ideal Cert.Reference30Ideal.Facts₀ Cert.Reference30Ideal.Facts

/-- The reference's sum over the devices is the same sum. -/
theorem reference_eq (g : FVec Ideal S8x376x1024 .f32) :
    Host.reduceAdd g (constant S_ .f32 0x00000000#32) reducesTo_S8x376x1024_S376x1024_d0 h_S_ = spec g := by
  funext j
  obtain ⟨r, l, rfl⟩ : ∃ (r : Fin 376) (l : Fin 1024), j = ix2 r l := ⟨j 0, j 1, eq_ix2 j⟩
  unfold spec
  pointwise

end Cert.Devices

/-- The value claim of the sum over the devices. -/
theorem Cert.Proof.algebraic_devices : Cert.algebraic_Kernel30Ideal_Reference30Ideal (hKernel30Ideal := Cert.Kernel30Ideal.Gen.facts)
    (hReference30Ideal := Cert.Reference30Ideal.Gen.facts) := by
  intro m g m' g' _ hm
  refine ⟨fun c => Cert.Devices.result m c, ?_, ?_⟩
  · refine (θ_run Cert.Kernel30Ideal.defs _ _).mono (fun r h c => ?_) (Cert.Kernel30Ideal.Value.run_blocks m g)
    exact ⟨(h c).1.trans (Cert.Devices.final m c), (h c).2⟩
  · refine (θ_run Cert.Reference30Ideal.defs _ _).mono (fun r h c => ?_) (Cert.Reference30Ideal.Value.run m' g')
    exact ⟨(h c).1.trans ((Cert.Devices.reference_eq _).trans (congrArg Cert.Devices.spec (hm c))), (h c).2⟩

end
-- ==== Proof.Totals.Rows.lean ====
/-
  The gradient of the modulations' offsets: every layer's sixteen rows added up.
-/
module

public import proofs.«01_k».proof.Defs
public import proofs.«01_k».proof.Proof.Gen.Kernel31Ideal.Value
public import proofs.«01_k».proof.Proof.Gen.Reference31Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.RowSum

open Cert.Kernel31Ideal Cert.Kernel31Ideal.Gen

def spec (d : Vec Ideal S4x16x6144 .f32) : Vec Ideal S4x1x6144 .f32 := fun j => ∑ b : Fin 16, (d (ix3 (j 0) b (j 2)) : EReal)

/-- What the body leaves of its block. -/
theorem out_apply (x : Vec Ideal S1x16x6144 .f32) (l : Fin 6144) :
    out0_1 x (ix3 (0 : Fin 1) (0 : Fin 1) l) = ∑ b : Fin 16, (x (ix3 (0 : Fin 1) b l) : EReal) := by
  unfold out0_1
  rw [View.canon_unit_zero hz3]
  simp only [View.ld_unit_zero (S := S1x16x6144) hz3]
  unfold k0_pay1
  dsimp only
  rw [shapeCast_apply _ _ (ix3 (0 : Fin 1) (0 : Fin 1) l) (ix2 (0 : Fin 1) l) (by
      rw [Shape.rowMajor_val_three, Shape.rowMajor_val_two]; show 0 * 6144 + l.val = (0 * 1 + 0) * 6144 + l.val; omega),
    shapeCast_apply _ _ (ix2 (0 : Fin 1) l) (ix1 l) (by
      rw [Shape.rowMajor_val_two, Shape.rowMajor_val_one]; show l.val = 0 * 6144 + l.val; omega)]
  refine Eq.trans ?_ (Finset.sum_congr rfl fun b _ => (shapeCast_dropUnit_apply ![16, 6144] x shapeCasts_S1x16x6144_S16x6144
    (ix2 b l)).trans (congrArg x (funext fun a => by fin_cases a <;> rfl)))
  pointwise

variable (m : (ℓ : Loc nD τ sig) → Buf (Elt Ideal) ℓ) (c : Dev nD)

theorem index : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) ∧ (cfg0.win 1).flush t = true := by decide +kernel

/-- The layer of point `t`. -/
def layer (t : Fin cfg0.N) : Fin 4 := ⟨t.val, by have h : cfg0.N = 4 := N_0; omega⟩

abbrev dArr : Vec Ideal S4x16x6144 .f32 := m ((c : Thread nD τ).loc main_arg0)

theorem read (t : Fin cfg0.N) (b : Fin 16) (l : Fin 6144) :
    (iblk m c 0 t : Vec Ideal S1x16x6144 .f32) (ix3 (0 : Fin 1) b l) = dArr m c (ix3 (layer t) b l) :=
  congrArg (dArr m c) (place_part _ (layer t) b l rfl _ (index t).1 rfl rfl rfl)

abbrev result : Buf (Elt Ideal) ((c : Thread nD τ).loc main_v0) := spec (dArr m c)

/-- The four blocks are the whole result. -/
theorem final : (dats m 0 c).arrAt 1 cfg0.N = result m c :=
  (dats m 0 c).arrAt_eq_of_cover 1 (result m c) (fun t _ => by
    rw [Value.flushed1]
    funext j
    rw [View.read_apply]
    show out0_1 (iblk m c 0 t) j = _
    obtain ⟨z, y, l, rfl⟩ : ∃ (z y : Fin 1) (l : Fin 6144), j = ix3 z y l := ⟨j 0, j 1, j 2, eq_ix3 j⟩
    obtain rfl : z = 0 := Subsingleton.elim _ _
    obtain rfl : y = 0 := Subsingleton.elim _ _
    have e : ((cfg0.win 1).blk t).view.emb (ix3 (0 : Fin 1) (0 : Fin 1) l) = (ix3 (layer t) (0 : Fin 1) l : S4x1x6144.Idx) :=
      place_part _ (layer t) 0 l rfl _ (index t).2.1 rfl rfl rfl
    rw [e, out_apply]
    exact Finset.sum_congr (M := EReal) rfl fun b _ => read m c t b l) fun i => by
    have hi0 : (i 0 : Nat) < 4 := (i 0).isLt
    have hi1 : (i 1 : Nat) < 1 := (i 1).isLt
    have hi2 : (i 2 : Nat) < 6144 := (i 2).isLt
    have hN : cfg0.N = 4 := N_0
    obtain ⟨t, ht⟩ : ∃ t : Fin cfg0.N, t.val = (i 0).val := ⟨⟨(i 0).val, by omega⟩, rfl⟩
    obtain ⟨h0, h1, h2⟩ := (index t).2.1
    refine ⟨t, (index t).2.2, ?_⟩
    show i ∈ ((View.whole main_v0).slice (win0_1.rect t)).set
    rw [View.set_slice_whole, Rect.mem_set_unit]
    intro a
    match a with
    | ⟨0, _⟩ => show win0_1.index t 0 * 1 ≤ (i 0 : Nat) ∧ (i 0 : Nat) < win0_1.index t 0 * 1 + 1; omega
    | ⟨1, _⟩ => show win0_1.index t 1 * 1 ≤ (i 1 : Nat) ∧ (i 1 : Nat) < win0_1.index t 1 * 1 + 1; omega
    | ⟨2, _⟩ => show win0_1.index t 2 * 6144 ≤ (i 2 : Nat) ∧ (i 2 : Nat) < win0_1.index t 2 * 6144 + 6144; omega

end Cert.RowSum

namespace Cert.RowSum

open Cert.Reference31Ideal Cert.Reference31Ideal.Facts₀ Cert.Reference31Ideal.Facts

/-- The reference's sum over the rows is the same sum. -/
theorem reference_eq (d : FVec Ideal S4x16x6144 .f32) :
    broadcastInDim S4x1x6144 ![0, 2] bcast_S4x6144_S4x1x6144_0_2 (Host.reduceAdd d (constant S_ .f32 0x00000000#32)
      reducesTo_S4x16x6144_S4x6144_d1 h_S_) = spec d := by
  funext j
  obtain ⟨p, y, l, rfl⟩ : ∃ (p : Fin 4) (y : Fin 1) (l : Fin 6144), j = ix3 p y l := ⟨j 0, j 1, j 2, eq_ix3 j⟩
  unfold spec
  rw [broadcastInDim_apply _ _ _ (ix3 p y l) (ix2 p l) (fun a => by fin_cases a <;> rfl)]
  pointwise

end Cert.RowSum

/-- The value claim of the sum over the rows. -/
theorem Cert.Proof.algebraic_rowSum : Cert.algebraic_Kernel31Ideal_Reference31Ideal (hKernel31Ideal := Cert.Kernel31Ideal.Gen.facts)
    (hReference31Ideal := Cert.Reference31Ideal.Gen.facts) := by
  intro m g m' g' _ hm
  refine ⟨fun c => Cert.RowSum.result m c, ?_, ?_⟩
  · refine (θ_run Cert.Kernel31Ideal.defs _ _).mono (fun r h c => ?_) (Cert.Kernel31Ideal.Value.run_blocks m g)
    exact ⟨(h c).1.trans (Cert.RowSum.final m c), (h c).2⟩
  · refine (θ_run Cert.Reference31Ideal.defs _ _).mono (fun r h c => ?_) (Cert.Reference31Ideal.Value.run m' g')
    exact ⟨(h c).1.trans ((Cert.RowSum.reference_eq _).trans (congrArg Cert.RowSum.spec (hm c))), (h c).2⟩

end
-- ==== Proof.Totals.Context.lean ====
/-
  The gradient of the context's vector: the four parts added up, through the derivative of silu.
-/
module

public import proofs.«01_k».proof.Defs
public import proofs.«01_k».proof.Proof.Gen.Kernel34Ideal.Value
public import proofs.«01_k».proof.Proof.Gen.Reference34Ideal.Run
public import proofs.«01_k».proof.Proof.Gen.Pre_finite_parts
public import proofs.«01_k».proof.Proof.Finite
public import proofs.«01_k».proof.Proof.Products

@[expose] public section

noncomputable section

open Idealize.ShloMosaic Idealize.ShloMosaic.TcCoe Idealize.SL.Sem
open Cert.Prod

namespace Cert.Context

/-- The derivative of `c · logistic c`, times the cotangent `t`. -/
def dsilu (t c : EReal) : EReal := t * (Ideal.logistic c * (1 + c * (1 - Ideal.logistic c)))

/-- The product rule's arrangement of it: the same for a real cotangent, of whatever `c`. -/
theorem dsilu_eq (t : ℝ) (c : EReal) :
    (t : EReal) * Ideal.logistic c + c * (t : EReal) * (Ideal.logistic c * (1 - Ideal.logistic c)) = dsilu t c := by
  unfold dsilu
  induction c using EReal.rec with
  | bot => simp
  | top => rw [Ideal.logistic_top, show (1 : EReal) - 1 = 0 from EReal.sub_self (EReal.coe_ne_top 1) (EReal.coe_ne_bot 1)]; simp
  | coe x =>
    rw [Ideal.logistic_coe]
    norm_cast
    ring

open Cert.Kernel34Ideal Cert.Kernel34Ideal.Gen

def spec (p : Vec Ideal S4x1024 .f32) (x : Vec Ideal S1x1024 .f32) : Vec Ideal S1x1024 .f32 :=
  fun j => dsilu (∑ k : Fin 4, (p (ix2 k (j 1)) : EReal)) (x (ix2 (0 : Fin 1) (j 1)))

/-- One part. -/
theorem part_apply (p : Vec Ideal S4x1024 .f32) (k : Fin 4)
    (inb : ∀ a, (![k.val, 0] : Fin 2 → ℕ) a + S1x1024.size a ≤ S4x1024.size a) (l : Fin 1024) :
    View.ld p (Rect.unit (s := S4x1024) ![k.val, 0] S1x1024.size inb) (ix2 (0 : Fin 1) l) = p (ix2 k l) := by
  refine congrArg p (funext fun a => Fin.ext ?_)
  match a with
  | ⟨0, _⟩ => rfl
  | ⟨1, _⟩ => exact (Nat.zero_add _).trans (Nat.one_mul _)

/-- What the body stores. -/
theorem out_eq (p : Vec Ideal S4x1024 .f32) (x : Vec Ideal S1x1024 .f32) : Value.G2 p x = spec p x := by
  funext j
  obtain ⟨z, l, rfl⟩ : ∃ (z : Fin 1) (l : Fin 1024), j = ix2 z l := ⟨j 0, j 1, eq_ix2 j⟩
  obtain rfl : z = 0 := Subsingleton.elim _ _
  unfold Value.G2 k0_pay1
  show _ = dsilu (∑ k : Fin 4, (p (ix2 k l) : EReal)) (x (ix2 (0 : Fin 1) l))
  rw [Fin.sum_univ_four, ← part_apply p 0 inb_S4x1024_S1x1024_0_0, ← part_apply p 1 inb_S4x1024_S1x1024_1_0,
    ← part_apply p 2 inb_S4x1024_S1x1024_2_0, ← part_apply p 3 inb_S4x1024_S1x1024_3_0, add_assoc (_ + _)]
  unfold dsilu
  pointwise

end Cert.Context

namespace Cert.Context

open Cert.Reference34Ideal Cert.Reference34Ideal.Facts₀ Cert.Reference34Ideal.Facts

/-- The reference's `1 / (1 + exp (-x))`. -/
abbrev gate (x : FVec Ideal S1x1024 .f32) : FVec Ideal S1x1024 .f32 :=
  Host.divf (broadcastInDim S1x1024 ![] bcast_S_S1x1024 (constant S_ .f32 0x3F800000#32)) (addf (broadcastInDim S1x1024 ![] bcast_S_S1x1024 (constant S_ .f32 0x3F800000#32)) (Host.exp (Host.negf x)))

/-- Its sum of the parts. -/
abbrev total (p : FVec Ideal S4x1024 .f32) : FVec Ideal S1x1024 .f32 :=
  broadcastInDim S1x1024 ![1] bcast_S1024_S1x1024_1 (Host.reduceAdd p (constant S_ .f32 0x00000000#32) reducesTo_S4x1024_S1024_d0 h_S_)

/-- The reference's gradient is the same, of finite parts. -/
theorem reference_eq (p : FVec Ideal S4x1024 .f32) (x : FVec Ideal S1x1024 .f32) (h : Cert.Finite.All p) :
    addf (mulf (total p) (gate x)) (mulf (mulf x (total p)) (mulf (gate x)
      (subf (broadcastInDim S1x1024 ![] bcast_S_S1x1024 (constant S_ .f32 0x3F800000#32)) (gate x)))) = spec p x := by
  funext j
  obtain ⟨z, l, rfl⟩ : ∃ (z : Fin 1) (l : Fin 1024), j = ix2 z l := ⟨j 0, j 1, eq_ix2 j⟩
  obtain rfl : z = 0 := Subsingleton.elim _ _
  have ht : total p (ix2 (0 : Fin 1) l) = ∑ k : Fin 4, (p (ix2 k l) : EReal) := by
    unfold total
    rw [broadcastInDim_apply _ _ _ (ix2 (0 : Fin 1) l) (ix1 l) (fun a => by fin_cases a; rfl)]
    pointwise
  have hr : (∑ k : Fin 4, (p (ix2 k l) : EReal)) = ((∑ k : Fin 4, (p (ix2 k l) : EReal).toReal : ℝ) : EReal) := by
    rw [← Cert.Finite.sum_coe]
    exact Finset.sum_congr rfl fun k _ => h _
  show _ = dsilu (∑ k : Fin 4, (p (ix2 k l) : EReal)) (x (ix2 (0 : Fin 1) l))
  rw [hr, ← dsilu_eq, ← hr, ← ht]
  pointwise [gate]
  rfl

end Cert.Context

namespace Cert.Context

open Cert.Pre_finite_parts

instance : Subsingleton S_.Idx := ⟨fun a b => funext fun i => i.elim0⟩

/-- The precondition says that the parts are finite. -/
theorem finite_of_pre (p : FVec Ideal S4x1024 .f32) (x : FVec Ideal S1x1024 .f32)
    (h : Cert.Pre_finite_parts.fn (F := Ideal) p x = fun _ => 1#1) : Cert.Finite.All p := fun i => by
  have e := congrFun h (fun i => i.elim0)
  unfold Cert.Pre_finite_parts.fn at e
  have := Host.reduce_andi_all _ _ _ _ _ e i
  exact Cert.Finite.real_of_cmp _ (by rw [← Cert.Finite.word_top]; exact this)

end Cert.Context

/-- The value claim of the context's gradient. -/
theorem Cert.Proof.algebraic_context : Cert.algebraic_Kernel34Ideal_Reference34Ideal_pre_finite_parts
    (hKernel34Ideal := Cert.Kernel34Ideal.Gen.facts) (hReference34Ideal := Cert.Reference34Ideal.Gen.facts)
    (hPre_finite_parts := Cert.Pre_finite_parts.Gen.facts) := by
  intro m g m' g' hp hm
  refine ⟨fun c => Cert.Context.spec (m ((c.tc : Thread _ _).loc Cert.Kernel34Ideal.main_arg0))
    (m ((c.tc : Thread _ _).loc Cert.Kernel34Ideal.main_arg1)), ?_, ?_⟩
  · refine (θ_run Cert.Kernel34Ideal.defs _ _).mono (fun r h c => ?_) (Cert.Kernel34Ideal.Value.run m g)
    exact ⟨(h c).1.trans (Cert.Context.out_eq _ _), (h c).2⟩
  · refine (θ_run Cert.Reference34Ideal.defs _ _).mono (fun r h c => ?_) (Cert.Reference34Ideal.Value.run m' g')
    refine ⟨(h c).1.trans ?_, (h c).2⟩
    obtain ⟨e0, e1⟩ := hm c
    rw [e0, e1]
    exact Cert.Context.reference_eq _ _ (Cert.Context.finite_of_pre _ _ (hp c))

end
-- ==== Proof.Modulation.Forward.lean ====
/-
  The modulations of the layers: one product for each layer, of the context's rows after silu, and an offset.
-/
module

public import proofs.«01_k».proof.Defs
public import proofs.«01_k».proof.Proof.Gen.Kernel32Ideal.Value
public import proofs.«01_k».proof.Proof.Gen.Reference32Ideal.Run
public import proofs.«01_k».proof.Proof.Products

@[expose] public section

noncomputable section

open Idealize.ShloMosaic Idealize.ShloMosaic.TcCoe Idealize.SL.Sem
open Idealize.ShloMosaic.Pipeline (Dat)
open Cert.Prod

namespace Cert.Modulation

/-- A layer's block, its leading axis of one dropped. -/
theorem layer_apply {K L : ℕ} (y : Vec Ideal ⟨3, ![1, K, L]⟩ .f32) (h : (⟨3, ![1, K, L]⟩ : Shape).ShapeCasts ⟨2, ![K, L]⟩)
    (k : Fin K) (l : Fin L) : shapeCast ⟨2, ![K, L]⟩ y h (ix2 k l) = y (ix3 (0 : Fin 1) k l) :=
  (shapeCast_dropUnit_apply ![K, L] y h (ix2 k l)).trans (congrArg y (funext fun a => by fin_cases a <;> rfl))

def silu (x : EReal) : EReal := x * Ideal.logistic x

open Cert.Kernel32Ideal Cert.Kernel32Ideal.Gen

def spec (c : Vec Ideal S16x1024 .f32) (w : Vec Ideal S4x1024x1536 .f32) (b : Vec Ideal S4x1x1536 .f32) : Vec Ideal S4x16x1536 .f32 :=
  fun j => (∑ k : Fin 1024, silu (c (ix2 (j 1) k)) * (w (ix3 (j 0) k (j 2)) : EReal)) + (b (ix3 (j 0) (0 : Fin 1) (j 2)) : EReal)

/-- What the body leaves of its blocks. -/
theorem out_apply (c : Vec Ideal S16x1024 .f32) (w : Vec Ideal S1x1024x1536 .f32) (b : Vec Ideal S1x1x1536 .f32) (r : Fin 16) (l : Fin 1536) :
    out0_3 c w b (ix3 (0 : Fin 1) r l)
      = (∑ k : Fin 1024, silu (c (ix2 r k)) * (w (ix3 (0 : Fin 1) k l) : EReal)) + (b (ix3 (0 : Fin 1) (0 : Fin 1) l) : EReal) := by
  unfold out0_3
  rw [View.canon_unit_zero hz3]
  simp only [View.ld_unit_zero (S := S16x1024) hz, View.ld_unit_zero (S := S1x1024x1536) hz3, View.ld_unit_zero (S := S1x1x1536) hz3]
  unfold k0_pay1
  refine (shapeCast_addUnit_apply ![16, 1536] _ _ (ix3 (0 : Fin 1) r l)).trans ?_
  rw [show (fun a : Fin 2 => (ix3 (0 : Fin 1) r l : S1x16x1536.Idx) a.succ) = (ix2 r l : S16x1536.Idx) from
    funext fun a => by fin_cases a <;> rfl]
  rw [← layer_apply b shapeCasts_S1x1x1536_S1x1536 0 l]
  refine Eq.trans ?_ (congrArg (· + _) (Finset.sum_congr rfl fun k _ => congrArg (silu (c (ix2 r k)) * ·) (layer_apply w shapeCasts_S1x1024x1536_S1024x1536 k l)))
  pointwise [silu]

variable (m : (ℓ : Loc nD τ sig) → Buf (Elt Ideal) ℓ) (c : Dev nD)

theorem index : ∀ t : Fin cfg0.N, (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) ∧ (cfg0.win 3).flush t = true := by decide +kernel

/-- The layer of point `t`. -/
def layer (t : Fin cfg0.N) : Fin 4 := ⟨t.val, by have h : cfg0.N = 4 := N_0; omega⟩

abbrev cArr : Vec Ideal S16x1024 .f32 := m ((c : Thread nD τ).loc main_arg0)
abbrev wArr : Vec Ideal S4x1024x1536 .f32 := m ((c : Thread nD τ).loc main_arg1)
abbrev bArr : Vec Ideal S4x1x1536 .f32 := m ((c : Thread nD τ).loc main_arg2)

theorem rows (t : Fin cfg0.N) (r : Fin 16) (k : Fin 1024) :
    (iblk m c 0 t : Vec Ideal S16x1024 .f32) (ix2 r k) = cArr m c (ix2 r k) :=
  congrArg (cArr m c) (place 16 1024 _ _ r.val k.val r k (by omega) (by omega) _ (index t).1 rfl rfl)

theorem weight (t : Fin cfg0.N) (k : Fin 1024) (l : Fin 1536) :
    (iblk m c 1 t : Vec Ideal S1x1024x1536 .f32) (ix3 (0 : Fin 1) k l) = wArr m c (ix3 (layer t) k l) :=
  congrArg (wArr m c) (place_part _ (layer t) k l rfl _ (index t).2.1 rfl rfl rfl)

theorem offset (t : Fin cfg0.N) (l : Fin 1536) :
    (iblk m c 2 t : Vec Ideal S1x1x1536 .f32) (ix3 (0 : Fin 1) (0 : Fin 1) l) = bArr m c (ix3 (layer t) (0 : Fin 1) l) :=
  congrArg (bArr m c) (place_part _ (layer t) 0 l rfl _ (index t).2.2.1 rfl rfl rfl)

abbrev result : Buf (Elt Ideal) ((c : Thread nD τ).loc main_v0) := spec (cArr m c) (wArr m c) (bArr m c)

/-- The four blocks are the whole result. -/
theorem final : (dats m 0 c).arrAt 3 cfg0.N = result m c :=
  (dats m 0 c).arrAt_eq_of_cover 3 (result m c) (fun t _ => by
    rw [Value.flushed3]
    funext j
    rw [View.read_apply]
    show out0_3 (iblk m c 0 t) (iblk m c 1 t) (iblk m c 2 t) j = _
    obtain ⟨z, r, l, rfl⟩ : ∃ (z : Fin 1) (r : Fin 16) (l : Fin 1536), j = ix3 z r l := ⟨j 0, j 1, j 2, eq_ix3 j⟩
    obtain rfl : z = 0 := Subsingleton.elim _ _
    have e : ((cfg0.win 3).blk t).view.emb (ix3 (0 : Fin 1) r l) = (ix3 (layer t) r l : S4x16x1536.Idx) :=
      place_part _ (layer t) r l rfl _ (index t).2.2.2.1 rfl rfl rfl
    rw [e, out_apply]
    exact congrArg₂ (fun u v : EReal => u + v) (sum_mul_congr (fun k => congrArg silu (rows m c t r k)) fun k => weight m c t k l)
      (offset m c t l)) fun i => by
    have hi0 : (i 0 : Nat) < 4 := (i 0).isLt
    have hi1 : (i 1 : Nat) < 16 := (i 1).isLt
    have hi2 : (i 2 : Nat) < 1536 := (i 2).isLt
    have hN : cfg0.N = 4 := N_0
    obtain ⟨t, ht⟩ : ∃ t : Fin cfg0.N, t.val = (i 0).val := ⟨⟨(i 0).val, by omega⟩, rfl⟩
    obtain ⟨h0, h1, h2⟩ := (index t).2.2.2.1
    refine ⟨t, (index t).2.2.2.2, ?_⟩
    show i ∈ ((View.whole main_v0).slice (win0_3.rect t)).set
    rw [View.set_slice_whole, Rect.mem_set_unit]
    have e := inside 16 1536 0 0 (by decide) (by decide) (i 1).val (i 2).val ⟨h1, h2⟩ (by omega) (by omega)
    intro a
    match a with
    | ⟨0, _⟩ => show win0_3.index t 0 * 1 ≤ (i 0 : Nat) ∧ (i 0 : Nat) < win0_3.index t 0 * 1 + 1; omega
    | ⟨1, _⟩ => exact e.1
    | ⟨2, _⟩ => exact e.2

end Cert.Modulation

namespace Cert.Modulation

open Cert.Reference32Ideal Cert.Reference32Ideal.Facts₀ Cert.Reference32Ideal.Facts

/-- The reference's modulations are the same. -/
theorem reference_eq (c : FVec Ideal S16x1024 .f32) (w : FVec Ideal S4x1024x1536 .f32) (b : FVec Ideal S4x1x1536 .f32) :
    addf (transpose S4x16x1536 [0, 2, 1] (Host.dotGeneral dot_S4x1024x1536_S16x1024_S4x1536x16_1_1_02_0_n_n none w
      (mulf c (Host.divf (broadcastInDim S16x1024 ![] bcast_S_S16x1024 (constant S_ .f32 0x3F800000#32))
        (addf (broadcastInDim S16x1024 ![] bcast_S_S16x1024 (constant S_ .f32 0x3F800000#32)) (Host.exp (Host.negf c))))))
      transposes_S4x1536x16_S4x16x1536_0_2_1) (broadcastInDim S4x16x1536 ![0, 1, 2] bcast_S4x1x1536_S4x16x1536_0_1_2 b)
    = spec c w b := by
  funext j
  obtain ⟨p, r, l, rfl⟩ : ∃ (p : Fin 4) (r : Fin 16) (l : Fin 1536), j = ix3 p r l := ⟨j 0, j 1, j 2, eq_ix3 j⟩
  rw [addf_apply, transpose_apply _ _ _ (ix3 p r l) (ix3 p l r) (fun b => by fin_cases b <;> rfl),
    broadcastInDim_apply _ _ _ (ix3 p r l) (ix3 p (0 : Fin 1) l) (fun a => by fin_cases a <;> rfl)]
  refine congrArg₂ (fun u v : EReal => u + v) (Eq.trans ?_ (Finset.sum_congr rfl fun k _ => mul_comm (w (ix3 p k l) : EReal) (silu (c (ix2 r k))))) rfl
  pointwise [silu]
  rfl

end Cert.Modulation

/-- The value claim of the modulations. -/
theorem Cert.Proof.algebraic_modulation : Cert.algebraic_Kernel32Ideal_Reference32Ideal (hKernel32Ideal := Cert.Kernel32Ideal.Gen.facts)
    (hReference32Ideal := Cert.Reference32Ideal.Gen.facts) := by
  intro m g m' g' _ hm
  refine ⟨fun c => Cert.Modulation.result m c, ?_, ?_⟩
  · refine (θ_run Cert.Kernel32Ideal.defs _ _).mono (fun r h c => ?_) (Cert.Kernel32Ideal.Value.run_blocks m g)
    exact ⟨(h c).1.trans (Cert.Modulation.final m c), (h c).2⟩
  · refine (θ_run Cert.Reference32Ideal.defs _ _).mono (fun r h c => ?_) (Cert.Reference32Ideal.Value.run m' g')
    refine ⟨(h c).1.trans ?_, (h c).2⟩
    obtain ⟨e0, e1, e2⟩ := hm c
    rw [e0, e1, e2]
    exact Cert.Modulation.reference_eq _ _ _

end
-- ==== Proof.Modulation.Backward.lean ====
/-
  The gradients of the modulations: a weight's gradient for each layer, and the gradient that reaches the context, which the
  launch adds up in one block, layer by layer.
-/
module

public import proofs.«01_k».proof.Proof.Gen.Kernel33Ideal.Value
public import proofs.«01_k».proof.Proof.Gen.Reference33Ideal.Run
public import proofs.«01_k».proof.Proof.Modulation.Forward

@[expose] public section

noncomputable section

open Idealize.ShloMosaic Idealize.ShloMosaic.TcCoe Idealize.SL.Sem
open Idealize.ShloMosaic.Pipeline (Dat)
open Cert.Prod

namespace Cert.ModulationBwd

open Cert.Modulation (silu layer_apply)
open Cert.Kernel33Ideal Cert.Kernel33Ideal.Gen

def specW (c : Vec Ideal S16x1024 .f32) (d : Vec Ideal S4x16x1536 .f32) : Vec Ideal S4x1024x1536 .f32 :=
  fun j => ∑ b : Fin 16, silu (c (ix2 b (j 1))) * (d (ix3 (j 0) b (j 2)) : EReal)

def specC (d : Vec Ideal S4x16x1536 .f32) (w : Vec Ideal S4x1024x1536 .f32) : Vec Ideal S16x1024 .f32 :=
  fun j => ∑ p : Fin 4, ∑ n : Fin 1536, (d (ix3 p (j 0) n) : EReal) * (w (ix3 p (j 1) n) : EReal)

/-- A layer's weight's gradient. -/
def outer (x : Vec Ideal S16x1024 .f32) (y : Vec Ideal S1x16x1536 .f32) : Vec Ideal S1x1024x1536 .f32 :=
  fun j => ∑ b : Fin 16, silu (x (ix2 b (j 1))) * (y (ix3 (0 : Fin 1) b (j 2)) : EReal)

/-- A layer's part of the context's gradient. -/
def cross (y : Vec Ideal S1x16x1536 .f32) (z : Vec Ideal S1x1024x1536 .f32) : FVec Ideal S16x1024 .f32 :=
  fun j => ∑ n : Fin 1536, (y (ix3 (0 : Fin 1) (j 0) n) : EReal) * (z (ix3 (0 : Fin 1) (j 1) n) : EReal)

theorem pay3_eq (x : Vec Ideal S16x1024 .f32) (y : Vec Ideal S1x16x1536 .f32) : k0_pay3 y x = outer x y := by
  funext j
  obtain ⟨z, q, n, rfl⟩ : ∃ (z : Fin 1) (q : Fin 1024) (n : Fin 1536), j = ix3 z q n := ⟨j 0, j 1, j 2, eq_ix3 j⟩
  unfold k0_pay3 k0_pay2 outer
  refine (shapeCast_addUnit_apply ![1024, 1536] _ _ (ix3 z q n)).trans ?_
  rw [show (fun a : Fin 2 => (ix3 z q n : S1x1024x1536.Idx) a.succ) = (ix2 q n : S1024x1536.Idx) from
    funext fun a => by fin_cases a <;> rfl]
  refine Eq.trans ?_ (Finset.sum_congr rfl fun b _ => congrArg (silu (x (ix2 b q)) * ·) (layer_apply y shapeCasts_S1x16x1536_S16x1536 b n))
  pointwise [silu]

theorem pay4_eq (y : Vec Ideal S1x16x1536 .f32) (o : Vec Ideal S16x1024 .f32) (z : Vec Ideal S1x1024x1536 .f32) :
    k0_pay4 y o z = (addf o (cross y z) : FVec Ideal S16x1024 .f32) := by
  funext j
  obtain ⟨b, q, rfl⟩ : ∃ (b : Fin 16) (q : Fin 1024), j = ix2 b q := ⟨j 0, j 1, eq_ix2 j⟩
  unfold k0_pay4 k0_pay2
  rw [shapeCast_self, addf_apply, addf_apply]
  refine congrArg (o (ix2 b q) + ·) (Eq.trans ?_ (sum_mul_congr (layer_apply y shapeCasts_S1x16x1536_S16x1536 b)
    (layer_apply z shapeCasts_S1x1024x1536_S1024x1536 q)))
  pointwise

theorem out_A (c : Dev nD) (i : grid0.Coords) (a1 : Memref sig .tc .vmem S16x1024 .f32) (h1 : a1.IsWhole)
    (a2 : Memref sig .tc .vmem S1x16x1536 .f32) (h2 : a2.IsWhole) (a3 : Memref sig .tc .vmem S1x1024x1536 .f32) (h3 : a3.IsWhole)
    (a4 : Memref sig .tc .vmem S1x1024x1536 .f32) (h4 : a4.IsWhole) (a5 : Memref sig .tc .vmem S16x1024 .f32) (h5 : a5.IsWhole)
    (hc : cond0_0 i) (x : Vec Ideal S16x1024 .f32) (y : Vec Ideal S1x16x1536 .f32) (z : Vec Ideal S1x1024x1536 .f32) :
    out0_A_3 c i a1 h1 a2 h2 a3 h3 a4 h4 a5 h5 hc x y z = outer x y
    ∧ out0_A_4 c i a1 h1 a2 h2 a3 h3 a4 h4 a5 h5 hc x y z = cross y z := by
  unfold out0_A_3 out0_A_4
  rw [View.read_writes_eq_canon _ _ _ (cover0_A_3 c i a1 h1 a2 h2 a3 h3 a4 h4 a5 h5 hc x y z),
    View.read_writes_eq_canon _ _ _ (cover0_A_4 c i a1 h1 a2 h2 a3 h3 a4 h4 a5 h5 hc x y z)]
  unfold kernelRun0_A
  dsimp only
  rw [View.canon_unit_zero hz3, pay3_eq, pay4_eq]
  simp only [View.readAt_eq_ld, h1.read_unread, h2.read_unread, h3.read_unread, View.ld_unit_zero (S := S16x1024) hz,
    View.ld_unit_zero (S := S1x16x1536) hz3, View.ld_unit_zero (S := S1x1024x1536) hz3, true_and]
  rw [View.canon_cons_unit_zero hz]
  unfold kernelRun0_A.sl.v14 kernelRun0_A.sl.H4_1
  rw [View.readCov_unit_zero _ hz]
  funext j
  exact (congrArg (· + cross y z j) Ideal.ofBits_zero_f32).trans (zero_add _)

theorem out_B (c : Dev nD) (i : grid0.Coords) (a1 : Memref sig .tc .vmem S16x1024 .f32) (h1 : a1.IsWhole)
    (a2 : Memref sig .tc .vmem S1x16x1536 .f32) (h2 : a2.IsWhole) (a3 : Memref sig .tc .vmem S1x1024x1536 .f32) (h3 : a3.IsWhole)
    (a4 : Memref sig .tc .vmem S1x1024x1536 .f32) (h4 : a4.IsWhole) (a5 : Memref sig .tc .vmem S16x1024 .f32) (h5 : a5.IsWhole)
    (hc : ¬cond0_0 i) (x : Vec Ideal S16x1024 .f32) (y : Vec Ideal S1x16x1536 .f32) (z : Vec Ideal S1x1024x1536 .f32)
    (o : FVec Ideal S16x1024 .f32) :
    out0_B_3 c i a1 h1 a2 h2 a3 h3 a4 h4 a5 h5 hc x y z o = outer x y
    ∧ out0_B_4 c i a1 h1 a2 h2 a3 h3 a4 h4 a5 h5 hc x y z o = (addf o (cross y z) : FVec Ideal S16x1024 .f32) := by
  unfold out0_B_3 out0_B_4
  rw [View.read_writes_eq_canon _ _ _ (cover0_B_3 c i a1 h1 a2 h2 a3 h3 a4 h4 a5 h5 hc x y z o),
    View.read_writes_eq_canon _ _ _ (cover0_B_4 c i a1 h1 a2 h2 a3 h3 a4 h4 a5 h5 hc x y z o)]
  unfold kernelRun0_B
  dsimp only
  rw [View.canon_unit_zero hz3, View.canon_unit_zero hz, pay3_eq, pay4_eq]
  simp only [View.readAt_eq_ld, h1.read_unread, h2.read_unread, h3.read_unread, h5.read_unread, View.ld_unit_zero (S := S16x1024) hz,
    View.ld_unit_zero (S := S1x16x1536) hz3, View.ld_unit_zero (S := S1x1024x1536) hz3, and_self]

variable (m : (ℓ : Loc nD τ sig) → Buf (Elt Ideal) ℓ) (c : Dev nD)

theorem index : ∀ t : Fin cfg0.N, (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) ∧ (cfg0.win 3).flush t = true
    ∧ (win0_4.index t 0 = 0 ∧ win0_4.index t 1 = 0) ∧ ((cfg0.win 4).flush t = true ↔ t.val = 3) := by decide +kernel

/-- The layer of point `t`. -/
def layer (t : Fin cfg0.N) : Fin 4 := ⟨t.val, by have h : cfg0.N = 4 := N_0; omega⟩

/-- The point of layer `p`. -/
def point (p : Fin 4) : Fin cfg0.N := ⟨p.val, by have h : cfg0.N = 4 := N_0; omega⟩

abbrev cArr : Vec Ideal S16x1024 .f32 := m ((c : Thread nD τ).loc main_arg0)
abbrev dArr : Vec Ideal S4x16x1536 .f32 := m ((c : Thread nD τ).loc main_arg1)
abbrev wArr : Vec Ideal S4x1024x1536 .f32 := m ((c : Thread nD τ).loc main_arg2)

theorem rows (t : Fin cfg0.N) (r : Fin 16) (k : Fin 1024) :
    (iblk m c 0 t : Vec Ideal S16x1024 .f32) (ix2 r k) = cArr m c (ix2 r k) :=
  congrArg (cArr m c) (place 16 1024 _ _ r.val k.val r k (by omega) (by omega) _ (index t).1 rfl rfl)

theorem cotangent (t : Fin cfg0.N) (r : Fin 16) (l : Fin 1536) :
    (iblk m c 1 t : Vec Ideal S1x16x1536 .f32) (ix3 (0 : Fin 1) r l) = dArr m c (ix3 (layer t) r l) :=
  congrArg (dArr m c) (place_part _ (layer t) r l rfl _ (index t).2.1 rfl rfl rfl)

theorem weight (t : Fin cfg0.N) (k : Fin 1024) (l : Fin 1536) :
    (iblk m c 2 t : Vec Ideal S1x1024x1536 .f32) (ix3 (0 : Fin 1) k l) = wArr m c (ix3 (layer t) k l) :=
  congrArg (wArr m c) (place_part _ (layer t) k l rfl _ (index t).2.2.1 rfl rfl rfl)

abbrev resultW : Buf (Elt Ideal) ((c : Thread nD τ).loc main_v0_0) := specW (cArr m c) (dArr m c)
abbrev resultC : Buf (Elt Ideal) ((c : Thread nD τ).loc main_v0_1) := specC (dArr m c) (wArr m c)

/-- What point `t` leaves of its layer's weight's gradient. -/
theorem layerW (t : Fin cfg0.N) : (outsAt0 m c t.val t.isLt).1 = outer (iblk m c 0 t) (iblk m c 1 t) := by
  by_cases h : t.val % 4 = 0
  · rw [outsAt0_A m c t h]
    dsimp only
    rw [(out_A ..).1]
  · rw [outsAt0_B m c t h]
    dsimp only
    rw [(out_B ..).1]

/-- The four blocks are all of the weights' gradient. -/
theorem finalW : (dats m 0 c).arrAt 3 cfg0.N = resultW m c :=
  (dats m 0 c).arrAt_eq_of_cover 3 (resultW m c) (fun t _ => by
    rw [Value.flushed3, layerW]
    funext j
    rw [View.read_apply]
    show outer (iblk m c 0 t) (iblk m c 1 t) j = _
    obtain ⟨z, q, l, rfl⟩ : ∃ (z : Fin 1) (q : Fin 1024) (l : Fin 1536), j = ix3 z q l := ⟨j 0, j 1, j 2, eq_ix3 j⟩
    obtain rfl : z = 0 := Subsingleton.elim _ _
    have e : ((cfg0.win 3).blk t).view.emb (ix3 (0 : Fin 1) q l) = (ix3 (layer t) q l : S4x1024x1536.Idx) :=
      place_part _ (layer t) q l rfl _ (index t).2.2.2.1 rfl rfl rfl
    rw [e]
    exact sum_mul_congr (fun b => congrArg silu (rows m c t b q)) fun b => cotangent m c t b l) fun i => by
    have hi0 : (i 0 : Nat) < 4 := (i 0).isLt
    have hi1 : (i 1 : Nat) < 1024 := (i 1).isLt
    have hi2 : (i 2 : Nat) < 1536 := (i 2).isLt
    have hN : cfg0.N = 4 := N_0
    obtain ⟨t, ht⟩ : ∃ t : Fin cfg0.N, t.val = (i 0).val := ⟨⟨(i 0).val, by omega⟩, rfl⟩
    obtain ⟨h0, h1, h2⟩ := (index t).2.2.2.1
    refine ⟨t, (index t).2.2.2.2.1, ?_⟩
    show i ∈ ((View.whole main_v0_0).slice (win0_3.rect t)).set
    rw [View.set_slice_whole, Rect.mem_set_unit]
    have e := inside 1024 1536 0 0 (by decide) (by decide) (i 1).val (i 2).val ⟨h1, h2⟩ (by omega) (by omega)
    intro a
    match a with
    | ⟨0, _⟩ => show win0_3.index t 0 * 1 ≤ (i 0 : Nat) ∧ (i 0 : Nat) < win0_3.index t 0 * 1 + 1; omega
    | ⟨1, _⟩ => exact e.1
    | ⟨2, _⟩ => exact e.2

/-- A layer's part of the context's gradient, from the launch's arrays. -/
theorem cross_apply (t : Fin cfg0.N) (b : Fin 16) (q : Fin 1024) :
    cross (iblk m c 1 t) (iblk m c 2 t) (ix2 b q)
      = ∑ n : Fin 1536, (dArr m c (ix3 (layer t) b n) : EReal) * (wArr m c (ix3 (layer t) q n) : EReal) :=
  sum_mul_congr (fun n => cotangent m c t b n) fun n => weight m c t q n

/-- A point after the first adds its part to what the one before left. -/
theorem added (n : ℕ) (h : n + 1 < cfg0.N) : (outsAt0 m c (n + 1) h).2
    = (addf (outsAt0 m c n (Nat.lt_of_succ_lt h)).2 (cross (iblk m c 1 ⟨n + 1, h⟩) (iblk m c 2 ⟨n + 1, h⟩)) : FVec Ideal S16x1024 .f32) := by
  have e : outsAt0 m c (n + 1) h = _ := outsAt0_B m c ⟨n + 1, h⟩ (by have e : cfg0.N = 4 := N_0; show ¬(n + 1) % 4 = 0; omega)
  rw [e]
  dsimp only
  rw [(out_B ..).2]
  rfl

/-- The first point leaves its part. -/
theorem first (h : 0 < cfg0.N) : (outsAt0 m c 0 h).2 = cross (iblk m c 1 ⟨0, h⟩) (iblk m c 2 ⟨0, h⟩) := by
  have e : outsAt0 m c 0 h = _ := outsAt0_A m c ⟨0, h⟩ rfl
  rw [e]
  dsimp only
  rw [(out_A ..).2]

/-- After the last point all four parts are added. -/
theorem total (h : 3 < cfg0.N) (b : Fin 16) (q : Fin 1024) : ((outsAt0 m c 3 h).2 (ix2 b q) : EReal) = resultC m c (ix2 b q) := by
  rw [added m c 2, added m c 1, added m c 0, first, addf_apply, addf_apply, addf_apply]
  show _ = ∑ p : Fin 4, ∑ n : Fin 1536, (dArr m c (ix3 p b n) : EReal) * (wArr m c (ix3 p q n) : EReal)
  rw [Fin.sum_univ_four]
  exact congrArg₂ (fun u v : EReal => u + v) (congrArg₂ (fun u v : EReal => u + v) (congrArg₂ (fun u v : EReal => u + v)
    (cross_apply m c (point 0) b q) (cross_apply m c (point 1) b q)) (cross_apply m c (point 2) b q)) (cross_apply m c (point 3) b q)

/-- The block written back after the last point is the whole of the context's gradient. -/
theorem finalC : (dats m 0 c).arrAt 4 cfg0.N = resultC m c :=
  (dats m 0 c).arrAt_eq_of_cover 4 (resultC m c) (fun t ht => by
    obtain rfl : t = point 3 := Fin.ext ((index t).2.2.2.2.2.2.1 ht)
    rw [Value.flushed4]
    funext j
    rw [View.read_apply]
    obtain ⟨b, q, rfl⟩ : ∃ (b : Fin 16) (q : Fin 1024), j = ix2 b q := ⟨j 0, j 1, eq_ix2 j⟩
    have e : ((cfg0.win 4).blk (point 3)).view.emb (ix2 b q) = (ix2 b q : S16x1024.Idx) :=
      place 16 1024 0 0 b.val q.val b q (by omega) (by omega) _ (index (point 3)).2.2.2.2.2.1 rfl rfl
    rw [e]
    exact total m c (point 3).isLt b q) fun i => by
    have h0 : (i 0 : Nat) < 16 := (i 0).isLt
    have h1 : (i 1 : Nat) < 1024 := (i 1).isLt
    refine ⟨point 3, (index (point 3)).2.2.2.2.2.2.2 rfl, ?_⟩
    show i ∈ ((View.whole main_v0_1).slice (win0_4.rect (point 3))).set
    rw [View.set_slice_whole]
    exact Rect.mem_set_unit.2 (Fin.forall_fin_two.2 (inside 16 1024 0 0 (by decide) (by decide) (i 0).val (i 1).val
      (index (point 3)).2.2.2.2.2.1 (by omega) (by omega)))

end Cert.ModulationBwd

namespace Cert.ModulationBwd

open Cert.Modulation (silu)
open Cert.Reference33Ideal Cert.Reference33Ideal.Facts₀ Cert.Reference33Ideal.Facts

/-- The reference's weights' gradient is the same. -/
theorem reference_weight (c : FVec Ideal S16x1024 .f32) (d : FVec Ideal S4x16x1536 .f32) :
    transpose S4x1024x1536 [0, 2, 1] (Host.dotGeneral dot_S4x1536x16_S16x1024_S4x1536x1024_2_0_01_1_n_n none
      (transpose S4x1536x16 [0, 2, 1] d transposes_S4x16x1536_S4x1536x16_0_2_1)
      (mulf c (Host.divf (broadcastInDim S16x1024 ![] bcast_S_S16x1024 (constant S_ .f32 0x3F800000#32))
        (addf (broadcastInDim S16x1024 ![] bcast_S_S16x1024 (constant S_ .f32 0x3F800000#32)) (Host.exp (Host.negf c))))))
      transposes_S4x1536x1024_S4x1024x1536_0_2_1 = specW c d := by
  funext j
  obtain ⟨p, q, n, rfl⟩ : ∃ (p : Fin 4) (q : Fin 1024) (n : Fin 1536), j = ix3 p q n := ⟨j 0, j 1, j 2, eq_ix3 j⟩
  rw [transpose_apply _ _ _ (ix3 p q n) (ix3 p n q) (fun b => by fin_cases b <;> rfl)]
  have e (b : Fin 16) : (transpose S4x1536x16 [0, 2, 1] d transposes_S4x16x1536_S4x1536x16_0_2_1 (ix3 p n b) : EReal) = d (ix3 p b n) :=
    transpose_apply _ _ _ _ _ fun b => by fin_cases b <;> rfl
  refine Eq.trans ?_ (Finset.sum_congr rfl fun b _ => (congrArg (· * silu (c (ix2 b q))) (e b)).trans (mul_comm _ _))
  pointwise [silu]
  rfl

/-- And the context's. -/
theorem reference_context (d : FVec Ideal S4x16x1536 .f32) (w : FVec Ideal S4x1024x1536 .f32) :
    Host.dotGeneral dot_S4x1536x16_S4x1024x1536_S16x1024_01_02_2_1_n_n none
      (transpose S4x1536x16 [0, 2, 1] d transposes_S4x16x1536_S4x1536x16_0_2_1) w = specC d w := by
  funext j
  obtain ⟨b, q, rfl⟩ : ∃ (b : Fin 16) (q : Fin 1024), j = ix2 b q := ⟨j 0, j 1, eq_ix2 j⟩
  pointwise [specC]

end Cert.ModulationBwd

/-- The value claim of the modulations' gradients. -/
theorem Cert.Proof.algebraic_modulationBwd : Cert.algebraic_Kernel33Ideal_Reference33Ideal
    (hKernel33Ideal := Cert.Kernel33Ideal.Gen.facts) (hReference33Ideal := Cert.Reference33Ideal.Gen.facts) := by
  intro m g m' g' _ hm
  refine ⟨fun c => Cert.ModulationBwd.resultW m c, fun c => Cert.ModulationBwd.resultC m c, ?_, ?_⟩
  · refine (θ_run Cert.Kernel33Ideal.defs _ _).mono (fun r h c => ?_) (Cert.Kernel33Ideal.Value.run_blocks m g)
    exact ⟨(h c).1.trans (Cert.ModulationBwd.finalW m c), (h c).2.1.trans (Cert.ModulationBwd.finalC m c), (h c).2.2⟩
  · refine (θ_run Cert.Reference33Ideal.defs _ _).mono (fun r h c => ?_) (Cert.Reference33Ideal.Value.run m' g')
    obtain ⟨e0, e1, e2⟩ := hm c
    refine ⟨(h c).1.trans ?_, (h c).2.1.trans ?_, (h c).2.2⟩
    · rw [e0, e1]
      exact Cert.ModulationBwd.reference_weight _ _
    · rw [e1, e2]
      exact Cert.ModulationBwd.reference_context _ _

end
-- ==== Proof.Norm.Row.lean ====
/-
  The gradient through the root mean square norm of one row, in the two arrangements met: with `v` the row's mean square and a
  small positive number, `r = 1 / √v` and `g` the gradient of `x r`, it is `r (g - x r · mean (g x r))`, or, by the derivative of
  the reciprocal root `-r / (2 v)`, `g r + 2 x (sum (x g) · (-r / (2 v)) / n)`. They agree for all extended reals: of a row with an
  infinite element `r` is zero.
-/
module

public import Idealize.ShloMosaic.Lib.Pointwise

@[expose] public section

noncomputable section

open Idealize.ShloMosaic

namespace Cert.Norm

variable {ι : Type} [Fintype ι]

/-- A nonnegative real factor may be taken out of a sum. -/
theorem sum_mul_real (f : ι → EReal) (r : ℝ) (hr : 0 ≤ r) : (∑ k, f k * (r : EReal)) = (∑ k, f k) * (r : EReal) := by
  classical
  have key : ∀ s : Finset ι, (∑ k ∈ s, f k * (r : EReal)) = (∑ k ∈ s, f k) * (r : EReal) := by
    intro s
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact key _

theorem square_nonneg (x : EReal) : 0 ≤ x * x := by
  induction x using EReal.rec with
  | bot => simp
  | top => simp
  | coe x => exact_mod_cast mul_self_nonneg x

/-- The mean square of a row, and a small number. -/
def mean (n e : ℝ) (x : ι → EReal) : EReal := Ideal.div (∑ k, x k * x k) (n : EReal) + (e : EReal)

/-- It is infinite or a positive real. -/
theorem mean_cases (n e : ℝ) (hn : 0 < n) (he : 0 < e) (x : ι → EReal) : mean n e x = ⊤ ∨ ∃ v : ℝ, 0 < v ∧ mean n e x = (v : EReal) := by
  unfold mean
  have h0 : (0 : EReal) ≤ ∑ k, x k * x k := Finset.sum_nonneg fun k _ => square_nonneg _
  rw [Ideal.div_coe hn.ne']
  generalize (∑ k, x k * x k) = s at *
  induction s using EReal.rec with
  | bot => simp at h0
  | top => left; rw [EReal.top_mul_coe_of_pos (by positivity)]; simp
  | coe s =>
    right
    have hs : 0 ≤ s := by exact_mod_cast h0
    refine ⟨s * (1 / n) + e, by positivity, by push_cast; rfl⟩

/-- The gradient, with the mean of `g x r` taken off. -/
def rowGrad (n e : ℝ) (x g : ι → EReal) (l : ι) : EReal :=
  Ideal.rsqrt (mean n e x) * (g l - (x l * Ideal.rsqrt (mean n e x)) * Ideal.div (∑ k, g k * (x k * Ideal.rsqrt (mean n e x))) (n : EReal))

/-- The gradient that comes through the reciprocal root. -/
def through (n e h : ℝ) (x g : ι → EReal) : EReal :=
  Ideal.div ((∑ k, x k * g k) * ((h : EReal) * Ideal.div (Ideal.rsqrt (mean n e x)) (mean n e x))) (n : EReal)

theorem rowGrad_eq (n e : ℝ) (hn : 0 < n) (he : 0 < e) (x g : ι → EReal) (l : ι) :
    g l * Ideal.rsqrt (mean n e x) + x l * through n e (-(1 / 2)) x g + through n e (-(1 / 2)) x g * x l = rowGrad n e x g l := by
  unfold rowGrad through
  rcases mean_cases n e hn he x with h | ⟨v, hv, h⟩
  · rw [h]
    simp [Ideal.div, hn.ne']
  · have hr : Ideal.rsqrt (v : EReal) = (((Real.sqrt v)⁻¹ : ℝ) : EReal) := by
      rw [Ideal.rsqrt_coe, if_neg (by linarith), if_neg hv.ne']
    have hs : 0 < Real.sqrt v := Real.sqrt_pos.2 hv
    rw [h, hr, Ideal.div_coe hn.ne', Ideal.div_coe hn.ne', Ideal.div_coe hv.ne']
    have hq : (Real.sqrt v)⁻¹ * (1 / v) = (Real.sqrt v)⁻¹ * ((Real.sqrt v)⁻¹ * (Real.sqrt v)⁻¹) := by
      rw [← mul_inv, Real.mul_self_sqrt hv.le, one_div]
    rw [← EReal.coe_mul (Real.sqrt v)⁻¹ (1 / v), hq]
    have hrp : 0 < (Real.sqrt v)⁻¹ := inv_pos.2 hs
    generalize (Real.sqrt v)⁻¹ = r at *
    have hsum : (∑ k, g k * (x k * (r : EReal))) = (∑ k, x k * g k) * (r : EReal) := by
      rw [← sum_mul_real _ _ hrp.le]
      exact Finset.sum_congr rfl fun k _ => by rw [mul_comm (x k) (g k), mul_assoc]
    rw [hsum]
    generalize (∑ k, x k * g k) = s
    have e1 : x l * (r : EReal) * (s * (r : EReal) * ((1 / n : ℝ) : EReal)) = (x l * s) * ((r * (r * (1 / n)) : ℝ) : EReal) := by
      simp only [EReal.coe_mul]; ac_rfl
    have e2 : x l * (s * (((-(1 / 2) : ℝ) : EReal) * ((r * (r * r) : ℝ) : EReal)) * ((1 / n : ℝ) : EReal))
        = (-(x l * s)) * ((r * (r * (r * (1 / n))) / 2 : ℝ) : EReal) := by
      rw [show (r * (r * (r * (1 / n))) / 2 : ℝ) = (1 / 2) * ((r * (r * r)) * (1 / n)) by ring, EReal.coe_neg, EReal.coe_mul (1 / 2),
        EReal.coe_mul (r * (r * r)), neg_mul, neg_mul, mul_neg, neg_mul, mul_neg]
      exact congrArg _ (by ac_rfl)
    have hp : (0 : EReal) ≤ ((r * (r * (r * (1 / n))) / 2 : ℝ) : EReal) := by exact_mod_cast (by positivity)
    rw [mul_comm _ (x l), e1, e2, add_assoc, ← EReal.left_distrib_of_nonneg hp hp, ← EReal.coe_add, add_halves,
      EReal.mul_sub_of_nonneg_of_ne_top (by exact_mod_cast hrp.le) (EReal.coe_ne_top r), neg_mul, sub_eq_add_neg]
    refine congrArg₂ (fun u v : EReal => u + -v) (mul_comm _ _) ?_
    rw [EReal.coe_mul r (r * (1 / n))]
    ac_rfl

end Cert.Norm

end
-- ==== Proof.Norm.Claim.lean ====
/-
  The gradient of the sequence's input: through the first layer's norm and modulation, and what comes past them.
-/
module

public import proofs.«01_k».proof.Defs
public import proofs.«01_k».proof.Proof.Gen.Kernel35Ideal.Value
public import proofs.«01_k».proof.Proof.Gen.Reference35Ideal.Run
public import proofs.«01_k».proof.Proof.Products
public import proofs.«01_k».proof.Proof.Norm.Row

@[expose] public section

noncomputable section

open Idealize.ShloMosaic Idealize.ShloMosaic.TcCoe Idealize.SL.Sem
open Idealize.ShloMosaic.Pipeline (Dat)
open Cert.Prod

namespace Cert.Norm

/-- The small number under the root. -/
abbrev small : ℝ := 8796093 / 2 ^ 43

theorem c_width : Ideal.ofBits .f32 0x44800000#32 = ((1024 : ℝ) : EReal) := by
  simp [Ideal.ofBits, Ideal.ieee, -EReal.coe_mul]; norm_num
theorem c_small : Ideal.ofBits .f32 0x358637BD#32 = ((small : ℝ) : EReal) := by
  simp [Ideal.ofBits, Ideal.ieee, -EReal.coe_mul]; norm_num
theorem c_half : Ideal.ofBits .f32 0xBF000000#32 = ((-(1 / 2) : ℝ) : EReal) := by
  simp [Ideal.ofBits, Ideal.ieee, -EReal.coe_mul]; norm_num

open Cert.Kernel35Ideal Cert.Kernel35Ideal.Gen

/-- What a row's gradient is made of: `d` times one plus the scale, times the norm's weight. -/
def scaled {n : ℕ} (d : Vec Ideal ⟨2, ![n, 1024]⟩ .bf16) (s : Vec Ideal S2x8x1024 .f32) (w : Vec Ideal S1x1024 .f32) (r : Fin n) (k : Fin 1024) : EReal :=
  (d (ix2 r k) : EReal) * (1 + (s (ix3 (1 : Fin 2) (1 : Fin 8) k) : EReal)) * (w (ix2 (0 : Fin 1) k) : EReal)

/-- One element of the result. -/
def element {n : ℕ} (x : Vec Ideal ⟨2, ![n, 1024]⟩ .f32) (d : Vec Ideal ⟨2, ![n, 1024]⟩ .bf16) (p : Vec Ideal ⟨2, ![n, 1024]⟩ .f32)
    (s : Vec Ideal S2x8x1024 .f32) (w : Vec Ideal S1x1024 .f32) (r : Fin n) (l : Fin 1024) : EReal :=
  rowGrad 1024 small (fun k => (x (ix2 r k) : EReal)) (scaled d s w r) l + (p (ix2 r l) : EReal)

/-- Row `r` of the sequence, after the context's 256. -/
def after (r : Fin 4096) : Fin 4352 := ⟨256 + r.val, by omega⟩

def spec (x : Vec Ideal S4352x1024 .f32) (d : Vec Ideal S4352x1024 .bf16) (p : Vec Ideal S4352x1024 .f32)
    (s : Vec Ideal S2x8x1024 .f32) (w : Vec Ideal S1x1024 .f32) : Vec Ideal S4096x1024 .f32 :=
  fun j => element x d p s w (after (j 0)) (j 1)

/-- The reciprocal root of a row's mean square. -/
theorem pay8_apply (x : Vec Ideal S256x1024 .f32) (r : Fin 256) :
    (k0_pay8 x (ix2 r (0 : Fin 1)) : EReal) = Ideal.rsqrt (mean 1024 small fun k : Fin 1024 => (x (ix2 r k) : EReal)) := by
  unfold k0_pay8 mean
  rw [← c_width, ← c_small]
  pointwise

/-- One plus the scale; after the first point it is the sequence's. -/
theorem pay10_apply (i : grid0.Coords) (hi : Scalar.cmpi .slt (BitVec.ofNat 32 (i 0).val) 1#32 = 0#1) (s0 s1 : Vec Ideal S1x1x1024 .f32)
    (l : Fin 1024) :
    (k0_pay10 i s0 s1 (ix2 (0 : Fin 1) l) : EReal) = 1 + (shapeCast S1x1024 s1 shapeCasts_S1x1x1024_S1x1024 (ix2 (0 : Fin 1) l) : EReal) := by
  rw [← Ideal.ofBits_one_f32]
  unfold k0_pay10
  dsimp only
  rw [hi]
  rfl

theorem pay9_apply (x : Vec Ideal S256x1024 .f32) (r : Fin 256) (l : Fin 1024) :
    (k0_pay9 x (ix2 r l) : EReal) = (x (ix2 r l) : EReal) * (k0_pay8 x (ix2 r (0 : Fin 1)) : EReal) := by
  unfold k0_pay9
  pointwise

/-- The row's gradient before the last factor. -/
theorem pay12_apply (i : grid0.Coords) (x : Vec Ideal S256x1024 .f32)
    (w : Vec Ideal S1x1024 .f32) (s0 s1 : Vec Ideal S1x1x1024 .f32) (d : Vec Ideal S256x1024 .bf16) (r : Fin 256) (l : Fin 1024) :
    (k0_pay12 i x w s0 s1 d (ix2 r l) : EReal)
      = (d (ix2 r l) : EReal) * (k0_pay10 i s0 s1 (ix2 (0 : Fin 1) l) : EReal) * (w (ix2 (0 : Fin 1) l) : EReal)
        - (k0_pay9 x (ix2 r l) : EReal) * Ideal.div (∑ k : Fin 1024, (d (ix2 r k) : EReal) * (k0_pay10 i s0 s1 (ix2 (0 : Fin 1) k) : EReal)
            * (w (ix2 (0 : Fin 1) k) : EReal) * (k0_pay9 x (ix2 r k) : EReal)) (1024 : ℝ) := by
  unfold k0_pay12 k0_pay11
  generalize k0_pay10 i s0 s1 = u
  generalize k0_pay9 x = v
  rw [← c_width]
  pointwise

theorem pay1_apply (u : FVec Ideal S256x1 .f32) (v : FVec Ideal S256x1024 .f32) (p : Vec Ideal S256x1024 .f32) (r : Fin 256) (l : Fin 1024) :
    (k0_pay1 u v p (ix2 r l) : EReal) = (u (ix2 r (0 : Fin 1)) : EReal) * (v (ix2 r l) : EReal) + (p (ix2 r l) : EReal) := by
  unfold k0_pay1
  pointwise

/-- The sequence's scale, as loaded. -/
theorem scale_apply (s : Vec Ideal S2x8x1024 .f32) (l : Fin 1024) :
    (shapeCast S1x1024 (View.ld s (Rect.unit (s := S2x8x1024) ![1, 1, 0] S1x1x1024.size inb_S2x8x1024_S1x1x1024_1_1_0))
      shapeCasts_S1x1x1024_S1x1024 (ix2 (0 : Fin 1) l) : EReal) = s (ix3 (1 : Fin 2) (1 : Fin 8) l) := by
  refine (shapeCast_dropUnit_apply ![1, 1024] _ _ (ix2 (0 : Fin 1) l)).trans ?_
  refine congrArg s (funext fun u => Fin.ext ?_)
  match u with
  | ⟨0, _⟩ => rfl
  | ⟨1, _⟩ => rfl
  | ⟨2, _⟩ => exact (Nat.zero_add _).trans (Nat.one_mul _)

/-- What a point after the first leaves of the result. -/
theorem out_B (c : Dev nD) (i : grid0.Coords) (a1 : Memref sig .tc .vmem S256x1024 .f32) (h1 : a1.IsWhole)
    (a2 : Memref sig .tc .vmem S256x1024 .bf16) (h2 : a2.IsWhole) (a3 : Memref sig .tc .vmem S256x1024 .f32) (h3 : a3.IsWhole)
    (a4 : Memref sig .tc .vmem S2x8x1024 .f32) (h4 : a4.IsWhole) (a5 : Memref sig .tc .vmem S1x1024 .f32) (h5 : a5.IsWhole)
    (a6 : Memref sig .tc .vmem S256x1024 .f32) (h6 : a6.IsWhole) (a7 : Memref sig .tc .vmem S2x8x1024 .f32) (h7 : a7.IsWhole)
    (hc0 : ¬cond0_0 i) (hc1 : ¬cond0_1 i) (hc2 : cond0_2 i)
    (hi : Scalar.cmpi .slt (BitVec.ofNat 32 (i 0).val) 1#32 = 0#1)
    (x : Vec Ideal S256x1024 .f32) (d : Vec Ideal S256x1024 .bf16) (p : Vec Ideal S256x1024 .f32) (s : Vec Ideal S2x8x1024 .f32)
    (w : Vec Ideal S1x1024 .f32) (o : Vec Ideal S2x8x1024 .f32) (r : Fin 256) (l : Fin 1024) :
    out0_B_5 c i a1 h1 a2 h2 a3 h3 a4 h4 a5 h5 a6 h6 a7 h7 hc0 hc1 hc2 x d p s w o (ix2 r l) = element x d p s w r l := by
  unfold out0_B_5
  rw [View.read_writes_eq_canon _ _ _ (cover0_B_5 c i a1 h1 a2 h2 a3 h3 a4 h4 a5 h5 a6 h6 a7 h7 hc0 hc1 hc2 x d p s w o)]
  unfold kernelRun0_B
  dsimp only
  rw [View.canon_unit_zero hz]
  unfold kernelRun0_B.sl.r kernelRun0_B.sl.r_5
  simp only [View.readAt_eq_ld, h1.read_unread, h2.read_unread, h3.read_unread, h4.read_unread, h5.read_unread, View.ld_unit_zero (S := S256x1024) hz,
    View.ld_unit_zero (S := S1x1024) hz]
  rw [pay1_apply, pay12_apply]
  simp only [pay9_apply, pay8_apply, pay10_apply i hi]
  unfold element rowGrad scaled
  simp only [scale_apply]

variable (m : (ℓ : Loc nD τ sig) → Buf (Elt Ideal) ℓ) (c : Dev nD)

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0 ∧ win0_3.index t 2 = 0)
    ∧ (win0_4.index t 0 = 0 ∧ win0_4.index t 1 = 0) ∧ (win0_5.index t 0 = t.val - 1 ∧ win0_5.index t 1 = 0)
    ∧ ((cfg0.win 5).flush t = true ↔ 1 ≤ t.val)
    ∧ (1 ≤ t.val → Scalar.cmpi .slt (BitVec.ofNat 32 (grid0.coords t 0).val) 1#32 = 0#1) := by decide +kernel

abbrev xArr : Vec Ideal S4352x1024 .f32 := m ((c : Thread nD τ).loc main_arg0)
abbrev dArr : Vec Ideal S4352x1024 .bf16 := m ((c : Thread nD τ).loc main_arg1)
abbrev pArr : Vec Ideal S4352x1024 .f32 := m ((c : Thread nD τ).loc main_arg2)
abbrev sArr : Vec Ideal S2x8x1024 .f32 := m ((c : Thread nD τ).loc main_arg3)
abbrev wArr : Vec Ideal S1x1024 .f32 := m ((c : Thread nD τ).loc main_arg4)

/-- Row `r` of point `t`, in the sequence. -/
def seqRow (t : Fin cfg0.N) (r : Fin 256) : Fin 4096 := ⟨(t.val - 1) * 256 + r.val, by have h : cfg0.N = 17 := N_0; omega⟩

theorem rows_eq (t : Fin cfg0.N) (ht : 1 ≤ t.val) (r : Fin 256) : t.val * 256 + r.val = (after (seqRow t r)).val := by
  show t.val * 256 + r.val = 256 + ((t.val - 1) * 256 + r.val)
  omega

theorem xRow (t : Fin cfg0.N) (ht : 1 ≤ t.val) (r : Fin 256) (k : Fin 1024) :
    (iblk m c 0 t : Vec Ideal S256x1024 .f32) (ix2 r k) = xArr m c (ix2 (after (seqRow t r)) k) :=
  congrArg (xArr m c) (place 256 1024 _ _ r.val k.val _ k (rows_eq t ht r) (by omega) _ (index t).1 rfl rfl)

theorem dRow (t : Fin cfg0.N) (ht : 1 ≤ t.val) (r : Fin 256) (k : Fin 1024) :
    (iblk m c 1 t : Vec Ideal S256x1024 .bf16) (ix2 r k) = dArr m c (ix2 (after (seqRow t r)) k) :=
  congrArg (dArr m c) (place 256 1024 _ _ r.val k.val _ k (rows_eq t ht r) (by omega) _ (index t).2.1 rfl rfl)

theorem pRow (t : Fin cfg0.N) (ht : 1 ≤ t.val) (r : Fin 256) (k : Fin 1024) :
    (iblk m c 2 t : Vec Ideal S256x1024 .f32) (ix2 r k) = pArr m c (ix2 (after (seqRow t r)) k) :=
  congrArg (pArr m c) (place 256 1024 _ _ r.val k.val _ k (rows_eq t ht r) (by omega) _ (index t).2.2.1 rfl rfl)

theorem sRow (t : Fin cfg0.N) (k : Fin 1024) :
    (iblk m c 3 t : Vec Ideal S2x8x1024 .f32) (ix3 (1 : Fin 2) (1 : Fin 8) k) = sArr m c (ix3 (1 : Fin 2) (1 : Fin 8) k) :=
  congrArg (sArr m c) (funext fun a => Fin.ext (by
    obtain ⟨h0, h1, h2⟩ := (index t).2.2.2.1
    match a with
    | ⟨0, _⟩ => show win0_3.index t 0 * 2 + 1 * 1 = 1; omega
    | ⟨1, _⟩ => show win0_3.index t 1 * 8 + 1 * 1 = 1; omega
    | ⟨2, _⟩ => show win0_3.index t 2 * 1024 + 1 * k.val = k.val; omega))

theorem wRow (t : Fin cfg0.N) (k : Fin 1024) :
    (iblk m c 4 t : Vec Ideal S1x1024 .f32) (ix2 (0 : Fin 1) k) = wArr m c (ix2 (0 : Fin 1) k) :=
  congrArg (wArr m c) (place 1 1024 0 0 0 k.val (0 : Fin 1) k rfl (by omega) _ (index t).2.2.2.2.1 rfl rfl)

abbrev result : Buf (Elt Ideal) ((c : Thread nD τ).loc main_v0_0) := spec (xArr m c) (dArr m c) (pArr m c) (sArr m c) (wArr m c)

/-- The sixteen blocks written back are all of the result. -/
theorem final : (dats m 0 c).arrAt 5 cfg0.N = result m c :=
  (dats m 0 c).arrAt_eq_of_cover 5 (result m c) (fun t hf => by
    have ht : 1 ≤ t.val := (index t).2.2.2.2.2.2.1.1 hf
    have hN : cfg0.N = 17 := N_0
    have h17 : ¬t.val % 17 = 0 := by have := lt_of_lt_of_eq t.isLt hN; omega
    rw [Value.flushed5_B m c t h17 h17 ht]
    funext j
    rw [View.read_apply]
    obtain ⟨r, l, rfl⟩ : ∃ (r : Fin 256) (l : Fin 1024), j = ix2 r l := ⟨j 0, j 1, eq_ix2 j⟩
    have e : ((cfg0.win 5).blk t).view.emb (ix2 r l) = (ix2 (seqRow t r) l : S4096x1024.Idx) :=
      place 256 1024 _ _ r.val l.val _ l rfl (by omega) _ (index t).2.2.2.2.2.1 rfl rfl
    rw [e]
    refine (out_B c _ _ _ _ _ _ _ _ _ _ _ _ _ _ _ _ _ _ ((index t).2.2.2.2.2.2.2 ht) _ _ _ _ _ _ r l).trans ?_
    show element (iblk m c 0 t : Vec Ideal S256x1024 .f32) (iblk m c 1 t : Vec Ideal S256x1024 .bf16) (iblk m c 2 t : Vec Ideal S256x1024 .f32)
      (iblk m c 3 t : Vec Ideal S2x8x1024 .f32) (iblk m c 4 t : Vec Ideal S1x1024 .f32) r l
      = element (xArr m c) (dArr m c) (pArr m c) (sArr m c) (wArr m c) (after (seqRow t r)) l
    unfold element scaled
    simp only [xRow m c t ht, dRow m c t ht, pRow m c t ht, sRow m c t, wRow m c t]) fun i => by
    have h0 : (i 0 : Nat) < 4096 := (i 0).isLt
    have h1 : (i 1 : Nat) < 1024 := (i 1).isLt
    have hN : cfg0.N = 17 := N_0
    obtain ⟨t, ht⟩ : ∃ t : Fin cfg0.N, t.val = (i 0).val / 256 + 1 := ⟨⟨(i 0).val / 256 + 1, by omega⟩, rfl⟩
    refine ⟨t, (index t).2.2.2.2.2.2.1.2 (by omega), ?_⟩
    show i ∈ ((View.whole main_v0_0).slice (win0_5.rect t)).set
    rw [View.set_slice_whole]
    exact Rect.mem_set_unit.2 (Fin.forall_fin_two.2 (inside 256 1024 _ _ (by decide) (by decide) (i 0).val (i 1).val
      (index t).2.2.2.2.2.1 (by omega) (by omega)))

end Cert.Norm

namespace Cert.Norm

open Cert.Reference35Ideal Cert.Reference35Ideal.Facts₀ Cert.Reference35Ideal.Facts

/-- The reference's scaled gradient. -/
def scaledR (d : FVec Ideal S4352x1024 .bf16) (s : FVec Ideal S2x8x1024 .f32) (w : FVec Ideal S1x1024 .f32) : FVec Ideal S4096x1024 .f32 :=
  mulf (mulf (extf .f32 (extractStridedSlice S4096x1024 ![256, 0] d slices_S4352x1024_S4096x1024_256_0) bitsLt_bf16_f32)
    (broadcastInDim S4096x1024 ![0, 1] bcast_S1x1024_S4096x1024_0_1 (broadcastInDim S1x1024 ![1] bcast_S1024_S1x1024_1
      (addf (broadcastInDim S1024 ![] bcast_S_S1024 (constant S_ .f32 0x3F800000#32))
        (shapeCast S1024 (extractStridedSlice S1x1x1024 ![1, 1, 0] s slices_S2x8x1024_S1x1x1024_1_1_0) shapeCasts_S1x1x1024_S1024)))))
    (broadcastInDim S4096x1024 ![0, 1] bcast_S1x1024_S4096x1024_0_1 w)

/-- The reference's mean square of each row of the sequence `x`. -/
def meanR (x : FVec Ideal S4096x1024 .f32) : FVec Ideal S4096x1 .f32 :=
  addf (Host.divf (broadcastInDim S4096x1 ![0] bcast_S4096_S4096x1_0 (Host.reduceAdd (mulf x x) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- What comes through the reciprocal root, from the mean square `v` and the scaled gradient `g`. -/
def throughR (x g : FVec Ideal S4096x1024 .f32) (v : FVec Ideal S4096x1 .f32) : FVec Ideal S4096x1024 .f32 :=
  broadcastInDim S4096x1024 ![0] bcast_S4096_S4096x1024_0 (Host.reduceAdd (Host.divf (mulf (shapeCast S4096x1 (Host.reduceAdd (mulf x g)
      (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt v) v)))
    (broadcastInDim S4096x1 ![] bcast_S_S4096x1 (constant S_ .f32 0x44800000#32))) (constant S_ .f32 0x00000000#32) reducesTo_S4096x1_S4096_d1 h_S_)

theorem slice_apply {w : FTy} (x : FVec Ideal S4352x1024 w) (r : Fin 4096) (l : Fin 1024) :
    extractStridedSlice S4096x1024 ![256, 0] x slices_S4352x1024_S4096x1024_256_0 (ix2 r l) = x (ix2 (after r) l) := by
  refine congrArg x (funext fun a => Fin.ext ?_)
  match a with
  | ⟨0, _⟩ => rfl
  | ⟨1, _⟩ => exact Nat.zero_add _

theorem meanR_apply (x : FVec Ideal S4096x1024 .f32) (r : Fin 4096) :
    (meanR x (ix2 r (0 : Fin 1)) : EReal) = mean 1024 small fun k : Fin 1024 => (x (ix2 r k) : EReal) := by
  unfold meanR mean
  rw [← c_width, ← c_small]
  pointwise

theorem throughR_apply (x g : FVec Ideal S4096x1024 .f32) (v : FVec Ideal S4096x1 .f32) (r : Fin 4096) (l : Fin 1024) :
    (throughR x g v (ix2 r l) : EReal) = Ideal.div ((∑ k : Fin 1024, (x (ix2 r k) : EReal) * (g (ix2 r k) : EReal))
      * (((-(1 / 2) : ℝ) : EReal) * Ideal.div (Ideal.rsqrt (v (ix2 r (0 : Fin 1)))) (v (ix2 r (0 : Fin 1))))) (1024 : ℝ) := by
  unfold throughR
  rw [← c_width, ← c_half]
  pointwise
  exact Fin.sum_univ_one _

theorem scaledR_apply (d : FVec Ideal S4352x1024 .bf16) (s : FVec Ideal S2x8x1024 .f32) (w : FVec Ideal S1x1024 .f32) (r : Fin 4096) (l : Fin 1024) :
    (scaledR d s w (ix2 r l) : EReal) = scaled d s w (after r) l := by
  unfold scaledR scaled
  rw [← Ideal.ofBits_one_f32]
  pointwise
  rfl

/-- The reference's result is the same. -/
theorem reference_eq (x : FVec Ideal S4352x1024 .f32) (d : FVec Ideal S4352x1024 .bf16) (p : FVec Ideal S4352x1024 .f32)
    (s : FVec Ideal S2x8x1024 .f32) (w : FVec Ideal S1x1024 .f32) (y g : FVec Ideal S4096x1024 .f32)
    (hy : y = extractStridedSlice S4096x1024 ![256, 0] x slices_S4352x1024_S4096x1024_256_0) (hg : g = scaledR d s w) :
    addf (extractStridedSlice S4096x1024 ![256, 0] p slices_S4352x1024_S4096x1024_256_0)
      (addf (addf (mulf g (broadcastInDim S4096x1024 ![0, 1] bcast_S4096x1_S4096x1024_0_1 (Host.rsqrt (meanR y))))
        (mulf y (throughR y g (meanR y)))) (mulf (throughR y g (meanR y)) y)) = spec x d p s w := by
  funext j
  obtain ⟨r, l, rfl⟩ : ∃ (r : Fin 4096) (l : Fin 1024), j = ix2 r l := ⟨j 0, j 1, eq_ix2 j⟩
  have hy' (k : Fin 1024) : y (ix2 r k) = x (ix2 (after r) k) := by rw [hy, slice_apply]
  have hg' (k : Fin 1024) : g (ix2 r k) = scaled d s w (after r) k := by rw [hg, scaledR_apply]
  show _ = element x d p s w (after r) l
  unfold element
  rw [← rowGrad_eq 1024 small (by norm_num) (by norm_num) (fun k => (x (ix2 (after r) k) : EReal)), add_comm, ← slice_apply p]
  have e : (broadcastInDim S4096x1024 ![0, 1] bcast_S4096x1_S4096x1024_0_1 (Host.rsqrt (meanR y)) (ix2 r l) : EReal)
      = Ideal.rsqrt (mean 1024 small fun k : Fin 1024 => (x (ix2 (after r) k) : EReal)) := by
    rw [← funext hy', ← meanR_apply]
    generalize meanR y = v
    pointwise
  have b : (throughR y g (meanR y) (ix2 r l) : EReal)
      = through 1024 small (-(1 / 2)) (fun k => (x (ix2 (after r) k) : EReal)) (scaled d s w (after r)) := by
    rw [throughR_apply, meanR_apply]
    simp only [hy', hg']
    rfl
  rw [addf_apply, addf_apply, addf_apply, mulf_apply, mulf_apply, mulf_apply, e, b, hy', hg']
  rfl

end Cert.Norm

/-- The value claim of the gradient of the sequence's input. -/
theorem Cert.Proof.algebraic_norm : Cert.algebraic_Kernel35Ideal_Reference35Ideal
    (hKernel35Ideal := Cert.Kernel35Ideal.Gen.facts) (hReference35Ideal := Cert.Reference35Ideal.Gen.facts) := by
  intro m g m' g' _ hm
  refine ⟨fun c => Cert.Norm.result m c, ?_, ?_⟩
  · refine (θ_run Cert.Kernel35Ideal.defs _ _).mono (fun r h c => ?_) (Cert.Kernel35Ideal.Value.run_blocks m g)
    exact ⟨(h c).1.trans (Cert.Norm.final m c), (h c).2.2⟩
  · refine (θ_run Cert.Reference35Ideal.defs _ _).mono (fun r h c => ?_) (Cert.Reference35Ideal.Value.run m' g')
    obtain ⟨e0, e1, e2, e3, e4⟩ := hm c
    refine ⟨(h c).1.trans ?_, (h c).2⟩
    unfold Cert.Reference35Ideal.Value.res_main_v49
    rw [e0, e1, e2, e3, e4]
    exact Cert.Norm.reference_eq _ _ _ _ _ _ _ rfl rfl

end
-- ==== Proof.Loss.Tile.lean ====
/-
  One tile of the loss head: the last residual, its root mean square norm, half of the mean square of the norm's distance from the
  target, and the gradients of the residual's two parts.
-/
module

public import proofs.«01_k».proof.Defs
public import proofs.«01_k».proof.Proof.Gen.Kernel36Ideal.Value
public import proofs.«01_k».proof.Proof.Products
public import proofs.«01_k».proof.Proof.Norm.Claim

@[expose] public section

noncomputable section

open Idealize.ShloMosaic Idealize.ShloMosaic.TcCoe Idealize.SL.Sem
open Cert.Prod Cert.Norm

namespace Cert.Loss

theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_part : Ideal.ofBits .f32 0x3A800000#32 = ((1 / 1024 : ℝ) : EReal) := by
  simp [Ideal.ofBits, Ideal.ieee, -EReal.coe_mul]; norm_num

/-- A row's distance from its target `y`, of the residual `v` and the norm's weight `w`. -/
def err (v w y : Fin 1024 → EReal) (k : Fin 1024) : EReal := v k * Ideal.rsqrt (mean 1024 small v) * w k - y k

/-- The row's sum of squares. -/
def squares (v w y : Fin 1024 → EReal) : EReal := ∑ k, err v w y k * err v w y k

/-- The gradient of the norm's output, times the weight. -/
def slope (v w y : Fin 1024 → EReal) (k : Fin 1024) : EReal := err v w y k * ((1 / 1024 : ℝ) : EReal) * w k

/-- A row's part of the gradient of the weight. -/
def toWeight (v w y : Fin 1024 → EReal) (k : Fin 1024) : EReal := err v w y k * ((1 / 1024 : ℝ) : EReal) * (v k * Ideal.rsqrt (mean 1024 small v))

/-- Two rows, and six of zeros under them. -/
def stacked (a b : Fin 1024 → EReal) (i : Fin 8) (l : Fin 1024) : EReal := if i.val = 0 then a l else if i.val = 1 then b l else 0

/-- The gradient of the residual. -/
def grad (v w y : Fin 1024 → EReal) (l : Fin 1024) : EReal := rowGrad 1024 small v (slope v w y) l

open Cert.Kernel36Ideal Cert.Kernel36Ideal.Gen

/-- The gate, a row of the modulation. -/
def gate (s : Vec Ideal S2x8x1024 .f32) (k : Fin 1024) : EReal := s (ix3 (1 : Fin 2) (5 : Fin 8) k)

/-- A row of a matrix. -/
def line {n : ℕ} (x : Vec Ideal ⟨2, ![n, 1024]⟩ .f32) (r : Fin n) (k : Fin 1024) : EReal := x (ix2 r k)

/-- The residual's row. -/
def resid {n : ℕ} (x f : Vec Ideal ⟨2, ![n, 1024]⟩ .f32) (s : Vec Ideal S2x8x1024 .f32) (r : Fin n) (k : Fin 1024) : EReal :=
  line x r k + gate s k * line f r k

theorem gate_apply (s : Vec Ideal S2x8x1024 .f32) (l : Fin 1024) :
    (k0_pay8 (View.ld s (Rect.unit (s := S2x8x1024) ![1, 5, 0] S1x1x1024.size inb_S2x8x1024_S1x1x1024_1_5_0)) (ix2 (0 : Fin 1) l) : EReal)
      = gate s l := by
  unfold k0_pay8
  refine (shapeCast_dropUnit_apply ![1, 1024] _ _ (ix2 (0 : Fin 1) l)).trans ?_
  refine congrArg s (funext fun u => Fin.ext ?_)
  match u with
  | ⟨0, _⟩ => rfl
  | ⟨1, _⟩ => rfl
  | ⟨2, _⟩ => exact (Nat.zero_add _).trans (Nat.one_mul _)

/-- The values of a point after the first, at the loaded gate `g`. -/
theorem pay9_apply (g : Vec Ideal S1x1x1024 .f32) (f x : Vec Ideal S256x1024 .f32) (r : Fin 256) (l : Fin 1024) :
    (k0_pay9 g f x (ix2 r l) : EReal) = (x (ix2 r l) : EReal) + (k0_pay8 g (ix2 (0 : Fin 1) l) : EReal) * (f (ix2 r l) : EReal) := by
  unfold k0_pay9
  generalize k0_pay8 g = u
  pointwise

theorem pay10_apply (g : Vec Ideal S1x1x1024 .f32) (f x : Vec Ideal S256x1024 .f32) (r : Fin 256) :
    (k0_pay10 g f x (ix2 r (0 : Fin 1)) : EReal) = Ideal.rsqrt (mean 1024 small fun k : Fin 1024 => (k0_pay9 g f x (ix2 r k) : EReal)) := by
  unfold k0_pay10 mean
  generalize k0_pay9 g f x = u
  rw [← c_width, ← c_small]
  pointwise

theorem pay11_apply (g : Vec Ideal S1x1x1024 .f32) (f x : Vec Ideal S256x1024 .f32) (r : Fin 256) (l : Fin 1024) :
    (k0_pay11 g f x (ix2 r l) : EReal) = (k0_pay9 g f x (ix2 r l) : EReal) * (k0_pay10 g f x (ix2 r (0 : Fin 1)) : EReal) := by
  unfold k0_pay11
  generalize k0_pay9 g f x = u
  generalize k0_pay10 g f x = v
  pointwise

theorem pay12_apply (g : Vec Ideal S1x1x1024 .f32) (f x : Vec Ideal S256x1024 .f32) (w : Vec Ideal S1x1024 .f32) (y : Vec Ideal S256x1024 .f32)
    (r : Fin 256) (l : Fin 1024) :
    (k0_pay12 g f x w y (ix2 r l) : EReal) = (k0_pay11 g f x (ix2 r l) : EReal) * (w (ix2 (0 : Fin 1) l) : EReal) - (y (ix2 r l) : EReal) := by
  unfold k0_pay12
  generalize k0_pay11 g f x = u
  pointwise

theorem pay14_apply (g : Vec Ideal S1x1x1024 .f32) (f x : Vec Ideal S256x1024 .f32) (w : Vec Ideal S1x1024 .f32) (y : Vec Ideal S256x1024 .f32)
    (r : Fin 256) (l : Fin 1024) :
    (k0_pay14 g f x w y (ix2 r l) : EReal) = (k0_pay12 g f x w y (ix2 r l) : EReal) * ((1 / 1024 : ℝ) : EReal) := by
  unfold k0_pay14
  generalize k0_pay12 g f x w y = u
  rw [← c_part]
  pointwise

theorem pay15_apply (w : Vec Ideal S1x1024 .f32) (r : Fin 256) (l : Fin 1024) :
    (k0_pay15 w (ix2 r l) : EReal) = (w (ix2 (0 : Fin 1) l) : EReal) := by
  unfold k0_pay15
  pointwise

theorem pay5_apply (q : FVec Ideal S256x1 .f32) (n e w : FVec Ideal S256x1024 .f32) (r : Fin 256) (l : Fin 1024) :
    (k0_pay5 q n e w (ix2 r l) : EReal) = (q (ix2 r (0 : Fin 1)) : EReal) * ((e (ix2 r l) : EReal) * (w (ix2 r l) : EReal)
      - (n (ix2 r l) : EReal) * Ideal.div (∑ k : Fin 1024, (e (ix2 r k) : EReal) * (w (ix2 r k) : EReal) * (n (ix2 r k) : EReal)) (1024 : ℝ)) := by
  unfold k0_pay5
  rw [← c_width]
  pointwise

theorem pay6_apply (g : FVec Ideal S1x1024 .f32) (q : FVec Ideal S256x1 .f32) (n e w : FVec Ideal S256x1024 .f32) (r : Fin 256) (l : Fin 1024) :
    (k0_pay6 g q n e w (ix2 r l) : EReal) = (g (ix2 (0 : Fin 1) l) : EReal) * (k0_pay5 q n e w (ix2 r l) : EReal) := by
  unfold k0_pay6
  generalize k0_pay5 q n e w = u
  pointwise

theorem pay13_apply (g : Vec Ideal S1x1x1024 .f32) (f x : Vec Ideal S256x1024 .f32) (w : Vec Ideal S1x1024 .f32) (y : Vec Ideal S256x1024 .f32)
    (o : Vec Ideal S8x128 .f32) (a : Fin 8) (b : Fin 128) :
    (k0_pay13 g f x w y o (ix2 a b) : EReal) = (o (ix2 a b) : EReal) + Ideal.div (((1 / 2 : ℝ) : EReal)
      * ∑ r : Fin 256, ∑ k : Fin 1024, (k0_pay12 g f x w y (ix2 r k) : EReal) * (k0_pay12 g f x w y (ix2 r k) : EReal)) (1024 : ℝ) := by
  unfold k0_pay13
  generalize k0_pay12 g f x w y = u
  rw [← c_width, ← c_half]
  pointwise

theorem stack_apply (a b : Vec Ideal S1x1024 .f32) (z : Vec Ideal S6x1024 .f32) (h0 : ∀ j, (z j : EReal) = 0)
    (h : Shape.Concatenates [S1x1024, S1x1024, S6x1024] S8x1024 0) (i : Fin 8) (l : Fin 1024) :
    (concatenate S8x1024 0 [⟨S1x1024, a⟩, ⟨S1x1024, b⟩, ⟨S6x1024, z⟩] h (ix2 i l) : EReal) = stacked (line a 0) (line b 0) i l := by
  have same : ∀ {n : ℕ} (r : Fin n) (u : Fin 2), u.cast rfl ≠ (0 : Fin 2) → (ix2 r l u).val = (ix2 i l (u.cast rfl)).val := fun r u hu => by
    match u with
    | ⟨0, _⟩ => exact absurd rfl hu
    | ⟨1, _⟩ => rfl
  unfold stacked
  by_cases e0 : i.val = 0
  · rw [if_pos e0]
    exact concatenate_apply_piece (t := S8x1024) (0 : Fin 2) [⟨S1x1024, a⟩, ⟨S1x1024, b⟩, ⟨S6x1024, z⟩] h (ix2 i l) 0 (by simp)
      S1x1024 a rfl rfl 0 rfl (ix2 (0 : Fin 1) l) (same 0)
      (show 0 + 0 = i.val by omega)
  · rw [if_neg e0]
    by_cases e1 : i.val = 1
    · rw [if_pos e1]
      exact concatenate_apply_piece (t := S8x1024) (0 : Fin 2) [⟨S1x1024, a⟩, ⟨S1x1024, b⟩, ⟨S6x1024, z⟩] h (ix2 i l) 1 (by simp)
        S1x1024 b rfl rfl 1 rfl (ix2 (0 : Fin 1) l) (same 0)
        (show 1 + 0 = i.val by omega)
    · rw [if_neg e1]
      exact (concatenate_apply_piece (t := S8x1024) (0 : Fin 2) [⟨S1x1024, a⟩, ⟨S1x1024, b⟩, ⟨S6x1024, z⟩] h (ix2 i l) 2 (by simp)
        S6x1024 z rfl rfl 2 rfl (ix2 (⟨i.val - 2, by omega⟩ : Fin 6) l)
        (same _) (show 2 + (i.val - 2) = i.val by omega)).trans (h0 _)

theorem pay7_apply (f : Vec Ideal S256x1024 .f32) (q : FVec Ideal S256x1 .f32) (n e w : FVec Ideal S256x1024 .f32) (o : Vec Ideal S8x1024 .f32)
    (i : Fin 8) (l : Fin 1024) :
    (k0_pay7 f q n e w o (ix2 i l) : EReal) = (o (ix2 i l) : EReal)
      + stacked (fun k => ∑ r : Fin 256, (k0_pay5 q n e w (ix2 r k) : EReal) * (f (ix2 r k) : EReal))
          (fun k => ∑ r : Fin 256, (e (ix2 r k) : EReal) * (n (ix2 r k) : EReal)) i l := by
  unfold k0_pay7
  generalize k0_pay5 q n e w = u
  dsimp only
  rw [addf_apply]
  refine congrArg₂ (fun u v : EReal => u + v) (by pointwise) ((stack_apply _ _ _ (fun _ => Ideal.ofBits_zero_f32) _ i l).trans ?_)
  exact congrArg₂ (fun a b => stacked a b i l) (funext fun k => by unfold line; pointwise) (funext fun k => by unfold line; pointwise)

section

variable (c : Dev nD) (i : grid0.Coords) (a1 : Memref sig .tc .vmem S256x1024 .f32) (h1 : a1.IsWhole)
  (a2 : Memref sig .tc .vmem S256x1024 .f32) (h2 : a2.IsWhole) (a3 : Memref sig .tc .vmem S2x8x1024 .f32) (h3 : a3.IsWhole)
  (a4 : Memref sig .tc .vmem S1x1024 .f32) (h4 : a4.IsWhole) (a5 : Memref sig .tc .vmem S256x1024 .f32) (h5 : a5.IsWhole)
  (a6 : Memref sig .tc .vmem S8x128 .f32) (h6 : a6.IsWhole) (a7 : Memref sig .tc .vmem S256x1024 .f32) (h7 : a7.IsWhole)
  (a8 : Memref sig .tc .vmem S256x1024 .bf16) (h8 : a8.IsWhole) (a9 : Memref sig .tc .vmem S8x1024 .f32) (h9 : a9.IsWhole)
  (x f : Vec Ideal S256x1024 .f32) (s : Vec Ideal S2x8x1024 .f32) (w : Vec Ideal S1x1024 .f32) (y : Vec Ideal S256x1024 .f32)

/-- The first point leaves zeros. -/
theorem loss_A (hc0 : cond0_0 i) (hc1 : cond0_1 i) (hc2 : ¬cond0_2 i) (a : Fin 8) (b : Fin 128) :
    (out0_A_5 c i a1 h1 a2 h2 a3 h3 a4 h4 a5 h5 a6 h6 a7 h7 a8 h8 a9 h9 hc0 hc1 hc2 x f s w y (ix2 a b) : EReal) = 0 := by
  unfold out0_A_5
  rw [View.read_writes_eq_canon _ _ _ (cover0_A_5 c i a1 h1 a2 h2 a3 h3 a4 h4 a5 h5 a6 h6 a7 h7 a8 h8 a9 h9 hc0 hc1 hc2 x f s w y)]
  unfold kernelRun0_A
  dsimp only
  rw [View.canon_unit_zero hz]
  exact Ideal.ofBits_zero_f32

theorem dx_A (hc0 : cond0_0 i) (hc1 : cond0_1 i) (hc2 : ¬cond0_2 i) (r : Fin 256) (l : Fin 1024) :
    (out0_A_6 c i a1 h1 a2 h2 a3 h3 a4 h4 a5 h5 a6 h6 a7 h7 a8 h8 a9 h9 hc0 hc1 hc2 x f s w y (ix2 r l) : EReal) = 0 := by
  unfold out0_A_6
  rw [View.read_writes_eq_canon _ _ _ (cover0_A_6 c i a1 h1 a2 h2 a3 h3 a4 h4 a5 h5 a6 h6 a7 h7 a8 h8 a9 h9 hc0 hc1 hc2 x f s w y)]
  unfold kernelRun0_A
  dsimp only
  rw [View.canon_unit_zero hz]
  exact Ideal.ofBits_zero_f32

theorem df_A (hc0 : cond0_0 i) (hc1 : cond0_1 i) (hc2 : ¬cond0_2 i) (r : Fin 256) (l : Fin 1024) :
    (out0_A_7 c i a1 h1 a2 h2 a3 h3 a4 h4 a5 h5 a6 h6 a7 h7 a8 h8 a9 h9 hc0 hc1 hc2 x f s w y (ix2 r l) : EReal) = 0 := by
  unfold out0_A_7
  rw [View.read_writes_eq_canon _ _ _ (cover0_A_7 c i a1 h1 a2 h2 a3 h3 a4 h4 a5 h5 a6 h6 a7 h7 a8 h8 a9 h9 hc0 hc1 hc2 x f s w y)]
  unfold kernelRun0_A
  dsimp only
  rw [View.canon_unit_zero hz]
  exact Ideal.ofBits_zero_bf16

theorem sums_A (hc0 : cond0_0 i) (hc1 : cond0_1 i) (hc2 : ¬cond0_2 i) (a : Fin 8) (l : Fin 1024) :
    (out0_A_8 c i a1 h1 a2 h2 a3 h3 a4 h4 a5 h5 a6 h6 a7 h7 a8 h8 a9 h9 hc0 hc1 hc2 x f s w y (ix2 a l) : EReal) = 0 := by
  unfold out0_A_8
  rw [View.read_writes_eq_canon _ _ _ (cover0_A_8 c i a1 h1 a2 h2 a3 h3 a4 h4 a5 h5 a6 h6 a7 h7 a8 h8 a9 h9 hc0 hc1 hc2 x f s w y)]
  unfold kernelRun0_A
  dsimp only
  rw [View.canon_unit_zero hz]
  exact Ideal.ofBits_zero_f32

variable (hc0 : ¬cond0_0 i) (hc1 : ¬cond0_1 i) (hc2 : cond0_2 i) (o : Vec Ideal S8x128 .f32) (o' : Vec Ideal S8x1024 .f32)

/-- A later point adds its tile's part of the loss. -/
theorem loss_B (a : Fin 8) (b : Fin 128) :
    (out0_B_5 c i a1 h1 a2 h2 a3 h3 a4 h4 a5 h5 a6 h6 a7 h7 a8 h8 a9 h9 hc0 hc1 hc2 x f s w y o o' (ix2 a b) : EReal)
      = (o (ix2 a b) : EReal) + Ideal.div (((1 / 2 : ℝ) : EReal) * ∑ r : Fin 256, squares (resid x f s r) (line w 0) (line y r)) (1024 : ℝ) := by
  unfold out0_B_5
  rw [View.read_writes_eq_canon _ _ _ (cover0_B_5 c i a1 h1 a2 h2 a3 h3 a4 h4 a5 h5 a6 h6 a7 h7 a8 h8 a9 h9 hc0 hc1 hc2 x f s w y o o')]
  unfold kernelRun0_B
  dsimp only
  rw [View.canon_unit_zero hz]
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S8x128) hz]
  rw [pay13_apply]
  simp only [pay12_apply, pay11_apply, pay10_apply, pay9_apply, gate_apply]
  rfl

/-- It writes its rows' gradient. -/
theorem dx_B (r : Fin 256) (l : Fin 1024) :
    (out0_B_6 c i a1 h1 a2 h2 a3 h3 a4 h4 a5 h5 a6 h6 a7 h7 a8 h8 a9 h9 hc0 hc1 hc2 x f s w y o o' (ix2 r l) : EReal)
      = grad (resid x f s r) (line w 0) (line y r) l := by
  unfold out0_B_6
  rw [View.read_writes_eq_canon _ _ _ (cover0_B_6 c i a1 h1 a2 h2 a3 h3 a4 h4 a5 h5 a6 h6 a7 h7 a8 h8 a9 h9 hc0 hc1 hc2 x f s w y o o')]
  unfold kernelRun0_B
  dsimp only
  rw [View.canon_unit_zero hz]
  unfold kernelRun0_B.sl.r_2 kernelRun0_B.sl.r_3 kernelRun0_B.sl.r_4 kernelRun0_B.sl.r_5
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S8x128) hz]
  rw [pay5_apply]
  simp only [pay15_apply, pay14_apply, pay12_apply, pay11_apply, pay10_apply, pay9_apply, gate_apply]
  rfl

/-- The gradient of the second part is that times the gate. -/
theorem df_B (r : Fin 256) (l : Fin 1024) :
    (out0_B_7 c i a1 h1 a2 h2 a3 h3 a4 h4 a5 h5 a6 h6 a7 h7 a8 h8 a9 h9 hc0 hc1 hc2 x f s w y o o' (ix2 r l) : EReal)
      = gate s l * grad (resid x f s r) (line w 0) (line y r) l := by
  unfold out0_B_7
  rw [View.read_writes_eq_canon _ _ _ (cover0_B_7 c i a1 h1 a2 h2 a3 h3 a4 h4 a5 h5 a6 h6 a7 h7 a8 h8 a9 h9 hc0 hc1 hc2 x f s w y o o')]
  unfold kernelRun0_B
  dsimp only
  rw [View.canon_unit_zero hz]
  unfold kernelRun0_B.sl.r kernelRun0_B.sl.r_2 kernelRun0_B.sl.r_3 kernelRun0_B.sl.r_4 kernelRun0_B.sl.r_5
  simp only [View.readAt_eq_ld, h1.read_unread, h2.read_unread, h3.read_unread, h4.read_unread, h5.read_unread, h6.read_unread,
    View.ld_unit_zero (S := S256x1024) hz, View.ld_unit_zero (S := S1x1024) hz, View.ld_unit_zero (S := S8x128) hz]
  rw [pay6_apply, pay5_apply]
  simp only [pay15_apply, pay14_apply, pay12_apply, pay11_apply, pay10_apply, pay9_apply, gate_apply]
  rfl

/-- It adds its rows to the sums for the gate's and the weight's gradients. -/
theorem sums_B (a : Fin 8) (l : Fin 1024) :
    (out0_B_8 c i a1 h1 a2 h2 a3 h3 a4 h4 a5 h5 a6 h6 a7 h7 a8 h8 a9 h9 hc0 hc1 hc2 x f s w y o o' (ix2 a l) : EReal)
      = (o' (ix2 a l) : EReal) + stacked (fun k => ∑ r : Fin 256, grad (resid x f s r) (line w 0) (line y r) k * line f r k)
          (fun k => ∑ r : Fin 256, toWeight (resid x f s r) (line w 0) (line y r) k) a l := by
  unfold out0_B_8
  rw [View.read_writes_eq_canon _ _ _ (cover0_B_8 c i a1 h1 a2 h2 a3 h3 a4 h4 a5 h5 a6 h6 a7 h7 a8 h8 a9 h9 hc0 hc1 hc2 x f s w y o o')]
  unfold kernelRun0_B
  dsimp only
  rw [View.canon_unit_zero hz]
  unfold kernelRun0_B.sl.r_1 kernelRun0_B.sl.r_2 kernelRun0_B.sl.r_3 kernelRun0_B.sl.r_4 kernelRun0_B.sl.r_5
  simp only [View.readAt_eq_ld, h1.read_unread, h2.read_unread, h3.read_unread, h4.read_unread, h5.read_unread, h9.read_unread,
    View.ld_unit_zero (S := S256x1024) hz, View.ld_unit_zero (S := S1x1024) hz, View.ld_unit_zero (S := S8x1024) hz]
  rw [pay7_apply]
  simp only [pay5_apply, pay15_apply, pay14_apply, pay12_apply, pay11_apply, pay10_apply, pay9_apply, gate_apply]
  rfl

end

end Cert.Loss

end
-- ==== Proof.Loss.Claim.lean ====
/-
  The loss head: over the sixteen tiles of the sequence the parts of the loss add up to the whole, and the gradients' rows are the
  reference's; those of the context, which no target has, are zero.
-/
module

public import proofs.«01_k».proof.Defs
public import proofs.«01_k».proof.Proof.Gen.Kernel36Ideal.Value
public import proofs.«01_k».proof.Proof.Gen.Reference36Ideal.Run
public import proofs.«01_k».proof.Proof.Loss.Tile
public import Idealize.ShloMosaic.Lib.KernelVsHost

@[expose] public section

noncomputable section

open Idealize.ShloMosaic Idealize.ShloMosaic.TcCoe Idealize.SL.Sem
open Idealize.ShloMosaic.Pipeline (Dat)
open Cert.Prod Cert.Norm

namespace Cert.Loss

open Cert.Kernel36Ideal Cert.Kernel36Ideal.Gen

section Spec

variable (x f : Vec Ideal S4352x1024 .f32) (s : Vec Ideal S2x8x1024 .f32) (w : Vec Ideal S1x1024 .f32) (y : Vec Ideal S4096x1024 .f32)

/-- The sum of squares of row `q` of the sequence. -/
def rowSquares (q : Fin 4096) : EReal := squares (resid x f s (after q)) (line w 0) (line y q)

/-- Half of the rows' mean squares, added. -/
def loss : EReal := ((1 / 2 : ℝ) : EReal) * ∑ q : Fin 4096, Ideal.div (rowSquares x f s w y q) (1024 : ℝ)

/-- The residual's gradient; the context has none. -/
def dxAt (r : Fin 4352) (l : Fin 1024) : EReal :=
  if h : 256 ≤ r.val then grad (resid x f s r) (line w 0) (line y ⟨r.val - 256, by omega⟩) l else 0

theorem dxAt_after (q : Fin 4096) (l : Fin 1024) : dxAt x f s w y (after q) l = grad (resid x f s (after q)) (line w 0) (line y q) l := by
  unfold dxAt
  rw [dif_pos (show 256 ≤ (after q).val from Nat.le_add_right _ _)]
  exact congrArg (fun z => grad (resid x f s (after q)) (line w 0) (line y z) l) (Fin.ext (Nat.add_sub_cancel_left _ _))

theorem dxAt_before (r : Fin 4352) (h : r.val < 256) (l : Fin 1024) : dxAt x f s w y r l = 0 := by
  unfold dxAt
  rw [dif_neg (by omega)]

def specLoss : Vec Ideal S8x128 .f32 := fun _ => loss x f s w y
/-- The gate's gradient, and the weight's. -/
def specSums : Vec Ideal S8x1024 .f32 := fun j => stacked
  (fun k => ∑ q : Fin 4096, grad (resid x f s (after q)) (line w 0) (line y q) k * line f (after q) k)
  (fun k => ∑ q : Fin 4096, toWeight (resid x f s (after q)) (line w 0) (line y q) k) (j 0) (j 1)
def specX : Vec Ideal S4352x1024 .f32 := fun j => dxAt x f s w y (j 0) (j 1)
def specF : Vec Ideal S4352x1024 .bf16 := fun j => gate s (j 1) * dxAt x f s w y (j 0) (j 1)

end Spec

/-- Row `r` of the sequence's tile `p`. -/
def tileRow (p : ℕ) (r : Fin 256) : Fin 4096 := Fin.ofNat 4096 (p * 256 + r.val)

/-- A tile's part of the loss. -/
def part (g : Fin 4096 → EReal) (p : ℕ) : EReal := Ideal.div (((1 / 2 : ℝ) : EReal) * ∑ r : Fin 256, g (tileRow p r)) (1024 : ℝ)

/-- The sixteen tiles hold every row. -/
theorem tiles (g : Fin 4096 → EReal) : ∑ p : Fin 16, ∑ r : Fin 256, g (tileRow p.val r) = ∑ q : Fin 4096, g q := by
  rw [← Finset.sum_product', Finset.univ_product_univ]
  refine Fintype.sum_equiv (finProdFinEquiv (m := 16) (n := 256)) _ _ fun z => congrArg g (Fin.ext ?_)
  have h1 := z.1.isLt
  have h2 := z.2.isLt
  show (z.1.val * 256 + z.2.val) % 4096 = z.2.val + 256 * z.1.val
  omega

/-- Their parts add up. -/
theorem parts (g : Fin 4096 → EReal) :
    ∑ p ∈ Finset.range 16, part g p = ((1 / 2 : ℝ) : EReal) * ∑ q : Fin 4096, Ideal.div (g q) (1024 : ℝ) := by
  rw [Finset.sum_range, ← tiles fun q => Ideal.div (g q) (1024 : ℝ)]
  unfold part
  simp only [Ideal.div_coe (show (1024 : ℝ) ≠ 0 by norm_num)]
  rw [sum_mul_real _ _ (by norm_num), Finset.sum_congr rfl fun p _ => mul_comm ((1 / 2 : ℝ) : EReal) _, sum_mul_real _ _ (by norm_num),
    Finset.sum_congr rfl fun p _ => sum_mul_real _ _ (by norm_num), sum_mul_real _ _ (by norm_num)]
  ac_rfl

/-- Stacked rows are added row by row. -/
theorem stacked_sum (a b : ℕ → Fin 1024 → EReal) (n : ℕ) (i : Fin 8) (l : Fin 1024) :
    ∑ p ∈ Finset.range n, stacked (a p) (b p) i l = stacked (fun k => ∑ p ∈ Finset.range n, a p k) (fun k => ∑ p ∈ Finset.range n, b p k) i l := by
  unfold stacked
  split
  · rfl
  · split
    · rfl
    · exact Finset.sum_const_zero

/-- The tiles' sums of a row's function are its sum over the rows. -/
theorem range_tiles (g : Fin 4096 → EReal) : ∑ p ∈ Finset.range 16, ∑ r : Fin 256, g (tileRow p r) = ∑ q : Fin 4096, g q := by
  rw [Finset.sum_range, tiles]

variable (m : (ℓ : Loc nD τ sig) → Buf (Elt Ideal) ℓ) (c : Dev nD)

theorem index : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0) ∧ (win0_3.index t 0 = 0 ∧ win0_3.index t 1 = 0)
    ∧ (win0_4.index t 0 = t.val - 1 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ ((cfg0.win 5).flush t = true ↔ t.val = 16) ∧ (cfg0.win 6).flush t = true ∧ (cfg0.win 7).flush t = true
    ∧ (win0_8.index t 0 = 0 ∧ win0_8.index t 1 = 0) ∧ ((cfg0.win 8).flush t = true ↔ t.val = 16) := by decide +kernel

abbrev xArr : Vec Ideal S4352x1024 .f32 := m ((c : Thread nD τ).loc main_arg0)
abbrev fArr : Vec Ideal S4352x1024 .f32 := m ((c : Thread nD τ).loc main_arg1)
abbrev sArr : Vec Ideal S2x8x1024 .f32 := m ((c : Thread nD τ).loc main_arg2)
abbrev wArr : Vec Ideal S1x1024 .f32 := m ((c : Thread nD τ).loc main_arg3)
abbrev yArr : Vec Ideal S4096x1024 .f32 := m ((c : Thread nD τ).loc main_arg4)

theorem tileRow_val (t : Fin cfg0.N) (r : Fin 256) : (tileRow (t.val - 1) r).val = (t.val - 1) * 256 + r.val := by
  have hN : cfg0.N = 17 := N_0
  have := lt_of_lt_of_eq t.isLt hN
  have := r.isLt
  exact Nat.mod_eq_of_lt (by omega)

theorem rows_eq (t : Fin cfg0.N) (ht : 1 ≤ t.val) (r : Fin 256) : t.val * 256 + r.val = (after (tileRow (t.val - 1) r)).val := by
  show t.val * 256 + r.val = 256 + (tileRow (t.val - 1) r).val
  rw [tileRow_val]
  omega

theorem xRow (t : Fin cfg0.N) (ht : 1 ≤ t.val) (r : Fin 256) (k : Fin 1024) :
    (iblk m c 0 t : Vec Ideal S256x1024 .f32) (ix2 r k) = xArr m c (ix2 (after (tileRow (t.val - 1) r)) k) :=
  congrArg (xArr m c) (place 256 1024 _ _ r.val k.val _ k (rows_eq t ht r) (by omega) _ (index t).1 rfl rfl)

theorem fRow (t : Fin cfg0.N) (ht : 1 ≤ t.val) (r : Fin 256) (k : Fin 1024) :
    (iblk m c 1 t : Vec Ideal S256x1024 .f32) (ix2 r k) = fArr m c (ix2 (after (tileRow (t.val - 1) r)) k) :=
  congrArg (fArr m c) (place 256 1024 _ _ r.val k.val _ k (rows_eq t ht r) (by omega) _ (index t).2.1 rfl rfl)

theorem sRow (t : Fin cfg0.N) (k : Fin 1024) :
    (iblk m c 2 t : Vec Ideal S2x8x1024 .f32) (ix3 (1 : Fin 2) (5 : Fin 8) k) = sArr m c (ix3 (1 : Fin 2) (5 : Fin 8) k) :=
  congrArg (sArr m c) (funext fun a => Fin.ext (by
    obtain ⟨h0, h1, h2⟩ := (index t).2.2.1
    match a with
    | ⟨0, _⟩ => show win0_2.index t 0 * 2 + 1 * 1 = 1; omega
    | ⟨1, _⟩ => show win0_2.index t 1 * 8 + 1 * 5 = 5; omega
    | ⟨2, _⟩ => show win0_2.index t 2 * 1024 + 1 * k.val = k.val; omega))

theorem wRow (t : Fin cfg0.N) (k : Fin 1024) :
    (iblk m c 3 t : Vec Ideal S1x1024 .f32) (ix2 (0 : Fin 1) k) = wArr m c (ix2 (0 : Fin 1) k) :=
  congrArg (wArr m c) (place 1 1024 0 0 0 k.val (0 : Fin 1) k rfl (by omega) _ (index t).2.2.2.1 rfl rfl)

theorem yRow (t : Fin cfg0.N) (r : Fin 256) (k : Fin 1024) :
    (iblk m c 4 t : Vec Ideal S256x1024 .f32) (ix2 r k) = yArr m c (ix2 (tileRow (t.val - 1) r) k) :=
  congrArg (yArr m c) (place 256 1024 _ _ r.val k.val _ k (tileRow_val t r).symm (by omega) _ (index t).2.2.2.2.1 rfl rfl)

theorem lines (t : Fin cfg0.N) (ht : 1 ≤ t.val) (r : Fin 256) :
    resid (iblk m c 0 t : Vec Ideal S256x1024 .f32) (iblk m c 1 t : Vec Ideal S256x1024 .f32) (iblk m c 2 t : Vec Ideal S2x8x1024 .f32) r
      = resid (xArr m c) (fArr m c) (sArr m c) (after (tileRow (t.val - 1) r))
    ∧ line (iblk m c 3 t : Vec Ideal S1x1024 .f32) 0 = line (wArr m c) 0
    ∧ line (iblk m c 4 t : Vec Ideal S256x1024 .f32) r = line (yArr m c) (tileRow (t.val - 1) r) := by
  refine ⟨funext fun k => ?_, funext fun k => wRow m c t k, funext fun k => yRow m c t r k⟩
  unfold resid line gate
  rw [xRow m c t ht, fRow m c t ht, sRow m c t]

/-- What a point leaves of the loss: the parts of the tiles up to it. -/
theorem accumulated (a : Fin 8) (b : Fin 128) : ∀ (n : ℕ) (h : n < cfg0.N), ((outsAt0 m c n h).1 (ix2 a b) : EReal)
    = ∑ p ∈ Finset.range n, part (rowSquares (xArr m c) (fArr m c) (sArr m c) (wArr m c) (yArr m c)) p
  | 0, h => by
    have e : outsAt0 m c 0 h = _ := outsAt0_A m c ⟨0, h⟩ rfl rfl (by show ¬1 ≤ 0; omega)
    rw [e]
    dsimp only
    rw [loss_A]
    rfl
  | n + 1, h => by
    have hN : cfg0.N = 17 := N_0
    have hn : ¬(n + 1) % 17 = 0 := by omega
    have e : outsAt0 m c (n + 1) h = _ := outsAt0_B m c ⟨n + 1, h⟩ hn hn (by show 1 ≤ n + 1; omega)
    rw [e]
    dsimp only
    rw [loss_B, Finset.sum_range_succ]
    refine congrArg₂ (fun u v : EReal => u + v) (accumulated a b n (Nat.lt_of_succ_lt h)) ?_
    unfold part
    refine congrArg (fun u : EReal => Ideal.div (((1 / 2 : ℝ) : EReal) * u) (1024 : ℝ)) (Finset.sum_congr rfl fun r _ => ?_)
    obtain ⟨e0, e1, e2⟩ := lines m c ⟨n + 1, h⟩ (by show 1 ≤ n + 1; omega) r
    unfold rowSquares
    rw [e0, e1, e2]
    rfl

/-- A row's part of the gate's gradient. -/
abbrev toGate (q : Fin 4096) (k : Fin 1024) : EReal :=
  grad (resid (xArr m c) (fArr m c) (sArr m c) (after q)) (line (wArr m c) 0) (line (yArr m c) q) k * line (fArr m c) (after q) k

/-- What a point leaves of the sums. -/
theorem gathered (a : Fin 8) (l : Fin 1024) : ∀ (n : ℕ) (h : n < cfg0.N), ((outsAt0 m c n h).2.2.2 (ix2 a l) : EReal)
    = ∑ p ∈ Finset.range n, stacked (fun k => ∑ r : Fin 256, toGate m c (tileRow p r) k)
        (fun k => ∑ r : Fin 256, toWeight (resid (xArr m c) (fArr m c) (sArr m c) (after (tileRow p r))) (line (wArr m c) 0)
          (line (yArr m c) (tileRow p r)) k) a l
  | 0, h => by
    have e : outsAt0 m c 0 h = _ := outsAt0_A m c ⟨0, h⟩ rfl rfl (by show ¬1 ≤ 0; omega)
    rw [e]
    dsimp only
    rw [sums_A]
    rfl
  | n + 1, h => by
    have hN : cfg0.N = 17 := N_0
    have hn : ¬(n + 1) % 17 = 0 := by omega
    have e : outsAt0 m c (n + 1) h = _ := outsAt0_B m c ⟨n + 1, h⟩ hn hn (by show 1 ≤ n + 1; omega)
    have ht : 1 ≤ (⟨n + 1, h⟩ : Fin cfg0.N).val := by show 1 ≤ n + 1; omega
    rw [e]
    dsimp only
    rw [sums_B, Finset.sum_range_succ]
    refine congrArg₂ (fun u v : EReal => u + v) (gathered a l n (Nat.lt_of_succ_lt h)) ?_
    refine congrArg₂ (fun u v => stacked u v a l) (funext fun k => Finset.sum_congr rfl fun r _ => ?_) (funext fun k => Finset.sum_congr rfl fun r _ => ?_)
    · obtain ⟨e0, e1, e2⟩ := lines m c ⟨n + 1, h⟩ ht r
      rw [e0, e1, e2]
      exact congrArg (fun u : EReal => _ * u) (fRow m c ⟨n + 1, h⟩ ht r k)
    · obtain ⟨e0, e1, e2⟩ := lines m c ⟨n + 1, h⟩ ht r
      rw [e0, e1, e2]
      rfl

abbrev resultLoss : Buf (Elt Ideal) ((c : Thread nD τ).loc main_v0_0) := specLoss (xArr m c) (fArr m c) (sArr m c) (wArr m c) (yArr m c)
abbrev resultSums : Buf (Elt Ideal) ((c : Thread nD τ).loc main_v0_3) := specSums (xArr m c) (fArr m c) (sArr m c) (wArr m c) (yArr m c)
abbrev resultX : Buf (Elt Ideal) ((c : Thread nD τ).loc main_v0_1) := specX (xArr m c) (fArr m c) (sArr m c) (wArr m c) (yArr m c)
abbrev resultF : Buf (Elt Ideal) ((c : Thread nD τ).loc main_v0_2) := specF (xArr m c) (fArr m c) (sArr m c) (wArr m c) (yArr m c)

/-- The loss written back after the last point is the whole. -/
theorem finalLoss : (dats m 0 c).arrAt 5 cfg0.N = resultLoss m c :=
  (dats m 0 c).arrAt_eq_of_cover 5 (resultLoss m c) (fun t hf => by
    have ht : t.val = 16 := (index t).2.2.2.2.2.2.2.2.1.1 hf
    have hN : cfg0.N = 17 := N_0
    rw [Value.flushed5]
    funext j
    rw [View.read_apply]
    obtain ⟨a, b, rfl⟩ : ∃ (a : Fin 8) (b : Fin 128), j = ix2 a b := ⟨j 0, j 1, eq_ix2 j⟩
    refine (accumulated m c a b t.val t.isLt).trans ?_
    rw [ht]
    exact parts _) fun i => by
    have h0 : (i 0 : Nat) < 8 := (i 0).isLt
    have h1 : (i 1 : Nat) < 128 := (i 1).isLt
    have hN : cfg0.N = 17 := N_0
    obtain ⟨t, ht⟩ : ∃ t : Fin cfg0.N, t.val = 16 := ⟨⟨16, by omega⟩, rfl⟩
    refine ⟨t, (index t).2.2.2.2.2.2.2.2.1.2 ht, ?_⟩
    show i ∈ ((View.whole main_v0_0).slice (win0_5.rect t)).set
    rw [View.set_slice_whole]
    exact Rect.mem_set_unit.2 (Fin.forall_fin_two.2 (inside 8 128 _ _ (by decide) (by decide) (i 0).val (i 1).val
      (index t).2.2.2.2.2.1 (by omega) (by omega)))

/-- So are the sums. -/
theorem finalSums : (dats m 0 c).arrAt 8 cfg0.N = resultSums m c :=
  (dats m 0 c).arrAt_eq_of_cover 8 (resultSums m c) (fun t hf => by
    have ht : t.val = 16 := (index t).2.2.2.2.2.2.2.2.2.2.2.2.1 hf
    have hN : cfg0.N = 17 := N_0
    rw [Value.flushed8]
    funext j
    rw [View.read_apply]
    obtain ⟨a, l, rfl⟩ : ∃ (a : Fin 8) (l : Fin 1024), j = ix2 a l := ⟨j 0, j 1, eq_ix2 j⟩
    have e : ((cfg0.win 8).blk t).view.emb (ix2 a l) = (ix2 a l : S8x1024.Idx) :=
      place 8 1024 0 0 a.val l.val a l (by omega) (by omega) _ (index t).2.2.2.2.2.2.2.2.2.2.2.1 rfl rfl
    rw [e]
    refine (gathered m c a l t.val t.isLt).trans ?_
    rw [ht, stacked_sum]
    exact congrArg₂ (fun u v => stacked u v a l) (funext fun k => range_tiles fun q => toGate m c q k)
      (funext fun k => range_tiles fun q => toWeight (resid (xArr m c) (fArr m c) (sArr m c) (after q)) (line (wArr m c) 0) (line (yArr m c) q) k))
    fun i => by
    have h0 : (i 0 : Nat) < 8 := (i 0).isLt
    have h1 : (i 1 : Nat) < 1024 := (i 1).isLt
    have hN : cfg0.N = 17 := N_0
    obtain ⟨t, ht⟩ : ∃ t : Fin cfg0.N, t.val = 16 := ⟨⟨16, by omega⟩, rfl⟩
    refine ⟨t, (index t).2.2.2.2.2.2.2.2.2.2.2.2.2 ht, ?_⟩
    show i ∈ ((View.whole main_v0_3).slice (win0_8.rect t)).set
    rw [View.set_slice_whole]
    exact Rect.mem_set_unit.2 (Fin.forall_fin_two.2 (inside 8 1024 _ _ (by decide) (by decide) (i 0).val (i 1).val
      (index t).2.2.2.2.2.2.2.2.2.2.2.1 (by omega) (by omega)))

/-- A point's row in the gradients. -/
def row (t : Fin cfg0.N) (r : Fin 256) : Fin 4352 := ⟨t.val * 256 + r.val, by
  have hN : cfg0.N = 17 := N_0
  have := lt_of_lt_of_eq t.isLt hN
  omega⟩

theorem row_after (t : Fin cfg0.N) (ht : 1 ≤ t.val) (r : Fin 256) : row t r = after (tileRow (t.val - 1) r) := Fin.ext (rows_eq t ht r)

/-- The seventeen blocks are all of the residual's gradient. -/
theorem finalX : (dats m 0 c).arrAt 6 cfg0.N = resultX m c :=
  (dats m 0 c).arrAt_eq_of_cover 6 (resultX m c) (fun t _ => by
    have hN : cfg0.N = 17 := N_0
    have h17 := lt_of_lt_of_eq t.isLt hN
    have e (r : Fin 256) (l : Fin 1024) : ((cfg0.win 6).blk t).view.emb (ix2 r l) = (ix2 (row t r) l : S4352x1024.Idx) :=
      place 256 1024 _ _ r.val l.val _ l rfl (by omega) _ (index t).2.2.2.2.2.2.1 rfl rfl
    by_cases ht : 1 ≤ t.val
    · rw [Value.flushed6_B m c t (by omega) (by omega) ht]
      funext j
      rw [View.read_apply]
      obtain ⟨r, l, rfl⟩ : ∃ (r : Fin 256) (l : Fin 1024), j = ix2 r l := ⟨j 0, j 1, eq_ix2 j⟩
      rw [e]
      refine (dx_B c _ _ _ _ _ _ _ _ _ _ _ _ _ _ _ _ _ _ _ _ _ _ _ _ _ _ _ _ _ r l).trans ?_
      obtain ⟨e0, e1, e2⟩ := lines m c t ht r
      rw [e0, e1, e2, row_after t ht]
      exact (dxAt_after (xArr m c) (fArr m c) (sArr m c) (wArr m c) (yArr m c) _ l).symm
    · rw [Value.flushed6_A m c t (by omega) (by omega) ht]
      funext j
      rw [View.read_apply]
      obtain ⟨r, l, rfl⟩ : ∃ (r : Fin 256) (l : Fin 1024), j = ix2 r l := ⟨j 0, j 1, eq_ix2 j⟩
      rw [e]
      refine (dx_A c _ _ _ _ _ _ _ _ _ _ _ _ _ _ _ _ _ _ _ _ _ _ _ _ _ _ _ r l).trans ?_
      exact (dxAt_before (xArr m c) (fArr m c) (sArr m c) (wArr m c) (yArr m c) _ (by show t.val * 256 + r.val < 256; omega) l).symm) fun i => by
    have h0 : (i 0 : Nat) < 4352 := (i 0).isLt
    have h1 : (i 1 : Nat) < 1024 := (i 1).isLt
    have hN : cfg0.N = 17 := N_0
    obtain ⟨t, ht⟩ : ∃ t : Fin cfg0.N, t.val = (i 0).val / 256 := ⟨⟨(i 0).val / 256, by omega⟩, rfl⟩
    refine ⟨t, (index t).2.2.2.2.2.2.2.2.2.1, ?_⟩
    show i ∈ ((View.whole main_v0_1).slice (win0_6.rect t)).set
    rw [View.set_slice_whole]
    exact Rect.mem_set_unit.2 (Fin.forall_fin_two.2 (inside 256 1024 _ _ (by decide) (by decide) (i 0).val (i 1).val
      (index t).2.2.2.2.2.2.1 (by omega) (by omega)))

/-- And of the feed-forward result's. -/
theorem finalF : (dats m 0 c).arrAt 7 cfg0.N = resultF m c :=
  (dats m 0 c).arrAt_eq_of_cover 7 (resultF m c) (fun t _ => by
    have hN : cfg0.N = 17 := N_0
    have h17 := lt_of_lt_of_eq t.isLt hN
    have e (r : Fin 256) (l : Fin 1024) : ((cfg0.win 7).blk t).view.emb (ix2 r l) = (ix2 (row t r) l : S4352x1024.Idx) :=
      place 256 1024 _ _ r.val l.val _ l rfl (by omega) _ (index t).2.2.2.2.2.2.2.1 rfl rfl
    by_cases ht : 1 ≤ t.val
    · rw [Value.flushed7_B m c t (by omega) (by omega) ht]
      funext j
      rw [View.read_apply]
      obtain ⟨r, l, rfl⟩ : ∃ (r : Fin 256) (l : Fin 1024), j = ix2 r l := ⟨j 0, j 1, eq_ix2 j⟩
      rw [e]
      refine (df_B c _ _ _ _ _ _ _ _ _ _ _ _ _ _ _ _ _ _ _ _ _ _ _ _ _ _ _ _ _ r l).trans ?_
      obtain ⟨e0, e1, e2⟩ := lines m c t ht r
      rw [e0, e1, e2, row_after t ht]
      exact congrArg₂ (fun u v : EReal => u * v) (sRow m c t l)
        (dxAt_after (xArr m c) (fArr m c) (sArr m c) (wArr m c) (yArr m c) _ l).symm
    · rw [Value.flushed7_A m c t (by omega) (by omega) ht]
      funext j
      rw [View.read_apply]
      obtain ⟨r, l, rfl⟩ : ∃ (r : Fin 256) (l : Fin 1024), j = ix2 r l := ⟨j 0, j 1, eq_ix2 j⟩
      rw [e]
      refine (df_A c _ _ _ _ _ _ _ _ _ _ _ _ _ _ _ _ _ _ _ _ _ _ _ _ _ _ _ r l).trans ?_
      refine (mul_zero (gate (sArr m c) l)).symm.trans (congrArg (fun u : EReal => gate (sArr m c) l * u) ?_)
      exact (dxAt_before (xArr m c) (fArr m c) (sArr m c) (wArr m c) (yArr m c) _ (by show t.val * 256 + r.val < 256; omega) l).symm) fun i => by
    have h0 : (i 0 : Nat) < 4352 := (i 0).isLt
    have h1 : (i 1 : Nat) < 1024 := (i 1).isLt
    have hN : cfg0.N = 17 := N_0
    obtain ⟨t, ht⟩ : ∃ t : Fin cfg0.N, t.val = (i 0).val / 256 := ⟨⟨(i 0).val / 256, by omega⟩, rfl⟩
    refine ⟨t, (index t).2.2.2.2.2.2.2.2.2.2.1, ?_⟩
    show i ∈ ((View.whole main_v0_2).slice (win0_7.rect t)).set
    rw [View.set_slice_whole]
    exact Rect.mem_set_unit.2 (Fin.forall_fin_two.2 (inside 256 1024 _ _ (by decide) (by decide) (i 0).val (i 1).val
      (index t).2.2.2.2.2.2.2.1 (by omega) (by omega)))

end Cert.Loss

namespace Cert.Loss

open Cert.Reference36Ideal Cert.Reference36Ideal.Facts₀ Cert.Reference36Ideal.Facts

/-- The reference's gate, on every row. -/
def gateR (s : FVec Ideal S2x8x1024 .f32) : FVec Ideal S4096x1024 .f32 :=
  broadcastInDim S4096x1024 ![0, 1] bcast_S1x1024_S4096x1024_0_1 (broadcastInDim S1x1024 ![1] bcast_S1024_S1x1024_1
    (shapeCast S1024 (extractStridedSlice S1x1x1024 ![1, 5, 0] s slices_S2x8x1024_S1x1x1024_1_5_0) shapeCasts_S1x1x1024_S1024))

/-- Its residual over the sequence. -/
def residR (x f : FVec Ideal S4352x1024 .f32) (s : FVec Ideal S2x8x1024 .f32) : FVec Ideal S4096x1024 .f32 :=
  addf (extractStridedSlice S4096x1024 ![256, 0] x slices_S4352x1024_S4096x1024_256_0)
    (mulf (gateR s) (extractStridedSlice S4096x1024 ![256, 0] f slices_S4352x1024_S4096x1024_256_0))

/-- The distance from the target. -/
def errR (v : FVec Ideal S4096x1024 .f32) (w : FVec Ideal S1x1024 .f32) (y : FVec Ideal S4096x1024 .f32) : FVec Ideal S4096x1024 .f32 :=
  subf (mulf (mulf v (broadcastInDim S4096x1024 ![0, 1] bcast_S4096x1_S4096x1024_0_1 (Host.rsqrt (meanR v))))
    (broadcastInDim S4096x1024 ![0, 1] bcast_S1x1024_S4096x1024_0_1 w)) y

/-- The gradient of the norm, from the distance `e`. -/
def outR (e : FVec Ideal S4096x1024 .f32) : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) e)

/-- The same times the weight. -/
def slopeR (e : FVec Ideal S4096x1024 .f32) (w : FVec Ideal S1x1024 .f32) : FVec Ideal S4096x1024 .f32 :=
  mulf (outR e) (broadcastInDim S4096x1024 ![0, 1] bcast_S1x1024_S4096x1024_0_1 w)

/-- The gradient through the norm. -/
def gradR (v g : FVec Ideal S4096x1024 .f32) : FVec Ideal S4096x1024 .f32 :=
  addf (addf (mulf g (broadcastInDim S4096x1024 ![0, 1] bcast_S4096x1_S4096x1024_0_1 (Host.rsqrt (meanR v))))
    (mulf v (throughR v g (meanR v)))) (mulf (throughR v g (meanR v)) v)

def padR (u : FVec Ideal S4096x1024 .f32) : FVec Ideal S4352x1024 .f32 :=
  pad S4352x1024 ![256, 0] ![0, 0] ![0, 0] u (constant S_ .f32 0x00000000#32) pads_S4096x1024_S4352x1024_25600_000 h_S_

theorem gateR_apply (s : FVec Ideal S2x8x1024 .f32) (r : Fin 4096) (l : Fin 1024) : (gateR s (ix2 r l) : EReal) = gate s l := by
  unfold gateR gate
  pointwise

theorem residR_apply (x f : FVec Ideal S4352x1024 .f32) (s : FVec Ideal S2x8x1024 .f32) (r : Fin 4096) (l : Fin 1024) :
    (residR x f s (ix2 r l) : EReal) = resid x f s (after r) l := by
  unfold residR resid line
  rw [addf_apply, mulf_apply, gateR_apply, slice_apply x, slice_apply f]
  rfl

theorem root_apply (v : FVec Ideal S4096x1024 .f32) (r : Fin 4096) (l : Fin 1024) :
    (broadcastInDim S4096x1024 ![0, 1] bcast_S4096x1_S4096x1024_0_1 (Host.rsqrt (meanR v)) (ix2 r l) : EReal)
      = Ideal.rsqrt (mean 1024 small (line v r)) := by
  unfold line
  rw [← meanR_apply]
  generalize meanR v = u
  pointwise

theorem errR_apply (v : FVec Ideal S4096x1024 .f32) (w : FVec Ideal S1x1024 .f32) (y : FVec Ideal S4096x1024 .f32) (r : Fin 4096) (l : Fin 1024) :
    (errR v w y (ix2 r l) : EReal) = err (line v r) (line w 0) (line y r) l := by
  unfold errR err
  rw [← root_apply v r l]
  generalize broadcastInDim S4096x1024 ![0, 1] bcast_S4096x1_S4096x1024_0_1 (Host.rsqrt (meanR v)) = u
  unfold line
  pointwise

theorem outR_apply (e : FVec Ideal S4096x1024 .f32) (r : Fin 4096) (l : Fin 1024) :
    (outR e (ix2 r l) : EReal) = (e (ix2 r l) : EReal) * ((1 / 1024 : ℝ) : EReal) := by
  have h : (outR e (ix2 r l) : EReal) = Ideal.div (((1 / 2 : ℝ) : EReal) * 1) (1024 : ℝ) * (((2 : ℝ) : EReal) * (e (ix2 r l) : EReal)) := by
    unfold outR
    rw [← c_width, ← c_half, ← c_two, ← Ideal.ofBits_one_f32]
    pointwise
  rw [h, mul_one, Ideal.div_coe (by norm_num), ← mul_assoc, ← EReal.coe_mul, ← EReal.coe_mul, mul_comm _ (e (ix2 r l) : EReal)]
  norm_num

theorem slopeR_apply (e : FVec Ideal S4096x1024 .f32) (w : FVec Ideal S1x1024 .f32) (r : Fin 4096) (l : Fin 1024) :
    (slopeR e w (ix2 r l) : EReal) = (e (ix2 r l) : EReal) * ((1 / 1024 : ℝ) : EReal) * line w 0 l := by
  rw [← outR_apply]
  unfold slopeR line
  generalize outR e = u
  pointwise

theorem gradR_apply (v g : FVec Ideal S4096x1024 .f32) (r : Fin 4096) (l : Fin 1024) :
    (gradR v g (ix2 r l) : EReal) = rowGrad 1024 small (line v r) (line g r) l := by
  have b : (throughR v g (meanR v) (ix2 r l) : EReal) = through 1024 small (-(1 / 2)) (line v r) (line g r) := by
    rw [throughR_apply, meanR_apply]
    rfl
  rw [← rowGrad_eq 1024 small (by norm_num) (by norm_num)]
  unfold gradR
  rw [addf_apply, addf_apply, mulf_apply, mulf_apply, mulf_apply, root_apply, b]
  rfl

theorem padR_apply (u : FVec Ideal S4096x1024 .f32) (r : Fin 4352) (l : Fin 1024) :
    (padR u (ix2 r l) : EReal) = if h : 256 ≤ r.val then (u (ix2 ⟨r.val - 256, by omega⟩ l) : EReal) else 0 := by
  unfold padR
  by_cases h : 256 ≤ r.val
  · rw [dif_pos h]
    exact pad_apply_of_inside _ _ _ u _ _ _ _ (ix2 (⟨r.val - 256, by omega⟩ : Fin 4096) l) (by
      intro a
      match a with
      | ⟨0, _⟩ => show r.val = 256 + (r.val - 256) * (0 + 1); omega
      | ⟨1, _⟩ => show l.val = 0 + l.val * (0 + 1); omega)
  · rw [dif_neg h]
    refine (pad_apply_of_not_inside _ _ _ u _ _ _ _ (0 : Fin 2) fun hin => h ?_).trans Ideal.ofBits_zero_f32
    exact hin.1

section

variable (x f : FVec Ideal S4352x1024 .f32) (s : FVec Ideal S2x8x1024 .f32) (w : FVec Ideal S1x1024 .f32) (y : FVec Ideal S4096x1024 .f32)

theorem errR_row (r : Fin 4096) (l : Fin 1024) :
    (errR (residR x f s) w y (ix2 r l) : EReal) = err (resid x f s (after r)) (line w 0) (line y r) l := by
  rw [errR_apply, show line (residR x f s) r = resid x f s (after r) from funext fun k => residR_apply x f s r k]

theorem gradR_row (r : Fin 4096) (l : Fin 1024) : (gradR (residR x f s) (slopeR (errR (residR x f s) w y) w) (ix2 r l) : EReal)
    = grad (resid x f s (after r)) (line w 0) (line y r) l := by
  rw [gradR_apply, show line (residR x f s) r = resid x f s (after r) from funext fun k => residR_apply x f s r k]
  unfold grad
  refine congrArg (fun g => rowGrad 1024 small (resid x f s (after r)) g l) (funext fun k => ?_)
  refine (slopeR_apply _ w r k).trans ?_
  rw [errR_row]
  rfl

theorem reference_x : padR (gradR (residR x f s) (slopeR (errR (residR x f s) w y) w)) = specX x f s w y := by
  funext j
  obtain ⟨r, l, rfl⟩ : ∃ (r : Fin 4352) (l : Fin 1024), j = ix2 r l := ⟨j 0, j 1, eq_ix2 j⟩
  refine (padR_apply _ r l).trans ?_
  show _ = dxAt x f s w y r l
  unfold dxAt
  by_cases h : 256 ≤ r.val
  · rw [dif_pos h, dif_pos h, gradR_row]
    exact congrArg (fun z => grad (resid x f s z) (line w 0) (line y ⟨r.val - 256, by omega⟩) l) (Fin.ext (Nat.add_sub_cancel' h))
  · rw [dif_neg h, dif_neg h]

theorem reference_f : (truncf .bf16 (padR (mulf (gateR s) (gradR (residR x f s) (slopeR (errR (residR x f s) w y) w)))) bitsLt_bf16_f32
    : FVec Ideal S4352x1024 .bf16) = specF x f s w y := by
  funext j
  obtain ⟨r, l, rfl⟩ : ∃ (r : Fin 4352) (l : Fin 1024), j = ix2 r l := ⟨j 0, j 1, eq_ix2 j⟩
  refine (padR_apply _ r l).trans ?_
  show _ = gate s l * dxAt x f s w y r l
  unfold dxAt
  by_cases h : 256 ≤ r.val
  · rw [dif_pos h, dif_pos h, mulf_apply, gateR_apply, gradR_row]
    exact congrArg (fun z => gate s l * grad (resid x f s z) (line w 0) (line y ⟨r.val - 256, by omega⟩) l) (Fin.ext (Nat.add_sub_cancel' h))
  · rw [dif_neg h, dif_neg h, mul_zero]

theorem reference_loss (e : FVec Ideal S4096x1024 .f32) (he : e = errR (residR x f s) w y) :
    broadcastInDim S8x128 ![] bcast_S_S8x128 (mulf (constant S_ .f32 0x3F000000#32) (Host.reduceAdd (Host.divf (Host.reduceAdd (mulf e e)
      (constant S_ .f32 0x00000000#32) reducesTo_S4096x1024_S4096_d1 h_S_) (broadcastInDim S4096 ![] bcast_S_S4096 (constant S_ .f32 0x44800000#32)))
      (constant S_ .f32 0x00000000#32) reducesTo_S4096_S_d0 h_S_)) = specLoss x f s w y := by
  funext j
  obtain ⟨a, b, rfl⟩ : ∃ (a : Fin 8) (b : Fin 128), j = ix2 a b := ⟨j 0, j 1, eq_ix2 j⟩
  show _ = loss x f s w y
  have h (r : Fin 4096) : (∑ k : Fin 1024, (e (ix2 r k) : EReal) * (e (ix2 r k) : EReal)) = rowSquares x f s w y r := by
    unfold rowSquares squares
    simp only [he, errR_row]
  unfold loss
  simp only [← h]
  rw [← c_width, ← c_half]
  pointwise

/-- The sum of a matrix along its rows, as the reference takes it for the gate. -/
theorem down_apply (u : FVec Ideal S4096x1024 .f32) (k : Fin 1024) :
    line (broadcastInDim S1x1024 ![1] bcast_S1024_S1x1024_1 (Host.reduceAdd (shapeCast S1x1024 (Host.reduceAdd u
      (constant S_ .f32 0x00000000#32) reducesTo_S4096x1024_S1024_d0 h_S_) shapeCasts_S1024_S1x1024) (constant S_ .f32 0x00000000#32)
      reducesTo_S1x1024_S1024_d0 h_S_)) 0 k = ∑ q : Fin 4096, (u (ix2 q k) : EReal) := by
  unfold line
  pointwise
  exact Fin.sum_univ_one _

/-- And for the weight. -/
theorem down_apply' (u : FVec Ideal S4096x1024 .f32) (k : Fin 1024) :
    line (shapeCast S1x1024 (Host.reduceAdd u (constant S_ .f32 0x00000000#32) reducesTo_S4096x1024_S1024_d0 h_S_) shapeCasts_S1024_S1x1024) 0 k
      = ∑ q : Fin 4096, (u (ix2 q k) : EReal) := by
  unfold line
  pointwise

theorem reference_sums (v g e : FVec Ideal S4096x1024 .f32) (hv : v = residR x f s) (hg : g = gradR (residR x f s) (slopeR (errR (residR x f s) w y) w))
    (he : e = errR (residR x f s) w y) :
    (concatenate S8x1024 0 [⟨S1x1024, broadcastInDim S1x1024 ![1] bcast_S1024_S1x1024_1 (Host.reduceAdd (shapeCast S1x1024 (Host.reduceAdd
        (mulf g (extractStridedSlice S4096x1024 ![256, 0] f slices_S4352x1024_S4096x1024_256_0))
        (constant S_ .f32 0x00000000#32) reducesTo_S4096x1024_S1024_d0 h_S_) shapeCasts_S1024_S1x1024) (constant S_ .f32 0x00000000#32)
        reducesTo_S1x1024_S1024_d0 h_S_)⟩,
      ⟨S1x1024, shapeCast S1x1024 (Host.reduceAdd (mulf (mulf v (broadcastInDim S4096x1024 ![0, 1] bcast_S4096x1_S4096x1024_0_1
        (Host.rsqrt (meanR v)))) (outR e)) (constant S_ .f32 0x00000000#32) reducesTo_S4096x1024_S1024_d0 h_S_) shapeCasts_S1024_S1x1024⟩,
      ⟨S6x1024, broadcastInDim S6x1024 ![] bcast_S_S6x1024 (constant S_ .f32 0x00000000#32)⟩]
      concatenates_S1x1024_S1x1024_S6x1024_S8x1024_d0 : FVec Ideal S8x1024 .f32) = specSums x f s w y := by
  funext j
  obtain ⟨i, l, rfl⟩ : ∃ (i : Fin 8) (l : Fin 1024), j = ix2 i l := ⟨j 0, j 1, eq_ix2 j⟩
  refine (stack_apply _ _ _ (fun _ => Ideal.ofBits_zero_f32) _ i l).trans ?_
  refine congrArg₂ (fun a b => stacked a b i l) (funext fun k => ?_) (funext fun k => ?_)
  · refine (down_apply _ k).trans (Finset.sum_congr rfl fun q _ => ?_)
    rw [mulf_apply, slice_apply f, hg, gradR_row]
    rfl
  · refine (down_apply' _ k).trans (Finset.sum_congr rfl fun q _ => ?_)
    rw [mulf_apply, mulf_apply, root_apply, outR_apply, hv, he, errR_row, residR_apply,
      show line (residR x f s) q = resid x f s (after q) from funext fun k => residR_apply x f s q k]
    exact mul_comm _ _

end

end Cert.Loss

/-- The value claim of the loss head. -/
theorem Cert.Proof.algebraic_fin : Cert.algebraic_Kernel36Ideal_Reference36Ideal
    (hKernel36Ideal := Cert.Kernel36Ideal.Gen.facts) (hReference36Ideal := Cert.Reference36Ideal.Gen.facts) := by
  intro m g m' g' _ hm
  refine ⟨fun c => Cert.Loss.resultLoss m c, fun c => Cert.Loss.resultX m c, fun c => Cert.Loss.resultF m c,
    fun c => Cert.Loss.resultSums m c, ?_, ?_⟩
  · refine (θ_run Cert.Kernel36Ideal.defs _ _).mono (fun r h c => ?_) (Cert.Kernel36Ideal.Value.run_blocks m g)
    exact ⟨(h c).1.trans (Cert.Loss.finalLoss m c), (h c).2.1.trans (Cert.Loss.finalX m c), (h c).2.2.1.trans (Cert.Loss.finalF m c),
      (h c).2.2.2.1.trans (Cert.Loss.finalSums m c), (h c).2.2.2.2⟩
  · refine (θ_run Cert.Reference36Ideal.defs _ _).mono (fun r h c => ?_) (Cert.Reference36Ideal.Value.run m' g')
    obtain ⟨e0, e1, e2, e3, e4⟩ := hm c
    refine ⟨(h c).1.trans ?_, (h c).2.1.trans ?_, (h c).2.2.1.trans ?_, (h c).2.2.2.1.trans ?_, (h c).2.2.2.2⟩
    · unfold Cert.Reference36Ideal.Value.res_main_v68
      rw [e0, e1, e2, e3, e4]
      exact Cert.Loss.reference_loss _ _ _ _ _ _ rfl
    · unfold Cert.Reference36Ideal.Value.res_main_v64
      rw [e0, e1, e2, e3, e4]
      exact Cert.Loss.reference_x _ _ _ _ _
    · unfold Cert.Reference36Ideal.Value.res_main_v69
      rw [e0, e1, e2, e3, e4]
      exact Cert.Loss.reference_f _ _ _ _ _
    · unfold Cert.Reference36Ideal.Value.res_main_v67
      rw [e0, e1, e2, e3, e4]
      exact Cert.Loss.reference_sums _ _ _ _ _ _ _ _ rfl rfl rfl

end
-- ==== Proof.Retention.Sums.lean ====
/-
  The gradient of one head of the retention, in real numbers: the plain double sums over all positions, and the
  same by chunks of 128 positions with a state carried from chunk to chunk.
-/
module

public import proofs.«01_k».proof.Proof.Finite

@[expose] public section

noncomputable section

namespace Cert.Ret

/-- The order in which direction `d` reads the position `t`. -/
def ord (d : Fin 2) (t : Fin 4352) : ℕ := if d = 0 then t.val else if t.val < 256 then 255 - t.val else 4607 - t.val

/-- The order within a chunk of its row `i`. -/
def loc (d : Fin 2) (i : Fin 128) : ℕ := if d = 0 then i.val else 127 - i.val

/-- The position of row `i` of chunk `p`. -/
def pos (d : Fin 2) (p : Fin 34) (i : Fin 128) : Fin 4352 :=
  ⟨if d = 0 then 128 * p.val + i.val
    else (if p.val / 2 = 0 then 0 else 256 * (17 - p.val / 2)) + 128 * (1 - p.val % 2) + i.val, by
    have := p.isLt; have := i.isLt; split_ifs <;> omega⟩

theorem ord_pos (d : Fin 2) (p : Fin 34) (i : Fin 128) : ord d (pos d p i) = 128 * p.val + loc d i := by
  have := p.isLt
  have := i.isLt
  unfold ord pos loc
  dsimp only
  split_ifs <;> omega

theorem loc_lt (d : Fin 2) (i : Fin 128) : loc d i < 128 := by
  have := i.isLt
  unfold loc
  split_ifs <;> omega

theorem pos_row (d : Fin 2) (p : Fin 34) (i : Fin 128) : (pos d p i).val % 128 = i.val := by
  have := p.isLt
  have := i.isLt
  unfold pos
  dsimp only
  split_ifs <;> omega

theorem pos_of_ord (d : Fin 2) (p : Fin 34) (t : Fin 4352) (h : 128 * p.val ≤ ord d t ∧ ord d t < 128 * (p.val + 1)) :
    pos d p ⟨t.val % 128, by omega⟩ = t := by
  have := p.isLt
  have := t.isLt
  revert h
  unfold ord pos
  intro h
  apply Fin.ext
  dsimp only
  split_ifs at h ⊢ <;> omega

/-- A sum over the positions of a chunk. -/
theorem sum_chunk (d : Fin 2) (p : Fin 34) (f : Fin 4352 → ℝ) :
    ∑ t : Fin 4352, (if 128 * p.val ≤ ord d t ∧ ord d t < 128 * (p.val + 1) then f t else 0) = ∑ i : Fin 128, f (pos d p i) := by
  rw [← Finset.sum_filter]
  refine Finset.sum_bij' (fun t _ => (⟨t.val % 128, by omega⟩ : Fin 128)) (fun i _ => pos d p i) (fun _ _ => Finset.mem_univ _)
    ?_ ?_ ?_ ?_
  · intro i _
    have := loc_lt d i
    refine Finset.mem_filter.2 ⟨Finset.mem_univ _, ?_⟩
    rw [ord_pos]
    omega
  · intro t ht
    exact pos_of_ord d p t (Finset.mem_filter.1 ht).2
  · intro i _
    exact Fin.ext (pos_row d p i)
  · intro t ht
    rw [pos_of_ord d p t (Finset.mem_filter.1 ht).2]

section
variable (lg : ℝ) (d : Fin 2) (q k v g : Fin 4352 → Fin 128 → ℝ)

/-- What position `t` sees of position `s`: the decay of the positions between them. -/
def D (t s : Fin 4352) : ℝ :=
  if ord d s + d.val ≤ ord d t then Real.exp (lg * ((ord d t : ℝ) - ord d s - d.val)) else 0

/-- The gradients of the queries, the keys and the values. -/
def dq (t : Fin 4352) (e : Fin 128) : ℝ := ∑ s, D lg d t s * (∑ f, g t f * v s f) * k s e
def dk (s : Fin 4352) (e : Fin 128) : ℝ := ∑ t, D lg d t s * (∑ f, g t f * v s f) * q t e
def dv (s : Fin 4352) (e : Fin 128) : ℝ := ∑ t, D lg d t s * (∑ f, q t f * k s f) * g t e

/-- The same within a chunk. -/
def within (i j : Fin 128) : ℝ :=
  if loc d j + d.val ≤ loc d i then Real.exp (lg * ((loc d i : ℝ) - loc d j - d.val)) else 0
/-- The decay from the state before a chunk to its row, and from its row to the state after it. -/
def xi (i : Fin 128) : ℝ := Real.exp (lg * ((loc d i : ℝ) + 1 - d.val))
def zeta (i : Fin 128) : ℝ := Real.exp (lg * (127 - (loc d i : ℝ)))

/-- The state before chunk `p`. -/
def state (p : ℕ) (e f : Fin 128) : ℝ :=
  ∑ s, (if ord d s < 128 * p then Real.exp (lg * (128 * (p : ℝ) - 1 - ord d s)) else 0) * k s e * v s f
/-- The gradient of the state before chunk `p` from that chunk and all after it. -/
def dstate (p : ℕ) (e f : Fin 128) : ℝ :=
  ∑ t, (if 128 * p ≤ ord d t then Real.exp (lg * ((ord d t : ℝ) - 128 * (p : ℝ) + 1 - d.val)) else 0) * q t e * g t f

theorem ord_lt (t : Fin 4352) : ord d t < 4352 := by
  have := t.isLt
  unfold ord
  split_ifs <;> omega

theorem dstate_end (e f : Fin 128) : dstate lg d q g 34 e f = 0 := by
  refine Finset.sum_eq_zero fun t _ => ?_
  have := ord_lt d t
  rw [if_neg (by omega)]
  ring

theorem D_within (p : Fin 34) (i j : Fin 128) : D lg d (pos d p i) (pos d p j) = within lg d i j := by
  unfold D within
  rw [ord_pos, ord_pos]
  by_cases h : loc d j + d.val ≤ loc d i
  · rw [if_pos h, if_pos (by omega)]
    congr 2
    push_cast
    ring
  · rw [if_neg h, if_neg (by omega)]

/-- One chunk back: the gradient decays over the chunk, and the chunk's own part is added. -/
theorem dstate_step (p : Fin 34) (e f : Fin 128) :
    dstate lg d q g p.val e f = Real.exp (lg * 128) * dstate lg d q g (p.val + 1) e f
      + ∑ i, q (pos d p i) e * xi lg d i * g (pos d p i) f := by
  have hs := sum_chunk d p fun t => Real.exp (lg * ((ord d t : ℝ) - 128 * (p.val : ℝ) + 1 - d.val)) * q t e * g t f
  have : ∑ i, q (pos d p i) e * xi lg d i * g (pos d p i) f = ∑ i, Real.exp (lg * ((ord d (pos d p i) : ℝ) - 128 * (p.val : ℝ) + 1 - d.val)) * q (pos d p i) e * g (pos d p i) f := by
    refine Finset.sum_congr rfl fun i _ => ?_
    unfold xi
    rw [ord_pos, show ((128 * p.val + loc d i : ℕ) : ℝ) - 128 * (p.val : ℝ) + 1 - d.val = (loc d i : ℝ) + 1 - d.val by push_cast; ring]
    ring
  rw [this, ← hs]
  unfold dstate
  rw [Finset.mul_sum, ← Finset.sum_add_distrib]
  refine Finset.sum_congr rfl fun t _ => ?_
  by_cases h1 : 128 * (p.val + 1) ≤ ord d t
  · rw [if_pos (by omega), if_pos h1, if_neg (by omega), ← mul_assoc, ← mul_assoc, ← Real.exp_add]
    rw [show lg * 128 + lg * ((ord d t : ℝ) - 128 * ((p.val + 1 : ℕ) : ℝ) + 1 - d.val) = lg * ((ord d t : ℝ) - 128 * (p.val : ℝ) + 1 - d.val) by push_cast; ring]
    ring
  · by_cases h2 : 128 * p.val ≤ ord d t
    · rw [if_pos h2, if_neg h1, if_pos (by omega)]
      ring
    · rw [if_neg h2, if_neg h1, if_neg (by omega)]
      ring

/-- The gradient of the queries by chunks. -/
theorem dq_chunk (p : Fin 34) (i e : Fin 128) :
    dq lg d k v g (pos d p i) e = ∑ j, (∑ f, g (pos d p i) f * v (pos d p j) f) * within lg d i j * k (pos d p j) e
      + xi lg d i * ∑ f, g (pos d p i) f * state lg d k v p.val e f := by
  have hs := sum_chunk d p fun s => (∑ f, g (pos d p i) f * v s f) * D lg d (pos d p i) s * k s e
  have h1 : ∑ j, (∑ f, g (pos d p i) f * v (pos d p j) f) * within lg d i j * k (pos d p j) e
      = ∑ j, (∑ f, g (pos d p i) f * v (pos d p j) f) * D lg d (pos d p i) (pos d p j) * k (pos d p j) e :=
    Finset.sum_congr rfl fun j _ => by rw [D_within]
  have h2 : xi lg d i * ∑ f, g (pos d p i) f * state lg d k v p.val e f
      = ∑ s, (if ord d s < 128 * p.val then D lg d (pos d p i) s * (∑ f, g (pos d p i) f * v s f) * k s e else 0) := by
    have : ∑ f, g (pos d p i) f * state lg d k v p.val e f = ∑ s, ∑ f, g (pos d p i) f *
        ((if ord d s < 128 * p.val then Real.exp (lg * (128 * (p.val : ℝ) - 1 - ord d s)) else 0) * k s e * v s f) := by
      unfold state
      simp only [Finset.mul_sum]
      exact Finset.sum_comm
    rw [this, Finset.mul_sum]
    refine Finset.sum_congr rfl fun s _ => ?_
    by_cases h : ord d s < 128 * p.val
    · have hd : d.val < 2 := d.isLt
      have hD : D lg d (pos d p i) s = xi lg d i * Real.exp (lg * (128 * (p.val : ℝ) - 1 - ord d s)) := by
        unfold D xi
        rw [if_pos (by rw [ord_pos]; omega), ← Real.exp_add, ord_pos]
        congr 1
        push_cast
        ring
      rw [if_pos h, if_pos h, hD]
      simp only [Finset.mul_sum, Finset.sum_mul]
      refine Finset.sum_congr rfl fun f _ => ?_
      ring
    · rw [if_neg h, if_neg h]
      simp
  rw [h1, h2, ← hs]
  unfold dq
  rw [← Finset.sum_add_distrib]
  refine Finset.sum_congr rfl fun s _ => ?_
  by_cases a : ord d s < 128 * p.val
  · rw [if_pos a, if_neg (by omega)]
    ring
  · by_cases b : ord d s < 128 * (p.val + 1)
    · rw [if_neg a, if_pos (by omega)]
      ring
    · have := loc_lt d i
      rw [if_neg a, if_neg (by omega)]
      unfold D
      rw [if_neg (by rw [ord_pos]; omega)]
      ring

/-- What a position reads of the gradient of the state after its chunk: all that the later chunks owe it. -/
theorem later (p : Fin 34) (j : Fin 128) (w : Fin 4352 → ℝ) :
    ∑ t, (if 128 * (p.val + 1) ≤ ord d t then D lg d t (pos d p j) * w t else 0)
      = zeta lg d j * ∑ t, (if 128 * (p.val + 1) ≤ ord d t
          then Real.exp (lg * ((ord d t : ℝ) - 128 * ((p.val + 1 : ℕ) : ℝ) + 1 - d.val)) else 0) * w t := by
  rw [Finset.mul_sum]
  refine Finset.sum_congr rfl fun t _ => ?_
  by_cases h : 128 * (p.val + 1) ≤ ord d t
  · have hl := loc_lt d j
    have hd : d.val < 2 := d.isLt
    have hD : D lg d t (pos d p j) = zeta lg d j * Real.exp (lg * ((ord d t : ℝ) - 128 * ((p.val + 1 : ℕ) : ℝ) + 1 - d.val)) := by
      unfold D zeta
      rw [← Real.exp_add]
      by_cases hle : ord d (pos d p j) + d.val ≤ ord d t
      · rw [if_pos hle, ord_pos]
        congr 1
        push_cast
        ring
      · exact absurd (by rw [ord_pos]; omega) hle
    rw [if_pos h, if_pos h, hD]
    ring
  · rw [if_neg h, if_neg h]
    ring

/-- A sum over the positions that read a position of chunk `p`: its own chunk and the later ones. -/
theorem split (p : Fin 34) (j : Fin 128) (w : Fin 4352 → ℝ) :
    ∑ t, D lg d t (pos d p j) * w t = ∑ i, within lg d i j * w (pos d p i)
      + ∑ t, (if 128 * (p.val + 1) ≤ ord d t then D lg d t (pos d p j) * w t else 0) := by
  have hs := sum_chunk d p fun t => D lg d t (pos d p j) * w t
  have h1 : ∑ i, within lg d i j * w (pos d p i) = ∑ i, D lg d (pos d p i) (pos d p j) * w (pos d p i) :=
    Finset.sum_congr rfl fun i _ => by rw [D_within]
  rw [h1, ← hs, ← Finset.sum_add_distrib]
  refine Finset.sum_congr rfl fun t _ => ?_
  by_cases a : 128 * (p.val + 1) ≤ ord d t
  · rw [if_pos a, if_neg (by omega)]
    ring
  · by_cases b : 128 * p.val ≤ ord d t
    · rw [if_neg a, if_pos (by omega)]
      ring
    · rw [if_neg a, if_neg (by omega)]
      unfold D
      rw [if_neg (by rw [ord_pos]; omega)]
      ring

/-- The gradient of the keys by chunks. -/
theorem dk_chunk (p : Fin 34) (j e : Fin 128) :
    dk lg d q v g (pos d p j) e = ∑ i, (∑ f, g (pos d p i) f * v (pos d p j) f) * within lg d i j * q (pos d p i) e
      + zeta lg d j * ∑ f, v (pos d p j) f * dstate lg d q g (p.val + 1) e f := by
  have h0 : dk lg d q v g (pos d p j) e = ∑ t, D lg d t (pos d p j) * ((∑ f, g t f * v (pos d p j) f) * q t e) :=
    Finset.sum_congr rfl fun t _ => by ring
  rw [h0, split, later]
  refine congrArg₂ (· + ·) (Finset.sum_congr rfl fun i _ => by ring) (congrArg (zeta lg d j * ·) ?_)
  unfold dstate
  simp only [Finset.mul_sum, Finset.sum_mul]
  rw [Finset.sum_comm]
  refine Finset.sum_congr rfl fun f _ => Finset.sum_congr rfl fun t _ => ?_
  ring

/-- The gradient of the values by chunks. -/
theorem dv_chunk (p : Fin 34) (j e : Fin 128) :
    dv lg d q k g (pos d p j) e = ∑ i, (∑ f, q (pos d p i) f * k (pos d p j) f) * within lg d i j * g (pos d p i) e
      + ∑ f, k (pos d p j) f * zeta lg d j * dstate lg d q g (p.val + 1) f e := by
  have h0 : dv lg d q k g (pos d p j) e = ∑ t, D lg d t (pos d p j) * ((∑ f, q t f * k (pos d p j) f) * g t e) :=
    Finset.sum_congr rfl fun t _ => by ring
  rw [h0, split, later]
  refine congrArg₂ (· + ·) (Finset.sum_congr rfl fun i _ => by ring) ?_
  unfold dstate
  simp only [Finset.mul_sum, Finset.sum_mul]
  rw [Finset.sum_comm]
  refine Finset.sum_congr rfl fun f _ => Finset.sum_congr rfl fun t _ => ?_
  ring

end

end Cert.Ret

end
-- ==== Proof.Retention.Spec.lean ====
/-
  The gradients of retention as arrays, from the arrays of the queries, keys, values, cotangents and decay logits.
-/
module

public import proofs.«01_k».proof.Proof.Retention.Sums
public import proofs.«01_k».proof.Proof.Finite
public import Idealize.ShloMosaic.Lib.Pointwise

@[expose] public section

noncomputable section

open Idealize.ShloMosaic

namespace Cert.Ret

/-- The logarithm of the decay: of the logistic of the logit. -/
def logSig (l : ℝ) : ℝ := min l 0 - Real.log (1 + Real.exp (-|l|))

/-- The logit's decay is not so near one that the kernel takes a cubic for the logarithm. -/
def Far (l : ℝ) : Prop := Ideal.ofBits .f32 0x3C23D70A#32 ≤ ((Real.exp (-|l|) : ℝ) : EReal)

theorem coe_min (a b : ℝ) : ((min a b : ℝ) : EReal) = min (a : EReal) (b : EReal) := EReal.coe_strictMono.monotone.map_min
theorem coe_max (a b : ℝ) : ((max a b : ℝ) : EReal) = max (a : EReal) (b : EReal) := EReal.coe_strictMono.monotone.map_max

theorem c0 : Ideal.ofBits .f32 0x00000000#32 = ((0 : ℝ) : EReal) := by
  simp [Ideal.ofBits, Ideal.ieee, -EReal.coe_mul]
theorem c1 : Ideal.ofBits .f32 0x3F800000#32 = ((1 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c255 : Ideal.ofBits .f32 0x437F0000#32 = ((255 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c4607 : Ideal.ofBits .f32 0x458FF800#32 = ((4607 : ℝ) : EReal) := by
  simp [Ideal.ofBits, Ideal.ieee, -EReal.coe_mul]; norm_num

theorem toInt_word (n : ℕ) (h : n < 4352) : (BitVec.ofNat 32 n).toInt = (n : ℤ) := by
  have e : (BitVec.ofNat 32 n).toNat = n := by rw [BitVec.toNat_ofNat]; omega
  rw [BitVec.toInt_eq_toNat_of_lt (by omega), e]
/-- A position's number as a float. -/
theorem no_eq (n : ℕ) (h : n < 4352) (a : EReal) (e : a = (FloatOps.sitofp (F := Ideal) FTy.f32 (BitVec.ofNat 32 n) : EReal)) : a = ((n : ℝ) : EReal) := by
  rw [e]
  show (((BitVec.ofNat 32 n).toInt : ℝ) : EReal) = _
  rw [toInt_word n h, Int.cast_natCast]

/-- Rows of 512 numbers, the four heads' 128 side by side; and the logits, of two directions and four heads. -/
abbrev Rows (φ : FTy) : Type := FVec Ideal ⟨2, ![4352, 512]⟩ φ
abbrev Logits : Type := FVec Ideal ⟨2, ![2, 4]⟩ .f32

def col (h : Fin 4) (e : Fin 128) : Fin 512 := ⟨128 * h.val + e.val, by omega⟩

/-- One head's numbers. -/
def head (x : Rows .bf16) (h : Fin 4) (t : Fin 4352) (e : Fin 128) : ℝ := (x (ix2 t (col h e)) : EReal).toReal
/-- One head's rate of decay. -/
def rate (l : Logits) (d : Fin 2) (h : Fin 4) : ℝ := logSig (l (ix2 d h) : EReal).toReal

theorem head_eq {x : Rows .bf16} (hx : Cert.Finite.All x) (h : Fin 4) (t : Fin 4352) (e : Fin 128) :
    (x (ix2 t (col h e)) : EReal) = ((head x h t e : ℝ) : EReal) := hx _

/-- An array of rows from its heads. -/
def join (f : Fin 4 → Fin 4352 → Fin 128 → ℝ) : Rows .f32 := fun j =>
  ((f ⟨(j 1).val / 128, by have : (j 1).val < 512 := (j 1).isLt; omega⟩ (j 0) ⟨(j 1).val % 128, Nat.mod_lt _ (by decide)⟩ : ℝ) : EReal)

theorem join_apply (f : Fin 4 → Fin 4352 → Fin 128 → ℝ) (t : Fin 4352) (h : Fin 4) (e : Fin 128) :
    (join f (ix2 t (col h e)) : EReal) = ((f h t e : ℝ) : EReal) := by
  have h1 : (⟨(128 * h.val + e.val) / 128, by omega⟩ : Fin 4) = h := Fin.ext (by show (128 * h.val + e.val) / 128 = h.val; omega)
  have h2 : (⟨(128 * h.val + e.val) % 128, Nat.mod_lt _ (by decide)⟩ : Fin 128) = e := Fin.ext (by show (128 * h.val + e.val) % 128 = e.val; omega)
  show ((f ⟨(128 * h.val + e.val) / 128, _⟩ t ⟨(128 * h.val + e.val) % 128, _⟩ : ℝ) : EReal) = _
  rw [h1, h2]

/-- Every index of such an array. -/
theorem rows_ext {x y : Rows .f32} (e : ∀ t h e, x (ix2 t (col h e)) = y (ix2 t (col h e))) : x = y := by
  funext j
  have hj : (j 1).val < 512 := (j 1).isLt
  have := e (j 0) ⟨(j 1).val / 128, by omega⟩ ⟨(j 1).val % 128, Nat.mod_lt _ (by decide)⟩
  have hc : j = ix2 (j 0) (col ⟨(j 1).val / 128, by omega⟩ ⟨(j 1).val % 128, Nat.mod_lt _ (by decide)⟩) := by
    funext c
    apply Fin.ext
    match c with
    | ⟨0, _⟩ => rfl
    | ⟨1, _⟩ => show (j 1).val = 128 * ((j 1).val / 128) + (j 1).val % 128; omega
  rw [hc]
  exact this

variable (q k v g : Rows .bf16) (l : Logits) (d : Fin 2)

/-- The gradients of the queries, the keys and the values. -/
def dqs : Rows .f32 := join fun h => dq (rate l d h) d (head k h) (head v h) (head g h)
def dks : Rows .f32 := join fun h => dk (rate l d h) d (head q h) (head v h) (head g h)
def dvs : Rows .f32 := join fun h => dv (rate l d h) d (head q h) (head k h) (head g h)

end Cert.Ret

end
-- ==== Proof.Retention.Reference.lean ====
/-
  The reference of the retention's gradients: what its three products of each direction are, in real numbers.
-/
module

public import proofs.«01_k».proof.Proof.Retention.Spec
public import proofs.«01_k».proof.Proof.Gen.Reference4Ideal.Run

@[expose] public section

set_option maxRecDepth 16384

noncomputable section

namespace Cert.RetRef

open Idealize.ShloMosaic Idealize.ShloMosaic.TcCoe Idealize.SL.Sem
open Cert.Reference4Ideal Cert.Reference4Ideal.Gen
open Cert.Ret (col head rate Rows Logits logSig)

/-! ## The reference's terms, by name -/

def split (x : FVec Ideal S4352x512 .bf16) : FVec Ideal S4352x4x128 .f32 := shapeCast _ (extf .f32 x bitsLt_bf16_f32) shapeCasts_S4352x512_S4352x4x128
def back (x : FVec Ideal S4352x4x128 .f32) : FVec Ideal S4352x512 .f32 := shapeCast _ x shapeCasts_S4352x4x128_S4352x512
def turned (x : FVec Ideal S4352x512 .bf16) : FVec Ideal S4x128x4352 .f32 := transpose S4x128x4352 [1, 2, 0] (split x) transposes_S4352x4x128_S4x128x4352_1_2_0

def zero2 : FVec Ideal S2x4 .f32 := broadcastInDim S2x4 ![] bcast_S_S2x4 (constant S_ .f32 0x00000000#32)
def logSigs (x : FVec Ideal S2x4 .f32) : FVec Ideal S2x4 .f32 :=
  Host.negf (select (cmpf .une (subf (Host.negf x) zero2) (subf (Host.negf x) zero2)) (addf (Host.negf x) zero2)
    (addf (maximumf (Host.negf x) zero2) (Host.log1p (Host.exp (Host.negf (Host.absf (subf (Host.negf x) zero2)))))))
def lgF (x : FVec Ideal S2x4 .f32) : FVec Ideal S4 .f32 := shapeCast _ (extractStridedSlice S1x4 ![0, 0] (logSigs x) slices_S2x4_S1x4_0_0) shapeCasts_S1x4_S4
def lgB (x : FVec Ideal S2x4 .f32) : FVec Ideal S4 .f32 := shapeCast _ (extractStridedSlice S1x4 ![1, 0] (logSigs x) slices_S2x4_S1x4_1_0) shapeCasts_S1x4_S4

def noF : FVec Ideal S4352 .f32 := sitofp .f32 (iotaInDim S4352 32 0)
def noB : FVec Ideal S4352 .f32 :=
  select (cmpf .olt noF (broadcastInDim S4352 ![] bcast_S_S4352 (constant S_ .f32 0x43800000#32)))
    (subf (broadcastInDim S4352 ![] bcast_S_S4352 (constant S_ .f32 0x437F0000#32)) noF)
    (subf (broadcastInDim S4352 ![] bcast_S_S4352 (constant S_ .f32 0x458FF800#32)) noF)
def gap (n : FVec Ideal S4352 .f32) : FVec Ideal S4352x4352 .f32 :=
  subf (broadcastInDim S4352x4352 ![0, 1] bcast_S4352x1_S4352x4352_0_1 (broadcastInDim S4352x1 ![0] bcast_S4352_S4352x1_0 n))
    (broadcastInDim S4352x4352 ![0, 1] bcast_S1x4352_S4352x4352_0_1 (broadcastInDim S1x4352 ![1] bcast_S4352_S1x4352_1 n))
def all (b : BitVec 32) : FVec Ideal S4352x4352 .f32 := broadcastInDim S4352x4352 ![] bcast_S_S4352x4352 (constant S_ .f32 b)
def decay (mask : IVec S4352x4352 1) (e : FVec Ideal S4352x4352 .f32) (lg : FVec Ideal S4 .f32) : FVec Ideal S4x4352x4352 .f32 :=
  select (broadcastInDim S4x4352x4352 ![1, 2] bcast_S4352x4352_S4x4352x4352_1_2 mask)
    (Host.exp (mulf (broadcastInDim S4x4352x4352 ![0, 1, 2] bcast_S4x1x1_S4x4352x4352_0_1_2 (broadcastInDim S4x1x1 ![0] bcast_S4_S4x1x1_0 lg))
      (broadcastInDim S4x4352x4352 ![0, 1, 2] bcast_S1x4352x4352_S4x4352x4352_0_1_2 (broadcastInDim S1x4352x4352 ![1, 2] bcast_S4352x4352_S1x4352x4352_1_2
        (select mask e (broadcastInDim S4352x4352 ![] bcast_S_S4352x4352 (id (constant S_ .f32 0x00000000#32))))))))
    (broadcastInDim S4x4352x4352 ![] bcast_S_S4x4352x4352 (id (constant S_ .f32 0x00000000#32)))
def decayF (x : FVec Ideal S2x4 .f32) : FVec Ideal S4x4352x4352 .f32 :=
  decay (cmpf .oge (gap noF) (all 0x00000000#32)) (gap noF) (lgF x)
def decayB (x : FVec Ideal S2x4 .f32) : FVec Ideal S4x4352x4352 .f32 :=
  decay (cmpf .ogt (gap noB) (all 0x00000000#32)) (subf (gap noB) (all 0x3F800000#32)) (lgB x)

/-- The scores' gradients with the decay, and the scores with it. -/
def weighed (g v : FVec Ideal S4352x512 .bf16) (D : FVec Ideal S4x4352x4352 .f32) : FVec Ideal S4x4352x4352 .f32 :=
  mulf (Host.dotGeneral dot_S4x128x4352_S4352x4x128_S4x4352x4352_1_2_2_0_0_1 none (turned g) (split v)) D
def scores (q k : FVec Ideal S4352x512 .bf16) (D : FVec Ideal S4x4352x4352 .f32) : FVec Ideal S4x4352x4352 .f32 :=
  mulf (Host.dotGeneral dot_S4352x4x128_S4352x4x128_S4x4352x4352_2_2_0_0_1_1 none (split q) (split k)) D
def dqOf (k v g : FVec Ideal S4352x512 .bf16) (D : FVec Ideal S4x4352x4352 .f32) : FVec Ideal S4352x512 .f32 :=
  back (transpose S4352x4x128 [1, 0, 2] (Host.dotGeneral dot_S4x4352x4352_S4352x4x128_S4x4352x128_2_0_1_2_0_1 none (weighed g v D) (split k)) transposes_S4x4352x128_S4352x4x128_1_0_2)
def dkOf (q v g : FVec Ideal S4352x512 .bf16) (D : FVec Ideal S4x4352x4352 .f32) : FVec Ideal S4352x512 .f32 :=
  back (transpose S4352x4x128 [1, 0, 2] (Host.dotGeneral dot_S4x4352x4352_S4352x4x128_S4x4352x128_1_0_2_2_0_1 none (weighed g v D) (split q)) transposes_S4x4352x128_S4352x4x128_1_0_2)
def dvOf (q k g : FVec Ideal S4352x512 .bf16) (D : FVec Ideal S4x4352x4352 .f32) : FVec Ideal S4352x512 .f32 :=
  back (transpose S4352x4x128 [2, 0, 1] (Host.dotGeneral dot_S4x128x4352_S4x4352x4352_S4x128x4352_2_1_1_2_0_0 none (turned g) (scores q k D)) transposes_S4x128x4352_S4352x4x128_2_0_1)

section
variable (m : (ℓ : Loc nD τ sig) → Buf (Elt Ideal) ℓ) (c : Dev nD)

abbrev q : FVec Ideal S4352x512 .bf16 := m ((c : Thread nD τ).loc main_arg0)
abbrev k : FVec Ideal S4352x512 .bf16 := m ((c : Thread nD τ).loc main_arg1)
abbrev v : FVec Ideal S4352x512 .bf16 := m ((c : Thread nD τ).loc main_arg2)
abbrev g : FVec Ideal S4352x512 .bf16 := m ((c : Thread nD τ).loc main_arg3)
abbrev l : FVec Ideal S2x4 .f32 := m ((c : Thread nD τ).loc main_arg4)

theorem res5 : (Cert.Reference4Ideal.Value.res_main_v76 m c : FVec Ideal S4352x512 .f32) = dvOf (q m c) (k m c) (g m c) (decayB (l m c)) := (rfl)
theorem res4 : (Cert.Reference4Ideal.Value.res_main_v77 m c : FVec Ideal S4352x512 .f32) = dkOf (q m c) (v m c) (g m c) (decayB (l m c)) := (rfl)
theorem res3 : (Cert.Reference4Ideal.Value.res_main_v78 m c : FVec Ideal S4352x512 .f32) = dqOf (k m c) (v m c) (g m c) (decayB (l m c)) := (rfl)

end

/-! ## Their elements -/

theorem split_apply (x : FVec Ideal S4352x512 .bf16) (t : Fin 4352) (h : Fin 4) (e : Fin 128) : split x (ix3 t h e) = x (ix2 t (col h e)) := by
  unfold split
  refine shapeCast_apply _ _ (ix3 t h e) (ix2 t (col h e)) ?_
  rw [Shape.rowMajor_val_two, Shape.rowMajor_val_three]
  show t.val * 512 + (128 * h.val + e.val) = (t.val * 4 + h.val) * 128 + e.val
  omega
theorem back_apply (x : FVec Ideal S4352x4x128 .f32) (t : Fin 4352) (h : Fin 4) (e : Fin 128) : back x (ix2 t (col h e)) = x (ix3 t h e) := by
  unfold back
  refine shapeCast_apply _ _ (ix2 t (col h e)) (ix3 t h e) ?_
  rw [Shape.rowMajor_val_two, Shape.rowMajor_val_three]
  show (t.val * 4 + h.val) * 128 + e.val = t.val * 512 + (128 * h.val + e.val)
  omega
theorem turned_apply (x : FVec Ideal S4352x512 .bf16) (t : Fin 4352) (h : Fin 4) (e : Fin 128) : turned x (ix3 h e t) = x (ix2 t (col h e)) := by
  unfold turned
  rw [← split_apply x]
  generalize split x = y
  pointwise

theorem weighed_apply (g v : FVec Ideal S4352x512 .bf16) (D : FVec Ideal S4x4352x4352 .f32) (h : Fin 4) (t s : Fin 4352) :
    (weighed g v D (ix3 h t s) : EReal) = (∑ f : Fin 128, (g (ix2 t (col h f)) : EReal) * v (ix2 s (col h f))) * D (ix3 h t s) := by
  have e : ∀ f, (g (ix2 t (col h f)) : EReal) * v (ix2 s (col h f)) = (turned g (ix3 h f t) : EReal) * split v (ix3 s h f) := fun f => by
    rw [turned_apply, split_apply]
  simp only [e]
  unfold weighed
  generalize turned g = g'
  generalize split v = v'
  pointwise

theorem scores_apply (q k : FVec Ideal S4352x512 .bf16) (D : FVec Ideal S4x4352x4352 .f32) (h : Fin 4) (t s : Fin 4352) :
    (scores q k D (ix3 h t s) : EReal) = (∑ f : Fin 128, (q (ix2 t (col h f)) : EReal) * k (ix2 s (col h f))) * D (ix3 h t s) := by
  have e : ∀ f, (q (ix2 t (col h f)) : EReal) * k (ix2 s (col h f)) = (split q (ix3 t h f) : EReal) * split k (ix3 s h f) := fun f => by
    rw [split_apply, split_apply]
  simp only [e]
  unfold scores
  generalize split q = q'
  generalize split k = k'
  pointwise

theorem dqOf_apply (k v g : FVec Ideal S4352x512 .bf16) (D : FVec Ideal S4x4352x4352 .f32) (t : Fin 4352) (h : Fin 4) (e : Fin 128) :
    (dqOf k v g D (ix2 t (col h e)) : EReal) = ∑ s : Fin 4352, (weighed g v D (ix3 h t s) : EReal) * k (ix2 s (col h e)) := by
  simp only [← split_apply k]
  unfold dqOf
  rw [back_apply]
  generalize weighed g v D = w
  generalize split k = k'
  pointwise
theorem dkOf_apply (q v g : FVec Ideal S4352x512 .bf16) (D : FVec Ideal S4x4352x4352 .f32) (s : Fin 4352) (h : Fin 4) (e : Fin 128) :
    (dkOf q v g D (ix2 s (col h e)) : EReal) = ∑ t : Fin 4352, (weighed g v D (ix3 h t s) : EReal) * q (ix2 t (col h e)) := by
  simp only [← split_apply q]
  unfold dkOf
  rw [back_apply]
  generalize weighed g v D = w
  generalize split q = q'
  pointwise
theorem dvOf_apply (q k g : FVec Ideal S4352x512 .bf16) (D : FVec Ideal S4x4352x4352 .f32) (s : Fin 4352) (h : Fin 4) (e : Fin 128) :
    (dvOf q k g D (ix2 s (col h e)) : EReal) = ∑ t : Fin 4352, (g (ix2 t (col h e)) : EReal) * scores q k D (ix3 h t s) := by
  simp only [← turned_apply g]
  unfold dvOf
  rw [back_apply]
  generalize scores q k D = w
  generalize turned g = g'
  pointwise

/-! ## In real numbers -/

theorem noF_apply (t : Fin 4352) : (noF (ix1 t) : EReal) = ((Cert.Ret.ord 0 t : ℝ) : EReal) := by
  unfold Cert.Ret.ord
  rw [if_pos rfl]
  exact Cert.Ret.no_eq t.val t.isLt _ (by unfold noF; pointwise)
theorem noB_apply (t : Fin 4352) : (noB (ix1 t) : EReal) = ((Cert.Ret.ord 1 t : ℝ) : EReal) := by
  have h := noF_apply t
  unfold Cert.Ret.ord at h ⊢
  rw [if_pos rfl] at h
  rw [if_neg (show ¬ (1 : Fin 2) = 0 by decide)]
  show (if Ideal.cmp .olt (noF (ix1 t) : EReal) (Ideal.ofBits .f32 0x43800000#32) = 1#1
    then Ideal.ofBits .f32 0x437F0000#32 - (noF (ix1 t) : EReal) else Ideal.ofBits .f32 0x458FF800#32 - (noF (ix1 t) : EReal)) = _
  rw [h, Cert.Ret.c255, Cert.Ret.c256, Cert.Ret.c4607, ← EReal.coe_sub, ← EReal.coe_sub]
  unfold Ideal.cmp
  have := t.isLt
  by_cases ht : t.val < 256
  · have h2 : ((t.val : ℝ) : EReal) < ((256 : ℝ) : EReal) := by exact_mod_cast ht
    simp only [decide_eq_true h2]
    rw [if_pos ht, if_pos (show BitVec.ofBool true = 1#1 from rfl), Nat.cast_sub (by omega)]
    norm_num
  · have h2 : ¬ ((t.val : ℝ) : EReal) < ((256 : ℝ) : EReal) := by exact_mod_cast ht
    simp only [decide_eq_false h2]
    rw [if_neg ht, if_neg (by decide), Nat.cast_sub (by omega)]
    norm_num

theorem gap_apply (n : FVec Ideal S4352 .f32) (t s : Fin 4352) : (gap n (ix2 t s) : EReal) = (n (ix1 t) : EReal) - n (ix1 s) := by
  unfold gap
  pointwise

theorem logSigs_apply (x : FVec Ideal S2x4 .f32) (d : Fin 2) (h : Fin 4) (l : ℝ) (hx : (x (ix2 d h) : EReal) = (l : EReal)) :
    (logSigs x (ix2 d h) : EReal) = ((logSig l : ℝ) : EReal) := by
  show -(if Ideal.cmp .une (-(x (ix2 d h) : EReal) - Ideal.ofBits .f32 0x00000000#32) (-(x (ix2 d h) : EReal) - Ideal.ofBits .f32 0x00000000#32) = 1#1 then _ else
    max (-(x (ix2 d h) : EReal)) (Ideal.ofBits .f32 0x00000000#32)
      + Ideal.log (1 + Ideal.exp (-(max (-(x (ix2 d h) : EReal) - Ideal.ofBits .f32 0x00000000#32) (-(-(x (ix2 d h) : EReal) - Ideal.ofBits .f32 0x00000000#32)))))) = _
  rw [if_neg (by unfold Ideal.cmp; simp), hx, Cert.Ret.c0]
  simp only [← EReal.coe_neg, ← EReal.coe_sub, ← Cert.Ret.coe_max, Ideal.exp_coe, ← EReal.coe_one, ← EReal.coe_add]
  rw [Ideal.log_coe, if_neg (not_le.2 (by positivity)), ← EReal.coe_add, ← EReal.coe_neg]
  unfold logSig
  congr 1
  rw [sub_zero, show max (-l) (- -l) = |l| by rw [max_comm, neg_neg]; rfl, neg_add, ← min_neg_neg, neg_neg, neg_zero, sub_eq_add_neg]

theorem lgF_apply (x : FVec Ideal S2x4 .f32) (h : Fin 4) : lgF x (ix1 h) = logSigs x (ix2 (0 : Fin 2) h) := by
  unfold lgF
  generalize logSigs x = y
  refine (shapeCast_dropUnit_apply ![4] _ _ (ix1 h)).trans ?_
  pointwise
  rfl
theorem lgB_apply (x : FVec Ideal S2x4 .f32) (h : Fin 4) : lgB x (ix1 h) = logSigs x (ix2 (1 : Fin 2) h) := by
  unfold lgB
  generalize logSigs x = y
  refine (shapeCast_dropUnit_apply ![4] _ _ (ix1 h)).trans ?_
  pointwise
  rfl

/-- The decay of two positions, from its mask and its exponents. -/
theorem decay_apply (mask : IVec S4352x4352 1) (e : FVec Ideal S4352x4352 .f32) (lg : FVec Ideal S4 .f32) (h : Fin 4) (t s : Fin 4352)
    (p : Prop) [Decidable p] (a r : ℝ) (hm : mask (ix2 t s) = BitVec.ofBool (decide p)) (he : (e (ix2 t s) : EReal) = (a : EReal))
    (hr : (lg (ix1 h) : EReal) = (r : EReal)) :
    (decay mask e lg (ix3 h t s) : EReal) = ((if p then Real.exp (r * a) else 0 : ℝ) : EReal) := by
  let z : EReal := (id (constant (F := Ideal) S_ .f32 0x00000000#32) : FVec Ideal S_ .f32) ix0
  have hz : z = ((0 : ℝ) : EReal) := Cert.Ret.c0
  have e1 : (decay mask e lg (ix3 h t s) : EReal) = (if mask (ix2 t s) = 1#1 then
      Ideal.exp ((lg (ix1 h) : EReal) * (if mask (ix2 t s) = 1#1 then (e (ix2 t s) : EReal) else z)) else z) := by
    unfold decay
    pointwise
    rfl
  rw [e1, hm, he, hr, hz]
  by_cases h : p
  · simp only [h, decide_true, if_true]
    rw [if_pos (show BitVec.ofBool true = 1#1 from rfl), if_pos (show BitVec.ofBool true = 1#1 from rfl), ← EReal.coe_mul, Ideal.exp_coe]
  · simp only [h, decide_false, if_false]
    rw [if_neg (by decide)]

theorem decayF_apply (x : FVec Ideal S2x4 .f32) (hx : Cert.Finite.All x) (h : Fin 4) (t s : Fin 4352) :
    (decayF x (ix3 h t s) : EReal) = ((Cert.Ret.D (rate x 0 h) 0 t s : ℝ) : EReal) := by
  have hg : (gap noF (ix2 t s) : EReal) = (((Cert.Ret.ord 0 t : ℝ) - Cert.Ret.ord 0 s : ℝ) : EReal) := by
    rw [gap_apply, noF_apply, noF_apply, EReal.coe_sub]
  unfold decayF
  rw [decay_apply _ _ _ h t s (Cert.Ret.ord 0 s ≤ Cert.Ret.ord 0 t) _ (rate x 0 h) ?_ hg
    ((lgF_apply x h).trans (logSigs_apply x 0 h _ (hx _)))]
  · unfold Cert.Ret.D
    simp
  · show Ideal.cmp .oge (gap noF (ix2 t s) : EReal) (Ideal.ofBits .f32 0x00000000#32) = _
    rw [hg, Cert.Ret.c0]
    unfold Ideal.cmp
    refine congrArg BitVec.ofBool (decide_eq_decide.2 ?_)
    show ((0 : ℝ) : EReal) ≤ _ ↔ _
    rw [EReal.coe_le_coe_iff, sub_nonneg, Nat.cast_le]
theorem decayB_apply (x : FVec Ideal S2x4 .f32) (hx : Cert.Finite.All x) (h : Fin 4) (t s : Fin 4352) :
    (decayB x (ix3 h t s) : EReal) = ((Cert.Ret.D (rate x 1 h) 1 t s : ℝ) : EReal) := by
  have hg : (gap noB (ix2 t s) : EReal) = (((Cert.Ret.ord 1 t : ℝ) - Cert.Ret.ord 1 s : ℝ) : EReal) := by
    rw [gap_apply, noB_apply, noB_apply, EReal.coe_sub]
  have he : (subf (gap noB) (all 0x3F800000#32) (ix2 t s) : EReal) = (((Cert.Ret.ord 1 t : ℝ) - Cert.Ret.ord 1 s - 1 : ℝ) : EReal) := by
    show (gap noB (ix2 t s) : EReal) - Ideal.ofBits .f32 0x3F800000#32 = _
    rw [hg, Cert.Ret.c1, ← EReal.coe_sub]
  unfold decayB
  rw [decay_apply _ _ _ h t s (Cert.Ret.ord 1 s + 1 ≤ Cert.Ret.ord 1 t) _ (rate x 1 h) ?_ he
    ((lgB_apply x h).trans (logSigs_apply x 1 h _ (hx _)))]
  · unfold Cert.Ret.D
    simp
  · show Ideal.cmp .ogt (gap noB (ix2 t s) : EReal) (Ideal.ofBits .f32 0x00000000#32) = _
    rw [hg, Cert.Ret.c0]
    unfold Ideal.cmp
    refine congrArg BitVec.ofBool (decide_eq_decide.2 ?_)
    show ((0 : ℝ) : EReal) < _ ↔ _
    rw [EReal.coe_lt_coe_iff, sub_pos, Nat.cast_lt, Nat.succ_le_iff]

section
variable {q k v g : FVec Ideal S4352x512 .bf16} {D : FVec Ideal S4x4352x4352 .f32} {l : FVec Ideal S2x4 .f32} {d : Fin 2}
  (hq : Cert.Finite.All q) (hk : Cert.Finite.All k) (hv : Cert.Finite.All v) (hg : Cert.Finite.All g)
  (hD : ∀ (h : Fin 4) (t s : Fin 4352), (D (ix3 h t s) : EReal) = ((Cert.Ret.D (rate l d h) d t s : ℝ) : EReal))

include hv hg hD in
theorem weighed_real (h : Fin 4) (t s : Fin 4352) :
    (weighed g v D (ix3 h t s) : EReal) = ((Cert.Ret.D (rate l d h) d t s * (∑ f, head g h t f * head v h s f) : ℝ) : EReal) := by
  rw [weighed_apply, hD, mul_comm, EReal.coe_mul, ← Cert.Finite.sum_coe]
  simp only [Cert.Ret.head_eq hg, Cert.Ret.head_eq hv, EReal.coe_mul]
include hq hk hD in
theorem scores_real (h : Fin 4) (t s : Fin 4352) :
    (scores q k D (ix3 h t s) : EReal) = ((Cert.Ret.D (rate l d h) d t s * (∑ f, head q h t f * head k h s f) : ℝ) : EReal) := by
  rw [scores_apply, hD, mul_comm, EReal.coe_mul, ← Cert.Finite.sum_coe]
  simp only [Cert.Ret.head_eq hq, Cert.Ret.head_eq hk, EReal.coe_mul]

include hk hv hg hD in
theorem dq_eq : dqOf k v g D = Cert.Ret.dqs k v g l d := Cert.Ret.rows_ext fun t h e => by
  refine (dqOf_apply k v g D t h e).trans (Eq.trans ?_ (Cert.Ret.join_apply _ t h e).symm)
  unfold Cert.Ret.dq
  rw [← Cert.Finite.sum_coe]
  exact Finset.sum_congr rfl fun s _ => by rw [weighed_real hv hg hD, Cert.Ret.head_eq hk, ← EReal.coe_mul]
include hq hv hg hD in
theorem dk_eq : dkOf q v g D = Cert.Ret.dks q v g l d := Cert.Ret.rows_ext fun t h e => by
  refine (dkOf_apply q v g D t h e).trans (Eq.trans ?_ (Cert.Ret.join_apply _ t h e).symm)
  unfold Cert.Ret.dk
  rw [← Cert.Finite.sum_coe]
  exact Finset.sum_congr rfl fun s _ => by rw [weighed_real hv hg hD, Cert.Ret.head_eq hq, ← EReal.coe_mul]
include hq hk hg hD in
theorem dv_eq : dvOf q k g D = Cert.Ret.dvs q k g l d := Cert.Ret.rows_ext fun t h e => by
  refine (dvOf_apply q k g D t h e).trans (Eq.trans ?_ (Cert.Ret.join_apply _ t h e).symm)
  unfold Cert.Ret.dv
  rw [← Cert.Finite.sum_coe]
  exact Finset.sum_congr rfl fun s _ => by rw [scores_real hq hk hD, Cert.Ret.head_eq hg, ← EReal.coe_mul, mul_comm]

end

/-! ## The run -/

variable (m : (ℓ : Loc nD τ sig) → Buf (Elt Ideal) ℓ) (ρ : Dev nD → PrngReg)

/-- Every run of the reference leaves the three gradients of each direction. -/
theorem run (hq : ∀ c, Cert.Finite.All (q m c)) (hk : ∀ c, Cert.Finite.All (k m c)) (hv : ∀ c, Cert.Finite.All (v m c))
    (hg : ∀ c, Cert.Finite.All (g m c)) (hl : ∀ c, Cert.Finite.All (l m c)) :
    θ_run defs (onTc (τ := τ) (main (F := Ideal))) ⟨m, fun _ => 0, ρ⟩ fun r => ∀ c : Dev nD,
      r.2.mem ((c.tc : Thread nD τ).loc main_v90) = Cert.Ret.dqs (k m c) (v m c) (g m c) (l m c) 0
      ∧ r.2.mem ((c.tc : Thread nD τ).loc main_v89) = Cert.Ret.dks (q m c) (v m c) (g m c) (l m c) 0
      ∧ r.2.mem ((c.tc : Thread nD τ).loc main_v88) = Cert.Ret.dvs (q m c) (k m c) (g m c) (l m c) 0
      ∧ r.2.mem ((c.tc : Thread nD τ).loc main_v78) = Cert.Ret.dqs (k m c) (v m c) (g m c) (l m c) 1
      ∧ r.2.mem ((c.tc : Thread nD τ).loc main_v77) = Cert.Ret.dks (q m c) (v m c) (g m c) (l m c) 1
      ∧ r.2.mem ((c.tc : Thread nD τ).loc main_v76) = Cert.Ret.dvs (q m c) (k m c) (g m c) (l m c) 1 :=
  (θ_run defs _ _).mono (fun r hr c => by
    obtain ⟨h0, h1, h2, h3, h4, h5, -⟩ := hr c
    exact ⟨h0.trans (dq_eq (hk c) (hv c) (hg c) (decayF_apply _ (hl c))), h1.trans (dk_eq (hq c) (hv c) (hg c) (decayF_apply _ (hl c))),
      h2.trans (dv_eq (hq c) (hk c) (hg c) (decayF_apply _ (hl c))),
      h3.trans ((res3 m c).trans (dq_eq (hk c) (hv c) (hg c) (decayB_apply _ (hl c)))),
      h4.trans ((res4 m c).trans (dk_eq (hq c) (hv c) (hg c) (decayB_apply _ (hl c)))),
      h5.trans ((res5 m c).trans (dv_eq (hq c) (hk c) (hg c) (decayB_apply _ (hl c))))⟩) (Cert.Reference4Ideal.Value.run m ρ)

end Cert.RetRef

end
-- ==== Proof.Retention.Points.lean ====
module

public import proofs.«01_k».proof.Proof.Gen.Kernel4Ideal.Frame.RunC

/-! The retention backward call, point by point: what one run of the body stores, at the point's own
buffers and blocks, and what the outputs and the carried scratch hold after each point. -/

@[expose] public section

set_option maxRecDepth 16384

noncomputable section

namespace Cert.Kernel4Ideal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the staging buffers of the seven outputs and the five scratch buffers hold after a point. -/
abbrev Left (F : FTy → Type) [FloatOps F] : Type :=
  Vec F S256x512 .f32 × Vec F S256x512 .f32 × Vec F S256x512 .f32 × Vec F S256x512 .f32 × Vec F S256x512 .f32
    × Vec F S256x512 .f32 × Vec F S8x128 .f32 × Vec F S8x128x128 .f32 × Vec F S8x128x128 .f32
    × Vec F S8x128x128 .f32 × Vec F S8x128x128 .f32 × Vec F S8x128x128 .f32

/-- The body's run at the first point. -/
abbrev runA (c : Dev nD) (t : Fin cfg0.N) (h0 : t.val % 17 = 0) (h1 : ¬t.val % 17 = 16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t)

/-- The body's run at a point in the middle. -/
abbrev runB (c : Dev nD) (t : Fin cfg0.N) (h0 : ¬t.val % 17 = 0) (h1 : ¬t.val % 17 = 16) (xs : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t)
    xs.2.2.2.2.2.2.2.1 xs.2.2.2.2.2.2.2.2.1 xs.2.2.2.2.2.2.2.2.2.1 xs.2.2.2.2.2.2.2.2.2.2.1 xs.2.2.2.2.2.2.2.2.2.2.2

/-- The body's run at the last point. -/
abbrev runC (c : Dev nD) (t : Fin cfg0.N) (h0 : ¬t.val % 17 = 0) (h1 : t.val % 17 = 16) (xs : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t)
    xs.2.2.2.2.2.2.2.1 xs.2.2.2.2.2.2.2.2.1 xs.2.2.2.2.2.2.2.2.2.1 xs.2.2.2.2.2.2.2.2.2.2.1 xs.2.2.2.2.2.2.2.2.2.2.2

theorem coverA_10 (c : Dev nD) (t : Fin cfg0.N) (h0 : t.val % 17 = 0) (h1 : ¬t.val % 17 = 16) (y : S256x512.Idx) :
    ∃ pc ∈ (runA m c t h0 h1).1, y ∈ pc.1.set :=
  View.cover_of_tiledL (runA m c t h0 h1).1 S128x128.size (by sl_kernel_rfl) y

theorem coverA_11 (c : Dev nD) (t : Fin cfg0.N) (h0 : t.val % 17 = 0) (h1 : ¬t.val % 17 = 16) (y : S256x512.Idx) :
    ∃ pc ∈ (runA m c t h0 h1).2.1, y ∈ pc.1.set :=
  View.cover_of_tiledL (runA m c t h0 h1).2.1 S128x128.size (by sl_kernel_rfl) y

theorem coverA_12 (c : Dev nD) (t : Fin cfg0.N) (h0 : t.val % 17 = 0) (h1 : ¬t.val % 17 = 16) (y : S256x512.Idx) :
    ∃ pc ∈ (runA m c t h0 h1).2.2.1, y ∈ pc.1.set :=
  View.cover_of_tiledL (runA m c t h0 h1).2.2.1 S128x128.size (by sl_kernel_rfl) y

theorem coverA_13 (c : Dev nD) (t : Fin cfg0.N) (h0 : t.val % 17 = 0) (h1 : ¬t.val % 17 = 16) (y : S256x512.Idx) :
    ∃ pc ∈ (runA m c t h0 h1).2.2.2.1, y ∈ pc.1.set :=
  View.cover_of_tiledL (runA m c t h0 h1).2.2.2.1 S128x128.size (by sl_kernel_rfl) y

theorem coverA_14 (c : Dev nD) (t : Fin cfg0.N) (h0 : t.val % 17 = 0) (h1 : ¬t.val % 17 = 16) (y : S256x512.Idx) :
    ∃ pc ∈ (runA m c t h0 h1).2.2.2.2.1, y ∈ pc.1.set :=
  View.cover_of_tiledL (runA m c t h0 h1).2.2.2.2.1 S128x128.size (by sl_kernel_rfl) y

theorem coverA_15 (c : Dev nD) (t : Fin cfg0.N) (h0 : t.val % 17 = 0) (h1 : ¬t.val % 17 = 16) (y : S256x512.Idx) :
    ∃ pc ∈ (runA m c t h0 h1).2.2.2.2.2.1, y ∈ pc.1.set :=
  View.cover_of_tiledL (runA m c t h0 h1).2.2.2.2.2.1 S128x128.size (by sl_kernel_rfl) y

theorem coverA_s0 (c : Dev nD) (t : Fin cfg0.N) (h0 : t.val % 17 = 0) (h1 : ¬t.val % 17 = 16) (y : S8x128x128.Idx) :
    ∃ pc ∈ (runA m c t h0 h1).2.2.2.2.2.2.2.1, y ∈ pc.1.set :=
  View.cover_of_wholeMem (runA m c t h0 h1).2.2.2.2.2.2.2.1 (by sl_whole_mem) y

theorem coverA_s1 (c : Dev nD) (t : Fin cfg0.N) (h0 : t.val % 17 = 0) (h1 : ¬t.val % 17 = 16) (y : S8x128x128.Idx) :
    ∃ pc ∈ (runA m c t h0 h1).2.2.2.2.2.2.2.2.1, y ∈ pc.1.set :=
  View.cover_of_tiledL (runA m c t h0 h1).2.2.2.2.2.2.2.2.1 S1x128x128.size (by sl_kernel_rfl) y

theorem coverA_s2 (c : Dev nD) (t : Fin cfg0.N) (h0 : t.val % 17 = 0) (h1 : ¬t.val % 17 = 16) (y : S8x128x128.Idx) :
    ∃ pc ∈ (runA m c t h0 h1).2.2.2.2.2.2.2.2.2.1, y ∈ pc.1.set :=
  View.cover_of_tiledL (runA m c t h0 h1).2.2.2.2.2.2.2.2.2.1 S1x128x128.size (by sl_kernel_rfl) y

theorem coverA_s3 (c : Dev nD) (t : Fin cfg0.N) (h0 : t.val % 17 = 0) (h1 : ¬t.val % 17 = 16) (y : S8x128x128.Idx) :
    ∃ pc ∈ (runA m c t h0 h1).2.2.2.2.2.2.2.2.2.2.1, y ∈ pc.1.set :=
  View.cover_of_tiledL (runA m c t h0 h1).2.2.2.2.2.2.2.2.2.2.1 S1x128x128.size (by sl_kernel_rfl) y

theorem coverA_s4 (c : Dev nD) (t : Fin cfg0.N) (h0 : t.val % 17 = 0) (h1 : ¬t.val % 17 = 16) (y : S8x128x128.Idx) :
    ∃ pc ∈ (runA m c t h0 h1).2.2.2.2.2.2.2.2.2.2.2.1, y ∈ pc.1.set :=
  View.cover_of_wholeMem (runA m c t h0 h1).2.2.2.2.2.2.2.2.2.2.2.1 (by sl_whole_mem) y

/-- What the body leaves at the first point. -/
def leftA (c : Dev nD) (t : Fin cfg0.N) (h0 : t.val % 17 = 0) (h1 : ¬t.val % 17 = 16) : Left F :=
  (VO0_10.read (Elt F) (VO0_10.writes (Elt F) VO0_10.junk (runA m c t h0 h1).1),
   VO0_11.read (Elt F) (VO0_11.writes (Elt F) VO0_11.junk (runA m c t h0 h1).2.1),
   VO0_12.read (Elt F) (VO0_12.writes (Elt F) VO0_12.junk (runA m c t h0 h1).2.2.1),
   VO0_13.read (Elt F) (VO0_13.writes (Elt F) VO0_13.junk (runA m c t h0 h1).2.2.2.1),
   VO0_14.read (Elt F) (VO0_14.writes (Elt F) VO0_14.junk (runA m c t h0 h1).2.2.2.2.1),
   VO0_15.read (Elt F) (VO0_15.writes (Elt F) VO0_15.junk (runA m c t h0 h1).2.2.2.2.2.1),
   VO0_16.read (Elt F) (VO0_16.writes (Elt F) VO0_16.junk (runA m c t h0 h1).2.2.2.2.2.2.1),
   VS0_0.read (Elt F) (VS0_0.writes (Elt F) VS0_0.junk (runA m c t h0 h1).2.2.2.2.2.2.2.1),
   VS0_1.read (Elt F) (VS0_1.writes (Elt F) VS0_1.junk (runA m c t h0 h1).2.2.2.2.2.2.2.2.1),
   VS0_2.read (Elt F) (VS0_2.writes (Elt F) VS0_2.junk (runA m c t h0 h1).2.2.2.2.2.2.2.2.2.1),
   VS0_3.read (Elt F) (VS0_3.writes (Elt F) VS0_3.junk (runA m c t h0 h1).2.2.2.2.2.2.2.2.2.2.1),
   VS0_4.read (Elt F) (VS0_4.writes (Elt F) VS0_4.junk (runA m c t h0 h1).2.2.2.2.2.2.2.2.2.2.2.1))

theorem coverB_10 (c : Dev nD) (t : Fin cfg0.N) (h0 : ¬t.val % 17 = 0) (h1 : ¬t.val % 17 = 16) (xs : Left F) (y : S256x512.Idx) :
    ∃ pc ∈ (runB m c t h0 h1 xs).1, y ∈ pc.1.set :=
  View.cover_of_tiledL (runB m c t h0 h1 xs).1 S128x128.size (by sl_kernel_rfl) y

theorem coverB_11 (c : Dev nD) (t : Fin cfg0.N) (h0 : ¬t.val % 17 = 0) (h1 : ¬t.val % 17 = 16) (xs : Left F) (y : S256x512.Idx) :
    ∃ pc ∈ (runB m c t h0 h1 xs).2.1, y ∈ pc.1.set :=
  View.cover_of_tiledL (runB m c t h0 h1 xs).2.1 S128x128.size (by sl_kernel_rfl) y

theorem coverB_12 (c : Dev nD) (t : Fin cfg0.N) (h0 : ¬t.val % 17 = 0) (h1 : ¬t.val % 17 = 16) (xs : Left F) (y : S256x512.Idx) :
    ∃ pc ∈ (runB m c t h0 h1 xs).2.2.1, y ∈ pc.1.set :=
  View.cover_of_tiledL (runB m c t h0 h1 xs).2.2.1 S128x128.size (by sl_kernel_rfl) y

theorem coverB_13 (c : Dev nD) (t : Fin cfg0.N) (h0 : ¬t.val % 17 = 0) (h1 : ¬t.val % 17 = 16) (xs : Left F) (y : S256x512.Idx) :
    ∃ pc ∈ (runB m c t h0 h1 xs).2.2.2.1, y ∈ pc.1.set :=
  View.cover_of_tiledL (runB m c t h0 h1 xs).2.2.2.1 S128x128.size (by sl_kernel_rfl) y

theorem coverB_14 (c : Dev nD) (t : Fin cfg0.N) (h0 : ¬t.val % 17 = 0) (h1 : ¬t.val % 17 = 16) (xs : Left F) (y : S256x512.Idx) :
    ∃ pc ∈ (runB m c t h0 h1 xs).2.2.2.2.1, y ∈ pc.1.set :=
  View.cover_of_tiledL (runB m c t h0 h1 xs).2.2.2.2.1 S128x128.size (by sl_kernel_rfl) y

theorem coverB_15 (c : Dev nD) (t : Fin cfg0.N) (h0 : ¬t.val % 17 = 0) (h1 : ¬t.val % 17 = 16) (xs : Left F) (y : S256x512.Idx) :
    ∃ pc ∈ (runB m c t h0 h1 xs).2.2.2.2.2.1, y ∈ pc.1.set :=
  View.cover_of_tiledL (runB m c t h0 h1 xs).2.2.2.2.2.1 S128x128.size (by sl_kernel_rfl) y

theorem coverB_s0 (c : Dev nD) (t : Fin cfg0.N) (h0 : ¬t.val % 17 = 0) (h1 : ¬t.val % 17 = 16) (xs : Left F) (y : S8x128x128.Idx) :
    ∃ pc ∈ (runB m c t h0 h1 xs).2.2.2.2.2.2.2.1, y ∈ pc.1.set :=
  View.cover_of_tiledL (runB m c t h0 h1 xs).2.2.2.2.2.2.2.1 S1x128x128.size (by sl_kernel_rfl) y

theorem coverB_s4 (c : Dev nD) (t : Fin cfg0.N) (h0 : ¬t.val % 17 = 0) (h1 : ¬t.val % 17 = 16) (xs : Left F) (y : S8x128x128.Idx) :
    ∃ pc ∈ (runB m c t h0 h1 xs).2.2.2.2.2.2.2.2.2.2.2.1, y ∈ pc.1.set :=
  View.cover_of_tiledL (runB m c t h0 h1 xs).2.2.2.2.2.2.2.2.2.2.2.1 S1x128x128.size (by sl_kernel_rfl) y

/-- What the body leaves at a point in the middle. -/
def leftB (c : Dev nD) (t : Fin cfg0.N) (h0 : ¬t.val % 17 = 0) (h1 : ¬t.val % 17 = 16) (xs : Left F) : Left F :=
  (VO0_10.read (Elt F) (VO0_10.writes (Elt F) VO0_10.junk (runB m c t h0 h1 xs).1),
   VO0_11.read (Elt F) (VO0_11.writes (Elt F) VO0_11.junk (runB m c t h0 h1 xs).2.1),
   VO0_12.read (Elt F) (VO0_12.writes (Elt F) VO0_12.junk (runB m c t h0 h1 xs).2.2.1),
   VO0_13.read (Elt F) (VO0_13.writes (Elt F) VO0_13.junk (runB m c t h0 h1 xs).2.2.2.1),
   VO0_14.read (Elt F) (VO0_14.writes (Elt F) VO0_14.junk (runB m c t h0 h1 xs).2.2.2.2.1),
   VO0_15.read (Elt F) (VO0_15.writes (Elt F) VO0_15.junk (runB m c t h0 h1 xs).2.2.2.2.2.1),
   VO0_16.read (Elt F) (VO0_16.writes (Elt F) VO0_16.junk (runB m c t h0 h1 xs).2.2.2.2.2.2.1),
   VS0_0.read (Elt F) (VS0_0.writes (Elt F) VS0_0.junk (runB m c t h0 h1 xs).2.2.2.2.2.2.2.1),
   xs.2.2.2.2.2.2.2.2.1,
   xs.2.2.2.2.2.2.2.2.2.1,
   xs.2.2.2.2.2.2.2.2.2.2.1,
   VS0_4.read (Elt F) (VS0_4.writes (Elt F) VS0_4.junk (runB m c t h0 h1 xs).2.2.2.2.2.2.2.2.2.2.2.1))

theorem coverC_10 (c : Dev nD) (t : Fin cfg0.N) (h0 : ¬t.val % 17 = 0) (h1 : t.val % 17 = 16) (xs : Left F) (y : S256x512.Idx) :
    ∃ pc ∈ (runC m c t h0 h1 xs).1, y ∈ pc.1.set :=
  View.cover_of_tiledL (runC m c t h0 h1 xs).1 S128x128.size (by sl_kernel_rfl) y

theorem coverC_11 (c : Dev nD) (t : Fin cfg0.N) (h0 : ¬t.val % 17 = 0) (h1 : t.val % 17 = 16) (xs : Left F) (y : S256x512.Idx) :
    ∃ pc ∈ (runC m c t h0 h1 xs).2.1, y ∈ pc.1.set :=
  View.cover_of_tiledL (runC m c t h0 h1 xs).2.1 S128x128.size (by sl_kernel_rfl) y

theorem coverC_12 (c : Dev nD) (t : Fin cfg0.N) (h0 : ¬t.val % 17 = 0) (h1 : t.val % 17 = 16) (xs : Left F) (y : S256x512.Idx) :
    ∃ pc ∈ (runC m c t h0 h1 xs).2.2.1, y ∈ pc.1.set :=
  View.cover_of_tiledL (runC m c t h0 h1 xs).2.2.1 S128x128.size (by sl_kernel_rfl) y

theorem coverC_13 (c : Dev nD) (t : Fin cfg0.N) (h0 : ¬t.val % 17 = 0) (h1 : t.val % 17 = 16) (xs : Left F) (y : S256x512.Idx) :
    ∃ pc ∈ (runC m c t h0 h1 xs).2.2.2.1, y ∈ pc.1.set :=
  View.cover_of_tiledL (runC m c t h0 h1 xs).2.2.2.1 S128x128.size (by sl_kernel_rfl) y

theorem coverC_14 (c : Dev nD) (t : Fin cfg0.N) (h0 : ¬t.val % 17 = 0) (h1 : t.val % 17 = 16) (xs : Left F) (y : S256x512.Idx) :
    ∃ pc ∈ (runC m c t h0 h1 xs).2.2.2.2.1, y ∈ pc.1.set :=
  View.cover_of_tiledL (runC m c t h0 h1 xs).2.2.2.2.1 S128x128.size (by sl_kernel_rfl) y

theorem coverC_15 (c : Dev nD) (t : Fin cfg0.N) (h0 : ¬t.val % 17 = 0) (h1 : t.val % 17 = 16) (xs : Left F) (y : S256x512.Idx) :
    ∃ pc ∈ (runC m c t h0 h1 xs).2.2.2.2.2.1, y ∈ pc.1.set :=
  View.cover_of_tiledL (runC m c t h0 h1 xs).2.2.2.2.2.1 S128x128.size (by sl_kernel_rfl) y

theorem coverC_16 (c : Dev nD) (t : Fin cfg0.N) (h0 : ¬t.val % 17 = 0) (h1 : t.val % 17 = 16) (xs : Left F) (y : S8x128.Idx) :
    ∃ pc ∈ (runC m c t h0 h1 xs).2.2.2.2.2.2.1, y ∈ pc.1.set :=
  View.cover_of_tiledL (runC m c t h0 h1 xs).2.2.2.2.2.2.1 S1x128.size (by sl_kernel_rfl) y

theorem coverC_s0 (c : Dev nD) (t : Fin cfg0.N) (h0 : ¬t.val % 17 = 0) (h1 : t.val % 17 = 16) (xs : Left F) (y : S8x128x128.Idx) :
    ∃ pc ∈ (runC m c t h0 h1 xs).2.2.2.2.2.2.2.1, y ∈ pc.1.set :=
  View.cover_of_tiledL (runC m c t h0 h1 xs).2.2.2.2.2.2.2.1 S1x128x128.size (by sl_kernel_rfl) y

theorem coverC_s4 (c : Dev nD) (t : Fin cfg0.N) (h0 : ¬t.val % 17 = 0) (h1 : t.val % 17 = 16) (xs : Left F) (y : S8x128x128.Idx) :
    ∃ pc ∈ (runC m c t h0 h1 xs).2.2.2.2.2.2.2.2.2.2.2.1, y ∈ pc.1.set :=
  View.cover_of_tiledL (runC m c t h0 h1 xs).2.2.2.2.2.2.2.2.2.2.2.1 S1x128x128.size (by sl_kernel_rfl) y

/-- What the body leaves at the last point. -/
def leftC (c : Dev nD) (t : Fin cfg0.N) (h0 : ¬t.val % 17 = 0) (h1 : t.val % 17 = 16) (xs : Left F) : Left F :=
  (VO0_10.read (Elt F) (VO0_10.writes (Elt F) VO0_10.junk (runC m c t h0 h1 xs).1),
   VO0_11.read (Elt F) (VO0_11.writes (Elt F) VO0_11.junk (runC m c t h0 h1 xs).2.1),
   VO0_12.read (Elt F) (VO0_12.writes (Elt F) VO0_12.junk (runC m c t h0 h1 xs).2.2.1),
   VO0_13.read (Elt F) (VO0_13.writes (Elt F) VO0_13.junk (runC m c t h0 h1 xs).2.2.2.1),
   VO0_14.read (Elt F) (VO0_14.writes (Elt F) VO0_14.junk (runC m c t h0 h1 xs).2.2.2.2.1),
   VO0_15.read (Elt F) (VO0_15.writes (Elt F) VO0_15.junk (runC m c t h0 h1 xs).2.2.2.2.2.1),
   VO0_16.read (Elt F) (VO0_16.writes (Elt F) VO0_16.junk (runC m c t h0 h1 xs).2.2.2.2.2.2.1),
   VS0_0.read (Elt F) (VS0_0.writes (Elt F) VS0_0.junk (runC m c t h0 h1 xs).2.2.2.2.2.2.2.1),
   xs.2.2.2.2.2.2.2.2.1,
   xs.2.2.2.2.2.2.2.2.2.1,
   xs.2.2.2.2.2.2.2.2.2.2.1,
   VS0_4.read (Elt F) (VS0_4.writes (Elt F) VS0_4.junk (runC m c t h0 h1 xs).2.2.2.2.2.2.2.2.2.2.2.1))

/-- What the buffers hold after point `n`: the case's own stores, over what the point before left. -/
def outsAt (c : Dev nD) : (n : ℕ) → (hn : n < cfg0.N) → Left F
  | 0, hn => leftA m c ⟨0, hn⟩ (Nat.zero_mod _) (by dsimp only; omega)
  | n + 1, hn =>
    if h0 : (n + 1) % 17 = 0 then leftA m c ⟨n + 1, hn⟩ h0 (by dsimp only; omega)
    else if h1 : (n + 1) % 17 = 16 then leftC m c ⟨n + 1, hn⟩ h0 h1 (outsAt c n (Nat.lt_of_succ_lt hn))
    else leftB m c ⟨n + 1, hn⟩ h0 h1 (outsAt c n (Nat.lt_of_succ_lt hn))

/-- What the point before left. -/
def prevAt (c : Dev nD) (t : Fin cfg0.N) : Left F :=
  outsAt m c (t.val - 1) (Nat.lt_of_le_of_lt (Nat.sub_le _ _) t.isLt)

theorem outsAt_A (c : Dev nD) (t : Fin cfg0.N) (h0 : t.val % 17 = 0) (h1 : ¬t.val % 17 = 16) :
    outsAt m c t.val t.isLt = leftA m c t h0 h1 := by
  obtain ⟨n, hn⟩ := t
  cases n with
  | zero => rfl
  | succ n => rw [outsAt, dif_pos h0]

theorem outsAt_B (c : Dev nD) (t : Fin cfg0.N) (h0 : ¬t.val % 17 = 0) (h1 : ¬t.val % 17 = 16) :
    outsAt m c t.val t.isLt = leftB m c t h0 h1 (prevAt m c t) := by
  obtain ⟨n, hn⟩ := t
  cases n with
  | zero => exact absurd (Nat.zero_mod _) h0
  | succ n => rw [outsAt, dif_neg h0, dif_neg h1]; rfl

theorem outsAt_C (c : Dev nD) (t : Fin cfg0.N) (h0 : ¬t.val % 17 = 0) (h1 : t.val % 17 = 16) :
    outsAt m c t.val t.isLt = leftC m c t h0 h1 (prevAt m c t) := by
  obtain ⟨n, hn⟩ := t
  cases n with
  | zero => exact absurd (Nat.zero_mod _) h0
  | succ n => rw [outsAt, dif_neg h0, dif_pos h1]; rfl

end Cert.Kernel4Ideal.Ret

end
-- ==== Proof.Retention.Tiles.lean ====
module

public import proofs.«01_k».proof.Proof.Retention.Points

/-! What one run of the retention body stores, said once for all sixteen pieces of work it does (two chunks of 128
rows, two directions, four heads): the products, the decay tables and the lists of stores as functions of the
chunk, the head, and the blocks. -/

@[expose] public section

set_option maxRecDepth 16384

noncomputable section

namespace Cert.Kernel4Ideal.Ret

open Idealize.ShloMosaic Idealize.ShloMosaic.TcCoe Idealize.ShloMosaic.Tactic
open Cert.Kernel4Ideal Cert.Kernel4Ideal.Gen

variable {F : FTy → Type} [FloatOps F]

/-! ## Products of two tiles: plain, by the transposed second, by the transposed first -/

abbrev zeros : FVec F S128x128 .f32 := constant S128x128 .f32 0x00000000#32
def nn (a b : FVec F S128x128 .bf16) : FVec F S128x128 .f32 :=
  matmul (φ₁ := .bf16) (φ₂ := .bf16) dot_S128x128_S128x128_S128x128_1_0_0_1_n_n none a b zeros
def nt (a b : FVec F S128x128 .bf16) : FVec F S128x128 .f32 :=
  matmul (φ₁ := .bf16) (φ₂ := .bf16) dot_S128x128_S128x128_S128x128_1_1_0_0_n_n none a b zeros
def tn (a b : FVec F S128x128 .bf16) : FVec F S128x128 .f32 :=
  matmul (φ₁ := .bf16) (φ₂ := .bf16) dot_S128x128_S128x128_S128x128_0_0_1_1_n_n none a b zeros
abbrev cut (a : FVec F S128x128 .f32) : FVec F S128x128 .bf16 := truncf .bf16 a bitsLt_bf16_f32
abbrev wide (a : FVec F S128x128 .bf16) : FVec F S128x128 .f32 := extf .f32 a bitsLt_bf16_f32

/-! ## What the body loads -/

/-- Rows `128 r …`, columns `128 h …` of a block. -/
def blk {e : EltTy} (x : Vec F S256x512 e) (r h : ℕ) (hr : r < 2) (hh : h < 4) : Vec F S128x128 e :=
  View.ld x (Rect.unit ![128 * r, 128 * h] ![128, 128] (fun a => by
    match a with
    | ⟨0, _⟩ => show 128 * r + 128 ≤ 256; omega
    | ⟨1, _⟩ => show 128 * h + 128 ≤ 512; omega))
/-- Matrix `j` of eight, as loaded and without its unit axis. -/
def lane1 (x : Vec F S8x128x128 .f32) (j : ℕ) (hj : j < 8) : Vec F S1x128x128 .f32 :=
  View.ld x (Rect.unit ![j, 0, 0] ![1, 128, 128] (fun a => by
    match a with
    | ⟨0, _⟩ => show j + 1 ≤ 8; omega
    | ⟨1, _⟩ => show 0 + 128 ≤ 128; omega
    | ⟨2, _⟩ => show 0 + 128 ≤ 128; omega))
def lane (x : Vec F S8x128x128 .f32) (j : ℕ) (hj : j < 8) : FVec F S128x128 .f32 :=
  shapeCast S128x128 (lane1 x j hj) shapeCasts_S1x128x128_S128x128
/-- The state before chunk `u` of head `j`. -/
def state (x : Vec F S2x8x128x128 .f32) (u j : ℕ) (hu : u < 2) (hj : j < 8) : FVec F S128x128 .f32 :=
  shapeCast S128x128 (View.ld x (Rect.unit ![u, j, 0, 0] ![1, 1, 128, 128] (fun a => by
    match a with
    | ⟨0, _⟩ => show u + 1 ≤ 2; omega
    | ⟨1, _⟩ => show j + 1 ≤ 8; omega
    | ⟨2, _⟩ => show 0 + 128 ≤ 128; omega
    | ⟨3, _⟩ => show 0 + 128 ≤ 128; omega)) : Vec F S1x1x128x128 .f32) shapeCasts_S1x1x128x128_S128x128
/-- The decay logit of head `j`, along a row. -/
def logit (x : Vec F S8x128 .f32) (j : ℕ) (hj : j < 8) : FVec F S1x128 .f32 :=
  shapeCast S1x128 (View.ld x (Rect.unit ![j, 0] ![1, 128] (fun a => by
    match a with
    | ⟨0, _⟩ => show j + 1 ≤ 8; omega
    | ⟨1, _⟩ => show 0 + 128 ≤ 128; omega)) : Vec F S1x128 .f32) shapeCasts_S1x128_S1x128

/-! ## The decay -/

/-- A number along a row, and over a tile. -/
abbrev row (b : BitVec 32) : FVec F S1x128 .f32 := broadcast S1x128 (Scalar.ofBits .f32 b)
abbrev tile (b : BitVec 32) : FVec F S128x128 .f32 := broadcast S128x128 (Scalar.ofBits .f32 b)
/-- `exp (-|x|)`, and the logarithm of the decay. -/
def expAbs (x : FVec F S1x128 .f32) : FVec F S1x128 .f32 := exp (subf (row 0x00000000#32) (absf x))
def logDecay (x : FVec F S1x128 .f32) : FVec F S1x128 .f32 :=
  subf (minimumf x (row 0x00000000#32))
    (select (cmpf .olt (expAbs x) (row 0x3C23D70A#32))
      (mulf (expAbs x) (subf (row 0x3F800000#32) (mulf (expAbs x)
        (subf (row 0x3F000000#32) (mulf (expAbs x) (row 0x3EAAAAAB#32))))))
      (log (addf (row 0x3F800000#32) (expAbs x))))
/-- The decay of 128 positions, over a tile. -/
def decay128 (lg : Vec F S8x128 .f32) (j : ℕ) (hj : j < 8) : FVec F S128x128 .f32 :=
  broadcastTo S128x128 (exp (mulf (logDecay (logit lg j hj)) (row 0x43000000#32))) broadcasts_S1x128_S128x128
/-- The number of the row, of the column. -/
def rowNo : FVec F S128x128 .f32 := sitofp .f32 (iota .tc S128x128 32 [0] iota_S128x128_d0_w32)
def colNo : FVec F S128x128 .f32 := sitofp .f32 (iota .tc S128x128 32 [1] iota_S128x128_d1_w32)
/-- `exp` of the logarithm of the decay times an exponent. -/
def power (lg : Vec F S8x128 .f32) (j : ℕ) (hj : j < 8) (e : FVec F S128x128 .f32) : FVec F S128x128 .f32 :=
  exp (mulf (broadcastTo S128x128 (logDecay (logit lg j hj)) broadcasts_S1x128_S128x128) e)
abbrev lead (a : FVec F S128x128 .f32) : FVec F S1x128x128 .f32 := shapeCast S1x128x128 a shapeCasts_S128x128_S1x128x128
/-- The decay between two positions of a chunk, where the second is read by the first. -/
def within (lg : Vec F S8x128 .f32) (j : ℕ) (hj : j < 8) (mask : IVec S128x128 1) (e : FVec F S128x128 .f32) :
    FVec F S1x128x128 .f32 :=
  lead (select mask (power lg j hj (select mask e (tile 0x00000000#32))) (tile 0x00000000#32))
def dmF (lg : Vec F S8x128 .f32) (j : ℕ) (hj : j < 8) : FVec F S1x128x128 .f32 :=
  within lg j hj (cmpf .oge (rowNo (F := F)) colNo) (subf rowNo colNo)
def dmB (lg : Vec F S8x128 .f32) (j : ℕ) (hj : j < 8) : FVec F S1x128x128 .f32 :=
  within lg j hj (cmpf .ogt (colNo (F := F)) rowNo) (subf (subf colNo rowNo) (tile 0x3F800000#32))
def xiF (lg : Vec F S8x128 .f32) (j : ℕ) (hj : j < 8) : FVec F S1x128x128 .f32 :=
  lead (power lg j hj (addf rowNo (tile 0x3F800000#32)))
def xiB (lg : Vec F S8x128 .f32) (j : ℕ) (hj : j < 8) : FVec F S1x128x128 .f32 :=
  lead (power lg j hj (subf (tile 0x42FE0000#32) rowNo))
def ztF (lg : Vec F S8x128 .f32) (j : ℕ) (hj : j < 8) : FVec F S1x128x128 .f32 :=
  lead (power lg j hj (subf (tile 0x42FE0000#32) rowNo))
def ztB (lg : Vec F S8x128 .f32) (j : ℕ) (hj : j < 8) : FVec F S1x128x128 .f32 :=
  lead (power lg j hj rowNo)

/-! ## The tiles stored -/

/-- What one point reads: the four blocks of the direction, the states, the logits, the carried gradient and the
three tables. -/
structure Src (F : FTy → Type) [FloatOps F] where
  q : Vec F S256x512 .bf16
  k : Vec F S256x512 .bf16
  v : Vec F S256x512 .bf16
  g : Vec F S256x512 .bf16
  st : Vec F S2x8x128x128 .f32
  lg : Vec F S8x128 .f32
  ds : Vec F S8x128x128 .f32
  dm : Vec F S8x128x128 .f32
  xi : Vec F S8x128x128 .f32
  zt : Vec F S8x128x128 .f32

variable (X : Src F)

/-- The gradient of the state after one more chunk: decayed, and the chunk's queries by its cotangents added. -/
def step (j r h : ℕ) (hj : j < 8) (hr : r < 2) (hh : h < 4) (D : FVec F S128x128 .f32) : FVec F S128x128 .f32 :=
  addf (mulf (decay128 X.lg j hj) D)
    (tn (cut (mulf (wide (blk X.q r h hr hh)) (lane X.xi j hj))) (blk X.g r h hr hh))
/-- The gradient of the state a chunk leaves: chunk 1 finds the carried one, chunk 0 the one chunk 1 leaves, whose
rows are `r'`. -/
def later (u j r' h : ℕ) (hj : j < 8) (hr' : r' < 2) (hh : h < 4) : FVec F S128x128 .f32 :=
  match u with
  | 0 => step X j r' h hj hr' hh (lane X.ds j hj)
  | _ + 1 => lane X.ds j hj
def dqTile (u j r h : ℕ) (hu : u < 2) (hj : j < 8) (hr : r < 2) (hh : h < 4) : FVec F S128x128 .f32 :=
  addf (nn (cut (mulf (nt (blk X.g r h hr hh) (blk X.v r h hr hh)) (lane X.dm j hj))) (blk X.k r h hr hh))
    (mulf (lane X.xi j hj) (nt (blk X.g r h hr hh) (cut (state X.st u j hu hj))))
def dkTile (u j r r' h : ℕ) (hj : j < 8) (hr : r < 2) (hr' : r' < 2) (hh : h < 4) : FVec F S128x128 .f32 :=
  addf (tn (cut (mulf (nt (blk X.g r h hr hh) (blk X.v r h hr hh)) (lane X.dm j hj))) (blk X.q r h hr hh))
    (mulf (lane X.zt j hj) (nt (blk X.v r h hr hh) (cut (later X u j r' h hj hr' hh))))
def dvTile (u j r r' h : ℕ) (hj : j < 8) (hr : r < 2) (hr' : r' < 2) (hh : h < 4) : FVec F S128x128 .f32 :=
  addf (tn (cut (mulf (nt (blk X.q r h hr hh) (blk X.k r h hr hh)) (lane X.dm j hj))) (blk X.g r h hr hh))
    (nn (cut (mulf (wide (blk X.k r h hr hh)) (lane X.zt j hj))) (cut (later X u j r' h hj hr' hh)))

/-! ## The lists of stores, the last first -/

/-- A store of a tile of a block. -/
def tileAt (P : (r h : ℕ) → r < 2 → h < 4 → FVec F S128x128 .f32) (r h : ℕ) (hr : r < 2) (hh : h < 4) :
    View.Piece (Elt F) S256x512 .f32 :=
  ⟨Rect.unit ![128 * r, 128 * h] ![128, 128] (fun a => by
    match a with
    | ⟨0, _⟩ => show 128 * r + 128 ≤ 256; omega
    | ⟨1, _⟩ => show 128 * h + 128 ≤ 512; omega), P r h hr hh⟩
/-- Four heads of a chunk. -/
def tilesOf (P : (r h : ℕ) → r < 2 → h < 4 → FVec F S128x128 .f32) (r : ℕ) (hr : r < 2) :
    List (View.Piece (Elt F) S256x512 .f32) :=
  [tileAt P r 3 hr (by decide), tileAt P r 2 hr (by decide), tileAt P r 1 hr (by decide), tileAt P r 0 hr (by decide)]
def tilesF (P : (r h : ℕ) → r < 2 → h < 4 → FVec F S128x128 .f32) := tilesOf P 0 (by decide) ++ tilesOf P 1 (by decide)
def tilesB (P : (r h : ℕ) → r < 2 → h < 4 → FVec F S128x128 .f32) := tilesOf P 1 (by decide) ++ tilesOf P 0 (by decide)
/-- A store of one matrix of eight. -/
def laneAt (P : FVec F S1x128x128 .f32) (j : ℕ) (hj : j < 8) : View.Piece (Elt F) S8x128x128 .f32 :=
  ⟨Rect.unit ![j, 0, 0] ![1, 128, 128] (fun a => by
    match a with
    | ⟨0, _⟩ => show j + 1 ≤ 8; omega
    | ⟨1, _⟩ => show 0 + 128 ≤ 128; omega
    | ⟨2, _⟩ => show 0 + 128 ≤ 128; omega), P⟩
/-- Eight matrices: the forward direction's four heads and the backward one's. -/
def lanes (PF PB : (j : ℕ) → j < 8 → FVec F S1x128x128 .f32) : List (View.Piece (Elt F) S8x128x128 .f32) :=
  [laneAt (PB 7 (by decide)) 7 (by decide), laneAt (PB 6 (by decide)) 6 (by decide),
   laneAt (PB 5 (by decide)) 5 (by decide), laneAt (PB 4 (by decide)) 4 (by decide),
   laneAt (PF 3 (by decide)) 3 (by decide), laneAt (PF 2 (by decide)) 2 (by decide),
   laneAt (PF 1 (by decide)) 1 (by decide), laneAt (PF 0 (by decide)) 0 (by decide)]

/-- The forward direction's three gradients (chunk `r` in rows `r`), -/
def dqF := tilesF fun r h hr hh => dqTile X r h r h hr (Nat.lt_trans hh (by decide)) hr hh
def dkF := tilesF fun r h hr hh => dkTile X r h r 1 h (Nat.lt_trans hh (by decide)) hr (by decide) hh
def dvF := tilesF fun r h hr hh => dvTile X r h r 1 h (Nat.lt_trans hh (by decide)) hr (by decide) hh
/-- the backward direction's (chunk `1 - r` in rows `r`, the heads after the forward direction's), -/
def dqB := tilesB fun r h hr hh => dqTile X (1 - r) (4 + h) r h (by omega) (by omega) hr hh
def dkB := tilesB fun r h hr hh => dkTile X (1 - r) (4 + h) r 0 h (by omega) hr (by decide) hh
def dvB := tilesB fun r h hr hh => dvTile X (1 - r) (4 + h) r 0 h (by omega) hr (by decide) hh
/-- the carried gradient after both chunks. -/
def next (X : Src F) (j h r r' : ℕ) (hj : j < 8) (hh : h < 4) (hr : r < 2) (hr' : r' < 2) : FVec F S1x128x128 .f32 :=
  lead (step X j r h hj hr hh (step X j r' h hj hr' hh (lane X.ds j hj)))
def dsNext (X Y : Src F) : List (View.Piece (Elt F) S8x128x128 .f32) :=
  lanes (fun j hj => next X j (j % 4) 0 1 hj (Nat.mod_lt _ (by decide)) (by decide) (by decide))
    (fun j hj => next Y j (j % 4) 1 0 hj (Nat.mod_lt _ (by decide)) (by decide) (by decide))

end Cert.Kernel4Ideal.Ret

end
-- ==== Proof.Retention.Values.lean ====
/-
  The tiles of the retention body as tables of real numbers: products, decays, and what the stores leave.
-/
module

public import proofs.«01_k».proof.Proof.Retention.Tiles
public import proofs.«01_k».proof.Proof.Retention.Sums
public import Idealize.ShloMosaic.Lib.Pipeline.ValueKit.Tiles

@[expose] public section

set_option maxRecDepth 16384

noncomputable section

namespace Cert.Kernel4Ideal.Ret

open Idealize.ShloMosaic Idealize.ShloMosaic.TcCoe Idealize.ShloMosaic.Tactic
open Cert.Kernel4Ideal Cert.Kernel4Ideal.Gen

/-- The tile holds these real numbers. -/
def Is (A : S128x128.Idx → EReal) (a : Fin 128 → Fin 128 → ℝ) : Prop :=
  ∀ i j, (A (ix2 i j) : EReal) = ((a i j : ℝ) : EReal)

theorem Is.congr {A : S128x128.Idx → EReal} {a b : Fin 128 → Fin 128 → ℝ} (h : Is A a) (e : ∀ i j, a i j = b i j) : Is A b :=
  fun i j => (h i j).trans (congrArg _ (e i j))

theorem is_nn {A B : FVec Ideal S128x128 .bf16} {a b : Fin 128 → Fin 128 → ℝ} (ha : Is A a) (hb : Is B b) :
    Is (nn A B) (fun i j => ∑ k, a i k * b k j) := fun i j => by
  have e : nn A B (ix2 i j) = ∑ k : Fin 128, (A (ix2 i k) : EReal) * B (ix2 k j) := by unfold nn; pointwise
  rw [e, ← Cert.Finite.sum_coe]
  exact Finset.sum_congr rfl fun k _ => by rw [ha i k, hb k j, EReal.coe_mul]
theorem is_nt {A B : FVec Ideal S128x128 .bf16} {a b : Fin 128 → Fin 128 → ℝ} (ha : Is A a) (hb : Is B b) :
    Is (nt A B) (fun i j => ∑ k, a i k * b j k) := fun i j => by
  have e : nt A B (ix2 i j) = ∑ k : Fin 128, (A (ix2 i k) : EReal) * B (ix2 j k) := by unfold nt; pointwise
  rw [e, ← Cert.Finite.sum_coe]
  exact Finset.sum_congr rfl fun k _ => by rw [ha i k, hb j k, EReal.coe_mul]
theorem is_tn {A B : FVec Ideal S128x128 .bf16} {a b : Fin 128 → Fin 128 → ℝ} (ha : Is A a) (hb : Is B b) :
    Is (tn A B) (fun i j => ∑ k, a k i * b k j) := fun i j => by
  have e : tn A B (ix2 i j) = ∑ k : Fin 128, (A (ix2 k i) : EReal) * B (ix2 k j) := by unfold tn; pointwise
  rw [e, ← Cert.Finite.sum_coe]
  exact Finset.sum_congr rfl fun k _ => by rw [ha k i, hb k j, EReal.coe_mul]
theorem is_add {A B : FVec Ideal S128x128 .f32} {a b : Fin 128 → Fin 128 → ℝ} (ha : Is A a) (hb : Is B b) :
    Is (addf A B) (fun i j => a i j + b i j) := fun i j => by
  show (A (ix2 i j) : EReal) + B (ix2 i j) = _
  rw [ha i j, hb i j, EReal.coe_add]
theorem is_sub {A B : FVec Ideal S128x128 .f32} {a b : Fin 128 → Fin 128 → ℝ} (ha : Is A a) (hb : Is B b) :
    Is (subf A B) (fun i j => a i j - b i j) := fun i j => by
  show (A (ix2 i j) : EReal) - B (ix2 i j) = _
  rw [ha i j, hb i j, EReal.coe_sub]
theorem is_mul {A B : FVec Ideal S128x128 .f32} {a b : Fin 128 → Fin 128 → ℝ} (ha : Is A a) (hb : Is B b) :
    Is (mulf A B) (fun i j => a i j * b i j) := fun i j => by
  show (A (ix2 i j) : EReal) * B (ix2 i j) = _
  rw [ha i j, hb i j, EReal.coe_mul]
theorem is_exp {A : FVec Ideal S128x128 .f32} {a : Fin 128 → Fin 128 → ℝ} (ha : Is A a) :
    Is (exp A) (fun i j => Real.exp (a i j)) := fun i j => by
  show Ideal.exp (A (ix2 i j) : EReal) = _
  rw [ha i j, Ideal.exp_coe]
theorem is_cut {A : FVec Ideal S128x128 .f32} {a : Fin 128 → Fin 128 → ℝ} (ha : Is A a) : Is (cut A) a := ha
theorem is_wide {A : FVec Ideal S128x128 .bf16} {a : Fin 128 → Fin 128 → ℝ} (ha : Is A a) : Is (wide A) a := ha

section
variable (X : Src Ideal) {u j r r' h : ℕ} {hu : u < 2} {hj : j < 8} {hr : r < 2} {hr' : r' < 2} {hh : h < 4}
variable {q k v g S L W : Fin 128 → Fin 128 → ℝ} {x z : Fin 128 → ℝ} {w : ℝ}

theorem is_dqTile (hk : Is (blk X.k r h hr hh) k) (hv : Is (blk X.v r h hr hh) v) (hg : Is (blk X.g r h hr hh) g)
    (hW : Is (lane X.dm j hj) W) (hx : Is (lane X.xi j hj) fun i _ => x i) (hS : Is (state X.st u j hu hj) S) :
    Is (dqTile X u j r h hu hj hr hh)
      (fun i e => ∑ s, (∑ f, g i f * v s f) * W i s * k s e + x i * ∑ f, g i f * S e f) :=
  is_add (is_nn (is_cut (is_mul (is_nt hg hv) hW)) hk) (is_mul hx (is_nt hg (is_cut hS)))

theorem is_dkTile (hq : Is (blk X.q r h hr hh) q) (hv : Is (blk X.v r h hr hh) v) (hg : Is (blk X.g r h hr hh) g)
    (hW : Is (lane X.dm j hj) W) (hz : Is (lane X.zt j hj) fun i _ => z i) (hL : Is (later X u j r' h hj hr' hh) L) :
    Is (dkTile X u j r r' h hj hr hr' hh)
      (fun s e => ∑ i, (∑ f, g i f * v s f) * W i s * q i e + z s * ∑ f, v s f * L e f) :=
  is_add (is_tn (is_cut (is_mul (is_nt hg hv) hW)) hq) (is_mul hz (is_nt hv (is_cut hL)))

theorem is_dvTile (hq : Is (blk X.q r h hr hh) q) (hk : Is (blk X.k r h hr hh) k) (hg : Is (blk X.g r h hr hh) g)
    (hW : Is (lane X.dm j hj) W) (hz : Is (lane X.zt j hj) fun i _ => z i) (hL : Is (later X u j r' h hj hr' hh) L) :
    Is (dvTile X u j r r' h hj hr hr' hh)
      (fun s e => ∑ i, (∑ f, q i f * k s f) * W i s * g i e + ∑ f, k s f * z s * L f e) :=
  is_add (is_tn (is_cut (is_mul (is_nt hq hk) hW)) hg) (is_nn (is_cut (is_mul (is_wide hk) hz)) (is_cut hL))

theorem is_step {A : FVec Ideal S128x128 .f32} (hA : Is A L) (hd : Is (decay128 X.lg j hj) fun _ _ => w)
    (hq : Is (blk X.q r h hr hh) q) (hg : Is (blk X.g r h hr hh) g) (hx : Is (lane X.xi j hj) fun i _ => x i) :
    Is (step X j r h hj hr hh A) (fun e f => w * L e f + ∑ i, q i e * x i * g i f) :=
  is_add (is_mul hd hA) (is_tn (is_cut (is_mul (is_wide hq) hx)) hg)

end

/-! ## What loads find at an index -/

theorem blk_apply {e : EltTy} (x : Vec Ideal S256x512 e) (r h : ℕ) (hr : r < 2) (hh : h < 4) (i l : Fin 128) :
    blk x r h hr hh (ix2 i l) = x (ix2 (⟨128 * r + i.val, by omega⟩ : Fin 256) (⟨128 * h + l.val, by omega⟩ : Fin 512)) :=
  View.ld_unit_apply_of _ _ _ _ _ _ fun a => by
    match a with
    | ⟨0, _⟩ => rfl
    | ⟨1, _⟩ => rfl

theorem lane_apply (x : Vec Ideal S8x128x128 .f32) (j : ℕ) (hj : j < 8) (a b : Fin 128) :
    lane x j hj (ix2 a b) = x (ix3 (⟨j, hj⟩ : Fin 8) a b) := by
  unfold lane
  refine (shapeCast_dropUnit_apply ![128, 128] (lane1 x j hj) _ (ix2 a b)).trans ?_
  unfold lane1
  exact View.ld_unit_apply_of _ _ _ _ _ _ fun a => by
    match a with
    | ⟨0, _⟩ => rfl
    | ⟨1, _⟩ => exact (Nat.zero_add _).symm
    | ⟨2, _⟩ => exact (Nat.zero_add _).symm

theorem state_apply (x : Vec Ideal S2x8x128x128 .f32) (u j : ℕ) (hu : u < 2) (hj : j < 8) (a b : Fin 128) :
    state x u j hu hj (ix2 a b) = x (ix4 (⟨u, hu⟩ : Fin 2) (⟨j, hj⟩ : Fin 8) a b) := by
  unfold state
  refine (shapeCast_apply _ _ (ix2 a b) (ix4 (0 : Fin 1) (0 : Fin 1) a b) ?_).trans ?_
  · rw [Shape.rowMajor_val_two, Shape.rowMajor_val_four]
    show ((0 * 1 + 0) * 128 + a.val) * 128 + b.val = a.val * 128 + b.val
    omega
  · exact View.ld_unit_apply_of _ _ _ _ _ _ fun a => by
      match a with
      | ⟨0, _⟩ => rfl
      | ⟨1, _⟩ => rfl
      | ⟨2, _⟩ => exact (Nat.zero_add _).symm
      | ⟨3, _⟩ => exact (Nat.zero_add _).symm

theorem logit_apply (x : Vec Ideal S8x128 .f32) (j : ℕ) (hj : j < 8) (b : Fin 128) :
    logit x j hj (ix2 (0 : Fin 1) b) = x (ix2 (⟨j, hj⟩ : Fin 8) b) := by
  unfold logit
  refine (congrFun (shapeCast_self _ _) _).trans ?_
  exact View.ld_unit_apply_of _ _ _ _ _ _ fun a => by
    match a with
    | ⟨0, _⟩ => rfl
    | ⟨1, _⟩ => exact (Nat.zero_add _).symm

/-- What the stores of eight matrices leave. -/
theorem canon_lanes (PF PB : (j : ℕ) → j < 8 → FVec Ideal S1x128x128 .f32) (j : Fin 8) (a b : Fin 128) :
    View.canon (lanes PF PB) (ix3 j a b) = (if j.val < 4 then PF j.val j.isLt else PB j.val j.isLt) (ix3 (0 : Fin 1) a b) := by
  have hx : ∀ (x : S1x128x128.Idx) (o : ℕ), (∀ c, ((ix3 j a b : S8x128x128.Idx) c : ℕ) = (![o, 0, 0] : Fin 3 → ℕ) c + (x c : ℕ)) →
      j.val = o ∧ x = ix3 (0 : Fin 1) a b := by
    intro x o hc
    have h0 : j.val = o + (x 0 : ℕ) := hc 0
    have h1 : a.val = 0 + (x 1 : ℕ) := hc 1
    have h2 : b.val = 0 + (x 2 : ℕ) := hc 2
    have h3 : (x 0 : ℕ) < 1 := (x 0).isLt
    refine ⟨by omega, ?_⟩
    funext c
    apply Fin.ext
    match c with
    | ⟨0, _⟩ => show (x 0 : ℕ) = 0; omega
    | ⟨1, _⟩ => show (x 1 : ℕ) = a.val; omega
    | ⟨2, _⟩ => show (x 2 : ℕ) = b.val; omega
  refine View.canon_eq_of_allAt _ _ _ (View.cover_of_tiledL (lanes PF PB) S1x128x128.size (by sl_kernel_rfl) _) ?_
  refine View.allAt_cons_unit _ _ _ _ _ (fun x hc => ?_) (View.allAt_cons_unit _ _ _ _ _ (fun x hc => ?_) (View.allAt_cons_unit _ _ _ _ _ (fun x hc => ?_)
      (View.allAt_cons_unit _ _ _ _ _ (fun x hc => ?_) (View.allAt_cons_unit _ _ _ _ _ (fun x hc => ?_) (View.allAt_cons_unit _ _ _ _ _ (fun x hc => ?_)
      (View.allAt_cons_unit _ _ _ _ _ (fun x hc => ?_) (View.allAt_cons_unit _ _ _ _ _ (fun x hc => ?_) (View.allAt_nil _ _))))))))
  all_goals
    obtain ⟨e, rfl⟩ := hx x _ hc
    obtain ⟨n, hn⟩ := j
    dsimp only at e
    subst e
    rfl

end Cert.Kernel4Ideal.Ret

end
-- ==== Proof.Retention.Decays.lean ====
/-
  The decay of a head in real numbers, the tables of its powers, and what the stores of tiles leave.
-/
module

public import proofs.«01_k».proof.Proof.Retention.Values
public import proofs.«01_k».proof.Proof.Retention.Spec

@[expose] public section

set_option maxRecDepth 16384

noncomputable section

namespace Cert.Kernel4Ideal.Ret

open Idealize.ShloMosaic Idealize.ShloMosaic.TcCoe Idealize.ShloMosaic.Tactic
open Cert.Kernel4Ideal Cert.Kernel4Ideal.Gen
open Cert.Ret (logSig Far coe_min coe_max c0 c1 c127 c128)

/-- What the stores of eight tiles leave, in either order of the two chunks. -/
theorem tile_place (r : Fin 2) (h : Fin 4) (i e : Fin 128) (r0 h0 : ℕ) (x : S128x128.Idx)
    (hc : ∀ c, ((ix2 (⟨128 * r.val + i.val, by omega⟩ : Fin 256) (⟨128 * h.val + e.val, by omega⟩ : Fin 512) : S256x512.Idx) c : ℕ)
      = (![128 * r0, 128 * h0] : Fin 2 → ℕ) c + (x c : ℕ)) : r.val = r0 ∧ h.val = h0 ∧ x = ix2 i e := by
  have h0' : 128 * r.val + i.val = 128 * r0 + (x 0 : ℕ) := hc 0
  have h1' : 128 * h.val + e.val = 128 * h0 + (x 1 : ℕ) := hc 1
  have h3 : (x 0 : ℕ) < 128 := (x 0).isLt
  have h4 : (x 1 : ℕ) < 128 := (x 1).isLt
  refine ⟨by omega, by omega, ?_⟩
  funext c
  apply Fin.ext
  match c with
  | ⟨0, _⟩ => show (x 0 : ℕ) = i.val; omega
  | ⟨1, _⟩ => show (x 1 : ℕ) = e.val; omega

theorem canon_tilesF (P : (r h : ℕ) → r < 2 → h < 4 → FVec Ideal S128x128 .f32) (r : Fin 2) (h : Fin 4) (i e : Fin 128) :
    View.canon (tilesF P) (ix2 (⟨128 * r.val + i.val, by omega⟩ : Fin 256) (⟨128 * h.val + e.val, by omega⟩ : Fin 512))
      = P r.val h.val r.isLt h.isLt (ix2 i e) := by
  refine View.canon_eq_of_allAt _ _ _ (View.cover_of_tiledL (tilesF P) S128x128.size (by sl_kernel_rfl) _) ?_
  refine View.allAt_cons_unit _ _ _ _ _ (fun x hc => ?_) (View.allAt_cons_unit _ _ _ _ _ (fun x hc => ?_) (View.allAt_cons_unit _ _ _ _ _ (fun x hc => ?_)
      (View.allAt_cons_unit _ _ _ _ _ (fun x hc => ?_) (View.allAt_cons_unit _ _ _ _ _ (fun x hc => ?_) (View.allAt_cons_unit _ _ _ _ _ (fun x hc => ?_)
      (View.allAt_cons_unit _ _ _ _ _ (fun x hc => ?_) (View.allAt_cons_unit _ _ _ _ _ (fun x hc => ?_) (View.allAt_nil _ _))))))))
  all_goals
    obtain ⟨e1, e2, rfl⟩ := tile_place r h i e _ _ x hc
    obtain ⟨n, hn⟩ := r
    obtain ⟨n', hn'⟩ := h
    dsimp only at e1 e2
    subst e1 e2
    rfl

theorem canon_tilesB (P : (r h : ℕ) → r < 2 → h < 4 → FVec Ideal S128x128 .f32) (r : Fin 2) (h : Fin 4) (i e : Fin 128) :
    View.canon (tilesB P) (ix2 (⟨128 * r.val + i.val, by omega⟩ : Fin 256) (⟨128 * h.val + e.val, by omega⟩ : Fin 512))
      = P r.val h.val r.isLt h.isLt (ix2 i e) := by
  refine View.canon_eq_of_allAt _ _ _ (View.cover_of_tiledL (tilesB P) S128x128.size (by sl_kernel_rfl) _) ?_
  refine View.allAt_cons_unit _ _ _ _ _ (fun x hc => ?_) (View.allAt_cons_unit _ _ _ _ _ (fun x hc => ?_) (View.allAt_cons_unit _ _ _ _ _ (fun x hc => ?_)
      (View.allAt_cons_unit _ _ _ _ _ (fun x hc => ?_) (View.allAt_cons_unit _ _ _ _ _ (fun x hc => ?_) (View.allAt_cons_unit _ _ _ _ _ (fun x hc => ?_)
      (View.allAt_cons_unit _ _ _ _ _ (fun x hc => ?_) (View.allAt_cons_unit _ _ _ _ _ (fun x hc => ?_) (View.allAt_nil _ _))))))))
  all_goals
    obtain ⟨e1, e2, rfl⟩ := tile_place r h i e _ _ x hc
    obtain ⟨n, hn⟩ := r
    obtain ⟨n', hn'⟩ := h
    dsimp only at e1 e2
    subst e1 e2
    rfl

theorem logDecay_eq (x : FVec Ideal S1x128 .f32) (b : Fin 128) (l : ℝ) (hx : (x (ix2 (0 : Fin 1) b) : EReal) = (l : EReal)) (hl : Far l) :
    (logDecay x (ix2 (0 : Fin 1) b) : EReal) = ((logSig l : ℝ) : EReal) := by
  have he : (expAbs x (ix2 (0 : Fin 1) b) : EReal) = ((Real.exp (-|l|) : ℝ) : EReal) := by
    show Ideal.exp (Ideal.ofBits .f32 0x00000000#32 - max (x (ix2 (0 : Fin 1) b) : EReal) (-x (ix2 (0 : Fin 1) b))) = _
    rw [hx, ← EReal.coe_neg, ← coe_max, c0, ← EReal.coe_sub, Ideal.exp_coe, zero_sub]
    rfl
  have hc : cmpf .olt (expAbs x) (row 0x3C23D70A#32) (ix2 (0 : Fin 1) b) = 0#1 := by
    show Ideal.cmp .olt (expAbs x (ix2 (0 : Fin 1) b) : EReal) (Ideal.ofBits .f32 0x3C23D70A#32) = _
    rw [he]
    unfold Ideal.cmp
    simp only [decide_eq_false (not_lt.2 hl)]
    rfl
  unfold logDecay
  show min (x (ix2 (0 : Fin 1) b) : EReal) (Ideal.ofBits .f32 0x00000000#32)
    - (if cmpf .olt (expAbs x) (row 0x3C23D70A#32) (ix2 (0 : Fin 1) b) = 1#1 then _
        else Ideal.log (Ideal.ofBits .f32 0x3F800000#32 + (expAbs x (ix2 (0 : Fin 1) b) : EReal))) = _
  rw [if_neg (by rw [hc]; decide), he, hx, c0, c1, ← coe_min, ← EReal.coe_add, Ideal.log_coe,
    if_neg (not_le.2 (by positivity)), ← EReal.coe_sub]
  rfl

/-! ## The tables -/

theorem is_rowNo : Is (rowNo (F := Ideal)) fun i _ => (i.val : ℝ) := fun i j => Cert.Ret.no_eq i.val (by omega) _ (by unfold rowNo; pointwise)
theorem is_colNo : Is (colNo (F := Ideal)) fun _ j => (j.val : ℝ) := fun i j => Cert.Ret.no_eq j.val (by omega) _ (by unfold colNo; pointwise)
theorem is_tile {b : BitVec 32} {x : ℝ} (h : Ideal.ofBits .f32 b = (x : EReal)) : Is (tile (F := Ideal) b) fun _ _ => x := fun _ _ => h

section
variable {lg : Vec Ideal S8x128 .f32} {j : ℕ} {hj : j < 8} {l : ℝ}
  (hx : ∀ b : Fin 128, (lg (ix2 (⟨j, hj⟩ : Fin 8) b) : EReal) = (l : EReal)) (hl : Far l)
include hx hl

theorem is_logDecay (b : Fin 128) : (logDecay (logit lg j hj) (ix2 (0 : Fin 1) b) : EReal) = ((logSig l : ℝ) : EReal) :=
  logDecay_eq _ b l ((logit_apply lg j hj b).trans (hx b)) hl

theorem is_decay128 : Is (decay128 lg j hj) fun _ _ => Real.exp (logSig l * 128) := fun i b => by
  show Ideal.exp ((logDecay (logit lg j hj) (ix2 (0 : Fin 1) b) : EReal) * Ideal.ofBits .f32 0x43000000#32) = _
  rw [is_logDecay hx hl b, c128, ← EReal.coe_mul, Ideal.exp_coe]

theorem is_power {e : FVec Ideal S128x128 .f32} {a : Fin 128 → Fin 128 → ℝ} (he : Is e a) :
    Is (power lg j hj e) fun i b => Real.exp (logSig l * a i b) := fun i b => by
  show Ideal.exp ((logDecay (logit lg j hj) (ix2 (0 : Fin 1) b) : EReal) * (e (ix2 i b) : EReal)) = _
  rw [is_logDecay hx hl b, he, ← EReal.coe_mul, Ideal.exp_coe]

omit hx hl in
theorem lead_apply (a : FVec Ideal S128x128 .f32) (i b : Fin 128) : lead a (ix3 (0 : Fin 1) i b) = a (ix2 i b) := by
  refine (shapeCast_addUnit_apply ![128, 128] a _ (ix3 (0 : Fin 1) i b)).trans (congrArg a ?_)
  funext c
  match c with
  | ⟨0, _⟩ => rfl
  | ⟨1, _⟩ => rfl

theorem is_xiF (i b : Fin 128) : (xiF lg j hj (ix3 (0 : Fin 1) i b) : EReal) = ((Cert.Ret.xi (logSig l) 0 i : ℝ) : EReal) := by
  unfold xiF
  rw [lead_apply, is_power hx hl (is_add is_rowNo (is_tile c1)) i b]
  unfold Cert.Ret.xi Cert.Ret.loc
  congr 3
  rw [if_pos rfl]
  simp
theorem is_xiB (i b : Fin 128) : (xiB lg j hj (ix3 (0 : Fin 1) i b) : EReal) = ((Cert.Ret.xi (logSig l) 1 i : ℝ) : EReal) := by
  unfold xiB
  rw [lead_apply, is_power hx hl (is_sub (is_tile c127) is_rowNo) i b]
  unfold Cert.Ret.xi Cert.Ret.loc
  congr 3
  rw [if_neg (by decide), Nat.cast_sub (by omega)]
  simp
theorem is_ztF (i b : Fin 128) : (ztF lg j hj (ix3 (0 : Fin 1) i b) : EReal) = ((Cert.Ret.zeta (logSig l) 0 i : ℝ) : EReal) := by
  unfold ztF
  rw [lead_apply, is_power hx hl (is_sub (is_tile c127) is_rowNo) i b]
  unfold Cert.Ret.zeta Cert.Ret.loc
  rw [if_pos rfl]
theorem is_ztB (i b : Fin 128) : (ztB lg j hj (ix3 (0 : Fin 1) i b) : EReal) = ((Cert.Ret.zeta (logSig l) 1 i : ℝ) : EReal) := by
  unfold ztB
  rw [lead_apply, is_power hx hl is_rowNo i b]
  unfold Cert.Ret.zeta Cert.Ret.loc
  congr 3
  rw [if_neg (by decide), Nat.cast_sub (by omega)]
  push_cast
  rw [sub_sub_cancel]

/-- The decay within a chunk, from its mask and its exponents. -/
theorem is_within {mask : IVec S128x128 1} {e : FVec Ideal S128x128 .f32} {p : Fin 128 → Fin 128 → Prop} [∀ i b, Decidable (p i b)]
    {a : Fin 128 → Fin 128 → ℝ} (hm : ∀ i b, mask (ix2 i b) = BitVec.ofBool (decide (p i b))) (he : Is e a) (i b : Fin 128) :
    (within lg j hj mask e (ix3 (0 : Fin 1) i b) : EReal) = ((if p i b then Real.exp (logSig l * a i b) else 0 : ℝ) : EReal) := by
  have h1 : Is (select mask e (tile 0x00000000#32) : FVec Ideal S128x128 .f32) fun i b => if p i b then a i b else 0 := fun i b => by
    show (if mask (ix2 i b) = 1#1 then (e (ix2 i b) : EReal) else Ideal.ofBits .f32 0x00000000#32) = _
    rw [hm]
    by_cases h : p i b
    · simp [h, he i b]
    · simp only [h, decide_false, if_false]
      exact c0
  unfold within
  rw [lead_apply]
  show (if mask (ix2 i b) = 1#1 then (power lg j hj _ (ix2 i b) : EReal) else Ideal.ofBits .f32 0x00000000#32) = _
  rw [hm, is_power hx hl h1 i b]
  by_cases h : p i b
  · simp [h]
  · simp only [h, decide_false, if_false]
    exact c0

theorem is_dmF (i b : Fin 128) : (dmF lg j hj (ix3 (0 : Fin 1) i b) : EReal) = ((Cert.Ret.within (logSig l) 0 i b : ℝ) : EReal) := by
  unfold dmF
  rw [is_within hx hl (p := fun i b => b.val ≤ i.val) (a := fun i b => (i.val : ℝ) - b.val) (fun i b => ?_) (is_sub is_rowNo is_colNo) i b]
  · unfold Cert.Ret.within Cert.Ret.loc
    simp
  · show Ideal.cmp .oge (rowNo (F := Ideal) (ix2 i b)) (colNo (F := Ideal) (ix2 i b)) = _
    rw [is_rowNo i b, is_colNo i b]
    unfold Ideal.cmp
    simp
theorem is_dmB (i b : Fin 128) : (dmB lg j hj (ix3 (0 : Fin 1) i b) : EReal) = ((Cert.Ret.within (logSig l) 1 i b : ℝ) : EReal) := by
  unfold dmB
  rw [is_within hx hl (p := fun i b => i.val < b.val) (a := fun i b => (b.val : ℝ) - i.val - 1) (fun i b => ?_)
    (is_sub (is_sub is_colNo is_rowNo) (is_tile c1)) i b]
  · unfold Cert.Ret.within Cert.Ret.loc
    have := i.isLt
    have := b.isLt
    rw [if_neg (show ¬ (1 : Fin 2) = 0 by decide), if_neg (show ¬ (1 : Fin 2) = 0 by decide)]
    by_cases h : i.val < b.val
    · rw [if_pos h, if_pos (by show 127 - b.val + 1 ≤ _; omega), Nat.cast_sub (by omega), Nat.cast_sub (by omega)]
      congr 3
      push_cast
      simp
    · rw [if_neg h, if_neg (by show ¬ 127 - b.val + 1 ≤ _; omega)]
  · show Ideal.cmp .ogt (colNo (F := Ideal) (ix2 i b)) (rowNo (F := Ideal) (ix2 i b)) = _
    rw [is_rowNo i b, is_colNo i b]
    unfold Ideal.cmp
    simp

end

end Cert.Kernel4Ideal.Ret

end
-- ==== Proof.Retention.Chunks.lean ====
/-
  What one point stores of the gradients, when its loads find the rows of the right chunks, the states, the tables
  and the carried gradient.
-/
module

public import proofs.«01_k».proof.Proof.Retention.Decays

@[expose] public section

set_option maxRecDepth 16384

noncomputable section

namespace Cert.Kernel4Ideal.Ret

open Idealize.ShloMosaic Idealize.ShloMosaic.TcCoe
open Cert.Kernel4Ideal Cert.Kernel4Ideal.Gen
open Cert.Ret (pos xi zeta dstate dq dk dv dq_chunk dk_chunk dv_chunk dstate_step)

/-- Chunk `u` of the two of block `b`. -/
def chunk (b u : ℕ) (hb : b < 17) (hu : u < 2) : Fin 34 := ⟨2 * b + u, by omega⟩
/-- The half of the block's rows that holds chunk `u`: the backward direction reads the second half first. -/
def half (d : Fin 2) (u : ℕ) : ℕ := if d = 0 then u else 1 - u

/-- The loads of a point find head `h` of direction `d`, whose tables are number `j`, at block `b`. -/
structure Good (X : Src Ideal) (d : Fin 2) (b : ℕ) (hb : b < 17) (h j : ℕ) (hh : h < 4) (hj : j < 8) (lg : ℝ)
    (q k v g : Fin 4352 → Fin 128 → ℝ) : Prop where
  hq : ∀ (r u : ℕ) (hr : r < 2) (hu : u < 2), r = half d u → Is (blk X.q r h hr hh) fun i e => q (pos d (chunk b u hb hu) i) e
  hk : ∀ (r u : ℕ) (hr : r < 2) (hu : u < 2), r = half d u → Is (blk X.k r h hr hh) fun i e => k (pos d (chunk b u hb hu) i) e
  hv : ∀ (r u : ℕ) (hr : r < 2) (hu : u < 2), r = half d u → Is (blk X.v r h hr hh) fun i e => v (pos d (chunk b u hb hu) i) e
  hg : ∀ (r u : ℕ) (hr : r < 2) (hu : u < 2), r = half d u → Is (blk X.g r h hr hh) fun i e => g (pos d (chunk b u hb hu) i) e
  hst : ∀ (u : ℕ) (hu : u < 2), Is (state X.st u j hu hj) (Cert.Ret.state lg d k v (2 * b + u))
  hdec : Is (decay128 X.lg j hj) fun _ _ => Real.exp (lg * 128)
  hdm : Is (lane X.dm j hj) (Cert.Ret.within lg d)
  hxi : Is (lane X.xi j hj) fun i _ => xi lg d i
  hzt : Is (lane X.zt j hj) fun i _ => zeta lg d i
  hds : Is (lane X.ds j hj) (dstate lg d q g (2 * (b + 1)))

section
variable {X : Src Ideal} {d : Fin 2} {b : ℕ} {hb : b < 17} {h j : ℕ} {hh : h < 4} {hj : j < 8} {lg : ℝ}
variable {q k v g : Fin 4352 → Fin 128 → ℝ} (G : Good X d b hb h j hh hj lg q k v g)
include G

theorem Good.dqTile (r u : ℕ) (hr : r < 2) (hu : u < 2) (hru : r = half d u) :
    Is (dqTile X u j r h hu hj hr hh) fun i e => dq lg d k v g (pos d (chunk b u hb hu) i) e :=
  (is_dqTile X (G.hk r u hr hu hru) (G.hv r u hr hu hru) (G.hg r u hr hu hru) G.hdm G.hxi (G.hst u hu)).congr fun i e =>
    (dq_chunk lg d k v g (chunk b u hb hu) i e).symm

/-- One chunk back. -/
theorem Good.step (r u : ℕ) (hr : r < 2) (hu : u < 2) (hru : r = half d u) {A : FVec Ideal S128x128 .f32}
    (hA : Is A (dstate lg d q g (2 * b + u + 1))) : Is (step X j r h hj hr hh A) (dstate lg d q g (2 * b + u)) :=
  (is_step X hA G.hdec (G.hq r u hr hu hru) (G.hg r u hr hu hru) G.hxi).congr fun i e =>
    (dstate_step lg d q g (chunk b u hb hu) i e).symm

theorem Good.later (u r' : ℕ) (hu : u < 2) (hr' : r' < 2) (hr1 : r' = half d 1) :
    Is (later X u j r' h hj hr' hh) (dstate lg d q g (2 * b + u + 1)) := by
  match u, hu with
  | 0, _ => exact G.step r' 1 hr' (by decide) hr1 G.hds
  | 1, _ => exact G.hds

theorem Good.dkTile (r u r' : ℕ) (hr : r < 2) (hu : u < 2) (hr' : r' < 2) (hru : r = half d u) (hr1 : r' = half d 1) :
    Is (dkTile X u j r r' h hj hr hr' hh) fun i e => dk lg d q v g (pos d (chunk b u hb hu) i) e :=
  (is_dkTile X (G.hq r u hr hu hru) (G.hv r u hr hu hru) (G.hg r u hr hu hru) G.hdm G.hzt (G.later u r' hu hr' hr1)).congr fun i e =>
    (dk_chunk lg d q v g (chunk b u hb hu) i e).symm

theorem Good.dvTile (r u r' : ℕ) (hr : r < 2) (hu : u < 2) (hr' : r' < 2) (hru : r = half d u) (hr1 : r' = half d 1) :
    Is (dvTile X u j r r' h hj hr hr' hh) fun i e => dv lg d q k g (pos d (chunk b u hb hu) i) e :=
  (is_dvTile X (G.hq r u hr hu hru) (G.hk r u hr hu hru) (G.hg r u hr hu hru) G.hdm G.hzt (G.later u r' hu hr' hr1)).congr fun i e =>
    (dv_chunk lg d q k g (chunk b u hb hu) i e).symm

/-- The carried gradient after both chunks. -/
theorem Good.next (r r' : ℕ) (hr : r < 2) (hr' : r' < 2) (hr0 : r = half d 0) (hr1 : r' = half d 1) (i e : Fin 128) :
    (next X j h r r' hj hh hr hr' (ix3 (0 : Fin 1) i e) : EReal) = ((dstate lg d q g (2 * b) i e : ℝ) : EReal) := by
  unfold Ret.next
  rw [lead_apply]
  exact G.step r 0 hr (by decide) hr0 (G.step r' 1 hr' (by decide) hr1 G.hds) i e

end

end Cert.Kernel4Ideal.Ret

end
-- ==== Proof.Retention.States.lean ====
/-
  The states the host prepares before the launch: at each chunk, of each direction and head, the keys by the values before
  it, decayed to it.
-/
module

public import proofs.«01_k».proof.Proof.Retention.Reference
public import proofs.«01_k».proof.Proof.Gen.Kernel4Ideal.Frame.Runs
public import Idealize.ShloMosaic.Lib.Claim

@[expose] public section

set_option maxRecDepth 16384

noncomputable section

namespace Cert.RetStates

open Idealize.ShloMosaic Idealize.ShloMosaic.TcCoe Idealize.SL.Sem
open Cert.Kernel4Ideal Cert.Kernel4Ideal.Gen
open Cert.Ret (col head rate Rows Logits logSig)
open Cert.RetRef (split split_apply lgF lgB lgF_apply lgB_apply noF noB noF_apply noB_apply logSigs logSigs_apply)

/-! ## The host's terms, by name -/

def turned (x : FVec Ideal S4352x512 .bf16) : FVec Ideal S4x4352x128 .f32 := transpose S4x4352x128 [1, 0, 2] (split x) transposes_S4352x4x128_S4x4352x128_1_0_2

def start : FVec Ideal S34 .f32 := mulf (broadcastInDim S34 ![] bcast_S_S34 (constant S_ .f32 0x43000000#32)) (sitofp .f32 (iotaInDim S34 32 0))
/-- How long before the chunk's start the position is, less one. -/
def age (n : FVec Ideal S4352 .f32) : FVec Ideal S34x4352 .f32 :=
  subf (broadcastInDim S34x4352 ![0, 1] bcast_S34x1_S34x4352_0_1
      (subf (broadcastInDim S34x1 ![0] bcast_S34_S34x1_0 start) (broadcastInDim S34x1 ![] bcast_S_S34x1 (constant S_ .f32 0x3F800000#32))))
    (broadcastInDim S34x4352 ![0, 1] bcast_S1x4352_S34x4352_0_1 (broadcastInDim S1x4352 ![1] bcast_S4352_S1x4352_1 n))
def old (a : FVec Ideal S34x4352 .f32) : IVec S34x4352 1 := cmpf .oge a (broadcastInDim S34x4352 ![] bcast_S_S34x4352 (constant S_ .f32 0x00000000#32))
def weight (a : FVec Ideal S34x4352 .f32) (lg : FVec Ideal S4 .f32) : FVec Ideal S4x34x4352 .f32 :=
  select (broadcastInDim S4x34x4352 ![1, 2] bcast_S34x4352_S4x34x4352_1_2 (old a))
    (Host.exp (mulf (broadcastInDim S4x34x4352 ![0, 1, 2] bcast_S4x1x1_S4x34x4352_0_1_2 (broadcastInDim S4x1x1 ![0] bcast_S4_S4x1x1_0 lg))
      (broadcastInDim S4x34x4352 ![0, 1, 2] bcast_S1x34x4352_S4x34x4352_0_1_2 (broadcastInDim S1x34x4352 ![1, 2] bcast_S34x4352_S1x34x4352_1_2
        (select (old a) a (broadcastInDim S34x4352 ![] bcast_S_S34x4352 (id (constant S_ .f32 0x00000000#32))))))))
    (broadcastInDim S4x34x4352 ![] bcast_S_S4x34x4352 (id (constant S_ .f32 0x00000000#32)))
def stateOf (w : FVec Ideal S4x34x4352 .f32) (k v : FVec Ideal S4352x512 .bf16) : FVec Ideal S34x4x128x128 .f32 :=
  transpose S34x4x128x128 [2, 0, 3, 1] (Host.dotGeneral dot_S4352x4x128_S4x34x4352x128_S4x128x34x128_0_2_2_13_1_0 none (split v)
    (mulf (broadcastInDim S4x34x4352x128 ![0, 1, 2, 3] bcast_S4x34x4352x1_S4x34x4352x128_0_1_2_3 (broadcastInDim S4x34x4352x1 ![0, 1, 2] bcast_S4x34x4352_S4x34x4352x1_0_1_2 w))
      (broadcastInDim S4x34x4352x128 ![0, 1, 2, 3] bcast_S4x1x4352x128_S4x34x4352x128_0_1_2_3 (broadcastInDim S4x1x4352x128 ![0, 2, 3] bcast_S4x4352x128_S4x1x4352x128_0_2_3 (turned k)))))
    transposes_S4x128x34x128_S34x4x128x128_2_0_3_1
def both (a b : FVec Ideal S34x4x128x128 .f32) : FVec Ideal S34x8x128x128 .f32 :=
  concatenate S34x8x128x128 1 [⟨S34x4x128x128, a⟩, ⟨S34x4x128x128, b⟩] concatenates_S34x4x128x128_S34x4x128x128_S34x8x128x128_d1
def states (k v : FVec Ideal S4352x512 .bf16) (l : FVec Ideal S2x4 .f32) : FVec Ideal S34x8x128x128 .f32 :=
  both (stateOf (weight (age noF) (lgF l)) k v) (stateOf (weight (age noB) (lgB l)) k v)
def logits (l : FVec Ideal S2x4 .f32) : FVec Ideal S8x128 .f32 :=
  broadcastInDim S8x128 ![0, 1] bcast_S8x1_S8x128_0_1 (broadcastInDim S8x1 ![0] bcast_S8_S8x1_0 (shapeCast _ l shapeCasts_S2x4_S8))

section
variable (m : (ℓ : Loc nD τ sig) → Buf (Elt Ideal) ℓ) (c : Dev nD)

abbrev q : FVec Ideal S4352x512 .bf16 := m ((c : Thread nD τ).loc main_arg0)
abbrev k : FVec Ideal S4352x512 .bf16 := m ((c : Thread nD τ).loc main_arg1)
abbrev v : FVec Ideal S4352x512 .bf16 := m ((c : Thread nD τ).loc main_arg2)
abbrev g : FVec Ideal S4352x512 .bf16 := m ((c : Thread nD τ).loc main_arg3)
abbrev l : FVec Ideal S2x4 .f32 := m ((c : Thread nD τ).loc main_arg4)

set_option maxHeartbeats 4000000 in
theorem V_logits : (V m c main_v82 : FVec Ideal S8x128 .f32) = logits (l m c) := by
  show StableHlo.after (List.flatten [hostOps0, hostOps0_1, hostOps0_2, hostOps0_3, hostOps0_4, hostOps0_5, hostOps0_6, hostOps0_7, hostOps0_8, hostOps0_9, hostOps0_10, hostOps0_11]) _ _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_results
  rfl
set_option maxHeartbeats 4000000 in
theorem V_states : (V m c main_v79 : FVec Ideal S34x8x128x128 .f32) = states (k m c) (v m c) (l m c) := by
  show StableHlo.after (List.flatten [hostOps0, hostOps0_1, hostOps0_2, hostOps0_3, hostOps0_4, hostOps0_5, hostOps0_6, hostOps0_7, hostOps0_8, hostOps0_9, hostOps0_10, hostOps0_11]) _ _ = _
  simp only [hostOps0, hostOps0_1, hostOps0_2, hostOps0_3, hostOps0_4, hostOps0_5, hostOps0_6, hostOps0_7, hostOps0_8, hostOps0_9, hostOps0_10, hostOps0_11, List.flatten_cons, List.flatten_nil, List.cons_append, List.nil_append]
  after_results
  rfl

end

/-! ## Their elements -/

theorem turned_apply (x : FVec Ideal S4352x512 .bf16) (t : Fin 4352) (h : Fin 4) (e : Fin 128) : turned x (ix3 h t e) = x (ix2 t (col h e)) := by
  unfold turned
  rw [← split_apply x]
  generalize split x = y
  pointwise

theorem stateOf_apply (w : FVec Ideal S4x34x4352 .f32) (k v : FVec Ideal S4352x512 .bf16) (p : Fin 34) (h : Fin 4) (e f : Fin 128) :
    (stateOf w k v (ix4 p h e f) : EReal) = ∑ s : Fin 4352, (v (ix2 s (col h f)) : EReal) * ((w (ix3 h p s) : EReal) * k (ix2 s (col h e))) := by
  simp only [← split_apply v, ← turned_apply k]
  unfold stateOf
  generalize split v = v'
  generalize turned k = k'
  pointwise

theorem start_apply (p : Fin 34) : (start (ix1 p) : EReal) = ((128 * (p.val : ℝ) : ℝ) : EReal) := by
  have h : ((sitofp .f32 (iotaInDim S34 32 0) : FVec Ideal S34 .f32) (ix1 p) : EReal) = ((p.val : ℝ) : EReal) :=
    Cert.Ret.no_eq p.val (by omega) _ (by pointwise)
  show Ideal.ofBits .f32 0x43000000#32 * ((sitofp .f32 (iotaInDim S34 32 0) : FVec Ideal S34 .f32) (ix1 p) : EReal) = _
  rw [h, Cert.Ret.c128, EReal.coe_mul]

theorem age_apply (n : FVec Ideal S4352 .f32) (p : Fin 34) (s : Fin 4352) (o : ℕ) (hn : (n (ix1 s) : EReal) = ((o : ℝ) : EReal)) :
    (age n (ix2 p s) : EReal) = ((128 * (p.val : ℝ) - 1 - o : ℝ) : EReal) := by
  have e1 : (age n (ix2 p s) : EReal) = ((start (ix1 p) : EReal) - Ideal.ofBits .f32 0x3F800000#32) - n (ix1 s) := by
    unfold age
    generalize start = x
    pointwise
  rw [e1, hn, start_apply, Cert.Ret.c1, ← EReal.coe_sub, ← EReal.coe_sub]

theorem weight_apply (n : FVec Ideal S4352 .f32) (lg : FVec Ideal S4 .f32) (h : Fin 4) (p : Fin 34) (s : Fin 4352) (o : ℕ) (r : ℝ)
    (hn : (n (ix1 s) : EReal) = ((o : ℝ) : EReal)) (hr : (lg (ix1 h) : EReal) = (r : EReal)) :
    (weight (age n) lg (ix3 h p s) : EReal) = ((if o < 128 * p.val then Real.exp (r * (128 * (p.val : ℝ) - 1 - o)) else 0 : ℝ) : EReal) := by
  have ha := age_apply n p s o hn
  have ho : old (age n) (ix2 p s) = BitVec.ofBool (decide (o < 128 * p.val)) := by
    show Ideal.cmp .oge (age n (ix2 p s) : EReal) (Ideal.ofBits .f32 0x00000000#32) = _
    rw [ha, Cert.Ret.c0]
    unfold Ideal.cmp
    refine congrArg BitVec.ofBool (decide_eq_decide.2 ?_)
    show ((0 : ℝ) : EReal) ≤ _ ↔ _
    rw [EReal.coe_le_coe_iff, sub_nonneg, le_sub_iff_add_le, ← Nat.succ_le_iff]
    exact_mod_cast Iff.rfl
  let z : EReal := (id (constant (F := Ideal) S_ .f32 0x00000000#32) : FVec Ideal S_ .f32) ix0
  have hz : z = ((0 : ℝ) : EReal) := Cert.Ret.c0
  have e1 : (weight (age n) lg (ix3 h p s) : EReal) = (if old (age n) (ix2 p s) = 1#1 then
      Ideal.exp ((lg (ix1 h) : EReal) * (if old (age n) (ix2 p s) = 1#1 then (age n (ix2 p s) : EReal) else z)) else z) := by
    unfold weight
    generalize age n = a
    generalize old a = b
    pointwise
    rfl
  rw [e1, ho, ha, hr, hz]
  by_cases h : o < 128 * p.val
  · simp only [h, decide_true, if_true]
    rw [if_pos (show BitVec.ofBool true = 1#1 from rfl), if_pos (show BitVec.ofBool true = 1#1 from rfl), ← EReal.coe_mul, Ideal.exp_coe]
  · simp only [h, decide_false, if_false]
    rw [if_neg (by decide)]

theorem state_real {k v : FVec Ideal S4352x512 .bf16} (hk : Cert.Finite.All k) (hv : Cert.Finite.All v) (l : FVec Ideal S2x4 .f32) (d : Fin 2)
    (w : FVec Ideal S4x34x4352 .f32) (p : Fin 34) (h : Fin 4) (e f : Fin 128)
    (hw : ∀ s : Fin 4352, (w (ix3 h p s) : EReal) = ((if Cert.Ret.ord d s < 128 * p.val then
      Real.exp (rate l d h * (128 * (p.val : ℝ) - 1 - Cert.Ret.ord d s)) else 0 : ℝ) : EReal)) :
    (stateOf w k v (ix4 p h e f) : EReal) = ((Cert.Ret.state (rate l d h) d (head k h) (head v h) p.val e f : ℝ) : EReal) := by
  rw [stateOf_apply]
  unfold Cert.Ret.state
  rw [← Cert.Finite.sum_coe]
  exact Finset.sum_congr rfl fun s _ => by
    rw [hw, Cert.Ret.head_eq hk, Cert.Ret.head_eq hv, ← EReal.coe_mul, ← EReal.coe_mul]
    congr 1
    ring

theorem both_left (a b : FVec Ideal S34x4x128x128 .f32) (p : Fin 34) (h : Fin 4) (e f : Fin 128) :
    both a b (ix4 p (⟨h.val, by omega⟩ : Fin 8) e f) = a (ix4 p h e f) := by
  unfold both
  pointwise
theorem both_right (a b : FVec Ideal S34x4x128x128 .f32) (p : Fin 34) (h : Fin 4) (e f : Fin 128) :
    both a b (ix4 p (⟨4 + h.val, by omega⟩ : Fin 8) e f) = b (ix4 p h e f) := by
  unfold both
  pointwise

theorem logits_apply (l : FVec Ideal S2x4 .f32) (d : Fin 2) (h : Fin 4) (b : Fin 128) :
    logits l (ix2 (⟨4 * d.val + h.val, by omega⟩ : Fin 8) b) = l (ix2 d h) := by
  unfold logits
  pointwise

/-- The states of both directions. -/
theorem states_real {k v : FVec Ideal S4352x512 .bf16} {l : FVec Ideal S2x4 .f32} (hk : Cert.Finite.All k) (hv : Cert.Finite.All v)
    (hl : Cert.Finite.All l) (d : Fin 2) (p : Fin 34) (h : Fin 4) (e f : Fin 128) :
    (states k v l (ix4 p (⟨4 * d.val + h.val, by omega⟩ : Fin 8) e f) : EReal)
      = ((Cert.Ret.state (rate l d h) d (head k h) (head v h) p.val e f : ℝ) : EReal) := by
  unfold states
  match d with
  | ⟨0, _⟩ =>
    refine (congrArg (both _ _) (congrArg (ix4 p · e f) (Fin.ext (show 4 * 0 + h.val = h.val by omega)))).trans ((both_left _ _ p h e f).trans ?_)
    exact state_real hk hv l 0 _ p h e f fun s => weight_apply _ _ h p s _ _ (noF_apply s) ((lgF_apply l h).trans (logSigs_apply l 0 h _ (hl _)))
  | ⟨1, _⟩ =>
    refine (both_right _ _ p h e f).trans ?_
    exact state_real hk hv l 1 _ p h e f fun s => weight_apply _ _ h p s _ _ (noB_apply s) ((lgB_apply l h).trans (logSigs_apply l 1 h _ (hl _)))

end Cert.RetStates

end
-- ==== Proof.Retention.Stores.lean ====
module

public import proofs.«01_k».proof.Proof.Retention.Tiles

/-! The stores of the retention body at a point are the lists of `Tiles`, at the contents its loads find. -/

@[expose] public section

set_option maxRecDepth 16384

noncomputable section

namespace Cert.Kernel4Ideal.Ret

open Idealize.ShloMosaic Idealize.ShloMosaic.TcCoe Idealize.ShloMosaic.Tactic
open Cert.Kernel4Ideal Cert.Kernel4Ideal.Gen

variable {F : FTy → Type} [FloatOps F]
variable (m : (ℓ : Loc nD τ sig) → Buf (Elt F) ℓ)

/-- What the loads of the staging buffers find at a point, with the scratch at `D`, `A`, `B`, `C`. -/
def srcF (c : Dev nD) (t : Fin cfg0.N) (D A B C : Vec F S8x128x128 .f32) : Src F where
  q := (ms0_0 t).view.read (Elt F) ((hs0_0 t).unread (iblk m c 0 t))
  k := (ms0_1 t).view.read (Elt F) ((hs0_1 t).unread (iblk m c 1 t))
  v := (ms0_2 t).view.read (Elt F) ((hs0_2 t).unread (iblk m c 2 t))
  g := (ms0_3 t).view.read (Elt F) ((hs0_3 t).unread (iblk m c 3 t))
  st := (ms0_8 t).view.read (Elt F) ((hs0_8 t).unread (iblk m c 8 t))
  lg := (ms0_9 t).view.read (Elt F) ((hs0_9 t).unread (iblk m c 9 t))
  ds := D
  dm := A
  xi := B
  zt := C

def srcB (c : Dev nD) (t : Fin cfg0.N) (D A B C : Vec F S8x128x128 .f32) : Src F :=
  { srcF m c t D A B C with
    q := (ms0_4 t).view.read (Elt F) ((hs0_4 t).unread (iblk m c 4 t))
    k := (ms0_5 t).view.read (Elt F) ((hs0_5 t).unread (iblk m c 5 t))
    v := (ms0_6 t).view.read (Elt F) ((hs0_6 t).unread (iblk m c 6 t))
    g := (ms0_7 t).view.read (Elt F) ((hs0_7 t).unread (iblk m c 7 t)) }

/-- What a load of the scratch finds of what the point before left. -/
def scr0 (x : Vec F S8x128x128 .f32) : Vec F S8x128x128 .f32 :=
  scM0_0.view.read (Elt F) ((Memref.isWhole_whole _ : scM0_0.IsWhole).unread x)
def scr1 (x : Vec F S8x128x128 .f32) : Vec F S8x128x128 .f32 :=
  scM0_1.view.read (Elt F) ((Memref.isWhole_whole _ : scM0_1.IsWhole).unread x)
def scr2 (x : Vec F S8x128x128 .f32) : Vec F S8x128x128 .f32 :=
  scM0_2.view.read (Elt F) ((Memref.isWhole_whole _ : scM0_2.IsWhole).unread x)
def scr3 (x : Vec F S8x128x128 .f32) : Vec F S8x128x128 .f32 :=
  scM0_3.view.read (Elt F) ((Memref.isWhole_whole _ : scM0_3.IsWhole).unread x)

section B
variable (c : Dev nD) (t : Fin cfg0.N) (h0 : ¬t.val % 17 = 0) (h1 : ¬t.val % 17 = 16) (xs : Left F)
abbrev srcBF : Src F := srcF m c t (scr0 xs.2.2.2.2.2.2.2.1) (scr1 xs.2.2.2.2.2.2.2.2.1) (scr2 xs.2.2.2.2.2.2.2.2.2.1) (scr3 xs.2.2.2.2.2.2.2.2.2.2.1)
abbrev srcBB : Src F := srcB m c t (scr0 xs.2.2.2.2.2.2.2.1) (scr1 xs.2.2.2.2.2.2.2.2.1) (scr2 xs.2.2.2.2.2.2.2.2.2.1) (scr3 xs.2.2.2.2.2.2.2.2.2.2.1)
set_option maxHeartbeats 2000000 in
theorem storesB_dqF : (runB m c t h0 h1 xs).1 = dqF (srcBF m c t xs) := (rfl)
set_option maxHeartbeats 2000000 in
theorem storesB_dkF : (runB m c t h0 h1 xs).2.1 = dkF (srcBF m c t xs) := (rfl)
set_option maxHeartbeats 2000000 in
theorem storesB_dvF : (runB m c t h0 h1 xs).2.2.1 = dvF (srcBF m c t xs) := (rfl)
set_option maxHeartbeats 2000000 in
theorem storesB_dqB : (runB m c t h0 h1 xs).2.2.2.1 = dqB (srcBB m c t xs) := (rfl)
set_option maxHeartbeats 2000000 in
theorem storesB_dkB : (runB m c t h0 h1 xs).2.2.2.2.1 = dkB (srcBB m c t xs) := (rfl)
set_option maxHeartbeats 2000000 in
theorem storesB_dvB : (runB m c t h0 h1 xs).2.2.2.2.2.1 = dvB (srcBB m c t xs) := (rfl)
set_option maxHeartbeats 2000000 in
theorem storesB_ds : (runB m c t h0 h1 xs).2.2.2.2.2.2.2.1 = dsNext (srcBF m c t xs) (srcBB m c t xs) := (rfl)
end B

section C
variable (c : Dev nD) (t : Fin cfg0.N) (h0 : ¬t.val % 17 = 0) (h1 : t.val % 17 = 16) (xs : Left F)
set_option maxHeartbeats 2000000 in
theorem storesC_dqF : (runC m c t h0 h1 xs).1 = dqF (srcBF m c t xs) := (rfl)
set_option maxHeartbeats 2000000 in
theorem storesC_dkF : (runC m c t h0 h1 xs).2.1 = dkF (srcBF m c t xs) := (rfl)
set_option maxHeartbeats 2000000 in
theorem storesC_dvF : (runC m c t h0 h1 xs).2.2.1 = dvF (srcBF m c t xs) := (rfl)
set_option maxHeartbeats 2000000 in
theorem storesC_dqB : (runC m c t h0 h1 xs).2.2.2.1 = dqB (srcBB m c t xs) := (rfl)
set_option maxHeartbeats 2000000 in
theorem storesC_dkB : (runC m c t h0 h1 xs).2.2.2.2.1 = dkB (srcBB m c t xs) := (rfl)
set_option maxHeartbeats 2000000 in
theorem storesC_dvB : (runC m c t h0 h1 xs).2.2.2.2.2.1 = dvB (srcBB m c t xs) := (rfl)
set_option maxHeartbeats 2000000 in
theorem storesC_ds : (runC m c t h0 h1 xs).2.2.2.2.2.2.2.1 = dsNext (srcBF m c t xs) (srcBB m c t xs) := (rfl)
end C

end Cert.Kernel4Ideal.Ret

end
-- ==== Proof.Retention.StoresA.lean ====
module

public import proofs.«01_k».proof.Proof.Retention.Stores

/-! The stores of the retention body at the first point, which clears the carried gradient and fills the tables, are the lists of `Tiles`, at the contents its loads find. -/

@[expose] public section

set_option maxRecDepth 16384

noncomputable section

namespace Cert.Kernel4Ideal.Ret

open Idealize.ShloMosaic Idealize.ShloMosaic.TcCoe Idealize.ShloMosaic.Tactic
open Cert.Kernel4Ideal Cert.Kernel4Ideal.Gen

variable {F : FTy → Type} [FloatOps F]
variable (m : (ℓ : Loc nD τ sig) → Buf (Elt F) ℓ)

section A
variable (c : Dev nD) (t : Fin cfg0.N) (h0 : t.val % 17 = 0) (h1 : ¬t.val % 17 = 16)
/-- The store that clears a buffer of the scratch, -/
def clear : View.Piece (Elt F) S8x128x128 .f32 := ⟨Rect.unit ![0, 0, 0] S8x128x128.size inb_S8x128x128_S8x128x128_0_0_0, k0_pay3⟩
/-- what a load finds after it, and after the stores of the tables. -/
def scrA0 : Vec F S8x128x128 .f32 :=
  scM0_0.view.read (Elt F) (scM0_0.view.writes (Elt F) scM0_0.view.junk [clear])
def scrA1 : Vec F S8x128x128 .f32 := scM0_1.view.read (Elt F)
  (scM0_1.view.writes (Elt F) scM0_1.view.junk (kernelRun0_A.sl.HS1_8 c (ms0_9 t) (hs0_9 t) (iblk m c 9 t)))
def scrA2 : Vec F S8x128x128 .f32 := scM0_2.view.read (Elt F)
  (scM0_2.view.writes (Elt F) scM0_2.view.junk (kernelRun0_A.sl.HS2_8 c (ms0_9 t) (hs0_9 t) (iblk m c 9 t)))
def scrA3 : Vec F S8x128x128 .f32 := scM0_3.view.read (Elt F)
  (scM0_3.view.writes (Elt F) scM0_3.view.junk (kernelRun0_A.sl.HS3_8 c (ms0_9 t) (hs0_9 t) (iblk m c 9 t)))
/-- The stores of the tables, from the logits alone. -/
def logits : Vec F S8x128 .f32 := (ms0_9 t).view.read (Elt F) ((hs0_9 t).unread (iblk m c 9 t))
abbrev srcAF : Src F := srcF m c t scrA0 (scrA1 m c t) (scrA2 m c t) (scrA3 m c t)
abbrev srcAB : Src F := srcB m c t scrA0 (scrA1 m c t) (scrA2 m c t) (scrA3 m c t)
set_option maxHeartbeats 1000000 in
theorem storesA_dm : (runA m c t h0 h1).2.2.2.2.2.2.2.2.1 = lanes (dmF (logits m c t)) (dmB (logits m c t)) := (rfl)
set_option maxHeartbeats 1000000 in
theorem storesA_xi : (runA m c t h0 h1).2.2.2.2.2.2.2.2.2.1 = lanes (xiF (logits m c t)) (xiB (logits m c t)) := (rfl)
set_option maxHeartbeats 1000000 in
theorem storesA_zt : (runA m c t h0 h1).2.2.2.2.2.2.2.2.2.2.1 = lanes (ztF (logits m c t)) (ztB (logits m c t)) := (rfl)
seal kernelRun0_A.sl.HS1_8 kernelRun0_A.sl.HS2_8 kernelRun0_A.sl.HS3_8 View.writes View.junk k0_pay3

set_option maxHeartbeats 1000000 in
theorem storesA_dqF : (runA m c t h0 h1).1 = dqF (srcAF m c t) := (rfl)
set_option maxHeartbeats 1000000 in
theorem storesA_dkF : (runA m c t h0 h1).2.1 = dkF (srcAF m c t) := (rfl)
set_option maxHeartbeats 1000000 in
theorem storesA_dvF : (runA m c t h0 h1).2.2.1 = dvF (srcAF m c t) := (rfl)
set_option maxHeartbeats 1000000 in
theorem storesA_dqB : (runA m c t h0 h1).2.2.2.1 = dqB (srcAB m c t) := (rfl)
set_option maxHeartbeats 1000000 in
theorem storesA_dkB : (runA m c t h0 h1).2.2.2.2.1 = dkB (srcAB m c t) := (rfl)
set_option maxHeartbeats 1000000 in
theorem storesA_dvB : (runA m c t h0 h1).2.2.2.2.2.1 = dvB (srcAB m c t) := (rfl)
set_option maxHeartbeats 1000000 in
theorem storesA_ds : (runA m c t h0 h1).2.2.2.2.2.2.2.1 = dsNext (srcAF m c t) (srcAB m c t) ++ [clear] := (rfl)
end A

end Cert.Kernel4Ideal.Ret

end
-- ==== Proof.Retention.Blocks.lean ====
/-
  What the loads of a point find: the rows of the chunks it works on, the states before them, the logits, and what the
  scratch carries.
-/
module

public import proofs.«01_k».proof.Proof.Retention.Chunks
public import proofs.«01_k».proof.Proof.Retention.States
public import proofs.«01_k».proof.Proof.Retention.StoresA

@[expose] public section

set_option maxRecDepth 16384

noncomputable section

namespace Cert.Kernel4Ideal.Ret

open Idealize.ShloMosaic Idealize.ShloMosaic.TcCoe Idealize.SL.Sem
open Cert.Kernel4Ideal Cert.Kernel4Ideal.Gen
open Cert.Ret (pos xi zeta dstate head rate Rows Logits Far col)
open Cert.RetStates (q k v g l)

/-! ## Where the blocks lie -/

/-- The backward direction's block at point `n`. -/
def turn (n : ℕ) : ℕ := if n = 16 then 0 else n + 1

theorem index_F : ∀ t : Fin cfg0.N, (win0_0.index t 0 = 16 - t.val ∧ win0_0.index t 1 = 0) ∧ (win0_1.index t 0 = 16 - t.val ∧ win0_1.index t 1 = 0)
    ∧ (win0_2.index t 0 = 16 - t.val ∧ win0_2.index t 1 = 0) ∧ (win0_3.index t 0 = 16 - t.val ∧ win0_3.index t 1 = 0) := by decide +kernel
theorem index_B : ∀ t : Fin cfg0.N, (win0_4.index t 0 = turn t.val ∧ win0_4.index t 1 = 0) ∧ (win0_5.index t 0 = turn t.val ∧ win0_5.index t 1 = 0)
    ∧ (win0_6.index t 0 = turn t.val ∧ win0_6.index t 1 = 0) ∧ (win0_7.index t 0 = turn t.val ∧ win0_7.index t 1 = 0) := by decide +kernel
theorem index_S : ∀ t : Fin cfg0.N, (win0_8.index t 0 = 16 - t.val ∧ win0_8.index t 1 = 0 ∧ win0_8.index t 2 = 0 ∧ win0_8.index t 3 = 0)
    ∧ (win0_9.index t 0 = 0 ∧ win0_9.index t 1 = 0) := by decide +kernel

theorem lt17 (t : Fin cfg0.N) : t.val < 17 := by have h : cfg0.N = 17 := N_0; omega

/-- The row of the whole array that row `i` of point `t`'s block is, in either direction. -/
def rowF (t : Fin cfg0.N) (i : Fin 256) : Fin 4352 := ⟨256 * (16 - t.val) + i.val, by omega⟩
def rowB (t : Fin cfg0.N) (i : Fin 256) : Fin 4352 := ⟨256 * turn t.val + i.val, by have := lt17 t; unfold turn; split_ifs <;> omega⟩
/-- The block of the reading order. -/
def order (t : Fin cfg0.N) : ℕ := 16 - t.val
theorem order_lt (t : Fin cfg0.N) : order t < 17 := by unfold order; omega

theorem rowF_pos (t : Fin cfg0.N) (r u : ℕ) (hr : r < 2) (hu : u < 2) (h : r = half 0 u) (i : Fin 128) :
    rowF t (⟨128 * r + i.val, by omega⟩ : Fin 256) = pos 0 (chunk (order t) u (order_lt t) hu) i := by
  apply Fin.ext
  unfold rowF pos chunk order
  unfold half at h
  rw [if_pos rfl] at h
  dsimp only
  rw [if_pos rfl]
  omega
theorem rowB_pos (t : Fin cfg0.N) (r u : ℕ) (hr : r < 2) (hu : u < 2) (h : r = half 1 u) (i : Fin 128) :
    rowB t (⟨128 * r + i.val, by omega⟩ : Fin 256) = pos 1 (chunk (order t) u (order_lt t) hu) i := by
  have ht := lt17 t
  apply Fin.ext
  unfold rowB pos chunk order turn
  unfold half at h
  rw [if_neg (show ¬ (1 : Fin 2) = 0 by decide)] at h
  dsimp only
  rw [if_neg (show ¬ (1 : Fin 2) = 0 by decide)]
  split_ifs <;> omega

/-- Where an element of a block of rows lies in the array, from its two coordinates. -/
theorem place (B : ℕ) (row : Fin 4352) (i : Fin 256) (j : Fin 512) (hr : row.val = 256 * B + i.val) (e : S4352x512.Idx) (i0 i1 : ℕ)
    (h : i0 = B ∧ i1 = 0) (e0 : (e 0).val = i0 * 256 + 1 * i.val) (e1 : (e 1).val = i1 * 512 + 1 * j.val) : e = ix2 row j := by
  obtain ⟨h0, h1⟩ := h
  subst h0 h1
  funext a
  apply Fin.ext
  match a with
  | ⟨0, _⟩ => exact e0.trans (show i0 * 256 + 1 * i.val = row.val by omega)
  | ⟨1, _⟩ => exact e1.trans (show 0 * 512 + 1 * j.val = j.val by omega)

/-- The same for the states. -/
theorem place_state (B : ℕ) (p : Fin 34) (u : Fin 2) (j : Fin 8) (a b : Fin 128) (hp : p.val = 2 * B + u.val) (e : S34x8x128x128.Idx)
    (i0 i1 i2 i3 : ℕ) (h : i0 = B ∧ i1 = 0 ∧ i2 = 0 ∧ i3 = 0) (e0 : (e 0).val = i0 * 2 + 1 * u.val) (e1 : (e 1).val = i1 * 8 + 1 * j.val)
    (e2 : (e 2).val = i2 * 128 + 1 * a.val) (e3 : (e 3).val = i3 * 128 + 1 * b.val) : e = ix4 p j a b := by
  obtain ⟨h0, h1, h2, h3⟩ := h
  subst h0 h1 h2 h3
  funext x
  apply Fin.ext
  match x with
  | ⟨0, _⟩ => exact e0.trans (show i0 * 2 + 1 * u.val = p.val by omega)
  | ⟨1, _⟩ => exact e1.trans (show 0 * 8 + 1 * j.val = j.val by omega)
  | ⟨2, _⟩ => exact e2.trans (show 0 * 128 + 1 * a.val = a.val by omega)
  | ⟨3, _⟩ => exact e3.trans (show 0 * 128 + 1 * b.val = b.val by omega)

/-- The same for the logits. -/
theorem place_logit (j : Fin 8) (b : Fin 128) (e : S8x128.Idx) (i0 i1 : ℕ) (h : i0 = 0 ∧ i1 = 0) (e0 : (e 0).val = i0 * 8 + 1 * j.val)
    (e1 : (e 1).val = i1 * 128 + 1 * b.val) : e = ix2 j b := by
  obtain ⟨h0, h1⟩ := h
  subst h0 h1
  funext a
  apply Fin.ext
  match a with
  | ⟨0, _⟩ => exact e0.trans (show 0 * 8 + 1 * j.val = j.val by omega)
  | ⟨1, _⟩ => exact e1.trans (show 0 * 128 + 1 * b.val = b.val by omega)

variable (m : (ℓ : Loc nD τ sig) → Buf (Elt Ideal) ℓ) (c : Dev nD) (t : Fin cfg0.N)

section
variable (D A B C : Vec Ideal S8x128x128 .f32)

theorem find_qF (i : Fin 256) (j : Fin 512) : (srcF m c t D A B C).q (ix2 i j) = q m c (ix2 (rowF t i) j) := by
  unfold srcF
  dsimp only
  rw [(hs0_0 t).read_unread]
  exact (congrArg (V m c main_arg0) (place (16 - t.val) (rowF t i) i j rfl _ _ _ (index_F t).1 rfl rfl)).trans (congrFun (V_main_arg0 m c) _)
theorem find_kF (i : Fin 256) (j : Fin 512) : (srcF m c t D A B C).k (ix2 i j) = k m c (ix2 (rowF t i) j) := by
  unfold srcF
  dsimp only
  rw [(hs0_1 t).read_unread]
  exact (congrArg (V m c main_arg1) (place (16 - t.val) (rowF t i) i j rfl _ _ _ (index_F t).2.1 rfl rfl)).trans (congrFun (V_main_arg1 m c) _)
theorem find_vF (i : Fin 256) (j : Fin 512) : (srcF m c t D A B C).v (ix2 i j) = v m c (ix2 (rowF t i) j) := by
  unfold srcF
  dsimp only
  rw [(hs0_2 t).read_unread]
  exact (congrArg (V m c main_arg2) (place (16 - t.val) (rowF t i) i j rfl _ _ _ (index_F t).2.2.1 rfl rfl)).trans (congrFun (V_main_arg2 m c) _)
theorem find_gF (i : Fin 256) (j : Fin 512) : (srcF m c t D A B C).g (ix2 i j) = g m c (ix2 (rowF t i) j) := by
  unfold srcF
  dsimp only
  rw [(hs0_3 t).read_unread]
  exact (congrArg (V m c main_arg3) (place (16 - t.val) (rowF t i) i j rfl _ _ _ (index_F t).2.2.2 rfl rfl)).trans (congrFun (V_main_arg3 m c) _)
theorem find_qB (i : Fin 256) (j : Fin 512) : (srcB m c t D A B C).q (ix2 i j) = q m c (ix2 (rowB t i) j) := by
  unfold srcB
  dsimp only
  rw [(hs0_4 t).read_unread]
  exact (congrArg (V m c main_arg0) (place (turn t.val) (rowB t i) i j rfl _ _ _ (index_B t).1 rfl rfl)).trans (congrFun (V_main_arg0 m c) _)
theorem find_kB (i : Fin 256) (j : Fin 512) : (srcB m c t D A B C).k (ix2 i j) = k m c (ix2 (rowB t i) j) := by
  unfold srcB
  dsimp only
  rw [(hs0_5 t).read_unread]
  exact (congrArg (V m c main_arg1) (place (turn t.val) (rowB t i) i j rfl _ _ _ (index_B t).2.1 rfl rfl)).trans (congrFun (V_main_arg1 m c) _)
theorem find_vB (i : Fin 256) (j : Fin 512) : (srcB m c t D A B C).v (ix2 i j) = v m c (ix2 (rowB t i) j) := by
  unfold srcB
  dsimp only
  rw [(hs0_6 t).read_unread]
  exact (congrArg (V m c main_arg2) (place (turn t.val) (rowB t i) i j rfl _ _ _ (index_B t).2.2.1 rfl rfl)).trans (congrFun (V_main_arg2 m c) _)
theorem find_gB (i : Fin 256) (j : Fin 512) : (srcB m c t D A B C).g (ix2 i j) = g m c (ix2 (rowB t i) j) := by
  unfold srcB
  dsimp only
  rw [(hs0_7 t).read_unread]
  exact (congrArg (V m c main_arg3) (place (turn t.val) (rowB t i) i j rfl _ _ _ (index_B t).2.2.2 rfl rfl)).trans (congrFun (V_main_arg3 m c) _)
theorem find_st (u : ℕ) (hu : u < 2) (j : Fin 8) (a b : Fin 128) : (srcF m c t D A B C).st (ix4 (⟨u, hu⟩ : Fin 2) j a b)
    = Cert.RetStates.states (k m c) (v m c) (l m c) (ix4 (chunk (order t) u (order_lt t) hu) j a b) := by
  unfold srcF
  dsimp only
  rw [(hs0_8 t).read_unread]
  exact (congrArg (V m c main_v79) (place_state (16 - t.val) (chunk (order t) u (order_lt t) hu) ⟨u, hu⟩ j a b rfl _ _ _ _ _ (index_S t).1 rfl rfl rfl rfl)).trans
    (congrFun (Cert.RetStates.V_states m c) _)
theorem find_logits (j : Fin 8) (b : Fin 128) : logits m c t (ix2 j b) = Cert.RetStates.logits (l m c) (ix2 j b) := by
  unfold logits
  rw [(hs0_9 t).read_unread]
  exact (congrArg (V m c main_v82) (place_logit j b _ _ _ (index_S t).2 rfl rfl)).trans (congrFun (Cert.RetStates.V_logits m c) _)

end

/-- What is asked of the arguments: numbers, and decays that the logarithm's short form does not touch. -/
structure Fine : Prop where
  hq : Cert.Finite.All (q m c)
  hk : Cert.Finite.All (k m c)
  hv : Cert.Finite.All (v m c)
  hg : Cert.Finite.All (g m c)
  hl : Cert.Finite.All (l m c)
  far : ∀ d h, Far (Cert.RetStates.l m c (ix2 d h) : EReal).toReal

/-- The number of a head's tables. -/
def lane8 (d : Fin 2) (h : Fin 4) : Fin 8 := ⟨4 * d.val + h.val, by omega⟩

/-- The scratch holds the tables, and the gradient of the state before block `b`. -/
structure Carry (b : ℕ) (D A B C : Vec Ideal S8x128x128 .f32) : Prop where
  ds : ∀ d h i e, (D (ix3 (lane8 d h) i e) : EReal)
    = ((dstate (rate (l m c) d h) d (head (q m c) h) (head (g m c) h) (2 * b) i e : ℝ) : EReal)
  dm : ∀ d h i e, (A (ix3 (lane8 d h) i e) : EReal) = ((Cert.Ret.within (rate (l m c) d h) d i e : ℝ) : EReal)
  xi : ∀ d h i e, (B (ix3 (lane8 d h) i e) : EReal) = ((xi (rate (l m c) d h) d i : ℝ) : EReal)
  zt : ∀ d h i e, (C (ix3 (lane8 d h) i e) : EReal) = ((zeta (rate (l m c) d h) d i : ℝ) : EReal)

variable {m c}

theorem Fine.logit (H : Fine m c) (d : Fin 2) (h : Fin 4) (b : Fin 128) :
    (Ret.logits m c t (ix2 (lane8 d h) b) : EReal) = (((l m c (ix2 d h) : EReal).toReal : ℝ) : EReal) :=
  (find_logits m c t (lane8 d h) b).trans ((Cert.RetStates.logits_apply (l m c) d h b).trans (H.hl _))

theorem is_rows {x : Vec Ideal S256x512 .bf16} {y : Rows .bf16} (hy : Cert.Finite.All y) {row : Fin 256 → Fin 4352}
    (hx : ∀ i j, x (ix2 i j) = y (ix2 (row i) j)) {d : Fin 2} {b : ℕ} {hb : b < 17} {r u : ℕ} {hr : r < 2} {hu : u < 2}
    (hrow : ∀ i : Fin 128, row (⟨128 * r + i.val, by omega⟩ : Fin 256) = pos d (chunk b u hb hu) i) (h : Fin 4) :
    Is (blk x r h.val hr h.isLt) fun i e => head y h (pos d (chunk b u hb hu) i) e := fun i e => by
  rw [blk_apply, hx, hrow]
  exact Cert.Ret.head_eq hy h _ e

/-- The loads of a point find what its work asks for, in either direction. -/
theorem good {X : Src Ideal} (H : Fine m c) (d : Fin 2) (h : Fin 4) {j : ℕ} {hj : j < 8} (ej : j = 4 * d.val + h.val) {row : Fin 256 → Fin 4352}
    (hq : ∀ i e, X.q (ix2 i e) = q m c (ix2 (row i) e)) (hk : ∀ i e, X.k (ix2 i e) = k m c (ix2 (row i) e))
    (hv : ∀ i e, X.v (ix2 i e) = v m c (ix2 (row i) e)) (hg : ∀ i e, X.g (ix2 i e) = g m c (ix2 (row i) e))
    (hrow : ∀ (r u : ℕ) (hr : r < 2) (hu : u < 2), r = half d u → ∀ i : Fin 128,
      row (⟨128 * r + i.val, by omega⟩ : Fin 256) = pos d (chunk (order t) u (order_lt t) hu) i)
    (hst : ∀ (u : ℕ) (hu : u < 2) (j : Fin 8) (a b : Fin 128), X.st (ix4 (⟨u, hu⟩ : Fin 2) j a b)
      = Cert.RetStates.states (k m c) (v m c) (l m c) (ix4 (chunk (order t) u (order_lt t) hu) j a b))
    (hlg : X.lg = Ret.logits m c t) (K : Carry m c (order t + 1) X.ds X.dm X.xi X.zt) :
    Good X d (order t) (order_lt t) h.val j h.isLt hj (rate (l m c) d h) (head (q m c) h) (head (k m c) h) (head (v m c) h) (head (g m c) h) := by
  subst ej
  exact
  { hq := fun r u hr hu e => is_rows H.hq hq (hrow r u hr hu e) h
    hk := fun r u hr hu e => is_rows H.hk hk (hrow r u hr hu e) h
    hv := fun r u hr hu e => is_rows H.hv hv (hrow r u hr hu e) h
    hg := fun r u hr hu e => is_rows H.hg hg (hrow r u hr hu e) h
    hst := fun u hu a b => by
      rw [state_apply, hst u hu]
      exact Cert.RetStates.states_real H.hk H.hv H.hl d (chunk (order t) u (order_lt t) hu) h a b
    hdec := by
      rw [hlg]
      exact is_decay128 (H.logit t d h) (H.far d h)
    hdm := fun i e => (lane_apply _ _ _ i e).trans (K.dm d h i e)
    hxi := fun i e => (lane_apply _ _ _ i e).trans (K.xi d h i e)
    hzt := fun i e => (lane_apply _ _ _ i e).trans (K.zt d h i e)
    hds := fun i e => (lane_apply _ _ _ i e).trans (K.ds d h i e) }

section
variable {D A B C : Vec Ideal S8x128x128 .f32}

theorem goodF (H : Fine m c) (K : Carry m c (order t + 1) D A B C) (h : Fin 4) {hj : h.val < 8} :
    Good (srcF m c t D A B C) 0 (order t) (order_lt t) h.val h.val h.isLt hj (rate (l m c) 0 h) (head (q m c) h) (head (k m c) h) (head (v m c) h) (head (g m c) h) :=
  good t H 0 h (show h.val = 4 * 0 + h.val by omega) (find_qF m c t D A B C) (find_kF m c t D A B C) (find_vF m c t D A B C) (find_gF m c t D A B C)
    (rowF_pos t) (find_st m c t D A B C) rfl K

theorem goodB (H : Fine m c) (K : Carry m c (order t + 1) D A B C) (h : Fin 4) {hj : 4 + h.val < 8} :
    Good (srcB m c t D A B C) 1 (order t) (order_lt t) h.val (4 + h.val) h.isLt hj (rate (l m c) 1 h) (head (q m c) h) (head (k m c) h) (head (v m c) h) (head (g m c) h) :=
  good t H 1 h rfl (find_qB m c t D A B C) (find_kB m c t D A B C) (find_vB m c t D A B C) (find_gB m c t D A B C)
    (rowB_pos t) (find_st m c t D A B C) rfl K

end

end Cert.Kernel4Ideal.Ret

end
-- ==== Proof.Retention.Induct.lean ====
/-
  What the scratch carries from point to point: the tables, and the gradient of the state before the blocks done.
-/
module

public import proofs.«01_k».proof.Proof.Retention.Blocks

@[expose] public section

set_option maxRecDepth 16384

noncomputable section

namespace Cert.Kernel4Ideal.Ret

open Idealize.ShloMosaic Idealize.ShloMosaic.TcCoe Idealize.ShloMosaic.Tactic Idealize.SL.Sem
open Cert.Kernel4Ideal Cert.Kernel4Ideal.Gen
open Cert.Ret (pos xi zeta dstate head rate Rows Logits Far col)
open Cert.RetStates (q k v g l)

/-! ## What stores leave -/

/-- Later stores hide earlier ones where they cover. -/
theorem canon_append (L L' : List (View.Piece (Elt Ideal) S8x128x128 .f32)) (y : S8x128x128.Idx) (h : ∃ p ∈ L, y ∈ p.1.set) :
    View.canon (L ++ L') y = View.canon L y := by
  induction L with
  | nil => exact absurd h (by simp)
  | cons p L ih =>
    show View.canon (p :: (L ++ L')) y = _
    by_cases hp : y ∈ p.1.set
    · obtain ⟨r, w⟩ := p
      obtain ⟨x, -, rfl⟩ := Finset.mem_map.1 (r.map_emb_univ ▸ hp : y ∈ Finset.univ.map r.emb)
      rw [View.canon_cons_emb, View.canon_cons_emb]
    · rw [View.canon_cons_of_not_mem _ _ hp, View.canon_cons_of_not_mem _ _ hp]
      obtain ⟨p', h1, h2⟩ := h
      rcases List.mem_cons.1 h1 with rfl | h1
      · exact absurd h2 hp
      · exact ih ⟨p', h1, h2⟩

theorem lanes_cover (PF PB : (j : ℕ) → j < 8 → FVec Ideal S1x128x128 .f32) (y : S8x128x128.Idx) : ∃ p ∈ lanes PF PB, y ∈ p.1.set :=
  View.cover_of_tiledL (lanes PF PB) S1x128x128.size (by sl_kernel_rfl) y

/-- What the stores of eight matrices leave, direction by direction. -/
theorem canon_lane8 {PF PB : (j : ℕ) → j < 8 → FVec Ideal S1x128x128 .f32} {f : Fin 2 → Fin 4 → Fin 128 → Fin 128 → ℝ}
    (hF : ∀ (h : Fin 4) (hj : h.val < 8) i e, (PF h.val hj (ix3 (0 : Fin 1) i e) : EReal) = ((f 0 h i e : ℝ) : EReal))
    (hB : ∀ (h : Fin 4) (hj : 4 + h.val < 8) i e, (PB (4 + h.val) hj (ix3 (0 : Fin 1) i e) : EReal) = ((f 1 h i e : ℝ) : EReal))
    (d : Fin 2) (h : Fin 4) (i e : Fin 128) : (View.canon (lanes PF PB) (ix3 (lane8 d h) i e) : EReal) = ((f d h i e : ℝ) : EReal) := by
  rw [canon_lanes]
  match d with
  | ⟨0, _⟩ =>
    have e0 : lane8 ⟨0, by decide⟩ h = ⟨h.val, by omega⟩ := Fin.ext (show 4 * 0 + h.val = h.val by omega)
    rw [e0, if_pos h.isLt]
    exact hF h _ i e
  | ⟨1, _⟩ =>
    rw [if_neg (show ¬ (lane8 ⟨1, by decide⟩ h).val < 4 from show ¬ 4 * 1 + h.val < 4 by omega)]
    exact hB h _ i e

variable {m : (ℓ : Loc nD τ sig) → Buf (Elt Ideal) ℓ} {c : Dev nD} (t : Fin cfg0.N)

/-- A point carries the gradient on over its block. -/
theorem next_lanes {D A B C : Vec Ideal S8x128x128 .f32} (H : Fine m c) (K : Carry m c (order t + 1) D A B C) (d : Fin 2) (h : Fin 4) (i e : Fin 128) :
    (View.canon (dsNext (srcF m c t D A B C) (srcB m c t D A B C)) (ix3 (lane8 d h) i e) : EReal)
      = ((dstate (rate (l m c) d h) d (head (q m c) h) (head (g m c) h) (2 * order t) i e : ℝ) : EReal) := by
  refine canon_lane8 (f := fun d h i e => dstate (rate (l m c) d h) d (head (q m c) h) (head (g m c) h) (2 * order t) i e)
    (fun h hj i e => ?_) (fun h hj i e => ?_) d h i e
  · have e0 : h.val % 4 = h.val := by omega
    simp only [e0]
    exact (goodF t H K h (hj := hj)).next 0 1 (by decide) (by decide) rfl rfl i e
  · have e0 : (4 + h.val) % 4 = h.val := by omega
    simp only [e0]
    exact (goodB t H K h (hj := hj)).next 1 0 (by decide) (by decide) rfl rfl i e

/-- The first point's tables. -/
theorem tables (H : Fine m c) : (∀ d h i e, (View.canon (lanes (dmF (Ret.logits m c t)) (dmB (Ret.logits m c t))) (ix3 (lane8 d h) i e) : EReal)
      = ((Cert.Ret.within (rate (l m c) d h) d i e : ℝ) : EReal))
    ∧ (∀ d h i e, (View.canon (lanes (xiF (Ret.logits m c t)) (xiB (Ret.logits m c t))) (ix3 (lane8 d h) i e) : EReal) = ((xi (rate (l m c) d h) d i : ℝ) : EReal))
    ∧ (∀ d h i e, (View.canon (lanes (ztF (Ret.logits m c t)) (ztB (Ret.logits m c t))) (ix3 (lane8 d h) i e) : EReal) = ((zeta (rate (l m c) d h) d i : ℝ) : EReal)) := by
  have h0 : ∀ (h : Fin 4) (hj : h.val < 8) (b : Fin 128), (Ret.logits m c t (ix2 (⟨h.val, hj⟩ : Fin 8) b) : EReal) = (((l m c (ix2 (0 : Fin 2) h) : EReal).toReal : ℝ) : EReal) :=
    fun h hj b => (congrArg (Ret.logits m c t) (congrArg (ix2 · b) (Fin.ext (show h.val = 4 * 0 + h.val by omega)))).trans (H.logit t 0 h b)
  have h1 : ∀ (h : Fin 4) (hj : 4 + h.val < 8) (b : Fin 128), (Ret.logits m c t (ix2 (⟨4 + h.val, hj⟩ : Fin 8) b) : EReal) = (((l m c (ix2 (1 : Fin 2) h) : EReal).toReal : ℝ) : EReal) :=
    fun h hj b => H.logit t 1 h b
  exact ⟨canon_lane8 (f := fun d h i e => Cert.Ret.within (rate (l m c) d h) d i e) (fun h hj => is_dmF (h0 h hj) (H.far 0 h)) (fun h hj => is_dmB (h1 h hj) (H.far 1 h)),
    canon_lane8 (f := fun d h i _ => xi (rate (l m c) d h) d i) (fun h hj => is_xiF (h0 h hj) (H.far 0 h)) (fun h hj => is_xiB (h1 h hj) (H.far 1 h)),
    canon_lane8 (f := fun d h i _ => zeta (rate (l m c) d h) d i) (fun h hj => is_ztF (h0 h hj) (H.far 0 h)) (fun h hj => is_ztB (h1 h hj) (H.far 1 h))⟩

theorem zero_all : (![0, 0, 0] : Fin 3 → ℕ) = fun _ => 0 := funext fun a => by fin_cases a <;> rfl

/-- The cleared gradient is that of the state after the last chunk. -/
theorem scrA0_apply (y : S8x128x128.Idx) : ((scrA0 : Vec Ideal S8x128x128 .f32) y : EReal) = ((0 : ℝ) : EReal) := by
  unfold scrA0
  rw [View.read_writes_junk_eq_canon]
  unfold clear
  rw [View.canon_unit_zero zero_all]
  unfold k0_pay3
  rw [shapeCast_self]
  exact Cert.Ret.c0

theorem carryA (H : Fine m c) (h0 : t.val % 17 = 0) : Carry m c (order t + 1) scrA0 (scrA1 m c t) (scrA2 m c t) (scrA3 m c t) := by
  have e := lt17 t
  have ho : 2 * (order t + 1) = 34 := by unfold order; omega
  have T := tables t H
  refine ⟨fun d h i e => ?_, fun d h i e => ?_, fun d h i e => ?_, fun d h i e => ?_⟩
  · rw [scrA0_apply, ho, Cert.Ret.dstate_end]
  · unfold scrA1
    rw [View.read_writes_junk_eq_canon]
    exact T.1 d h i e
  · unfold scrA2
    rw [View.read_writes_junk_eq_canon]
    exact T.2.1 d h i e
  · unfold scrA3
    rw [View.read_writes_junk_eq_canon]
    exact T.2.2 d h i e

theorem scr0_eq (x : Vec Ideal S8x128x128 .f32) : scr0 x = x := (Memref.isWhole_whole _ : scM0_0.IsWhole).read_unread x
theorem scr1_eq (x : Vec Ideal S8x128x128 .f32) : scr1 x = x := (Memref.isWhole_whole _ : scM0_1.IsWhole).read_unread x
theorem scr2_eq (x : Vec Ideal S8x128x128 .f32) : scr2 x = x := (Memref.isWhole_whole _ : scM0_2.IsWhole).read_unread x
theorem scr3_eq (x : Vec Ideal S8x128x128 .f32) : scr3 x = x := (Memref.isWhole_whole _ : scM0_3.IsWhole).read_unread x

/-- The scratch among what a point leaves. -/
def Carried (m : (ℓ : Loc nD τ sig) → Buf (Elt Ideal) ℓ) (c : Dev nD) (b : ℕ) (x : Left Ideal) : Prop :=
  Carry m c b x.2.2.2.2.2.2.2.1 x.2.2.2.2.2.2.2.2.1 x.2.2.2.2.2.2.2.2.2.1 x.2.2.2.2.2.2.2.2.2.2.1

theorem Carried.loads {b : ℕ} {x : Left Ideal} (K : Carried m c b x) :
    Carry m c b (scr0 x.2.2.2.2.2.2.2.1) (scr1 x.2.2.2.2.2.2.2.2.1) (scr2 x.2.2.2.2.2.2.2.2.2.1) (scr3 x.2.2.2.2.2.2.2.2.2.2.1) := by
  rw [scr0_eq, scr1_eq, scr2_eq, scr3_eq]
  exact K

theorem leavesA (H : Fine m c) (h0 : t.val % 17 = 0) (h1 : ¬t.val % 17 = 16) : Carried m c (order t) (leftA m c t h0 h1) := by
  have T := tables t H
  have e0 : (leftA m c t h0 h1).2.2.2.2.2.2.2.1 = View.canon (dsNext (srcAF m c t) (srcAB m c t) ++ [clear]) := by
    unfold leftA
    dsimp only
    rw [View.read_writes_junk_eq_canon]
    exact congrArg View.canon (storesA_ds m c t h0 h1)
  have e1 : (leftA m c t h0 h1).2.2.2.2.2.2.2.2.1 = View.canon (lanes (dmF (Ret.logits m c t)) (dmB (Ret.logits m c t))) := by
    unfold leftA
    dsimp only
    rw [View.read_writes_junk_eq_canon]
    exact congrArg View.canon (storesA_dm m c t h0 h1)
  have e2 : (leftA m c t h0 h1).2.2.2.2.2.2.2.2.2.1 = View.canon (lanes (xiF (Ret.logits m c t)) (xiB (Ret.logits m c t))) := by
    unfold leftA
    dsimp only
    rw [View.read_writes_junk_eq_canon]
    exact congrArg View.canon (storesA_xi m c t h0 h1)
  have e3 : (leftA m c t h0 h1).2.2.2.2.2.2.2.2.2.2.1 = View.canon (lanes (ztF (Ret.logits m c t)) (ztB (Ret.logits m c t))) := by
    unfold leftA
    dsimp only
    rw [View.read_writes_junk_eq_canon]
    exact congrArg View.canon (storesA_zt m c t h0 h1)
  unfold Carried
  rw [e0, e1, e2, e3]
  exact ⟨fun d h i e => (canon_append _ _ _ (lanes_cover _ _ _)).trans (next_lanes t H (carryA t H h0) d h i e), T.1, T.2.1, T.2.2⟩

theorem leavesB (H : Fine m c) (h0 : ¬t.val % 17 = 0) (h1 : ¬t.val % 17 = 16) {x : Left Ideal} (K : Carried m c (order t + 1) x) :
    Carried m c (order t) (leftB m c t h0 h1 x) := by
  unfold Carried leftB
  dsimp only
  rw [View.read_writes_junk_eq_canon, storesB_ds]
  exact ⟨next_lanes t H K.loads, K.dm, K.xi, K.zt⟩

theorem leavesC (H : Fine m c) (h0 : ¬t.val % 17 = 0) (h1 : t.val % 17 = 16) {x : Left Ideal} (K : Carried m c (order t + 1) x) :
    Carried m c (order t) (leftC m c t h0 h1 x) := by
  unfold Carried leftC
  dsimp only
  rw [View.read_writes_junk_eq_canon, storesC_ds]
  exact ⟨next_lanes t H K.loads, K.dm, K.xi, K.zt⟩

/-- After every point the scratch is in that state. -/
theorem carried (H : Fine m c) : ∀ (n : ℕ) (hn : n < cfg0.N), Carried m c (order ⟨n, hn⟩) (outsAt m c n hn)
  | 0, hn => by
    rw [outsAt_A m c ⟨0, hn⟩ rfl (show ¬0 % 17 = 16 by decide)]
    exact leavesA ⟨0, hn⟩ H rfl (show ¬0 % 17 = 16 by decide)
  | n + 1, hn => by
    have hN : cfg0.N = 17 := N_0
    have h0 : ¬(n + 1) % 17 = 0 := by omega
    have K : Carried m c (order ⟨n + 1, hn⟩ + 1) (outsAt m c n (Nat.lt_of_succ_lt hn)) := by
      have e : order ⟨n + 1, hn⟩ + 1 = order ⟨n, Nat.lt_of_succ_lt hn⟩ := by unfold order; dsimp only; omega
      rw [e]
      exact carried H n (Nat.lt_of_succ_lt hn)
    by_cases h1 : (n + 1) % 17 = 16
    · rw [outsAt_C m c ⟨n + 1, hn⟩ h0 h1]
      exact leavesC ⟨n + 1, hn⟩ H h0 h1 K
    · rw [outsAt_B m c ⟨n + 1, hn⟩ h0 h1]
      exact leavesB ⟨n + 1, hn⟩ H h0 h1 K

/-- Before a point that is not the first. -/
theorem carried_prev (H : Fine m c) (h0 : ¬t.val % 17 = 0) : Carried m c (order t + 1) (prevAt m c t) := by
  have := lt17 t
  have e : order t + 1 = order ⟨t.val - 1, Nat.lt_of_le_of_lt (Nat.sub_le _ _) t.isLt⟩ := by unfold order; dsimp only; omega
  rw [e]
  exact carried H (t.val - 1) _

end Cert.Kernel4Ideal.Ret

end
-- ==== Proof.Retention.Outputs.lean ====
/-
  What one point leaves of the six gradients.
-/
module

public import proofs.«01_k».proof.Proof.Retention.Induct

@[expose] public section

set_option maxRecDepth 16384

noncomputable section

namespace Cert.Kernel4Ideal.Ret

open Idealize.ShloMosaic Idealize.ShloMosaic.TcCoe Idealize.ShloMosaic.Tactic Idealize.SL.Sem
open Cert.Kernel4Ideal Cert.Kernel4Ideal.Gen
open Idealize.ShloMosaic.Pipeline (Dat)
open Cert.Ret (pos head rate Rows Logits col dq dk dv dqs dks dvs)
open Cert.RetStates (q k v g l)

section
variable {m : (ℓ : Loc nD τ sig) → Buf (Elt Ideal) ℓ} {c : Dev nD} (t : Fin cfg0.N)

/-! ## What a point leaves in the six outputs' buffers -/

/-- The stores behind the outputs, whichever point it is. -/
theorem outs (H : Fine m c) : ∃ D A B C : Vec Ideal S8x128x128 .f32, Carry m c (order t + 1) D A B C
    ∧ (outsAt m c t.val t.isLt).1 = View.canon (dqF (srcF m c t D A B C))
    ∧ (outsAt m c t.val t.isLt).2.1 = View.canon (dkF (srcF m c t D A B C))
    ∧ (outsAt m c t.val t.isLt).2.2.1 = View.canon (dvF (srcF m c t D A B C))
    ∧ (outsAt m c t.val t.isLt).2.2.2.1 = View.canon (dqB (srcB m c t D A B C))
    ∧ (outsAt m c t.val t.isLt).2.2.2.2.1 = View.canon (dkB (srcB m c t D A B C))
    ∧ (outsAt m c t.val t.isLt).2.2.2.2.2.1 = View.canon (dvB (srcB m c t D A B C)) := by
  by_cases h0 : t.val % 17 = 0
  · have h1 : ¬t.val % 17 = 16 := by omega
    refine ⟨_, _, _, _, carryA t H h0, ?_⟩
    rw [outsAt_A m c t h0 h1]
    unfold leftA
    simp only [View.read_writes_junk_eq_canon]
    exact ⟨congrArg View.canon (storesA_dqF m c t h0 h1),
      congrArg View.canon (storesA_dkF m c t h0 h1),
      congrArg View.canon (storesA_dvF m c t h0 h1),
      congrArg View.canon (storesA_dqB m c t h0 h1),
      congrArg View.canon (storesA_dkB m c t h0 h1),
      congrArg View.canon (storesA_dvB m c t h0 h1)⟩
  · refine ⟨_, _, _, _, (carried_prev t H h0).loads, ?_⟩
    by_cases h1 : t.val % 17 = 16
    · rw [outsAt_C m c t h0 h1]
      unfold leftC
      simp only [View.read_writes_junk_eq_canon]
      exact ⟨congrArg View.canon (storesC_dqF m c t h0 h1 (prevAt m c t)),
        congrArg View.canon (storesC_dkF m c t h0 h1 (prevAt m c t)),
        congrArg View.canon (storesC_dvF m c t h0 h1 (prevAt m c t)),
        congrArg View.canon (storesC_dqB m c t h0 h1 (prevAt m c t)),
        congrArg View.canon (storesC_dkB m c t h0 h1 (prevAt m c t)),
        congrArg View.canon (storesC_dvB m c t h0 h1 (prevAt m c t))⟩
    · rw [outsAt_B m c t h0 h1]
      unfold leftB
      simp only [View.read_writes_junk_eq_canon]
      exact ⟨congrArg View.canon (storesB_dqF m c t h0 h1 (prevAt m c t)),
        congrArg View.canon (storesB_dkF m c t h0 h1 (prevAt m c t)),
        congrArg View.canon (storesB_dvF m c t h0 h1 (prevAt m c t)),
        congrArg View.canon (storesB_dqB m c t h0 h1 (prevAt m c t)),
        congrArg View.canon (storesB_dkB m c t h0 h1 (prevAt m c t)),
        congrArg View.canon (storesB_dvB m c t h0 h1 (prevAt m c t))⟩

/-- A block of rows from its tiles: chunk `half d r` in rows `r`. -/
theorem rows_of_tiles {d : Fin 2} {row : Fin 256 → Fin 4352} {f : Fin 4 → Fin 4352 → Fin 128 → ℝ} {x : Vec Ideal S256x512 .f32}
    {P : (r h : ℕ) → r < 2 → h < 4 → FVec Ideal S128x128 .f32}
    (hx : ∀ (r : Fin 2) (h : Fin 4) (i e : Fin 128), x (ix2 (⟨128 * r.val + i.val, by omega⟩ : Fin 256) (⟨128 * h.val + e.val, by omega⟩ : Fin 512))
      = P r.val h.val r.isLt h.isLt (ix2 i e))
    (hrow : ∀ (r u : ℕ) (hr : r < 2) (hu : u < 2), r = half d u → ∀ i : Fin 128,
      row (⟨128 * r + i.val, by omega⟩ : Fin 256) = pos d (chunk (order t) u (order_lt t) hu) i)
    (hP : ∀ (r u : ℕ) (hr : r < 2) (hu : u < 2) (h : Fin 4), r = half d u → u = half d r →
      Is (P r h.val hr h.isLt) fun i e => f h (pos d (chunk (order t) u (order_lt t) hu) i) e)
    (i : Fin 256) (j : Fin 512) : x (ix2 i j) = Cert.Ret.join f (ix2 (row i) j) := by
  have hh : half d (half d (i.val / 128)) = i.val / 128 := by
    unfold half
    split_ifs
    · rfl
    · omega
  have hu : half d (i.val / 128) < 2 := by
    unfold half
    split_ifs
    · omega
    · omega
  have ei : i = (⟨128 * (i.val / 128) + (⟨i.val % 128, Nat.mod_lt _ (by decide)⟩ : Fin 128).val, by dsimp only; omega⟩ : Fin 256) :=
    Fin.ext (show i.val = 128 * (i.val / 128) + i.val % 128 by omega)
  have ej : j = col ⟨j.val / 128, by omega⟩ ⟨j.val % 128, Nat.mod_lt _ (by decide)⟩ :=
    Fin.ext (show j.val = 128 * (j.val / 128) + j.val % 128 by omega)
  rw [ej, Cert.Ret.join_apply, ei, hrow (i.val / 128) (half d (i.val / 128)) (by omega) hu hh.symm]
  exact (hx ⟨i.val / 128, by omega⟩ _ _ _).trans (hP (i.val / 128) (half d (i.val / 128)) (by omega) hu _ hh.symm rfl _ _)

theorem out_dqF (H : Fine m c) (i : Fin 256) (j : Fin 512) : (outsAt m c t.val t.isLt).1 (ix2 i j) = dqs (k m c) (v m c) (g m c) (l m c) 0 (ix2 (rowF t i) j) := by
  obtain ⟨D, A, B, C, K, e, -⟩ := outs t H
  rw [e]
  exact rows_of_tiles t (d := 0) (canon_tilesF _) (rowF_pos t) (fun r u hr hu h hru hur => by
    obtain rfl : u = r := hur
    exact (goodF t H K h).dqTile _ _ hr hu hru) i j
theorem out_dkF (H : Fine m c) (i : Fin 256) (j : Fin 512) : (outsAt m c t.val t.isLt).2.1 (ix2 i j) = dks (q m c) (v m c) (g m c) (l m c) 0 (ix2 (rowF t i) j) := by
  obtain ⟨D, A, B, C, K, -, e, -⟩ := outs t H
  rw [e]
  exact rows_of_tiles t (d := 0) (canon_tilesF _) (rowF_pos t) (fun r u hr hu h hru hur => by
    obtain rfl : u = r := hur
    exact (goodF t H K h).dkTile _ _ 1 hr hu (by decide) hru rfl) i j
theorem out_dvF (H : Fine m c) (i : Fin 256) (j : Fin 512) : (outsAt m c t.val t.isLt).2.2.1 (ix2 i j) = dvs (q m c) (k m c) (g m c) (l m c) 0 (ix2 (rowF t i) j) := by
  obtain ⟨D, A, B, C, K, -, -, e, -⟩ := outs t H
  rw [e]
  exact rows_of_tiles t (d := 0) (canon_tilesF _) (rowF_pos t) (fun r u hr hu h hru hur => by
    obtain rfl : u = r := hur
    exact (goodF t H K h).dvTile _ _ 1 hr hu (by decide) hru rfl) i j
theorem out_dqB (H : Fine m c) (i : Fin 256) (j : Fin 512) : (outsAt m c t.val t.isLt).2.2.2.1 (ix2 i j) = dqs (k m c) (v m c) (g m c) (l m c) 1 (ix2 (rowB t i) j) := by
  obtain ⟨D, A, B, C, K, -, -, -, e, -⟩ := outs t H
  rw [e]
  exact rows_of_tiles t (d := 1) (canon_tilesB _) (rowB_pos t) (fun r u hr hu h hru hur => by
    obtain rfl : u = 1 - r := hur
    exact (goodB t H K h).dqTile _ _ hr hu hru) i j
theorem out_dkB (H : Fine m c) (i : Fin 256) (j : Fin 512) : (outsAt m c t.val t.isLt).2.2.2.2.1 (ix2 i j) = dks (q m c) (v m c) (g m c) (l m c) 1 (ix2 (rowB t i) j) := by
  obtain ⟨D, A, B, C, K, -, -, -, -, e, -⟩ := outs t H
  rw [e]
  exact rows_of_tiles t (d := 1) (canon_tilesB _) (rowB_pos t) (fun r u hr hu h hru hur => by
    obtain rfl : u = 1 - r := hur
    exact (goodB t H K h).dkTile _ _ 0 hr hu (by decide) hru rfl) i j
theorem out_dvB (H : Fine m c) (i : Fin 256) (j : Fin 512) : (outsAt m c t.val t.isLt).2.2.2.2.2.1 (ix2 i j) = dvs (q m c) (k m c) (g m c) (l m c) 1 (ix2 (rowB t i) j) := by
  obtain ⟨D, A, B, C, K, -, -, -, -, -, e⟩ := outs t H
  rw [e]
  exact rows_of_tiles t (d := 1) (canon_tilesB _) (rowB_pos t) (fun r u hr hu h hru hur => by
    obtain rfl : u = 1 - r := hur
    exact (goodB t H K h).dvTile _ _ 0 hr hu (by decide) hru rfl) i j

end

end Cert.Kernel4Ideal.Ret

end
-- ==== Proof.Retention.Launch.lean ====
module

public import proofs.«01_k».proof.Proof.Retention.Points
public import Idealize.ShloMosaic.Lib.Claim

/-! The retention backward call: its launch. The set-up follows the generated one of the other calls: the
proof data, the body's obligation at every point, the run and the frame, over any floats. -/

@[expose] public section

set_option maxRecDepth 16384

noncomputable section

namespace Cert.Kernel4Ideal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.1) ∗ owns (c : Thread nD τ) scM0_1 fullShare ((outsAt m c n hn).2.2.2.2.2.2.2.2.1) ∗ owns (c : Thread nD τ) scM0_2 fullShare ((outsAt m c n hn).2.2.2.2.2.2.2.2.2.1) ∗ owns (c : Thread nD τ) scM0_3 fullShare ((outsAt m c n hn).2.2.2.2.2.2.2.2.2.2.1) ∗ owns (c : Thread nD τ) scM0_4 fullShare ((outsAt m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt m c n hn).2.2.2.2.2.2.2.1) ∗ owns (c : Thread nD τ) scM0_1 fullShare ((outsAt m c n hn).2.2.2.2.2.2.2.2.1) ∗ owns (c : Thread nD τ) scM0_2 fullShare ((outsAt m c n hn).2.2.2.2.2.2.2.2.2.1) ∗ owns (c : Thread nD τ) scM0_3 fullShare ((outsAt m c n hn).2.2.2.2.2.2.2.2.2.2.1) ∗ owns (c : Thread nD τ) scM0_4 fullShare ((outsAt m c n hn).2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.1) ∗ owns (c : Thread nD τ) scM0_1 fullShare ((outsAt m c (n - 1) (by omega)).2.2.2.2.2.2.2.2.1) ∗ owns (c : Thread nD τ) scM0_2 fullShare ((outsAt m c (n - 1) (by omega)).2.2.2.2.2.2.2.2.2.1) ∗ owns (c : Thread nD τ) scM0_3 fullShare ((outsAt m c (n - 1) (by omega)).2.2.2.2.2.2.2.2.2.2.1) ∗ owns (c : Thread nD τ) scM0_4 fullShare ((outsAt m c (n - 1) (by omega)).2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
    | ⟨12, _⟩ => (outsAt m c t.val t.isLt).2.2.1
    | ⟨13, _⟩ => (outsAt m c t.val t.isLt).2.2.2.1
    | ⟨14, _⟩ => (outsAt m c t.val t.isLt).2.2.2.2.1
    | ⟨15, _⟩ => (outsAt m c t.val t.isLt).2.2.2.2.2.1
    | ⟨16, _⟩ => (outsAt m c t.val t.isLt).2.2.2.2.2.2.1
    | ⟨_ + 17, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt m c t.val t.isLt).1 := by dsimp only [dats]
theorem after0_11 (c : Dev nD) (t : Fin cfg0.N) : (dats m 0 c).after 11 t = (outsAt m c t.val t.isLt).2.1 := by dsimp only [dats]
theorem after0_12 (c : Dev nD) (t : Fin cfg0.N) : (dats m 0 c).after 12 t = (outsAt m c t.val t.isLt).2.2.1 := by dsimp only [dats]
theorem after0_13 (c : Dev nD) (t : Fin cfg0.N) : (dats m 0 c).after 13 t = (outsAt m c t.val t.isLt).2.2.2.1 := by dsimp only [dats]
theorem after0_14 (c : Dev nD) (t : Fin cfg0.N) : (dats m 0 c).after 14 t = (outsAt m c t.val t.isLt).2.2.2.2.1 := by dsimp only [dats]
theorem after0_15 (c : Dev nD) (t : Fin cfg0.N) : (dats m 0 c).after 15 t = (outsAt m c t.val t.isLt).2.2.2.2.2.1 := by dsimp only [dats]
theorem after0_16 (c : Dev nD) (t : Fin cfg0.N) : (dats m 0 c).after 16 t = (outsAt m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- Every window but the last is handed back with what the body left in it. -/
theorem leaves_0 (c : Dev nD) (t : Fin cfg0.N) : (dats m 0 c).leavesExact 0 t = owns (c : Thread nD τ) (ms0_0 t) fullShare (iblk m c 0 t) := by
  unfold Dat.leavesExact; rw [liveAt0_0 t, after0_0]
theorem leaves_1 (c : Dev nD) (t : Fin cfg0.N) : (dats m 0 c).leavesExact 1 t = owns (c : Thread nD τ) (ms0_1 t) fullShare (iblk m c 1 t) := by
  unfold Dat.leavesExact; rw [liveAt0_1 t, after0_1]
theorem leaves_2 (c : Dev nD) (t : Fin cfg0.N) : (dats m 0 c).leavesExact 2 t = owns (c : Thread nD τ) (ms0_2 t) fullShare (iblk m c 2 t) := by
  unfold Dat.leavesExact; rw [liveAt0_2 t, after0_2]
theorem leaves_3 (c : Dev nD) (t : Fin cfg0.N) : (dats m 0 c).leavesExact 3 t = owns (c : Thread nD τ) (ms0_3 t) fullShare (iblk m c 3 t) := by
  unfold Dat.leavesExact; rw [liveAt0_3 t, after0_3]
theorem leaves_4 (c : Dev nD) (t : Fin cfg0.N) : (dats m 0 c).leavesExact 4 t = owns (c : Thread nD τ) (ms0_4 t) fullShare (iblk m c 4 t) := by
  unfold Dat.leavesExact; rw [liveAt0_4 t, after0_4]
theorem leaves_5 (c : Dev nD) (t : Fin cfg0.N) : (dats m 0 c).leavesExact 5 t = owns (c : Thread nD τ) (ms0_5 t) fullShare (iblk m c 5 t) := by
  unfold Dat.leavesExact; rw [liveAt0_5 t, after0_5]
theorem leaves_6 (c : Dev nD) (t : Fin cfg0.N) : (dats m 0 c).leavesExact 6 t = owns (c : Thread nD τ) (ms0_6 t) fullShare (iblk m c 6 t) := by
  unfold Dat.leavesExact; rw [liveAt0_6 t, after0_6]
theorem leaves_7 (c : Dev nD) (t : Fin cfg0.N) : (dats m 0 c).leavesExact 7 t = owns (c : Thread nD τ) (ms0_7 t) fullShare (iblk m c 7 t) := by
  unfold Dat.leavesExact; rw [liveAt0_7 t, after0_7]
theorem leaves_8 (c : Dev nD) (t : Fin cfg0.N) : (dats m 0 c).leavesExact 8 t = owns (c : Thread nD τ) (ms0_8 t) fullShare (iblk m c 8 t) := by
  unfold Dat.leavesExact; rw [liveAt0_8 t, after0_8]
theorem leaves_9 (c : Dev nD) (t : Fin cfg0.N) : (dats m 0 c).leavesExact 9 t = owns (c : Thread nD τ) (ms0_9 t) fullShare (iblk m c 9 t) := by
  unfold Dat.leavesExact; rw [liveAt0_9 t, after0_9]
theorem leaves_10 (c : Dev nD) (t : Fin cfg0.N) : (dats m 0 c).leavesExact 10 t = owns (c : Thread nD τ) (ms0_10 t) fullShare (outsAt m c t.val t.isLt).1 := by
  unfold Dat.leavesExact; rw [liveAt0_10 t, after0_10]
theorem leaves_11 (c : Dev nD) (t : Fin cfg0.N) : (dats m 0 c).leavesExact 11 t = owns (c : Thread nD τ) (ms0_11 t) fullShare (outsAt m c t.val t.isLt).2.1 := by
  unfold Dat.leavesExact; rw [liveAt0_11 t, after0_11]
theorem leaves_12 (c : Dev nD) (t : Fin cfg0.N) : (dats m 0 c).leavesExact 12 t = owns (c : Thread nD τ) (ms0_12 t) fullShare (outsAt m c t.val t.isLt).2.2.1 := by
  unfold Dat.leavesExact; rw [liveAt0_12 t, after0_12]
theorem leaves_13 (c : Dev nD) (t : Fin cfg0.N) : (dats m 0 c).leavesExact 13 t = owns (c : Thread nD τ) (ms0_13 t) fullShare (outsAt m c t.val t.isLt).2.2.2.1 := by
  unfold Dat.leavesExact; rw [liveAt0_13 t, after0_13]
theorem leaves_14 (c : Dev nD) (t : Fin cfg0.N) : (dats m 0 c).leavesExact 14 t = owns (c : Thread nD τ) (ms0_14 t) fullShare (outsAt m c t.val t.isLt).2.2.2.2.1 := by
  unfold Dat.leavesExact; rw [liveAt0_14 t, after0_14]
theorem leaves_15 (c : Dev nD) (t : Fin cfg0.N) : (dats m 0 c).leavesExact 15 t = owns (c : Thread nD τ) (ms0_15 t) fullShare (outsAt m c t.val t.isLt).2.2.2.2.2.1 := by
  unfold Dat.leavesExact; rw [liveAt0_15 t, after0_15]

set_option maxHeartbeats 24000000 in
/-- The body at any point: by the case the point is in, its run applies to the buffers the pipeline hands it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  simp only [leaves_0, leaves_1, leaves_2, leaves_3, leaves_4, leaves_5, leaves_6, leaves_7, leaves_8, leaves_9,
    leaves_10, leaves_11, leaves_12, leaves_13, leaves_14, leaves_15]
  have hN : t.val < 17 := lt_of_lt_of_eq t.isLt (show cfg0.N = 17 from N_0)
  by_cases h0 : t.val % 17 = 0
  · by_cases h1 : t.val % 17 = 16
    · exfalso; omega
    · rw [Dat.leavesExact_idle (dats m 0 c) 16 t (idleAt0_16_A t ((hcond0_0 t).mpr h0) (fun h => h1 ((hcond0_1 t).mp h))) (noFlush0_16_A t ((hcond0_0 t).mpr h0) (fun h => h1 ((hcond0_1 t).mp h)))]
      by_cases hz : t.val = 0
      · rw [PhiS_castSucc m c t, PhiS_zero m c _ _ hz, PhiA0_eq]
        rw [outsAt_A m c t h0 h1]
        unfold leftA; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runA m c t h0 h1).2.2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, ⟨%e10, H10⟩, ⟨%e11, H11⟩, ⟨%e12, H12⟩, ⟨%e13, H13⟩, ⟨%e14, H14⟩, ⟨%e15, H15⟩, H16, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (coverA_s0 m c t h0 h1)
            isplitl [HS1]
            · unfold owns; iexists _; isplitr
              swap; · iexact HS1
              ipureintro; exact View.read_writes_of_cover _ _ _ _ _ (coverA_s1 m c t h0 h1)
            isplitl [HS2]
            · unfold owns; iexists _; isplitr
              swap; · iexact HS2
              ipureintro; exact View.read_writes_of_cover _ _ _ _ _ (coverA_s2 m c t h0 h1)
            isplitl [HS3]
            · unfold owns; iexists _; isplitr
              swap; · iexact HS3
              ipureintro; exact View.read_writes_of_cover _ _ _ _ _ (coverA_s3 m c t h0 h1)
            unfold owns; iexists _; isplitr
            swap; · iexact HS4
            ipureintro; exact View.read_writes_of_cover _ _ _ _ _ (coverA_s4 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (coverA_10 m c t h0 h1)
        isplitl [H11]
        · unfold owns; iexists _; isplitr
          swap; · iexact H11
          ipureintro; exact View.read_writes_of_cover _ _ _ _ _ (coverA_11 m c t h0 h1)
        isplitl [H12]
        · unfold owns; iexists _; isplitr
          swap; · iexact H12
          ipureintro; exact View.read_writes_of_cover _ _ _ _ _ (coverA_12 m c t h0 h1)
        isplitl [H13]
        · unfold owns; iexists _; isplitr
          swap; · iexact H13
          ipureintro; exact View.read_writes_of_cover _ _ _ _ _ (coverA_13 m c t h0 h1)
        isplitl [H14]
        · unfold owns; iexists _; isplitr
          swap; · iexact H14
          ipureintro; exact View.read_writes_of_cover _ _ _ _ _ (coverA_14 m c t h0 h1)
        isplitl [H15]
        · unfold owns; iexists _; isplitr
          swap; · iexact H15
          ipureintro; exact View.read_writes_of_cover _ _ _ _ _ (coverA_15 m c t h0 h1)
        iexists _; iexact H16
      · exfalso; have hN : t.val < 17 := lt_of_lt_of_eq t.isLt (show cfg0.N = 17 from N_0); omega
  · by_cases h1 : t.val % 17 = 16
    · rw [show (dats m 0 c).leavesExact 16 t = owns (c : Thread nD τ) (ms0_16 t) fullShare ((dats m 0 c).after 16 t) from by
      unfold Dat.leavesExact; rw [liveAt0_16_C t (fun h => h0 ((hcond0_0 t).mp h)) ((hcond0_1 t).mpr h1)], after0_16]
      by_cases hz : t.val = 0
      · exfalso; have hN : t.val < 17 := lt_of_lt_of_eq t.isLt (show cfg0.N = 17 from N_0); omega
      · rw [PhiS_castSucc m c t, PhiS_pos m c _ _ hz]
        rw [outsAt_C m c t h0 h1]
        unfold leftC; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runC m c t h0 h1 (prevAt m c t)).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩, HS1, HS2, HS3, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (coverC_s0 m c t h0 h1 (prevAt m c t))
            isplitl [HS1]
            · iexact HS1
            isplitl [HS2]
            · iexact HS2
            isplitl [HS3]
            · iexact HS3
            unfold owns; iexists _; isplitr
            swap; · iexact HS4
            ipureintro; exact View.read_writes_of_cover _ _ _ _ _ (coverC_s4 m c t h0 h1 (prevAt m c t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (coverC_10 m c t h0 h1 (prevAt m c t))
        isplitl [H11]
        · unfold owns; iexists _; isplitr
          swap; · iexact H11
          ipureintro; exact View.read_writes_of_cover _ _ _ _ _ (coverC_11 m c t h0 h1 (prevAt m c t))
        isplitl [H12]
        · unfold owns; iexists _; isplitr
          swap; · iexact H12
          ipureintro; exact View.read_writes_of_cover _ _ _ _ _ (coverC_12 m c t h0 h1 (prevAt m c t))
        isplitl [H13]
        · unfold owns; iexists _; isplitr
          swap; · iexact H13
          ipureintro; exact View.read_writes_of_cover _ _ _ _ _ (coverC_13 m c t h0 h1 (prevAt m c t))
        isplitl [H14]
        · unfold owns; iexists _; isplitr
          swap; · iexact H14
          ipureintro; exact View.read_writes_of_cover _ _ _ _ _ (coverC_14 m c t h0 h1 (prevAt m c t))
        isplitl [H15]
        · unfold owns; iexists _; isplitr
          swap; · iexact H15
          ipureintro; exact View.read_writes_of_cover _ _ _ _ _ (coverC_15 m c t h0 h1 (prevAt m c t))
        unfold owns; iexists _; isplitr
        swap; · iexact H16
        ipureintro; exact View.read_writes_of_cover _ _ _ _ _ (coverC_16 m c t h0 h1 (prevAt m c t))
    · rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      by_cases hz : t.val = 0
      · exfalso; have hN : t.val < 17 := lt_of_lt_of_eq t.isLt (show cfg0.N = 17 from N_0); omega
      · rw [PhiS_castSucc m c t, PhiS_pos m c _ _ hz]
        rw [outsAt_B m c t h0 h1]
        unfold leftB; dsimp only
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runB m c t h0 h1 (prevAt m c t)).2.2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, ⟨%e10, H10⟩, ⟨%e11, H11⟩, ⟨%e12, H12⟩, ⟨%e13, H13⟩, ⟨%e14, H14⟩, ⟨%e15, H15⟩, H16, ⟨%es0, HS0⟩, HS1, HS2, HS3, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (coverB_s0 m c t h0 h1 (prevAt m c t))
            isplitl [HS1]
            · iexact HS1
            isplitl [HS2]
            · iexact HS2
            isplitl [HS3]
            · iexact HS3
            unfold owns; iexists _; isplitr
            swap; · iexact HS4
            ipureintro; exact View.read_writes_of_cover _ _ _ _ _ (coverB_s4 m c t h0 h1 (prevAt m c t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (coverB_10 m c t h0 h1 (prevAt m c t))
        isplitl [H11]
        · unfold owns; iexists _; isplitr
          swap; · iexact H11
          ipureintro; exact View.read_writes_of_cover _ _ _ _ _ (coverB_11 m c t h0 h1 (prevAt m c t))
        isplitl [H12]
        · unfold owns; iexists _; isplitr
          swap; · iexact H12
          ipureintro; exact View.read_writes_of_cover _ _ _ _ _ (coverB_12 m c t h0 h1 (prevAt m c t))
        isplitl [H13]
        · unfold owns; iexists _; isplitr
          swap; · iexact H13
          ipureintro; exact View.read_writes_of_cover _ _ _ _ _ (coverB_13 m c t h0 h1 (prevAt m c t))
        isplitl [H14]
        · unfold owns; iexists _; isplitr
          swap; · iexact H14
          ipureintro; exact View.read_writes_of_cover _ _ _ _ _ (coverB_14 m c t h0 h1 (prevAt m c t))
        isplitl [H15]
        · unfold owns; iexists _; isplitr
          swap; · iexact H15
          ipureintro; exact View.read_writes_of_cover _ _ _ _ _ (coverB_15 m c t h0 h1 (prevAt m c t))
        iexists _; iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run leaves the argument arrays and the counters alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Ret

end
-- ==== Proof.Retention.Result.lean ====
/-
  The six gradients the call leaves, as arrays.
-/
module

public import proofs.«01_k».proof.Proof.Retention.Outputs
public import proofs.«01_k».proof.Proof.Retention.Launch

@[expose] public section

set_option maxRecDepth 16384

noncomputable section

namespace Cert.Kernel4Ideal.Ret

open Idealize.ShloMosaic Idealize.ShloMosaic.TcCoe Idealize.ShloMosaic.Tactic Idealize.SL.Sem
open Cert.Kernel4Ideal Cert.Kernel4Ideal.Gen
open Idealize.ShloMosaic.Pipeline (Dat)
open Cert.Ret (dqs dks dvs)
open Cert.RetStates (q k v g l)

theorem index_outF : ∀ t : Fin cfg0.N, (win0_10.index t 0 = 16 - t.val ∧ win0_10.index t 1 = 0) ∧ (win0_11.index t 0 = 16 - t.val ∧ win0_11.index t 1 = 0)
    ∧ (win0_12.index t 0 = 16 - t.val ∧ win0_12.index t 1 = 0) := by decide +kernel
theorem index_outB : ∀ t : Fin cfg0.N, (win0_13.index t 0 = turn t.val ∧ win0_13.index t 1 = 0) ∧ (win0_14.index t 0 = turn t.val ∧ win0_14.index t 1 = 0)
    ∧ (win0_15.index t 0 = turn t.val ∧ win0_15.index t 1 = 0) := by decide +kernel
theorem flushes : ∀ t : Fin cfg0.N, (cfg0.win 10).flush t = true ∧ (cfg0.win 11).flush t = true ∧ (cfg0.win 12).flush t = true
    ∧ (cfg0.win 13).flush t = true ∧ (cfg0.win 14).flush t = true ∧ (cfg0.win 15).flush t = true := by decide +kernel

/-- The point whose forward, whose backward block holds a row. -/
theorem pointF (i : S4352x512.Idx) : ∃ t : Fin cfg0.N, 16 - t.val = (i 0).val / 256 := by
  have hi : (i 0 : ℕ) < 4352 := (i 0).isLt
  have hN : cfg0.N = 17 := N_0
  exact ⟨⟨16 - (i 0).val / 256, by omega⟩, by dsimp only; omega⟩
theorem pointB (i : S4352x512.Idx) : ∃ t : Fin cfg0.N, turn t.val = (i 0).val / 256 := by
  have hi : (i 0 : ℕ) < 4352 := (i 0).isLt
  have hN : cfg0.N = 17 := N_0
  refine ⟨⟨if (i 0).val / 256 = 0 then 16 else (i 0).val / 256 - 1, by split_ifs <;> omega⟩, ?_⟩
  unfold turn
  dsimp only
  split_ifs <;> omega

/-- A row lies in its block, from the block's index. -/
theorem inside (i : S4352x512.Idx) (i0 i1 B : ℕ) (h : i0 = B ∧ i1 = 0) (hB : B = (i 0).val / 256) :
    (i0 * 256 ≤ (i 0 : ℕ) ∧ (i 0 : ℕ) < i0 * 256 + 256) ∧ (i1 * 512 ≤ (i 1 : ℕ) ∧ (i 1 : ℕ) < i1 * 512 + 512) := by
  have hi : (i 1 : ℕ) < 512 := (i 1).isLt
  obtain ⟨h0, h1⟩ := h
  omega

variable (m : (ℓ : Loc nD τ sig) → Buf (Elt Ideal) ℓ) (c : Dev nD)

abbrev result0 : Buf (Elt Ideal) ((c : Thread nD τ).loc main_v83_0) := dqs (k m c) (v m c) (g m c) (l m c) 0
abbrev result1 : Buf (Elt Ideal) ((c : Thread nD τ).loc main_v83_1) := dks (q m c) (v m c) (g m c) (l m c) 0
abbrev result2 : Buf (Elt Ideal) ((c : Thread nD τ).loc main_v83_2) := dvs (q m c) (k m c) (g m c) (l m c) 0
abbrev result3 : Buf (Elt Ideal) ((c : Thread nD τ).loc main_v83_3) := dqs (k m c) (v m c) (g m c) (l m c) 1
abbrev result4 : Buf (Elt Ideal) ((c : Thread nD τ).loc main_v83_4) := dks (q m c) (v m c) (g m c) (l m c) 1
abbrev result5 : Buf (Elt Ideal) ((c : Thread nD τ).loc main_v83_5) := dvs (q m c) (k m c) (g m c) (l m c) 1

variable {m c} (H : Fine m c)
include H

theorem final0 : (dats m 0 c).arrAt 10 cfg0.N = result0 m c :=
  (dats m 0 c).arrAt_eq_of_cover 10 (result0 m c) (fun t _ => by
    show (cfg0.win 10).cut (grid0.coords t) ((dats m 0 c).after 10 t) = _
    rw [after0_10]
    funext j
    obtain ⟨a, b, rfl⟩ : ∃ (a : Fin 256) (b : Fin 512), j = ix2 a b := ⟨j 0, j 1, eq_ix2 j⟩
    have e : ((cfg0.win 10).blk t).view.emb (ix2 a b) = (ix2 (rowF t a) b : S4352x512.Idx) := place _ (rowF t a) a b rfl _ _ _ (index_outF t).1 rfl rfl
    rw [View.read_apply, e]
    exact out_dqF t H a b) fun i => by
    obtain ⟨t, ht⟩ := pointF i
    refine ⟨t, (flushes t).1, ?_⟩
    show i ∈ ((View.whole main_v83_0).slice (win0_10.rect t)).set
    rw [View.set_slice_whole, Rect.mem_set_unit]
    have e := inside i _ _ _ (index_outF t).1 ht
    intro a
    match a with
    | ⟨0, _⟩ => exact e.1
    | ⟨1, _⟩ => exact e.2
theorem final1 : (dats m 0 c).arrAt 11 cfg0.N = result1 m c :=
  (dats m 0 c).arrAt_eq_of_cover 11 (result1 m c) (fun t _ => by
    show (cfg0.win 11).cut (grid0.coords t) ((dats m 0 c).after 11 t) = _
    rw [after0_11]
    funext j
    obtain ⟨a, b, rfl⟩ : ∃ (a : Fin 256) (b : Fin 512), j = ix2 a b := ⟨j 0, j 1, eq_ix2 j⟩
    have e : ((cfg0.win 11).blk t).view.emb (ix2 a b) = (ix2 (rowF t a) b : S4352x512.Idx) := place _ (rowF t a) a b rfl _ _ _ (index_outF t).2.1 rfl rfl
    rw [View.read_apply, e]
    exact out_dkF t H a b) fun i => by
    obtain ⟨t, ht⟩ := pointF i
    refine ⟨t, (flushes t).2.1, ?_⟩
    show i ∈ ((View.whole main_v83_1).slice (win0_11.rect t)).set
    rw [View.set_slice_whole, Rect.mem_set_unit]
    have e := inside i _ _ _ (index_outF t).2.1 ht
    intro a
    match a with
    | ⟨0, _⟩ => exact e.1
    | ⟨1, _⟩ => exact e.2
theorem final2 : (dats m 0 c).arrAt 12 cfg0.N = result2 m c :=
  (dats m 0 c).arrAt_eq_of_cover 12 (result2 m c) (fun t _ => by
    show (cfg0.win 12).cut (grid0.coords t) ((dats m 0 c).after 12 t) = _
    rw [after0_12]
    funext j
    obtain ⟨a, b, rfl⟩ : ∃ (a : Fin 256) (b : Fin 512), j = ix2 a b := ⟨j 0, j 1, eq_ix2 j⟩
    have e : ((cfg0.win 12).blk t).view.emb (ix2 a b) = (ix2 (rowF t a) b : S4352x512.Idx) := place _ (rowF t a) a b rfl _ _ _ (index_outF t).2.2 rfl rfl
    rw [View.read_apply, e]
    exact out_dvF t H a b) fun i => by
    obtain ⟨t, ht⟩ := pointF i
    refine ⟨t, (flushes t).2.2.1, ?_⟩
    show i ∈ ((View.whole main_v83_2).slice (win0_12.rect t)).set
    rw [View.set_slice_whole, Rect.mem_set_unit]
    have e := inside i _ _ _ (index_outF t).2.2 ht
    intro a
    match a with
    | ⟨0, _⟩ => exact e.1
    | ⟨1, _⟩ => exact e.2
theorem final3 : (dats m 0 c).arrAt 13 cfg0.N = result3 m c :=
  (dats m 0 c).arrAt_eq_of_cover 13 (result3 m c) (fun t _ => by
    show (cfg0.win 13).cut (grid0.coords t) ((dats m 0 c).after 13 t) = _
    rw [after0_13]
    funext j
    obtain ⟨a, b, rfl⟩ : ∃ (a : Fin 256) (b : Fin 512), j = ix2 a b := ⟨j 0, j 1, eq_ix2 j⟩
    have e : ((cfg0.win 13).blk t).view.emb (ix2 a b) = (ix2 (rowB t a) b : S4352x512.Idx) := place _ (rowB t a) a b rfl _ _ _ (index_outB t).1 rfl rfl
    rw [View.read_apply, e]
    exact out_dqB t H a b) fun i => by
    obtain ⟨t, ht⟩ := pointB i
    refine ⟨t, (flushes t).2.2.2.1, ?_⟩
    show i ∈ ((View.whole main_v83_3).slice (win0_13.rect t)).set
    rw [View.set_slice_whole, Rect.mem_set_unit]
    have e := inside i _ _ _ (index_outB t).1 ht
    intro a
    match a with
    | ⟨0, _⟩ => exact e.1
    | ⟨1, _⟩ => exact e.2
theorem final4 : (dats m 0 c).arrAt 14 cfg0.N = result4 m c :=
  (dats m 0 c).arrAt_eq_of_cover 14 (result4 m c) (fun t _ => by
    show (cfg0.win 14).cut (grid0.coords t) ((dats m 0 c).after 14 t) = _
    rw [after0_14]
    funext j
    obtain ⟨a, b, rfl⟩ : ∃ (a : Fin 256) (b : Fin 512), j = ix2 a b := ⟨j 0, j 1, eq_ix2 j⟩
    have e : ((cfg0.win 14).blk t).view.emb (ix2 a b) = (ix2 (rowB t a) b : S4352x512.Idx) := place _ (rowB t a) a b rfl _ _ _ (index_outB t).2.1 rfl rfl
    rw [View.read_apply, e]
    exact out_dkB t H a b) fun i => by
    obtain ⟨t, ht⟩ := pointB i
    refine ⟨t, (flushes t).2.2.2.2.1, ?_⟩
    show i ∈ ((View.whole main_v83_4).slice (win0_14.rect t)).set
    rw [View.set_slice_whole, Rect.mem_set_unit]
    have e := inside i _ _ _ (index_outB t).2.1 ht
    intro a
    match a with
    | ⟨0, _⟩ => exact e.1
    | ⟨1, _⟩ => exact e.2
theorem final5 : (dats m 0 c).arrAt 15 cfg0.N = result5 m c :=
  (dats m 0 c).arrAt_eq_of_cover 15 (result5 m c) (fun t _ => by
    show (cfg0.win 15).cut (grid0.coords t) ((dats m 0 c).after 15 t) = _
    rw [after0_15]
    funext j
    obtain ⟨a, b, rfl⟩ : ∃ (a : Fin 256) (b : Fin 512), j = ix2 a b := ⟨j 0, j 1, eq_ix2 j⟩
    have e : ((cfg0.win 15).blk t).view.emb (ix2 a b) = (ix2 (rowB t a) b : S4352x512.Idx) := place _ (rowB t a) a b rfl _ _ _ (index_outB t).2.2 rfl rfl
    rw [View.read_apply, e]
    exact out_dvB t H a b) fun i => by
    obtain ⟨t, ht⟩ := pointB i
    refine ⟨t, (flushes t).2.2.2.2.2, ?_⟩
    show i ∈ ((View.whole main_v83_5).slice (win0_15.rect t)).set
    rw [View.set_slice_whole, Rect.mem_set_unit]
    have e := inside i _ _ _ (index_outB t).2.2 ht
    intro a
    match a with
    | ⟨0, _⟩ => exact e.1
    | ⟨1, _⟩ => exact e.2

omit H in
/-- Every run of the call leaves the six gradients, and the arguments as they were. -/
theorem run (H : ∀ c, Fine m c) (ρ : Dev nD → PrngReg) :
    θ_run defs (onTc (τ := τ) (main (F := Ideal))) ⟨m, fun _ => 0, ρ⟩ fun r => ∀ c : Dev nD,
      r.2.mem ((c.tc : Thread nD τ).loc main_v83_0) = result0 m c
      ∧ r.2.mem ((c.tc : Thread nD τ).loc main_v83_1) = result1 m c
      ∧ r.2.mem ((c.tc : Thread nD τ).loc main_v83_2) = result2 m c
      ∧ r.2.mem ((c.tc : Thread nD τ).loc main_v83_3) = result3 m c
      ∧ r.2.mem ((c.tc : Thread nD τ).loc main_v83_4) = result4 m c
      ∧ r.2.mem ((c.tc : Thread nD τ).loc main_v83_5) = result5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.2 c).1 10).trans (final0 (H c)), ((h.2 c).1 11).trans (final1 (H c)),
    ((h.2 c).1 12).trans (final2 (H c)), ((h.2 c).1 13).trans (final3 (H c)), ((h.2 c).1 14).trans (final4 (H c)),
    ((h.2 c).1 15).trans (final5 (H c)), h.1 c⟩) (θ_run_and (unchanged m ρ) (run_main m ρ))

end Cert.Kernel4Ideal.Ret

end
-- ==== Proof.Retention.Claim.lean ====
/-
  The retention backward call's value claim: the precondition read at the arrays, and the two runs put side by side.
-/
module

public import proofs.«01_k».proof.Defs
public import proofs.«01_k».proof.Proof.Gen.Pre_bounded
public import proofs.«01_k».proof.Proof.Retention.Reference
public import proofs.«01_k».proof.Proof.Retention.Result

@[expose] public section

noncomputable section

namespace Cert.RetPre

open Idealize.ShloMosaic Cert.Pre_bounded

instance : Subsingleton S_.Idx := ⟨fun a b => funext fun i => i.elim0⟩

theorem c001 : Ideal.ofBits .f32 0x3C23D70A#32 = ((10737418 / 2 ^ 30 : ℝ) : EReal) := by
  simp [Ideal.ofBits, Ideal.ieee, -EReal.coe_mul]; norm_num

/-- A logit whose `exp (-|logit|)` is at least 0.01 is a real number, and lies where the kernel takes the logarithm. -/
theorem logit_of_cmp (x : EReal) (h : Ideal.cmp .oge (Ideal.exp (-max x (-x))) (Ideal.ofBits .f32 0x3C23D70A#32) = 1#1) :
    x = (x.toReal : EReal) ∧ Cert.Ret.Far x.toReal := by
  have h' : Ideal.ofBits .f32 0x3C23D70A#32 ≤ Ideal.exp (-max x (-x)) := by
    by_contra hc
    unfold Ideal.cmp at h
    simp only [ge_iff_le, decide_eq_false hc] at h
    exact absurd h (by decide)
  have hpos : (0 : EReal) < Ideal.ofBits .f32 0x3C23D70A#32 := by
    rw [c001]
    exact_mod_cast (by norm_num : (0 : ℝ) < 10737418 / 2 ^ 30)
  induction x with
  | bot => simp at h'; exact absurd h' (not_le.2 hpos)
  | top => simp at h'; exact absurd h' (not_le.2 hpos)
  | coe x =>
    refine ⟨rfl, ?_⟩
    unfold Cert.Ret.Far
    rw [EReal.toReal_coe]
    rwa [← EReal.coe_neg, ← Cert.Ret.coe_max, ← EReal.coe_neg, Ideal.exp_coe] at h'

/-- What the precondition says of the arrays. -/
theorem facts_of_pre (q k v g : FVec Ideal S4352x512 .bf16) (l : FVec Ideal S2x4 .f32)
    (h : Cert.Pre_bounded.fn (F := Ideal) q k v g l = fun _ => 1#1) :
    Cert.Finite.All q ∧ Cert.Finite.All k ∧ Cert.Finite.All v ∧ Cert.Finite.All g
      ∧ ∀ i, (l i : EReal) = ((l i : EReal).toReal : EReal) ∧ Cert.Ret.Far (l i : EReal).toReal := by
  have e := congrFun h (fun i => i.elim0)
  unfold Cert.Pre_bounded.fn Cert.Pre_bounded.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_⟩
  · have := Host.reduce_andi_all _ _ _ _ _ e0 i
    exact Cert.Finite.real_of_cmp _ (by rw [← Cert.Finite.word_top]; exact this)
  · have := Host.reduce_andi_all _ _ _ _ _ e1 i
    exact Cert.Finite.real_of_cmp _ (by rw [← Cert.Finite.word_top]; exact this)
  · have := Host.reduce_andi_all _ _ _ _ _ e2 i
    exact Cert.Finite.real_of_cmp _ (by rw [← Cert.Finite.word_top]; exact this)
  · have := Host.reduce_andi_all _ _ _ _ _ e3 i
    exact Cert.Finite.real_of_cmp _ (by rw [← Cert.Finite.word_top]; exact this)
  · exact logit_of_cmp _ (Host.reduce_andi_all _ _ _ _ _ e4 i)

end Cert.RetPre

namespace Cert.Proof

open Idealize.ShloMosaic Idealize.SL.Sem

theorem algebraic_ret : Cert.algebraic_Kernel4Ideal_Reference4Ideal_pre_bounded (hKernel4Ideal := Cert.Kernel4Ideal.Gen.facts)
    (hReference4Ideal := Cert.Reference4Ideal.Gen.facts) (hPre_bounded := Cert.Pre_bounded.Gen.facts) := by
  intro m g m' g' hp hm
  have H : ∀ c, Cert.Kernel4Ideal.Ret.Fine m c := fun c => by
    obtain ⟨f0, f1, f2, f3, f4⟩ := Cert.RetPre.facts_of_pre _ _ _ _ _ (hp c)
    exact ⟨f0, f1, f2, f3, fun i => (f4 i).1, fun d h => (f4 _).2⟩
  refine ⟨fun c => Cert.Kernel4Ideal.Ret.result0 m c, fun c => Cert.Kernel4Ideal.Ret.result1 m c,
    fun c => Cert.Kernel4Ideal.Ret.result2 m c, fun c => Cert.Kernel4Ideal.Ret.result3 m c,
    fun c => Cert.Kernel4Ideal.Ret.result4 m c, fun c => Cert.Kernel4Ideal.Ret.result5 m c,
    Cert.Kernel4Ideal.Ret.run H g, ?_⟩
  have hq : ∀ c, Cert.RetRef.q m' c = Cert.RetStates.q m c := fun c => (hm c).1
  have hk : ∀ c, Cert.RetRef.k m' c = Cert.RetStates.k m c := fun c => (hm c).2.1
  have hv : ∀ c, Cert.RetRef.v m' c = Cert.RetStates.v m c := fun c => (hm c).2.2.1
  have hg : ∀ c, Cert.RetRef.g m' c = Cert.RetStates.g m c := fun c => (hm c).2.2.2.1
  have hl : ∀ c, Cert.RetRef.l m' c = Cert.RetStates.l m c := fun c => (hm c).2.2.2.2
  have R := Cert.RetRef.run m' g' (fun c => by rw [hq]; exact (H c).hq) (fun c => by rw [hk]; exact (H c).hk)
    (fun c => by rw [hv]; exact (H c).hv) (fun c => by rw [hg]; exact (H c).hg) (fun c => by rw [hl]; exact (H c).hl)
  refine (θ_run Cert.Reference4Ideal.defs _ _).mono (fun r h c => ?_) (θ_run_and R (Cert.Reference4Ideal.Value.run m' g'))
  have h' := h.1 c
  rw [hq, hk, hv, hg, hl] at h'
  exact ⟨h'.1, h'.2.1, h'.2.2.1, h'.2.2.2.1, h'.2.2.2.2.1, h'.2.2.2.2.2, (h.2 c).2.2.2.2.2.2⟩

theorem frame_reference4 : Cert.quiescent_Reference4Ideal (hReference4Ideal := Cert.Reference4Ideal.Gen.facts) :=
  fun m ρ _ => (θ_run Cert.Reference4Ideal.defs _ _).mono
    (fun r h => ⟨fun c => (h c).2.2.2.2.2.2, sem_eq_zero_of_no_sems (by decide) r.2⟩) (Cert.Reference4Ideal.Value.run m ρ)

end Cert.Proof

end
-- ==== Proof.Retention.Frame.lean ====
/-
  The retention backward call read at the bits. Its program's text is the ideal program's, so the run over any floats is a
  run of both: the two body tables and the two host functions are equal by unfolding, one definition after the other.
-/
module

public import proofs.«01_k».proof.Defs
public import proofs.«01_k».proof.Proof.Gen.Kernel4
public import proofs.«01_k».proof.Proof.Retention.Launch

@[expose] public section

noncomputable section

namespace Cert.RetFrame

open Idealize.ShloMosaic Idealize.SL.Sem

set_option maxHeartbeats 4000000 in
theorem main_eq : (Cert.Kernel4.main (F := Bits) : _) = Cert.Kernel4Ideal.main (F := Bits) := (rfl)

set_option maxHeartbeats 4000000 in
theorem body_eq : @Cert.Kernel4.cc0_l0b_ret Bits _ _ = @Cert.Kernel4Ideal.cc0_l0b_ret Bits _ _ := (rfl)

set_option maxHeartbeats 4000000 in
theorem bodies_eq : (Cert.Kernel4.defs₀ (F := Bits) : _) = Cert.Kernel4Ideal.defs₀ (F := Bits) := by
  refine congrArg Defs.onTc (funext fun l => ?_)
  funext a
  match l, a with
  | ⟨0, _⟩, (t, s) =>
    show Cert.Kernel4.cc0_l0b_ret (F := Bits) _ _ _ _ _ _ _ _ _ _ _ _ _ _ _ _ _ _ _ _ _ _ _ _ _ _ _ _ _ _ _ _ _ _ _ _ _ _ _ _ _ _ _ _ _ = _
    rw [body_eq]
    rfl

set_option maxHeartbeats 4000000 in
theorem defs_eq : (Cert.Kernel4.defs (F := Bits) : _) = Cert.Kernel4Ideal.defs (F := Bits) := by
  unfold Cert.Kernel4.defs Cert.Kernel4Ideal.defs
  rw [bodies_eq]
  rfl

end Cert.RetFrame

namespace Cert.Proof

open Idealize.ShloMosaic Idealize.SL.Sem

theorem frame_kernel4 : Cert.quiescent_Kernel4 (hKernel4 := Cert.Kernel4.Gen.facts) := fun m ρ _ => by
  rw [Cert.RetFrame.defs_eq, Cert.RetFrame.main_eq]
  exact Cert.Kernel4Ideal.Ret.frame (F := Bits) m ρ

end Cert.Proof

end
-- ==== Proof.lean ====
/- The claims of this certificate, put together: the frames are the generated ones, but for the
   retention backward call's, which is proved in Proof/Retention/Launch.lean; the value claims are proved in the
   modules imported last. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Pre_bounded
public import proofs.«01_k».proof.Proof.Gen.Pre_finite_parts
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Kernel4Ideal.Frame.RunA
public import proofs.«01_k».proof.Proof.Gen.Kernel4Ideal.Frame.RunB
public import proofs.«01_k».proof.Proof.Gen.Kernel4Ideal.Frame.RunC
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal.Value
public import proofs.«01_k».proof.Proof.Gen.Reference36Ideal.Run
public import proofs.«01_k».proof.Proof.Gate
public import proofs.«01_k».proof.Proof.InBwd
public import proofs.«01_k».proof.Proof.Wgrad
public import proofs.«01_k».proof.Proof.Up
public import proofs.«01_k».proof.Proof.Down
public import proofs.«01_k».proof.Proof.ProjFwd
public import proofs.«01_k».proof.Proof.ProjBwd
public import proofs.«01_k».proof.Proof.ProjWgrad
public import proofs.«01_k».proof.Proof.OddFwd
public import proofs.«01_k».proof.Proof.OddBwd
public import proofs.«01_k».proof.Proof.OddWgrad
public import proofs.«01_k».proof.Proof.MixOut
public import proofs.«01_k».proof.Proof.MixOutBwd
public import proofs.«01_k».proof.Proof.MixOutWgrad
public import proofs.«01_k».proof.Proof.Adam.Large
public import proofs.«01_k».proof.Proof.Adam.Stacks
public import proofs.«01_k».proof.Proof.Adam.Vectors
public import proofs.«01_k».proof.Proof.Totals.Devices
public import proofs.«01_k».proof.Proof.Totals.Rows
public import proofs.«01_k».proof.Proof.Totals.Context
public import proofs.«01_k».proof.Proof.Modulation.Forward
public import proofs.«01_k».proof.Proof.Modulation.Backward
public import proofs.«01_k».proof.Proof.Norm.Claim
public import proofs.«01_k».proof.Proof.Loss.Claim
public import proofs.«01_k».proof.Proof.Retention.Claim
public import proofs.«01_k».proof.Proof.Retention.Frame
public import Idealize.ShloMosaic.Adequacy
public import Idealize.ShloMosaic.Lib.Quiescent
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run m ρ)

theorem frame_reference2 : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run m ρ)

theorem frame_reference3 : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run m ρ)

theorem frame_reference5 : Cert.quiescent_Reference5Ideal (hReference5Ideal := Cert.Reference5Ideal.Gen.facts) :=
  fun m ρ _ => (θ_run Cert.Reference5Ideal.defs _ _).mono
    (fun r h => ⟨fun c => (h c).2.2.2, sem_eq_zero_of_no_sems (by decide) r.2⟩) (Cert.Reference5Ideal.Value.run m ρ)

theorem frame_reference6 : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩) (Cert.Reference6Ideal.Value.run m ρ)

theorem frame_reference7 : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run m ρ)

theorem frame_reference8 : Cert.quiescent_Reference8Ideal (hReference8Ideal := Cert.Reference8Ideal.Gen.facts) :=
  fun m ρ _ => (θ_run Cert.Reference8Ideal.defs _ _).mono
    (fun r h => ⟨fun c => (h c).2, sem_eq_zero_of_no_sems (by decide) r.2⟩) (Cert.Reference8Ideal.Value.run m ρ)

theorem frame_reference9 : Cert.quiescent_Reference9Ideal (hReference9Ideal := Cert.Reference9Ideal.Gen.facts) :=
  fun m ρ _ => (θ_run Cert.Reference9Ideal.defs _ _).mono
    (fun r h => ⟨fun c => (h c).2, sem_eq_zero_of_no_sems (by decide) r.2⟩) (Cert.Reference9Ideal.Value.run m ρ)

theorem frame_reference10 : Cert.quiescent_Reference10Ideal (hReference10Ideal := Cert.Reference10Ideal.Gen.facts) :=
  fun m ρ _ => (θ_run Cert.Reference10Ideal.defs _ _).mono
    (fun r h => ⟨fun c => (h c).2, sem_eq_zero_of_no_sems (by decide) r.2⟩) (Cert.Reference10Ideal.Value.run m ρ)

theorem frame_reference11 : Cert.quiescent_Reference11Ideal (hReference11Ideal := Cert.Reference11Ideal.Gen.facts) :=
  fun m ρ _ => (θ_run Cert.Reference11Ideal.defs _ _).mono
    (fun r h => ⟨fun c => (h c).2, sem_eq_zero_of_no_sems (by decide) r.2⟩) (Cert.Reference11Ideal.Value.run m ρ)

theorem frame_reference12 : Cert.quiescent_Reference12Ideal (hReference12Ideal := Cert.Reference12Ideal.Gen.facts) :=
  fun m ρ _ => (θ_run Cert.Reference12Ideal.defs _ _).mono
    (fun r h => ⟨fun c => (h c).2, sem_eq_zero_of_no_sems (by decide) r.2⟩) (Cert.Reference12Ideal.Value.run m ρ)

theorem frame_reference13 : Cert.quiescent_Reference13Ideal (hReference13Ideal := Cert.Reference13Ideal.Gen.facts) :=
  fun m ρ _ => (θ_run Cert.Reference13Ideal.defs _ _).mono
    (fun r h => ⟨fun c => (h c).2, sem_eq_zero_of_no_sems (by decide) r.2⟩) (Cert.Reference13Ideal.Value.run m ρ)

theorem frame_reference14 : Cert.quiescent_Reference14Ideal (hReference14Ideal := Cert.Reference14Ideal.Gen.facts) :=
  fun m ρ _ => (θ_run Cert.Reference14Ideal.defs _ _).mono
    (fun r h => ⟨fun c => (h c).2, sem_eq_zero_of_no_sems (by decide) r.2⟩) (Cert.Reference14Ideal.Value.run m ρ)

theorem frame_reference15 : Cert.quiescent_Reference15Ideal (hReference15Ideal := Cert.Reference15Ideal.Gen.facts) :=
  fun m ρ _ => (θ_run Cert.Reference15Ideal.defs _ _).mono
    (fun r h => ⟨fun c => (h c).2, sem_eq_zero_of_no_sems (by decide) r.2⟩) (Cert.Reference15Ideal.Value.run m ρ)

theorem frame_reference16 : Cert.quiescent_Reference16Ideal (hReference16Ideal := Cert.Reference16Ideal.Gen.facts) :=
  fun m ρ _ => (θ_run Cert.Reference16Ideal.defs _ _).mono
    (fun r h => ⟨fun c => (h c).2.2.2.2, sem_eq_zero_of_no_sems (by decide) r.2⟩) (Cert.Reference16Ideal.Value.run m ρ)

theorem frame_reference17 : Cert.quiescent_Reference17Ideal (hReference17Ideal := Cert.Reference17Ideal.Gen.facts) :=
  fun m ρ _ => (θ_run Cert.Reference17Ideal.defs _ _).mono
    (fun r h => ⟨fun c => (h c).2.2.2, sem_eq_zero_of_no_sems (by decide) r.2⟩) (Cert.Reference17Ideal.Value.run m ρ)

theorem frame_reference18 : Cert.quiescent_Reference18Ideal (hReference18Ideal := Cert.Reference18Ideal.Gen.facts) :=
  fun m ρ _ => (θ_run Cert.Reference18Ideal.defs _ _).mono
    (fun r h => ⟨fun c => (h c).2.2.2.2, sem_eq_zero_of_no_sems (by decide) r.2⟩) (Cert.Reference18Ideal.Value.run m ρ)

theorem frame_reference19 : Cert.quiescent_Reference19Ideal (hReference19Ideal := Cert.Reference19Ideal.Gen.facts) :=
  fun m ρ _ => (θ_run Cert.Reference19Ideal.defs _ _).mono
    (fun r h => ⟨fun c => (h c).2.2.2.2, sem_eq_zero_of_no_sems (by decide) r.2⟩) (Cert.Reference19Ideal.Value.run m ρ)

theorem frame_reference20 : Cert.quiescent_Reference20Ideal (hReference20Ideal := Cert.Reference20Ideal.Gen.facts) :=
  fun m ρ _ => (θ_run Cert.Reference20Ideal.defs _ _).mono
    (fun r h => ⟨fun c => (h c).2.2.2.2, sem_eq_zero_of_no_sems (by decide) r.2⟩) (Cert.Reference20Ideal.Value.run m ρ)

theorem frame_reference21 : Cert.quiescent_Reference21Ideal (hReference21Ideal := Cert.Reference21Ideal.Gen.facts) :=
  fun m ρ _ => (θ_run Cert.Reference21Ideal.defs _ _).mono
    (fun r h => ⟨fun c => (h c).2.2.2, sem_eq_zero_of_no_sems (by decide) r.2⟩) (Cert.Reference21Ideal.Value.run m ρ)

theorem frame_reference22 : Cert.quiescent_Reference22Ideal (hReference22Ideal := Cert.Reference22Ideal.Gen.facts) :=
  fun m ρ _ => (θ_run Cert.Reference22Ideal.defs _ _).mono
    (fun r h => ⟨fun c => (h c).2.2.2, sem_eq_zero_of_no_sems (by decide) r.2⟩) (Cert.Reference22Ideal.Value.run m ρ)

theorem frame_reference23 : Cert.quiescent_Reference23Ideal (hReference23Ideal := Cert.Reference23Ideal.Gen.facts) :=
  fun m ρ _ => (θ_run Cert.Reference23Ideal.defs _ _).mono
    (fun r h => ⟨fun c => (h c).2.2.2, sem_eq_zero_of_no_sems (by decide) r.2⟩) (Cert.Reference23Ideal.Value.run m ρ)

theorem frame_reference24 : Cert.quiescent_Reference24Ideal (hReference24Ideal := Cert.Reference24Ideal.Gen.facts) :=
  fun m ρ _ => (θ_run Cert.Reference24Ideal.defs _ _).mono
    (fun r h => ⟨fun c => (h c).2.2.2, sem_eq_zero_of_no_sems (by decide) r.2⟩) (Cert.Reference24Ideal.Value.run m ρ)

theorem frame_reference25 : Cert.quiescent_Reference25Ideal (hReference25Ideal := Cert.Reference25Ideal.Gen.facts) :=
  fun m ρ _ => (θ_run Cert.Reference25Ideal.defs _ _).mono
    (fun r h => ⟨fun c => (h c).2.2.2, sem_eq_zero_of_no_sems (by decide) r.2⟩) (Cert.Reference25Ideal.Value.run m ρ)

theorem frame_reference26 : Cert.quiescent_Reference26Ideal (hReference26Ideal := Cert.Reference26Ideal.Gen.facts) :=
  fun m ρ _ => (θ_run Cert.Reference26Ideal.defs _ _).mono
    (fun r h => ⟨fun c => (h c).2.2.2, sem_eq_zero_of_no_sems (by decide) r.2⟩) (Cert.Reference26Ideal.Value.run m ρ)

theorem frame_reference27 : Cert.quiescent_Reference27Ideal (hReference27Ideal := Cert.Reference27Ideal.Gen.facts) :=
  fun m ρ _ => (θ_run Cert.Reference27Ideal.defs _ _).mono
    (fun r h => ⟨fun c => (h c).2.2.2, sem_eq_zero_of_no_sems (by decide) r.2⟩) (Cert.Reference27Ideal.Value.run m ρ)

theorem frame_reference28 : Cert.quiescent_Reference28Ideal (hReference28Ideal := Cert.Reference28Ideal.Gen.facts) :=
  fun m ρ _ => (θ_run Cert.Reference28Ideal.defs _ _).mono
    (fun r h => ⟨fun c => (h c).2.2.2, sem_eq_zero_of_no_sems (by decide) r.2⟩) (Cert.Reference28Ideal.Value.run m ρ)

theorem frame_reference29 : Cert.quiescent_Reference29Ideal (hReference29Ideal := Cert.Reference29Ideal.Gen.facts) :=
  fun m ρ _ => (θ_run Cert.Reference29Ideal.defs _ _).mono
    (fun r h => ⟨fun c => (h c).2.2.2, sem_eq_zero_of_no_sems (by decide) r.2⟩) (Cert.Reference29Ideal.Value.run m ρ)

theorem frame_reference30 : Cert.quiescent_Reference30Ideal (hReference30Ideal := Cert.Reference30Ideal.Gen.facts) :=
  fun m ρ _ => (θ_run Cert.Reference30Ideal.defs _ _).mono
    (fun r h => ⟨fun c => (h c).2, sem_eq_zero_of_no_sems (by decide) r.2⟩) (Cert.Reference30Ideal.Value.run m ρ)

theorem frame_reference31 : Cert.quiescent_Reference31Ideal (hReference31Ideal := Cert.Reference31Ideal.Gen.facts) :=
  fun m ρ _ => (θ_run Cert.Reference31Ideal.defs _ _).mono
    (fun r h => ⟨fun c => (h c).2, sem_eq_zero_of_no_sems (by decide) r.2⟩) (Cert.Reference31Ideal.Value.run m ρ)

theorem frame_reference32 : Cert.quiescent_Reference32Ideal (hReference32Ideal := Cert.Reference32Ideal.Gen.facts) :=
  fun m ρ _ => (θ_run Cert.Reference32Ideal.defs _ _).mono
    (fun r h => ⟨fun c => (h c).2, sem_eq_zero_of_no_sems (by decide) r.2⟩) (Cert.Reference32Ideal.Value.run m ρ)

theorem frame_reference33 : Cert.quiescent_Reference33Ideal (hReference33Ideal := Cert.Reference33Ideal.Gen.facts) :=
  fun m ρ _ => (θ_run Cert.Reference33Ideal.defs _ _).mono
    (fun r h => ⟨fun c => (h c).2.2, sem_eq_zero_of_no_sems (by decide) r.2⟩) (Cert.Reference33Ideal.Value.run m ρ)

theorem frame_reference34 : Cert.quiescent_Reference34Ideal (hReference34Ideal := Cert.Reference34Ideal.Gen.facts) :=
  fun m ρ _ => (θ_run Cert.Reference34Ideal.defs _ _).mono
    (fun r h => ⟨fun c => (h c).2, sem_eq_zero_of_no_sems (by decide) r.2⟩) (Cert.Reference34Ideal.Value.run m ρ)

theorem frame_reference35 : Cert.quiescent_Reference35Ideal (hReference35Ideal := Cert.Reference35Ideal.Gen.facts) :=
  fun m ρ _ => (θ_run Cert.Reference35Ideal.defs _ _).mono
    (fun r h => ⟨fun c => (h c).2, sem_eq_zero_of_no_sems (by decide) r.2⟩) (Cert.Reference35Ideal.Value.run m ρ)

theorem frame_reference36 : Cert.quiescent_Reference36Ideal (hReference36Ideal := Cert.Reference36Ideal.Gen.facts) :=
  fun m ρ _ => (θ_run Cert.Reference36Ideal.defs _ _).mono
    (fun r h => ⟨fun c => (h c).2.2.2.2, sem_eq_zero_of_no_sems (by decide) r.2⟩) (Cert.Reference36Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Pre_finite.Gen.facts, Cert.Pre_bounded.Gen.facts, Cert.Pre_finite_parts.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    frame_kernel4,
    fun m ρ _ => Cert.Kernel4Ideal.Ret.frame m ρ,
    fun m ρ _ => Cert.Kernel4Ideal.Ret.frame m ρ,
    frame_reference4,
    fun m ρ _ => frame_reference4 m ρ trivial,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    fun m ρ _ => Cert.Kernel23.Gen.frame m ρ,
    fun m ρ _ => Cert.Kernel23Ideal.Gen.frame m ρ,
    frame_reference23,
    fun m ρ _ => Cert.Kernel24.Gen.frame m ρ,
    fun m ρ _ => Cert.Kernel24Ideal.Gen.frame m ρ,
    frame_reference24,
    fun m ρ _ => Cert.Kernel25.Gen.frame m ρ,
    fun m ρ _ => Cert.Kernel25Ideal.Gen.frame m ρ,
    frame_reference25,
    fun m ρ _ => Cert.Kernel26.Gen.frame m ρ,
    fun m ρ _ => Cert.Kernel26Ideal.Gen.frame m ρ,
    frame_reference26,
    fun m ρ _ => Cert.Kernel27.Gen.frame m ρ,
    fun m ρ _ => Cert.Kernel27Ideal.Gen.frame m ρ,
    frame_reference27,
    fun m ρ _ => Cert.Kernel28.Gen.frame m ρ,
    fun m ρ _ => Cert.Kernel28Ideal.Gen.frame m ρ,
    frame_reference28,
    fun m ρ _ => Cert.Kernel29.Gen.frame m ρ,
    fun m ρ _ => Cert.Kernel29Ideal.Gen.frame m ρ,
    frame_reference29,
    fun m ρ _ => Cert.Kernel30.Gen.frame m ρ,
    fun m ρ _ => Cert.Kernel30Ideal.Gen.frame m ρ,
    frame_reference30,
    fun m ρ _ => Cert.Kernel31.Gen.frame m ρ,
    fun m ρ _ => Cert.Kernel31Ideal.Gen.frame m ρ,
    frame_reference31,
    fun m ρ _ => Cert.Kernel32.Gen.frame m ρ,
    fun m ρ _ => Cert.Kernel32Ideal.Gen.frame m ρ,
    frame_reference32,
    fun m ρ _ => Cert.Kernel33.Gen.frame m ρ,
    fun m ρ _ => Cert.Kernel33Ideal.Gen.frame m ρ,
    frame_reference33,
    fun m ρ _ => Cert.Kernel34.Gen.frame m ρ,
    fun m ρ _ => Cert.Kernel34Ideal.Gen.frame m ρ,
    fun m ρ _ => Cert.Kernel34Ideal.Gen.frame m ρ,
    frame_reference34,
    fun m ρ _ => frame_reference34 m ρ trivial,
    fun m ρ _ => Cert.Kernel35.Gen.frame m ρ,
    fun m ρ _ => Cert.Kernel35Ideal.Gen.frame m ρ,
    frame_reference35,
    fun m ρ _ => Cert.Kernel36.Gen.frame m ρ,
    fun m ρ _ => Cert.Kernel36Ideal.Gen.frame m ρ,
    frame_reference36,
    trivial, algebraic_gate, trivial, algebraic_in, trivial, algebraic_wgrad, trivial, algebraic_ret, trivial, algebraic_up, trivial, algebraic_down,
    trivial, algebraic_proj, trivial, algebraic_projBwd, trivial, algebraic_projWgrad,
    trivial, algebraic_oddFwd, trivial, algebraic_oddBwd, trivial, algebraic_oddWgrad, trivial, algebraic_mixOut,
    trivial, algebraic_mixOutBwd, trivial, algebraic_mixOutWgrad,
    trivial, algebraic_adamFfn, trivial, algebraic_adamTaps, trivial, algebraic_adamEvenIn, trivial, algebraic_adamOut,
    trivial, algebraic_adamOddIn, trivial, algebraic_adamMod, trivial, algebraic_adamMix, trivial, algebraic_adamVec,
    trivial, algebraic_adamShift, trivial, algebraic_adamNorm, trivial, algebraic_adamDecay, trivial, algebraic_adamConv,
    trivial, algebraic_adamScale, trivial, algebraic_adamGate,
    trivial, algebraic_devices, trivial, algebraic_rowSum, trivial, algebraic_modulation, trivial, algebraic_modulationBwd,
    trivial, algebraic_context,
    trivial, algebraic_norm, trivial, algebraic_fin⟩

end Cert.Proof

end
